-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxRefIdeal (m : (ℓ : Loc Cert.Ff2DxRefIdeal.nD Cert.Ff2DxRefIdeal.τ Cert.Ff2DxRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Ff1Fwd (m : (ℓ : Loc Cert.Ff1Fwd.nD Cert.Ff1Fwd.τ Cert.Ff1Fwd.sig) → Buf (Elt Bits) ℓ) : Prop :=
  True

def Pre_Ff1FwdIdeal (m : (ℓ : Loc Cert.Ff1FwdIdeal.nD Cert.Ff1FwdIdeal.τ Cert.Ff1FwdIdeal.sig) → Buf (Elt Ideal) ℓ) : Prop :=
  True

def Pre_Ff1FwdRefIdeal (m : (ℓ : Loc Cert.Ff1FwdRefIdeal.nD Cert.Ff1FwdRefIdeal.τ Cert.Ff1FwdRefIdeal.sig) → Buf (Elt Ideal) ℓ) : Prop :=
  True

def Pre_Ff2Fwd (m : (ℓ : Loc Cert.Ff2Fwd.nD Cert.Ff2Fwd.τ Cert.Ff2Fwd.sig) → Buf (Elt Bits) ℓ) : Prop :=
  True

def Pre_Ff2FwdIdeal (m : (ℓ : Loc Cert.Ff2FwdIdeal.nD Cert.Ff2FwdIdeal.τ Cert.Ff2FwdIdeal.sig) → Buf (Elt Ideal) ℓ) : Prop :=
  True

def Pre_Ff2FwdRefIdeal (m : (ℓ : Loc Cert.Ff2FwdRefIdeal.nD Cert.Ff2FwdRefIdeal.τ Cert.Ff2FwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_SsmFwd (m : (ℓ : Loc Cert.SsmFwd.nD Cert.SsmFwd.τ Cert.SsmFwd.sig) → Buf (Elt Bits) ℓ) : Prop :=
  True

def Pre_SsmFwdIdeal (m : (ℓ : Loc Cert.SsmFwdIdeal.nD Cert.SsmFwdIdeal.τ Cert.SsmFwdIdeal.sig) → Buf (Elt Ideal) ℓ) : Prop :=
  True

def Pre_SsmFwdRefIdeal (m : (ℓ : Loc Cert.SsmFwdRefIdeal.nD Cert.SsmFwdRefIdeal.τ Cert.SsmFwdRefIdeal.sig) → Buf (Elt Ideal) ℓ) : Prop :=
  True

def Pre_SsmDx (m : (ℓ : Loc Cert.SsmDx.nD Cert.SsmDx.τ Cert.SsmDx.sig) → Buf (Elt Bits) ℓ) : Prop :=
  True

def Pre_SsmDxIdeal (m : (ℓ : Loc Cert.SsmDxIdeal.nD Cert.SsmDxIdeal.τ Cert.SsmDxIdeal.sig) → Buf (Elt Ideal) ℓ) : Prop :=
  True

def Pre_SsmDxRefIdeal (m : (ℓ : Loc Cert.SsmDxRefIdeal.nD Cert.SsmDxRefIdeal.τ Cert.SsmDxRefIdeal.sig) → Buf (Elt Ideal) ℓ) : Prop :=
  True

def Pre_SsmDw (m : (ℓ : Loc Cert.SsmDw.nD Cert.SsmDw.τ Cert.SsmDw.sig) → Buf (Elt Bits) ℓ) : Prop :=
  True

def Pre_SsmDwIdeal (m : (ℓ : Loc Cert.SsmDwIdeal.nD Cert.SsmDwIdeal.τ Cert.SsmDwIdeal.sig) → Buf (Elt Ideal) ℓ) : Prop :=
  True

def Pre_SsmDwRefIdeal (m : (ℓ : Loc Cert.SsmDwRefIdeal.nD Cert.SsmDwRefIdeal.τ Cert.SsmDwRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSsm (m : (ℓ : Loc Cert.AdamSsm.nD Cert.AdamSsm.τ Cert.AdamSsm.sig) → Buf (Elt Bits) ℓ) : Prop :=
  True

def Pre_AdamSsmIdeal (m : (ℓ : Loc Cert.AdamSsmIdeal.nD Cert.AdamSsmIdeal.τ Cert.AdamSsmIdeal.sig) → Buf (Elt Ideal) ℓ) : Prop :=
  True

def Pre_AdamSsmRefIdeal (m : (ℓ : Loc Cert.AdamSsmRefIdeal.nD Cert.AdamSsmRefIdeal.τ Cert.AdamSsmRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1)
      ∧ r.2.mem ((c.tc : Thread Cert.Ff2Dx.nD Cert.Ff2Dx.τ).loc Cert.Ff2Dx.main_arg2) = m ((c.tc : Thread Cert.Ff2Dx.nD Cert.Ff2Dx.τ).loc Cert.Ff2Dx.main_arg2))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
      ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ r.2.sem = fun _ => 0)

def quiescent_Ff2DxRefIdeal [hFf2DxRefIdeal : Cert.Ff2DxRefIdeal.Facts] : Prop :=
  ∀ (m : (ℓ : Loc Cert.Ff2DxRefIdeal.nD Cert.Ff2DxRefIdeal.τ Cert.Ff2DxRefIdeal.sig) → Buf (Elt Ideal) ℓ) (g : Dev Cert.Ff2DxRefIdeal.nD → PrngReg), Pre_Ff2DxRefIdeal m →
    θ_run (Cert.Ff2DxRefIdeal.defs (F := Ideal)) (onTc (τ := Cert.Ff2DxRefIdeal.τ) (Cert.Ff2DxRefIdeal.main (F := Ideal))) ⟨m, fun _ => 0, g⟩ (fun r => (∀ c : Dev Cert.Ff2DxRefIdeal.nD,
      r.2.mem ((c.tc : Thread Cert.Ff2DxRefIdeal.nD Cert.Ff2DxRefIdeal.τ).loc Cert.Ff2DxRefIdeal.main_arg0) = m ((c.tc : Thread Cert.Ff2DxRefIdeal.nD Cert.Ff2DxRefIdeal.τ).loc Cert.Ff2DxRefIdeal.main_arg0)
      ∧ r.2.mem ((c.tc : Thread Cert.Ff2DxRefIdeal.nD Cert.Ff2DxRefIdeal.τ).loc Cert.Ff2DxRefIdeal.main_arg1) = m ((c.tc : Thread Cert.Ff2DxRefIdeal.nD Cert.Ff2DxRefIdeal.τ).loc Cert.Ff2DxRefIdeal.main_arg1)
      ∧ r.2.mem ((c.tc : Thread Cert.Ff2DxRefIdeal.nD Cert.Ff2DxRefIdeal.τ).loc Cert.Ff2DxRefIdeal.main_arg2) = m ((c.tc : Thread Cert.Ff2DxRefIdeal.nD Cert.Ff2DxRefIdeal.τ).loc Cert.Ff2DxRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Ff1Fwd [hFf1Fwd : Cert.Ff1Fwd.Facts] : Prop :=
  ∀ (m : (ℓ : Loc Cert.Ff1Fwd.nD Cert.Ff1Fwd.τ Cert.Ff1Fwd.sig) → Buf (Elt Bits) ℓ) (g : Dev Cert.Ff1Fwd.nD → PrngReg), Pre_Ff1Fwd m →
    θ_run (Cert.Ff1Fwd.defs (F := Bits)) (onTc (τ := Cert.Ff1Fwd.τ) (Cert.Ff1Fwd.main (F := Bits))) ⟨m, fun _ => 0, g⟩ (fun r => (∀ c : Dev Cert.Ff1Fwd.nD,
      r.2.mem ((c.tc : Thread Cert.Ff1Fwd.nD Cert.Ff1Fwd.τ).loc Cert.Ff1Fwd.main_arg0) = m ((c.tc : Thread Cert.Ff1Fwd.nD Cert.Ff1Fwd.τ).loc Cert.Ff1Fwd.main_arg0)
      ∧ r.2.mem ((c.tc : Thread Cert.Ff1Fwd.nD Cert.Ff1Fwd.τ).loc Cert.Ff1Fwd.main_arg1) = m ((c.tc : Thread Cert.Ff1Fwd.nD Cert.Ff1Fwd.τ).loc Cert.Ff1Fwd.main_arg1))
      ∧ r.2.sem = fun _ => 0)

def quiescent_Ff1FwdIdeal [hFf1FwdIdeal : Cert.Ff1FwdIdeal.Facts] : Prop :=
  ∀ (m : (ℓ : Loc Cert.Ff1FwdIdeal.nD Cert.Ff1FwdIdeal.τ Cert.Ff1FwdIdeal.sig) → Buf (Elt Ideal) ℓ) (g : Dev Cert.Ff1FwdIdeal.nD → PrngReg), Pre_Ff1FwdIdeal m →
    θ_run (Cert.Ff1FwdIdeal.defs (F := Ideal)) (onTc (τ := Cert.Ff1FwdIdeal.τ) (Cert.Ff1FwdIdeal.main (F := Ideal))) ⟨m, fun _ => 0, g⟩ (fun r => (∀ c : Dev Cert.Ff1FwdIdeal.nD,
      r.2.mem ((c.tc : Thread Cert.Ff1FwdIdeal.nD Cert.Ff1FwdIdeal.τ).loc Cert.Ff1FwdIdeal.main_arg0) = m ((c.tc : Thread Cert.Ff1FwdIdeal.nD Cert.Ff1FwdIdeal.τ).loc Cert.Ff1FwdIdeal.main_arg0)
      ∧ r.2.mem ((c.tc : Thread Cert.Ff1FwdIdeal.nD Cert.Ff1FwdIdeal.τ).loc Cert.Ff1FwdIdeal.main_arg1) = m ((c.tc : Thread Cert.Ff1FwdIdeal.nD Cert.Ff1FwdIdeal.τ).loc Cert.Ff1FwdIdeal.main_arg1))
      ∧ r.2.sem = fun _ => 0)

def quiescent_Ff1FwdRefIdeal [hFf1FwdRefIdeal : Cert.Ff1FwdRefIdeal.Facts] : Prop :=
  ∀ (m : (ℓ : Loc Cert.Ff1FwdRefIdeal.nD Cert.Ff1FwdRefIdeal.τ Cert.Ff1FwdRefIdeal.sig) → Buf (Elt Ideal) ℓ) (g : Dev Cert.Ff1FwdRefIdeal.nD → PrngReg), Pre_Ff1FwdRefIdeal m →
    θ_run (Cert.Ff1FwdRefIdeal.defs (F := Ideal)) (onTc (τ := Cert.Ff1FwdRefIdeal.τ) (Cert.Ff1FwdRefIdeal.main (F := Ideal))) ⟨m, fun _ => 0, g⟩ (fun r => (∀ c : Dev Cert.Ff1FwdRefIdeal.nD,
      r.2.mem ((c.tc : Thread Cert.Ff1FwdRefIdeal.nD Cert.Ff1FwdRefIdeal.τ).loc Cert.Ff1FwdRefIdeal.main_arg0) = m ((c.tc : Thread Cert.Ff1FwdRefIdeal.nD Cert.Ff1FwdRefIdeal.τ).loc Cert.Ff1FwdRefIdeal.main_arg0)
      ∧ r.2.mem ((c.tc : Thread Cert.Ff1FwdRefIdeal.nD Cert.Ff1FwdRefIdeal.τ).loc Cert.Ff1FwdRefIdeal.main_arg1) = m ((c.tc : Thread Cert.Ff1FwdRefIdeal.nD Cert.Ff1FwdRefIdeal.τ).loc Cert.Ff1FwdRefIdeal.main_arg1))
      ∧ r.2.sem = fun _ => 0)

def quiescent_Ff2Fwd [hFf2Fwd : Cert.Ff2Fwd.Facts] : Prop :=
  ∀ (m : (ℓ : Loc Cert.Ff2Fwd.nD Cert.Ff2Fwd.τ Cert.Ff2Fwd.sig) → Buf (Elt Bits) ℓ) (g : Dev Cert.Ff2Fwd.nD → PrngReg), Pre_Ff2Fwd m →
    θ_run (Cert.Ff2Fwd.defs (F := Bits)) (onTc (τ := Cert.Ff2Fwd.τ) (Cert.Ff2Fwd.main (F := Bits))) ⟨m, fun _ => 0, g⟩ (fun r => (∀ c : Dev Cert.Ff2Fwd.nD,
      r.2.mem ((c.tc : Thread Cert.Ff2Fwd.nD Cert.Ff2Fwd.τ).loc Cert.Ff2Fwd.main_arg0) = m ((c.tc : Thread Cert.Ff2Fwd.nD Cert.Ff2Fwd.τ).loc Cert.Ff2Fwd.main_arg0)
      ∧ r.2.mem ((c.tc : Thread Cert.Ff2Fwd.nD Cert.Ff2Fwd.τ).loc Cert.Ff2Fwd.main_arg1) = m ((c.tc : Thread Cert.Ff2Fwd.nD Cert.Ff2Fwd.τ).loc Cert.Ff2Fwd.main_arg1))
      ∧ r.2.sem = fun _ => 0)

def quiescent_Ff2FwdIdeal [hFf2FwdIdeal : Cert.Ff2FwdIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg), Pre_Ff2FwdIdeal m →
    θ_run (Cert.Ff2FwdIdeal.defs (F := Ideal)) (onTc (τ := Cert.Ff2FwdIdeal.τ) (Cert.Ff2FwdIdeal.main (F := Ideal))) ⟨m, fun _ => 0, g⟩ (fun r => (∀ c : Dev Cert.Ff2FwdIdeal.nD,
      r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
      ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1))
      ∧ r.2.sem = fun _ => 0)

def quiescent_Ff2FwdRefIdeal [hFf2FwdRefIdeal : Cert.Ff2FwdRefIdeal.Facts] : Prop :=
  ∀ (m : (ℓ : Loc Cert.Ff2FwdRefIdeal.nD Cert.Ff2FwdRefIdeal.τ Cert.Ff2FwdRefIdeal.sig) → Buf (Elt Ideal) ℓ) (g : Dev Cert.Ff2FwdRefIdeal.nD → PrngReg), Pre_Ff2FwdRefIdeal m →
    θ_run (Cert.Ff2FwdRefIdeal.defs (F := Ideal)) (onTc (τ := Cert.Ff2FwdRefIdeal.τ) (Cert.Ff2FwdRefIdeal.main (F := Ideal))) ⟨m, fun _ => 0, g⟩ (fun r => (∀ c : Dev Cert.Ff2FwdRefIdeal.nD,
      r.2.mem ((c.tc : Thread Cert.Ff2FwdRefIdeal.nD Cert.Ff2FwdRefIdeal.τ).loc Cert.Ff2FwdRefIdeal.main_arg0) = m ((c.tc : Thread Cert.Ff2FwdRefIdeal.nD Cert.Ff2FwdRefIdeal.τ).loc Cert.Ff2FwdRefIdeal.main_arg0)
      ∧ r.2.mem ((c.tc : Thread Cert.Ff2FwdRefIdeal.nD Cert.Ff2FwdRefIdeal.τ).loc Cert.Ff2FwdRefIdeal.main_arg1) = m ((c.tc : Thread Cert.Ff2FwdRefIdeal.nD Cert.Ff2FwdRefIdeal.τ).loc Cert.Ff2FwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_SsmFwd [hSsmFwd : Cert.SsmFwd.Facts] : Prop :=
  ∀ (m : (ℓ : Loc Cert.SsmFwd.nD Cert.SsmFwd.τ Cert.SsmFwd.sig) → Buf (Elt Bits) ℓ) (g : Dev Cert.SsmFwd.nD → PrngReg), Pre_SsmFwd m →
    θ_run (Cert.SsmFwd.defs (F := Bits)) (onTc (τ := Cert.SsmFwd.τ) (Cert.SsmFwd.main (F := Bits))) ⟨m, fun _ => 0, g⟩ (fun r => (∀ c : Dev Cert.SsmFwd.nD,
      r.2.mem ((c.tc : Thread Cert.SsmFwd.nD Cert.SsmFwd.τ).loc Cert.SsmFwd.main_arg0) = m ((c.tc : Thread Cert.SsmFwd.nD Cert.SsmFwd.τ).loc Cert.SsmFwd.main_arg0)
      ∧ r.2.mem ((c.tc : Thread Cert.SsmFwd.nD Cert.SsmFwd.τ).loc Cert.SsmFwd.main_arg1) = m ((c.tc : Thread Cert.SsmFwd.nD Cert.SsmFwd.τ).loc Cert.SsmFwd.main_arg1))
      ∧ r.2.sem = fun _ => 0)

def quiescent_SsmFwdIdeal [hSsmFwdIdeal : Cert.SsmFwdIdeal.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg), Pre_SsmFwdIdeal m →
    θ_run (Cert.SsmFwdIdeal.defs (F := Ideal)) (onTc (τ := Cert.SsmFwdIdeal.τ) (Cert.SsmFwdIdeal.main (F := Ideal))) ⟨m, fun _ => 0, g⟩ (fun r => (∀ c : Dev Cert.SsmFwdIdeal.nD,
      r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
      ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1))
      ∧ r.2.sem = fun _ => 0)

def quiescent_SsmFwdRefIdeal [hSsmFwdRefIdeal : Cert.SsmFwdRefIdeal.Facts] : Prop :=
  ∀ (m : (ℓ : Loc Cert.SsmFwdRefIdeal.nD Cert.SsmFwdRefIdeal.τ Cert.SsmFwdRefIdeal.sig) → Buf (Elt Ideal) ℓ) (g : Dev Cert.SsmFwdRefIdeal.nD → PrngReg), Pre_SsmFwdRefIdeal m →
    θ_run (Cert.SsmFwdRefIdeal.defs (F := Ideal)) (onTc (τ := Cert.SsmFwdRefIdeal.τ) (Cert.SsmFwdRefIdeal.main (F := Ideal))) ⟨m, fun _ => 0, g⟩ (fun r => (∀ c : Dev Cert.SsmFwdRefIdeal.nD,
      r.2.mem ((c.tc : Thread Cert.SsmFwdRefIdeal.nD Cert.SsmFwdRefIdeal.τ).loc Cert.SsmFwdRefIdeal.main_arg0) = m ((c.tc : Thread Cert.SsmFwdRefIdeal.nD Cert.SsmFwdRefIdeal.τ).loc Cert.SsmFwdRefIdeal.main_arg0)
      ∧ r.2.mem ((c.tc : Thread Cert.SsmFwdRefIdeal.nD Cert.SsmFwdRefIdeal.τ).loc Cert.SsmFwdRefIdeal.main_arg1) = m ((c.tc : Thread Cert.SsmFwdRefIdeal.nD Cert.SsmFwdRefIdeal.τ).loc Cert.SsmFwdRefIdeal.main_arg1))
      ∧ r.2.sem = fun _ => 0)

def quiescent_SsmDx [hSsmDx : Cert.SsmDx.Facts] : Prop :=
  ∀ (m : (ℓ : Loc Cert.SsmDx.nD Cert.SsmDx.τ Cert.SsmDx.sig) → Buf (Elt Bits) ℓ) (g : Dev Cert.SsmDx.nD → PrngReg), Pre_SsmDx m →
    θ_run (Cert.SsmDx.defs (F := Bits)) (onTc (τ := Cert.SsmDx.τ) (Cert.SsmDx.main (F := Bits))) ⟨m, fun _ => 0, g⟩ (fun r => (∀ c : Dev Cert.SsmDx.nD,
      r.2.mem ((c.tc : Thread Cert.SsmDx.nD Cert.SsmDx.τ).loc Cert.SsmDx.main_arg0) = m ((c.tc : Thread Cert.SsmDx.nD Cert.SsmDx.τ).loc Cert.SsmDx.main_arg0)
      ∧ r.2.mem ((c.tc : Thread Cert.SsmDx.nD Cert.SsmDx.τ).loc Cert.SsmDx.main_arg1) = m ((c.tc : Thread Cert.SsmDx.nD Cert.SsmDx.τ).loc Cert.SsmDx.main_arg1))
      ∧ r.2.sem = fun _ => 0)

def quiescent_SsmDxIdeal [hSsmDxIdeal : Cert.SsmDxIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg), Pre_SsmDxIdeal m →
    θ_run (Cert.SsmDxIdeal.defs (F := Ideal)) (onTc (τ := Cert.SsmDxIdeal.τ) (Cert.SsmDxIdeal.main (F := Ideal))) ⟨m, fun _ => 0, g⟩ (fun r => (∀ c : Dev Cert.SsmDxIdeal.nD,
      r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
      ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ r.2.sem = fun _ => 0)

def quiescent_SsmDxRefIdeal [hSsmDxRefIdeal : Cert.SsmDxRefIdeal.Facts] : Prop :=
  ∀ (m : (ℓ : Loc Cert.SsmDxRefIdeal.nD Cert.SsmDxRefIdeal.τ Cert.SsmDxRefIdeal.sig) → Buf (Elt Ideal) ℓ) (g : Dev Cert.SsmDxRefIdeal.nD → PrngReg), Pre_SsmDxRefIdeal m →
    θ_run (Cert.SsmDxRefIdeal.defs (F := Ideal)) (onTc (τ := Cert.SsmDxRefIdeal.τ) (Cert.SsmDxRefIdeal.main (F := Ideal))) ⟨m, fun _ => 0, g⟩ (fun r => (∀ c : Dev Cert.SsmDxRefIdeal.nD,
      r.2.mem ((c.tc : Thread Cert.SsmDxRefIdeal.nD Cert.SsmDxRefIdeal.τ).loc Cert.SsmDxRefIdeal.main_arg0) = m ((c.tc : Thread Cert.SsmDxRefIdeal.nD Cert.SsmDxRefIdeal.τ).loc Cert.SsmDxRefIdeal.main_arg0)
      ∧ r.2.mem ((c.tc : Thread Cert.SsmDxRefIdeal.nD Cert.SsmDxRefIdeal.τ).loc Cert.SsmDxRefIdeal.main_arg1) = m ((c.tc : Thread Cert.SsmDxRefIdeal.nD Cert.SsmDxRefIdeal.τ).loc Cert.SsmDxRefIdeal.main_arg1))
      ∧ r.2.sem = fun _ => 0)

def quiescent_SsmDw [hSsmDw : Cert.SsmDw.Facts] : Prop :=
  ∀ (m : (ℓ : Loc Cert.SsmDw.nD Cert.SsmDw.τ Cert.SsmDw.sig) → Buf (Elt Bits) ℓ) (g : Dev Cert.SsmDw.nD → PrngReg), Pre_SsmDw m →
    θ_run (Cert.SsmDw.defs (F := Bits)) (onTc (τ := Cert.SsmDw.τ) (Cert.SsmDw.main (F := Bits))) ⟨m, fun _ => 0, g⟩ (fun r => (∀ c : Dev Cert.SsmDw.nD,
      r.2.mem ((c.tc : Thread Cert.SsmDw.nD Cert.SsmDw.τ).loc Cert.SsmDw.main_arg0) = m ((c.tc : Thread Cert.SsmDw.nD Cert.SsmDw.τ).loc Cert.SsmDw.main_arg0)
      ∧ r.2.mem ((c.tc : Thread Cert.SsmDw.nD Cert.SsmDw.τ).loc Cert.SsmDw.main_arg1) = m ((c.tc : Thread Cert.SsmDw.nD Cert.SsmDw.τ).loc Cert.SsmDw.main_arg1))
      ∧ r.2.sem = fun _ => 0)

def quiescent_SsmDwIdeal [hSsmDwIdeal : Cert.SsmDwIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg), Pre_SsmDwIdeal m →
    θ_run (Cert.SsmDwIdeal.defs (F := Ideal)) (onTc (τ := Cert.SsmDwIdeal.τ) (Cert.SsmDwIdeal.main (F := Ideal))) ⟨m, fun _ => 0, g⟩ (fun r => (∀ c : Dev Cert.SsmDwIdeal.nD,
      r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
      ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ r.2.sem = fun _ => 0)

def quiescent_SsmDwRefIdeal [hSsmDwRefIdeal : Cert.SsmDwRefIdeal.Facts] : Prop :=
  ∀ (m : (ℓ : Loc Cert.SsmDwRefIdeal.nD Cert.SsmDwRefIdeal.τ Cert.SsmDwRefIdeal.sig) → Buf (Elt Ideal) ℓ) (g : Dev Cert.SsmDwRefIdeal.nD → PrngReg), Pre_SsmDwRefIdeal m →
    θ_run (Cert.SsmDwRefIdeal.defs (F := Ideal)) (onTc (τ := Cert.SsmDwRefIdeal.τ) (Cert.SsmDwRefIdeal.main (F := Ideal))) ⟨m, fun _ => 0, g⟩ (fun r => (∀ c : Dev Cert.SsmDwRefIdeal.nD,
      r.2.mem ((c.tc : Thread Cert.SsmDwRefIdeal.nD Cert.SsmDwRefIdeal.τ).loc Cert.SsmDwRefIdeal.main_arg0) = m ((c.tc : Thread Cert.SsmDwRefIdeal.nD Cert.SsmDwRefIdeal.τ).loc Cert.SsmDwRefIdeal.main_arg0)
      ∧ r.2.mem ((c.tc : Thread Cert.SsmDwRefIdeal.nD Cert.SsmDwRefIdeal.τ).loc Cert.SsmDwRefIdeal.main_arg1) = m ((c.tc : Thread Cert.SsmDwRefIdeal.nD Cert.SsmDwRefIdeal.τ).loc Cert.SsmDwRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4)
      ∧ r.2.mem ((c.tc : Thread Cert.AdamAda.nD Cert.AdamAda.τ).loc Cert.AdamAda.main_arg5) = m ((c.tc : Thread Cert.AdamAda.nD Cert.AdamAda.τ).loc Cert.AdamAda.main_arg5))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4)
      ∧ r.2.mem ((c.tc : Thread Cert.AdamAdaIdeal.nD Cert.AdamAdaIdeal.τ).loc Cert.AdamAdaIdeal.main_arg5) = m ((c.tc : Thread Cert.AdamAdaIdeal.nD Cert.AdamAdaIdeal.τ).loc Cert.AdamAdaIdeal.main_arg5))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4)
      ∧ r.2.mem ((c.tc : Thread Cert.AdamAdaRefIdeal.nD Cert.AdamAdaRefIdeal.τ).loc Cert.AdamAdaRefIdeal.main_arg5) = m ((c.tc : Thread Cert.AdamAdaRefIdeal.nD Cert.AdamAdaRefIdeal.τ).loc Cert.AdamAdaRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3)
      ∧ r.2.mem ((c.tc : Thread Cert.AdamUq.nD Cert.AdamUq.τ).loc Cert.AdamUq.main_arg4) = m ((c.tc : Thread Cert.AdamUq.nD Cert.AdamUq.τ).loc Cert.AdamUq.main_arg4)
      ∧ r.2.mem ((c.tc : Thread Cert.AdamUq.nD Cert.AdamUq.τ).loc Cert.AdamUq.main_arg5) = m ((c.tc : Thread Cert.AdamUq.nD Cert.AdamUq.τ).loc Cert.AdamUq.main_arg5))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
      ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
      ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3)
      ∧ r.2.mem ((c.tc : Thread Cert.AdamUqRefIdeal.nD Cert.AdamUqRefIdeal.τ).loc Cert.AdamUqRefIdeal.main_arg4) = m ((c.tc : Thread Cert.AdamUqRefIdeal.nD Cert.AdamUqRefIdeal.τ).loc Cert.AdamUqRefIdeal.main_arg4)
      ∧ r.2.mem ((c.tc : Thread Cert.AdamUqRefIdeal.nD Cert.AdamUqRefIdeal.τ).loc Cert.AdamUqRefIdeal.main_arg5) = m ((c.tc : Thread Cert.AdamUqRefIdeal.nD Cert.AdamUqRefIdeal.τ).loc Cert.AdamUqRefIdeal.main_arg5))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3)
      ∧ r.2.mem ((c.tc : Thread Cert.AdamUkv.nD Cert.AdamUkv.τ).loc Cert.AdamUkv.main_arg4) = m ((c.tc : Thread Cert.AdamUkv.nD Cert.AdamUkv.τ).loc Cert.AdamUkv.main_arg4)
      ∧ r.2.mem ((c.tc : Thread Cert.AdamUkv.nD Cert.AdamUkv.τ).loc Cert.AdamUkv.main_arg5) = m ((c.tc : Thread Cert.AdamUkv.nD Cert.AdamUkv.τ).loc Cert.AdamUkv.main_arg5))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
      ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
      ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3)
      ∧ r.2.mem ((c.tc : Thread Cert.AdamUkvRefIdeal.nD Cert.AdamUkvRefIdeal.τ).loc Cert.AdamUkvRefIdeal.main_arg4) = m ((c.tc : Thread Cert.AdamUkvRefIdeal.nD Cert.AdamUkvRefIdeal.τ).loc Cert.AdamUkvRefIdeal.main_arg4)
      ∧ r.2.mem ((c.tc : Thread Cert.AdamUkvRefIdeal.nD Cert.AdamUkvRefIdeal.τ).loc Cert.AdamUkvRefIdeal.main_arg5) = m ((c.tc : Thread Cert.AdamUkvRefIdeal.nD Cert.AdamUkvRefIdeal.τ).loc Cert.AdamUkvRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamSsm [hAdamSsm : Cert.AdamSsm.Facts] : Prop :=
  ∀ (m : (ℓ : Loc Cert.AdamSsm.nD Cert.AdamSsm.τ Cert.AdamSsm.sig) → Buf (Elt Bits) ℓ) (g : Dev Cert.AdamSsm.nD → PrngReg), Pre_AdamSsm m →
    θ_run (Cert.AdamSsm.defs (F := Bits)) (onTc (τ := Cert.AdamSsm.τ) (Cert.AdamSsm.main (F := Bits))) ⟨m, fun _ => 0, g⟩ (fun r => (∀ c : Dev Cert.AdamSsm.nD,
      r.2.mem ((c.tc : Thread Cert.AdamSsm.nD Cert.AdamSsm.τ).loc Cert.AdamSsm.main_arg0) = m ((c.tc : Thread Cert.AdamSsm.nD Cert.AdamSsm.τ).loc Cert.AdamSsm.main_arg0)
      ∧ r.2.mem ((c.tc : Thread Cert.AdamSsm.nD Cert.AdamSsm.τ).loc Cert.AdamSsm.main_arg1) = m ((c.tc : Thread Cert.AdamSsm.nD Cert.AdamSsm.τ).loc Cert.AdamSsm.main_arg1)
      ∧ r.2.mem ((c.tc : Thread Cert.AdamSsm.nD Cert.AdamSsm.τ).loc Cert.AdamSsm.main_arg2) = m ((c.tc : Thread Cert.AdamSsm.nD Cert.AdamSsm.τ).loc Cert.AdamSsm.main_arg2)
      ∧ r.2.mem ((c.tc : Thread Cert.AdamSsm.nD Cert.AdamSsm.τ).loc Cert.AdamSsm.main_arg3) = m ((c.tc : Thread Cert.AdamSsm.nD Cert.AdamSsm.τ).loc Cert.AdamSsm.main_arg3)
      ∧ r.2.mem ((c.tc : Thread Cert.AdamSsm.nD Cert.AdamSsm.τ).loc Cert.AdamSsm.main_arg4) = m ((c.tc : Thread Cert.AdamSsm.nD Cert.AdamSsm.τ).loc Cert.AdamSsm.main_arg4)
      ∧ r.2.mem ((c.tc : Thread Cert.AdamSsm.nD Cert.AdamSsm.τ).loc Cert.AdamSsm.main_arg5) = m ((c.tc : Thread Cert.AdamSsm.nD Cert.AdamSsm.τ).loc Cert.AdamSsm.main_arg5))
      ∧ r.2.sem = fun _ => 0)

def quiescent_AdamSsmIdeal [hAdamSsmIdeal : Cert.AdamSsmIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg), Pre_AdamSsmIdeal m →
    θ_run (Cert.AdamSsmIdeal.defs (F := Ideal)) (onTc (τ := Cert.AdamSsmIdeal.τ) (Cert.AdamSsmIdeal.main (F := Ideal))) ⟨m, fun _ => 0, g⟩ (fun r => (∀ c : Dev Cert.AdamSsmIdeal.nD,
      r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
      ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
      ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
      ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3)
      ∧ r.2.mem ((c.tc : Thread Cert.AdamSsmIdeal.nD Cert.AdamSsmIdeal.τ).loc Cert.AdamSsmIdeal.main_arg4) = m ((c.tc : Thread Cert.AdamSsmIdeal.nD Cert.AdamSsmIdeal.τ).loc Cert.AdamSsmIdeal.main_arg4)
      ∧ r.2.mem ((c.tc : Thread Cert.AdamSsmIdeal.nD Cert.AdamSsmIdeal.τ).loc Cert.AdamSsmIdeal.main_arg5) = m ((c.tc : Thread Cert.AdamSsmIdeal.nD Cert.AdamSsmIdeal.τ).loc Cert.AdamSsmIdeal.main_arg5))
      ∧ r.2.sem = fun _ => 0)

def quiescent_AdamSsmRefIdeal [hAdamSsmRefIdeal : Cert.AdamSsmRefIdeal.Facts] : Prop :=
  ∀ (m : (ℓ : Loc Cert.AdamSsmRefIdeal.nD Cert.AdamSsmRefIdeal.τ Cert.AdamSsmRefIdeal.sig) → Buf (Elt Ideal) ℓ) (g : Dev Cert.AdamSsmRefIdeal.nD → PrngReg), Pre_AdamSsmRefIdeal m →
    θ_run (Cert.AdamSsmRefIdeal.defs (F := Ideal)) (onTc (τ := Cert.AdamSsmRefIdeal.τ) (Cert.AdamSsmRefIdeal.main (F := Ideal))) ⟨m, fun _ => 0, g⟩ (fun r => (∀ c : Dev Cert.AdamSsmRefIdeal.nD,
      r.2.mem ((c.tc : Thread Cert.AdamSsmRefIdeal.nD Cert.AdamSsmRefIdeal.τ).loc Cert.AdamSsmRefIdeal.main_arg0) = m ((c.tc : Thread Cert.AdamSsmRefIdeal.nD Cert.AdamSsmRefIdeal.τ).loc Cert.AdamSsmRefIdeal.main_arg0)
      ∧ r.2.mem ((c.tc : Thread Cert.AdamSsmRefIdeal.nD Cert.AdamSsmRefIdeal.τ).loc Cert.AdamSsmRefIdeal.main_arg1) = m ((c.tc : Thread Cert.AdamSsmRefIdeal.nD Cert.AdamSsmRefIdeal.τ).loc Cert.AdamSsmRefIdeal.main_arg1)
      ∧ r.2.mem ((c.tc : Thread Cert.AdamSsmRefIdeal.nD Cert.AdamSsmRefIdeal.τ).loc Cert.AdamSsmRefIdeal.main_arg2) = m ((c.tc : Thread Cert.AdamSsmRefIdeal.nD Cert.AdamSsmRefIdeal.τ).loc Cert.AdamSsmRefIdeal.main_arg2)
      ∧ r.2.mem ((c.tc : Thread Cert.AdamSsmRefIdeal.nD Cert.AdamSsmRefIdeal.τ).loc Cert.AdamSsmRefIdeal.main_arg3) = m ((c.tc : Thread Cert.AdamSsmRefIdeal.nD Cert.AdamSsmRefIdeal.τ).loc Cert.AdamSsmRefIdeal.main_arg3)
      ∧ r.2.mem ((c.tc : Thread Cert.AdamSsmRefIdeal.nD Cert.AdamSsmRefIdeal.τ).loc Cert.AdamSsmRefIdeal.main_arg4) = m ((c.tc : Thread Cert.AdamSsmRefIdeal.nD Cert.AdamSsmRefIdeal.τ).loc Cert.AdamSsmRefIdeal.main_arg4)
      ∧ r.2.mem ((c.tc : Thread Cert.AdamSsmRefIdeal.nD Cert.AdamSsmRefIdeal.τ).loc Cert.AdamSsmRefIdeal.main_arg5) = m ((c.tc : Thread Cert.AdamSsmRefIdeal.nD Cert.AdamSsmRefIdeal.τ).loc Cert.AdamSsmRefIdeal.main_arg5))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4)
      ∧ r.2.mem ((c.tc : Thread Cert.AdamFf.nD Cert.AdamFf.τ).loc Cert.AdamFf.main_arg5) = m ((c.tc : Thread Cert.AdamFf.nD Cert.AdamFf.τ).loc Cert.AdamFf.main_arg5))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
      ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9)
      ∧ r.2.mem ((c.tc : Thread Cert.SumSmall.nD Cert.SumSmall.τ).loc Cert.SumSmall.main_arg10) = m ((c.tc : Thread Cert.SumSmall.nD Cert.SumSmall.τ).loc Cert.SumSmall.main_arg10)
      ∧ r.2.mem ((c.tc : Thread Cert.SumSmall.nD Cert.SumSmall.τ).loc Cert.SumSmall.main_arg11) = m ((c.tc : Thread Cert.SumSmall.nD Cert.SumSmall.τ).loc Cert.SumSmall.main_arg11)
      ∧ r.2.mem ((c.tc : Thread Cert.SumSmall.nD Cert.SumSmall.τ).loc Cert.SumSmall.main_arg12) = m ((c.tc : Thread Cert.SumSmall.nD Cert.SumSmall.τ).loc Cert.SumSmall.main_arg12))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
      ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
      ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
      ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8)
      ∧ r.2.mem ((c.tc : Thread Cert.SumSmallRefIdeal.nD Cert.SumSmallRefIdeal.τ).loc Cert.SumSmallRefIdeal.main_arg9) = m ((c.tc : Thread Cert.SumSmallRefIdeal.nD Cert.SumSmallRefIdeal.τ).loc Cert.SumSmallRefIdeal.main_arg9)
      ∧ r.2.mem ((c.tc : Thread Cert.SumSmallRefIdeal.nD Cert.SumSmallRefIdeal.τ).loc Cert.SumSmallRefIdeal.main_arg10) = m ((c.tc : Thread Cert.SumSmallRefIdeal.nD Cert.SumSmallRefIdeal.τ).loc Cert.SumSmallRefIdeal.main_arg10)
      ∧ r.2.mem ((c.tc : Thread Cert.SumSmallRefIdeal.nD Cert.SumSmallRefIdeal.τ).loc Cert.SumSmallRefIdeal.main_arg11) = m ((c.tc : Thread Cert.SumSmallRefIdeal.nD Cert.SumSmallRefIdeal.τ).loc Cert.SumSmallRefIdeal.main_arg11)
      ∧ r.2.mem ((c.tc : Thread Cert.SumSmallRefIdeal.nD Cert.SumSmallRefIdeal.τ).loc Cert.SumSmallRefIdeal.main_arg12) = m ((c.tc : Thread Cert.SumSmallRefIdeal.nD Cert.SumSmallRefIdeal.τ).loc Cert.SumSmallRefIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ff2Dx_Ff2DxIdeal : Prop :=
  True

def algebraic_Ff2DxIdeal_Ff2DxRefIdeal [hFf2DxIdeal : Cert.Ff2DxIdeal.Facts] [hFf2DxRefIdeal : Cert.Ff2DxRefIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxRefIdeal.nD Cert.Ff2DxRefIdeal.τ Cert.Ff2DxRefIdeal.sig) → Buf (Elt Ideal) ℓ) (g' : Dev Cert.Ff2DxRefIdeal.nD → PrngReg), Pre_Ff2DxIdeal m →
    (∀ c : Dev Cert.Ff2DxIdeal.nD,
      m' ((c.tc : Thread Cert.Ff2DxRefIdeal.nD Cert.Ff2DxRefIdeal.τ).loc Cert.Ff2DxRefIdeal.main_arg0) = m ((c.tc : Thread Cert.Ff2DxIdeal.nD Cert.Ff2DxIdeal.τ).loc Cert.Ff2DxIdeal.main_arg0)
      ∧ m' ((c.tc : Thread Cert.Ff2DxRefIdeal.nD Cert.Ff2DxRefIdeal.τ).loc Cert.Ff2DxRefIdeal.main_arg1) = m ((c.tc : Thread Cert.Ff2DxIdeal.nD Cert.Ff2DxIdeal.τ).loc Cert.Ff2DxIdeal.main_arg1)
      ∧ m' ((c.tc : Thread Cert.Ff2DxRefIdeal.nD Cert.Ff2DxRefIdeal.τ).loc Cert.Ff2DxRefIdeal.main_arg2) = m ((c.tc : Thread Cert.Ff2DxIdeal.nD Cert.Ff2DxIdeal.τ).loc Cert.Ff2DxIdeal.main_arg2)) →
    ∃ (v0 : (c : Dev Cert.Ff2DxIdeal.nD) → Buf (Elt Ideal) ((c.tc : Thread Cert.Ff2DxIdeal.nD Cert.Ff2DxIdeal.τ).loc Cert.Ff2DxIdeal.main_v3)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v3) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
          ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ θ_run (Cert.Ff2DxRefIdeal.defs (F := Ideal)) (onTc (τ := Cert.Ff2DxRefIdeal.τ) (Cert.Ff2DxRefIdeal.main (F := Ideal))) ⟨m', fun _ => 0, g'⟩ (fun r => ∀ c : Dev Cert.Ff2DxRefIdeal.nD,
          r.2.mem ((c.tc : Thread Cert.Ff2DxRefIdeal.nD Cert.Ff2DxRefIdeal.τ).loc Cert.Ff2DxRefIdeal.main_v14) = v0 c
          ∧ r.2.mem ((c.tc : Thread Cert.Ff2DxRefIdeal.nD Cert.Ff2DxRefIdeal.τ).loc Cert.Ff2DxRefIdeal.main_arg0) = m' ((c.tc : Thread Cert.Ff2DxRefIdeal.nD Cert.Ff2DxRefIdeal.τ).loc Cert.Ff2DxRefIdeal.main_arg0)
          ∧ r.2.mem ((c.tc : Thread Cert.Ff2DxRefIdeal.nD Cert.Ff2DxRefIdeal.τ).loc Cert.Ff2DxRefIdeal.main_arg1) = m' ((c.tc : Thread Cert.Ff2DxRefIdeal.nD Cert.Ff2DxRefIdeal.τ).loc Cert.Ff2DxRefIdeal.main_arg1)
          ∧ r.2.mem ((c.tc : Thread Cert.Ff2DxRefIdeal.nD Cert.Ff2DxRefIdeal.τ).loc Cert.Ff2DxRefIdeal.main_arg2) = m' ((c.tc : Thread Cert.Ff2DxRefIdeal.nD Cert.Ff2DxRefIdeal.τ).loc Cert.Ff2DxRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v5) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v7) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v1)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v1) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v5) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v5) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v1) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Ff1Fwd_Ff1FwdIdeal : Prop :=
  True

def algebraic_Ff1FwdIdeal_Ff1FwdRefIdeal [hFf1FwdIdeal : Cert.Ff1FwdIdeal.Facts] [hFf1FwdRefIdeal : Cert.Ff1FwdRefIdeal.Facts] : Prop :=
  ∀ (m : (ℓ : Loc Cert.Ff1FwdIdeal.nD Cert.Ff1FwdIdeal.τ Cert.Ff1FwdIdeal.sig) → Buf (Elt Ideal) ℓ) (g : Dev Cert.Ff1FwdIdeal.nD → PrngReg)
    (m' : (ℓ : Loc Cert.Ff1FwdRefIdeal.nD Cert.Ff1FwdRefIdeal.τ Cert.Ff1FwdRefIdeal.sig) → Buf (Elt Ideal) ℓ) (g' : Dev Cert.Ff1FwdRefIdeal.nD → PrngReg), Pre_Ff1FwdIdeal m →
    (∀ c : Dev Cert.Ff1FwdIdeal.nD,
      m' ((c.tc : Thread Cert.Ff1FwdRefIdeal.nD Cert.Ff1FwdRefIdeal.τ).loc Cert.Ff1FwdRefIdeal.main_arg0) = m ((c.tc : Thread Cert.Ff1FwdIdeal.nD Cert.Ff1FwdIdeal.τ).loc Cert.Ff1FwdIdeal.main_arg0)
      ∧ m' ((c.tc : Thread Cert.Ff1FwdRefIdeal.nD Cert.Ff1FwdRefIdeal.τ).loc Cert.Ff1FwdRefIdeal.main_arg1) = m ((c.tc : Thread Cert.Ff1FwdIdeal.nD Cert.Ff1FwdIdeal.τ).loc Cert.Ff1FwdIdeal.main_arg1)) →
    ∃ (v0 : (c : Dev Cert.Ff1FwdIdeal.nD) → Buf (Elt Ideal) ((c.tc : Thread Cert.Ff1FwdIdeal.nD Cert.Ff1FwdIdeal.τ).loc Cert.Ff1FwdIdeal.main_v0_0)) (v1 : (c : Dev Cert.Ff1FwdIdeal.nD) → Buf (Elt Ideal) ((c.tc : Thread Cert.Ff1FwdIdeal.nD Cert.Ff1FwdIdeal.τ).loc Cert.Ff1FwdIdeal.main_v0_1)),
      θ_run (Cert.Ff1FwdIdeal.defs (F := Ideal)) (onTc (τ := Cert.Ff1FwdIdeal.τ) (Cert.Ff1FwdIdeal.main (F := Ideal))) ⟨m, fun _ => 0, g⟩ (fun r => ∀ c : Dev Cert.Ff1FwdIdeal.nD,
          r.2.mem ((c.tc : Thread Cert.Ff1FwdIdeal.nD Cert.Ff1FwdIdeal.τ).loc Cert.Ff1FwdIdeal.main_v0_0) = v0 c
          ∧ r.2.mem ((c.tc : Thread Cert.Ff1FwdIdeal.nD Cert.Ff1FwdIdeal.τ).loc Cert.Ff1FwdIdeal.main_v0_1) = v1 c
          ∧ r.2.mem ((c.tc : Thread Cert.Ff1FwdIdeal.nD Cert.Ff1FwdIdeal.τ).loc Cert.Ff1FwdIdeal.main_arg0) = m ((c.tc : Thread Cert.Ff1FwdIdeal.nD Cert.Ff1FwdIdeal.τ).loc Cert.Ff1FwdIdeal.main_arg0)
          ∧ r.2.mem ((c.tc : Thread Cert.Ff1FwdIdeal.nD Cert.Ff1FwdIdeal.τ).loc Cert.Ff1FwdIdeal.main_arg1) = m ((c.tc : Thread Cert.Ff1FwdIdeal.nD Cert.Ff1FwdIdeal.τ).loc Cert.Ff1FwdIdeal.main_arg1))
      ∧ θ_run (Cert.Ff1FwdRefIdeal.defs (F := Ideal)) (onTc (τ := Cert.Ff1FwdRefIdeal.τ) (Cert.Ff1FwdRefIdeal.main (F := Ideal))) ⟨m', fun _ => 0, g'⟩ (fun r => ∀ c : Dev Cert.Ff1FwdRefIdeal.nD,
          r.2.mem ((c.tc : Thread Cert.Ff1FwdRefIdeal.nD Cert.Ff1FwdRefIdeal.τ).loc Cert.Ff1FwdRefIdeal.main_v5) = v0 c
          ∧ r.2.mem ((c.tc : Thread Cert.Ff1FwdRefIdeal.nD Cert.Ff1FwdRefIdeal.τ).loc Cert.Ff1FwdRefIdeal.main_v6) = v1 c
          ∧ r.2.mem ((c.tc : Thread Cert.Ff1FwdRefIdeal.nD Cert.Ff1FwdRefIdeal.τ).loc Cert.Ff1FwdRefIdeal.main_arg0) = m' ((c.tc : Thread Cert.Ff1FwdRefIdeal.nD Cert.Ff1FwdRefIdeal.τ).loc Cert.Ff1FwdRefIdeal.main_arg0)
          ∧ r.2.mem ((c.tc : Thread Cert.Ff1FwdRefIdeal.nD Cert.Ff1FwdRefIdeal.τ).loc Cert.Ff1FwdRefIdeal.main_arg1) = m' ((c.tc : Thread Cert.Ff1FwdRefIdeal.nD Cert.Ff1FwdRefIdeal.τ).loc Cert.Ff1FwdRefIdeal.main_arg1))

def preserves_Ff2Fwd_Ff2FwdIdeal : Prop :=
  True

def algebraic_Ff2FwdIdeal_Ff2FwdRefIdeal [hFf2FwdIdeal : Cert.Ff2FwdIdeal.Facts] [hFf2FwdRefIdeal : Cert.Ff2FwdRefIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg)
    (m' : (ℓ : Loc Cert.Ff2FwdRefIdeal.nD Cert.Ff2FwdRefIdeal.τ Cert.Ff2FwdRefIdeal.sig) → Buf (Elt Ideal) ℓ) (g' : Dev Cert.Ff2FwdRefIdeal.nD → PrngReg), Pre_Ff2FwdIdeal m →
    (∀ c : Dev Cert.Ff2FwdIdeal.nD,
      m' ((c.tc : Thread Cert.Ff2FwdRefIdeal.nD Cert.Ff2FwdRefIdeal.τ).loc Cert.Ff2FwdRefIdeal.main_arg0) = m ((c.tc : Thread Cert.Ff2FwdIdeal.nD Cert.Ff2FwdIdeal.τ).loc Cert.Ff2FwdIdeal.main_arg0)
      ∧ m' ((c.tc : Thread Cert.Ff2FwdRefIdeal.nD Cert.Ff2FwdRefIdeal.τ).loc Cert.Ff2FwdRefIdeal.main_arg1) = m ((c.tc : Thread Cert.Ff2FwdIdeal.nD Cert.Ff2FwdIdeal.τ).loc Cert.Ff2FwdIdeal.main_arg1)) →
    ∃ (v0 : (c : Dev Cert.Ff2FwdIdeal.nD) → Buf (Elt Ideal) ((c.tc : Thread Cert.Ff2FwdIdeal.nD Cert.Ff2FwdIdeal.τ).loc Cert.Ff2FwdIdeal.main_v0)),
      θ_run (Cert.Ff2FwdIdeal.defs (F := Ideal)) (onTc (τ := Cert.Ff2FwdIdeal.τ) (Cert.Ff2FwdIdeal.main (F := Ideal))) ⟨m, fun _ => 0, g⟩ (fun r => ∀ c : Dev Cert.Ff2FwdIdeal.nD,
          r.2.mem ((c.tc : Thread Cert.Ff2FwdIdeal.nD Cert.Ff2FwdIdeal.τ).loc Cert.Ff2FwdIdeal.main_v0) = v0 c
          ∧ r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
          ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1))
      ∧ θ_run (Cert.Ff2FwdRefIdeal.defs (F := Ideal)) (onTc (τ := Cert.Ff2FwdRefIdeal.τ) (Cert.Ff2FwdRefIdeal.main (F := Ideal))) ⟨m', fun _ => 0, g'⟩ (fun r => ∀ c : Dev Cert.Ff2FwdRefIdeal.nD,
          r.2.mem ((c.tc : Thread Cert.Ff2FwdRefIdeal.nD Cert.Ff2FwdRefIdeal.τ).loc Cert.Ff2FwdRefIdeal.main_v3) = v0 c
          ∧ r.2.mem ((c.tc : Thread Cert.Ff2FwdRefIdeal.nD Cert.Ff2FwdRefIdeal.τ).loc Cert.Ff2FwdRefIdeal.main_arg0) = m' ((c.tc : Thread Cert.Ff2FwdRefIdeal.nD Cert.Ff2FwdRefIdeal.τ).loc Cert.Ff2FwdRefIdeal.main_arg0)
          ∧ r.2.mem ((c.tc : Thread Cert.Ff2FwdRefIdeal.nD Cert.Ff2FwdRefIdeal.τ).loc Cert.Ff2FwdRefIdeal.main_arg1) = m' ((c.tc : Thread Cert.Ff2FwdRefIdeal.nD Cert.Ff2FwdRefIdeal.τ).loc Cert.Ff2FwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v4) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_SsmFwd_SsmFwdIdeal : Prop :=
  True

def algebraic_SsmFwdIdeal_SsmFwdRefIdeal [hSsmFwdIdeal : Cert.SsmFwdIdeal.Facts] [hSsmFwdRefIdeal : Cert.SsmFwdRefIdeal.Facts] : Prop :=
  ∀ (m : (ℓ : Loc Cert.SsmFwdIdeal.nD Cert.SsmFwdIdeal.τ Cert.SsmFwdIdeal.sig) → Buf (Elt Ideal) ℓ) (g : Dev Cert.SsmFwdIdeal.nD → PrngReg)
    (m' : (ℓ : Loc Cert.SsmFwdRefIdeal.nD Cert.SsmFwdRefIdeal.τ Cert.SsmFwdRefIdeal.sig) → Buf (Elt Ideal) ℓ) (g' : Dev Cert.SsmFwdRefIdeal.nD → PrngReg), Pre_SsmFwdIdeal m →
    (∀ c : Dev Cert.SsmFwdIdeal.nD,
      m' ((c.tc : Thread Cert.SsmFwdRefIdeal.nD Cert.SsmFwdRefIdeal.τ).loc Cert.SsmFwdRefIdeal.main_arg0) = m ((c.tc : Thread Cert.SsmFwdIdeal.nD Cert.SsmFwdIdeal.τ).loc Cert.SsmFwdIdeal.main_arg0)
      ∧ m' ((c.tc : Thread Cert.SsmFwdRefIdeal.nD Cert.SsmFwdRefIdeal.τ).loc Cert.SsmFwdRefIdeal.main_arg1) = m ((c.tc : Thread Cert.SsmFwdIdeal.nD Cert.SsmFwdIdeal.τ).loc Cert.SsmFwdIdeal.main_arg1)) →
    ∃ (v0 : (c : Dev Cert.SsmFwdIdeal.nD) → Buf (Elt Ideal) ((c.tc : Thread Cert.SsmFwdIdeal.nD Cert.SsmFwdIdeal.τ).loc Cert.SsmFwdIdeal.main_v0)),
      θ_run (Cert.SsmFwdIdeal.defs (F := Ideal)) (onTc (τ := Cert.SsmFwdIdeal.τ) (Cert.SsmFwdIdeal.main (F := Ideal))) ⟨m, fun _ => 0, g⟩ (fun r => ∀ c : Dev Cert.SsmFwdIdeal.nD,
          r.2.mem ((c.tc : Thread Cert.SsmFwdIdeal.nD Cert.SsmFwdIdeal.τ).loc Cert.SsmFwdIdeal.main_v0) = v0 c
          ∧ r.2.mem ((c.tc : Thread Cert.SsmFwdIdeal.nD Cert.SsmFwdIdeal.τ).loc Cert.SsmFwdIdeal.main_arg0) = m ((c.tc : Thread Cert.SsmFwdIdeal.nD Cert.SsmFwdIdeal.τ).loc Cert.SsmFwdIdeal.main_arg0)
          ∧ r.2.mem ((c.tc : Thread Cert.SsmFwdIdeal.nD Cert.SsmFwdIdeal.τ).loc Cert.SsmFwdIdeal.main_arg1) = m ((c.tc : Thread Cert.SsmFwdIdeal.nD Cert.SsmFwdIdeal.τ).loc Cert.SsmFwdIdeal.main_arg1))
      ∧ θ_run (Cert.SsmFwdRefIdeal.defs (F := Ideal)) (onTc (τ := Cert.SsmFwdRefIdeal.τ) (Cert.SsmFwdRefIdeal.main (F := Ideal))) ⟨m', fun _ => 0, g'⟩ (fun r => ∀ c : Dev Cert.SsmFwdRefIdeal.nD,
          r.2.mem ((c.tc : Thread Cert.SsmFwdRefIdeal.nD Cert.SsmFwdRefIdeal.τ).loc Cert.SsmFwdRefIdeal.main_v3) = v0 c
          ∧ r.2.mem ((c.tc : Thread Cert.SsmFwdRefIdeal.nD Cert.SsmFwdRefIdeal.τ).loc Cert.SsmFwdRefIdeal.main_arg0) = m' ((c.tc : Thread Cert.SsmFwdRefIdeal.nD Cert.SsmFwdRefIdeal.τ).loc Cert.SsmFwdRefIdeal.main_arg0)
          ∧ r.2.mem ((c.tc : Thread Cert.SsmFwdRefIdeal.nD Cert.SsmFwdRefIdeal.τ).loc Cert.SsmFwdRefIdeal.main_arg1) = m' ((c.tc : Thread Cert.SsmFwdRefIdeal.nD Cert.SsmFwdRefIdeal.τ).loc Cert.SsmFwdRefIdeal.main_arg1))

def preserves_SsmDx_SsmDxIdeal : Prop :=
  True

def algebraic_SsmDxIdeal_SsmDxRefIdeal [hSsmDxIdeal : Cert.SsmDxIdeal.Facts] [hSsmDxRefIdeal : Cert.SsmDxRefIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg)
    (m' : (ℓ : Loc Cert.SsmDxRefIdeal.nD Cert.SsmDxRefIdeal.τ Cert.SsmDxRefIdeal.sig) → Buf (Elt Ideal) ℓ) (g' : Dev Cert.SsmDxRefIdeal.nD → PrngReg), Pre_SsmDxIdeal m →
    (∀ c : Dev Cert.SsmDxIdeal.nD,
      m' ((c.tc : Thread Cert.SsmDxRefIdeal.nD Cert.SsmDxRefIdeal.τ).loc Cert.SsmDxRefIdeal.main_arg0) = m ((c.tc : Thread Cert.SsmDxIdeal.nD Cert.SsmDxIdeal.τ).loc Cert.SsmDxIdeal.main_arg0)
      ∧ m' ((c.tc : Thread Cert.SsmDxRefIdeal.nD Cert.SsmDxRefIdeal.τ).loc Cert.SsmDxRefIdeal.main_arg1) = m ((c.tc : Thread Cert.SsmDxIdeal.nD Cert.SsmDxIdeal.τ).loc Cert.SsmDxIdeal.main_arg1)) →
    ∃ (v0 : (c : Dev Cert.SsmDxIdeal.nD) → Buf (Elt Ideal) ((c.tc : Thread Cert.SsmDxIdeal.nD Cert.SsmDxIdeal.τ).loc Cert.SsmDxIdeal.main_v1)),
      θ_run (Cert.SsmDxIdeal.defs (F := Ideal)) (onTc (τ := Cert.SsmDxIdeal.τ) (Cert.SsmDxIdeal.main (F := Ideal))) ⟨m, fun _ => 0, g⟩ (fun r => ∀ c : Dev Cert.SsmDxIdeal.nD,
          r.2.mem ((c.tc : Thread Cert.SsmDxIdeal.nD Cert.SsmDxIdeal.τ).loc Cert.SsmDxIdeal.main_v1) = v0 c
          ∧ r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
          ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ θ_run (Cert.SsmDxRefIdeal.defs (F := Ideal)) (onTc (τ := Cert.SsmDxRefIdeal.τ) (Cert.SsmDxRefIdeal.main (F := Ideal))) ⟨m', fun _ => 0, g'⟩ (fun r => ∀ c : Dev Cert.SsmDxRefIdeal.nD,
          r.2.mem ((c.tc : Thread Cert.SsmDxRefIdeal.nD Cert.SsmDxRefIdeal.τ).loc Cert.SsmDxRefIdeal.main_v5) = v0 c
          ∧ r.2.mem ((c.tc : Thread Cert.SsmDxRefIdeal.nD Cert.SsmDxRefIdeal.τ).loc Cert.SsmDxRefIdeal.main_arg0) = m' ((c.tc : Thread Cert.SsmDxRefIdeal.nD Cert.SsmDxRefIdeal.τ).loc Cert.SsmDxRefIdeal.main_arg0)
          ∧ r.2.mem ((c.tc : Thread Cert.SsmDxRefIdeal.nD Cert.SsmDxRefIdeal.τ).loc Cert.SsmDxRefIdeal.main_arg1) = m' ((c.tc : Thread Cert.SsmDxRefIdeal.nD Cert.SsmDxRefIdeal.τ).loc Cert.SsmDxRefIdeal.main_arg1))

def preserves_SsmDw_SsmDwIdeal : Prop :=
  True

def algebraic_SsmDwIdeal_SsmDwRefIdeal [hSsmDwIdeal : Cert.SsmDwIdeal.Facts] [hSsmDwRefIdeal : Cert.SsmDwRefIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg)
    (m' : (ℓ : Loc Cert.SsmDwRefIdeal.nD Cert.SsmDwRefIdeal.τ Cert.SsmDwRefIdeal.sig) → Buf (Elt Ideal) ℓ) (g' : Dev Cert.SsmDwRefIdeal.nD → PrngReg), Pre_SsmDwIdeal m →
    (∀ c : Dev Cert.SsmDwIdeal.nD,
      m' ((c.tc : Thread Cert.SsmDwRefIdeal.nD Cert.SsmDwRefIdeal.τ).loc Cert.SsmDwRefIdeal.main_arg0) = m ((c.tc : Thread Cert.SsmDwIdeal.nD Cert.SsmDwIdeal.τ).loc Cert.SsmDwIdeal.main_arg0)
      ∧ m' ((c.tc : Thread Cert.SsmDwRefIdeal.nD Cert.SsmDwRefIdeal.τ).loc Cert.SsmDwRefIdeal.main_arg1) = m ((c.tc : Thread Cert.SsmDwIdeal.nD Cert.SsmDwIdeal.τ).loc Cert.SsmDwIdeal.main_arg1)) →
    ∃ (v0 : (c : Dev Cert.SsmDwIdeal.nD) → Buf (Elt Ideal) ((c.tc : Thread Cert.SsmDwIdeal.nD Cert.SsmDwIdeal.τ).loc Cert.SsmDwIdeal.main_v0)),
      θ_run (Cert.SsmDwIdeal.defs (F := Ideal)) (onTc (τ := Cert.SsmDwIdeal.τ) (Cert.SsmDwIdeal.main (F := Ideal))) ⟨m, fun _ => 0, g⟩ (fun r => ∀ c : Dev Cert.SsmDwIdeal.nD,
          r.2.mem ((c.tc : Thread Cert.SsmDwIdeal.nD Cert.SsmDwIdeal.τ).loc Cert.SsmDwIdeal.main_v0) = v0 c
          ∧ r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
          ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ θ_run (Cert.SsmDwRefIdeal.defs (F := Ideal)) (onTc (τ := Cert.SsmDwRefIdeal.τ) (Cert.SsmDwRefIdeal.main (F := Ideal))) ⟨m', fun _ => 0, g'⟩ (fun r => ∀ c : Dev Cert.SsmDwRefIdeal.nD,
          r.2.mem ((c.tc : Thread Cert.SsmDwRefIdeal.nD Cert.SsmDwRefIdeal.τ).loc Cert.SsmDwRefIdeal.main_v5) = v0 c
          ∧ r.2.mem ((c.tc : Thread Cert.SsmDwRefIdeal.nD Cert.SsmDwRefIdeal.τ).loc Cert.SsmDwRefIdeal.main_arg0) = m' ((c.tc : Thread Cert.SsmDwRefIdeal.nD Cert.SsmDwRefIdeal.τ).loc Cert.SsmDwRefIdeal.main_arg0)
          ∧ r.2.mem ((c.tc : Thread Cert.SsmDwRefIdeal.nD Cert.SsmDwRefIdeal.τ).loc Cert.SsmDwRefIdeal.main_arg1) = m' ((c.tc : Thread Cert.SsmDwRefIdeal.nD Cert.SsmDwRefIdeal.τ).loc Cert.SsmDwRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)
      ∧ m' ((c.tc : Thread Cert.AdamAdaRefIdeal.nD Cert.AdamAdaRefIdeal.τ).loc Cert.AdamAdaRefIdeal.main_arg5) = m ((c.tc : Thread Cert.AdamAdaIdeal.nD Cert.AdamAdaIdeal.τ).loc Cert.AdamAdaIdeal.main_arg5)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4)
          ∧ r.2.mem ((c.tc : Thread Cert.AdamAdaIdeal.nD Cert.AdamAdaIdeal.τ).loc Cert.AdamAdaIdeal.main_arg5) = m ((c.tc : Thread Cert.AdamAdaIdeal.nD Cert.AdamAdaIdeal.τ).loc Cert.AdamAdaIdeal.main_arg5))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v6) = v0 c
          ∧ r.2.mem ((c.tc : Thread Cert.AdamAdaRefIdeal.nD Cert.AdamAdaRefIdeal.τ).loc Cert.AdamAdaRefIdeal.main_v30) = v1 c
          ∧ r.2.mem ((c.tc : Thread Cert.AdamAdaRefIdeal.nD Cert.AdamAdaRefIdeal.τ).loc Cert.AdamAdaRefIdeal.main_v11) = v2 c
          ∧ r.2.mem ((c.tc : Thread Cert.AdamAdaRefIdeal.nD Cert.AdamAdaRefIdeal.τ).loc Cert.AdamAdaRefIdeal.main_v17) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4)
          ∧ r.2.mem ((c.tc : Thread Cert.AdamAdaRefIdeal.nD Cert.AdamAdaRefIdeal.τ).loc Cert.AdamAdaRefIdeal.main_arg5) = m' ((c.tc : Thread Cert.AdamAdaRefIdeal.nD Cert.AdamAdaRefIdeal.τ).loc Cert.AdamAdaRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamUq_AdamUqIdeal : Prop :=
  True

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)
      ∧ m' ((c.tc : Thread Cert.AdamUqRefIdeal.nD Cert.AdamUqRefIdeal.τ).loc Cert.AdamUqRefIdeal.main_arg4) = m ((c.tc : Thread Cert.AdamUqIdeal.nD Cert.AdamUqIdeal.τ).loc Cert.AdamUqIdeal.main_arg4)
      ∧ m' ((c.tc : Thread Cert.AdamUqRefIdeal.nD Cert.AdamUqRefIdeal.τ).loc Cert.AdamUqRefIdeal.main_arg5) = m ((c.tc : Thread Cert.AdamUqIdeal.nD Cert.AdamUqIdeal.τ).loc Cert.AdamUqIdeal.main_arg5)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)) (v3 : (c : Dev Cert.AdamUqIdeal.nD) → Buf (Elt Ideal) ((c.tc : Thread Cert.AdamUqIdeal.nD Cert.AdamUqIdeal.τ).loc Cert.AdamUqIdeal.main_v0_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_v0_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3)
          ∧ r.2.mem ((c.tc : Thread Cert.AdamUqIdeal.nD Cert.AdamUqIdeal.τ).loc Cert.AdamUqIdeal.main_arg4) = m ((c.tc : Thread Cert.AdamUqIdeal.nD Cert.AdamUqIdeal.τ).loc Cert.AdamUqIdeal.main_arg4)
          ∧ r.2.mem ((c.tc : Thread Cert.AdamUqIdeal.nD Cert.AdamUqIdeal.τ).loc Cert.AdamUqIdeal.main_arg5) = m ((c.tc : Thread Cert.AdamUqIdeal.nD Cert.AdamUqIdeal.τ).loc Cert.AdamUqIdeal.main_arg5))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v6) = v0 c
          ∧ r.2.mem ((c.tc : Thread Cert.AdamUqRefIdeal.nD Cert.AdamUqRefIdeal.τ).loc Cert.AdamUqRefIdeal.main_v30) = v1 c
          ∧ r.2.mem ((c.tc : Thread Cert.AdamUqRefIdeal.nD Cert.AdamUqRefIdeal.τ).loc Cert.AdamUqRefIdeal.main_v11) = v2 c
          ∧ r.2.mem ((c.tc : Thread Cert.AdamUqRefIdeal.nD Cert.AdamUqRefIdeal.τ).loc Cert.AdamUqRefIdeal.main_v17) = v3 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3)
          ∧ r.2.mem ((c.tc : Thread Cert.AdamUqRefIdeal.nD Cert.AdamUqRefIdeal.τ).loc Cert.AdamUqRefIdeal.main_arg4) = m' ((c.tc : Thread Cert.AdamUqRefIdeal.nD Cert.AdamUqRefIdeal.τ).loc Cert.AdamUqRefIdeal.main_arg4)
          ∧ r.2.mem ((c.tc : Thread Cert.AdamUqRefIdeal.nD Cert.AdamUqRefIdeal.τ).loc Cert.AdamUqRefIdeal.main_arg5) = m' ((c.tc : Thread Cert.AdamUqRefIdeal.nD Cert.AdamUqRefIdeal.τ).loc Cert.AdamUqRefIdeal.main_arg5))

def preserves_AdamUkv_AdamUkvIdeal : Prop :=
  True

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)
      ∧ m' ((c.tc : Thread Cert.AdamUkvRefIdeal.nD Cert.AdamUkvRefIdeal.τ).loc Cert.AdamUkvRefIdeal.main_arg4) = m ((c.tc : Thread Cert.AdamUkvIdeal.nD Cert.AdamUkvIdeal.τ).loc Cert.AdamUkvIdeal.main_arg4)
      ∧ m' ((c.tc : Thread Cert.AdamUkvRefIdeal.nD Cert.AdamUkvRefIdeal.τ).loc Cert.AdamUkvRefIdeal.main_arg5) = m ((c.tc : Thread Cert.AdamUkvIdeal.nD Cert.AdamUkvIdeal.τ).loc Cert.AdamUkvIdeal.main_arg5)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)) (v3 : (c : Dev Cert.AdamUkvIdeal.nD) → Buf (Elt Ideal) ((c.tc : Thread Cert.AdamUkvIdeal.nD Cert.AdamUkvIdeal.τ).loc Cert.AdamUkvIdeal.main_v0_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_v0_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3)
          ∧ r.2.mem ((c.tc : Thread Cert.AdamUkvIdeal.nD Cert.AdamUkvIdeal.τ).loc Cert.AdamUkvIdeal.main_arg4) = m ((c.tc : Thread Cert.AdamUkvIdeal.nD Cert.AdamUkvIdeal.τ).loc Cert.AdamUkvIdeal.main_arg4)
          ∧ r.2.mem ((c.tc : Thread Cert.AdamUkvIdeal.nD Cert.AdamUkvIdeal.τ).loc Cert.AdamUkvIdeal.main_arg5) = m ((c.tc : Thread Cert.AdamUkvIdeal.nD Cert.AdamUkvIdeal.τ).loc Cert.AdamUkvIdeal.main_arg5))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v6) = v0 c
          ∧ r.2.mem ((c.tc : Thread Cert.AdamUkvRefIdeal.nD Cert.AdamUkvRefIdeal.τ).loc Cert.AdamUkvRefIdeal.main_v30) = v1 c
          ∧ r.2.mem ((c.tc : Thread Cert.AdamUkvRefIdeal.nD Cert.AdamUkvRefIdeal.τ).loc Cert.AdamUkvRefIdeal.main_v11) = v2 c
          ∧ r.2.mem ((c.tc : Thread Cert.AdamUkvRefIdeal.nD Cert.AdamUkvRefIdeal.τ).loc Cert.AdamUkvRefIdeal.main_v17) = v3 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3)
          ∧ r.2.mem ((c.tc : Thread Cert.AdamUkvRefIdeal.nD Cert.AdamUkvRefIdeal.τ).loc Cert.AdamUkvRefIdeal.main_arg4) = m' ((c.tc : Thread Cert.AdamUkvRefIdeal.nD Cert.AdamUkvRefIdeal.τ).loc Cert.AdamUkvRefIdeal.main_arg4)
          ∧ r.2.mem ((c.tc : Thread Cert.AdamUkvRefIdeal.nD Cert.AdamUkvRefIdeal.τ).loc Cert.AdamUkvRefIdeal.main_arg5) = m' ((c.tc : Thread Cert.AdamUkvRefIdeal.nD Cert.AdamUkvRefIdeal.τ).loc Cert.AdamUkvRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamSsm_AdamSsmIdeal : Prop :=
  True

def algebraic_AdamSsmIdeal_AdamSsmRefIdeal [hAdamSsmIdeal : Cert.AdamSsmIdeal.Facts] [hAdamSsmRefIdeal : Cert.AdamSsmRefIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg)
    (m' : (ℓ : Loc Cert.AdamSsmRefIdeal.nD Cert.AdamSsmRefIdeal.τ Cert.AdamSsmRefIdeal.sig) → Buf (Elt Ideal) ℓ) (g' : Dev Cert.AdamSsmRefIdeal.nD → PrngReg), Pre_AdamSsmIdeal m →
    (∀ c : Dev Cert.AdamSsmIdeal.nD,
      m' ((c.tc : Thread Cert.AdamSsmRefIdeal.nD Cert.AdamSsmRefIdeal.τ).loc Cert.AdamSsmRefIdeal.main_arg0) = m ((c.tc : Thread Cert.AdamSsmIdeal.nD Cert.AdamSsmIdeal.τ).loc Cert.AdamSsmIdeal.main_arg0)
      ∧ m' ((c.tc : Thread Cert.AdamSsmRefIdeal.nD Cert.AdamSsmRefIdeal.τ).loc Cert.AdamSsmRefIdeal.main_arg1) = m ((c.tc : Thread Cert.AdamSsmIdeal.nD Cert.AdamSsmIdeal.τ).loc Cert.AdamSsmIdeal.main_arg1)
      ∧ m' ((c.tc : Thread Cert.AdamSsmRefIdeal.nD Cert.AdamSsmRefIdeal.τ).loc Cert.AdamSsmRefIdeal.main_arg2) = m ((c.tc : Thread Cert.AdamSsmIdeal.nD Cert.AdamSsmIdeal.τ).loc Cert.AdamSsmIdeal.main_arg2)
      ∧ m' ((c.tc : Thread Cert.AdamSsmRefIdeal.nD Cert.AdamSsmRefIdeal.τ).loc Cert.AdamSsmRefIdeal.main_arg3) = m ((c.tc : Thread Cert.AdamSsmIdeal.nD Cert.AdamSsmIdeal.τ).loc Cert.AdamSsmIdeal.main_arg3)
      ∧ m' ((c.tc : Thread Cert.AdamSsmRefIdeal.nD Cert.AdamSsmRefIdeal.τ).loc Cert.AdamSsmRefIdeal.main_arg4) = m ((c.tc : Thread Cert.AdamSsmIdeal.nD Cert.AdamSsmIdeal.τ).loc Cert.AdamSsmIdeal.main_arg4)
      ∧ m' ((c.tc : Thread Cert.AdamSsmRefIdeal.nD Cert.AdamSsmRefIdeal.τ).loc Cert.AdamSsmRefIdeal.main_arg5) = m ((c.tc : Thread Cert.AdamSsmIdeal.nD Cert.AdamSsmIdeal.τ).loc Cert.AdamSsmIdeal.main_arg5)) →
    ∃ (v0 : (c : Dev Cert.AdamSsmIdeal.nD) → Buf (Elt Ideal) ((c.tc : Thread Cert.AdamSsmIdeal.nD Cert.AdamSsmIdeal.τ).loc Cert.AdamSsmIdeal.main_v0_0)) (v1 : (c : Dev Cert.AdamSsmIdeal.nD) → Buf (Elt Ideal) ((c.tc : Thread Cert.AdamSsmIdeal.nD Cert.AdamSsmIdeal.τ).loc Cert.AdamSsmIdeal.main_v0_1)) (v2 : (c : Dev Cert.AdamSsmIdeal.nD) → Buf (Elt Ideal) ((c.tc : Thread Cert.AdamSsmIdeal.nD Cert.AdamSsmIdeal.τ).loc Cert.AdamSsmIdeal.main_v0_2)) (v3 : (c : Dev Cert.AdamSsmIdeal.nD) → Buf (Elt Ideal) ((c.tc : Thread Cert.AdamSsmIdeal.nD Cert.AdamSsmIdeal.τ).loc Cert.AdamSsmIdeal.main_v0_3)),
      θ_run (Cert.AdamSsmIdeal.defs (F := Ideal)) (onTc (τ := Cert.AdamSsmIdeal.τ) (Cert.AdamSsmIdeal.main (F := Ideal))) ⟨m, fun _ => 0, g⟩ (fun r => ∀ c : Dev Cert.AdamSsmIdeal.nD,
          r.2.mem ((c.tc : Thread Cert.AdamSsmIdeal.nD Cert.AdamSsmIdeal.τ).loc Cert.AdamSsmIdeal.main_v0_0) = v0 c
          ∧ r.2.mem ((c.tc : Thread Cert.AdamSsmIdeal.nD Cert.AdamSsmIdeal.τ).loc Cert.AdamSsmIdeal.main_v0_1) = v1 c
          ∧ r.2.mem ((c.tc : Thread Cert.AdamSsmIdeal.nD Cert.AdamSsmIdeal.τ).loc Cert.AdamSsmIdeal.main_v0_2) = v2 c
          ∧ r.2.mem ((c.tc : Thread Cert.AdamSsmIdeal.nD Cert.AdamSsmIdeal.τ).loc Cert.AdamSsmIdeal.main_v0_3) = v3 c
          ∧ r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
          ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
          ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
          ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3)
          ∧ r.2.mem ((c.tc : Thread Cert.AdamSsmIdeal.nD Cert.AdamSsmIdeal.τ).loc Cert.AdamSsmIdeal.main_arg4) = m ((c.tc : Thread Cert.AdamSsmIdeal.nD Cert.AdamSsmIdeal.τ).loc Cert.AdamSsmIdeal.main_arg4)
          ∧ r.2.mem ((c.tc : Thread Cert.AdamSsmIdeal.nD Cert.AdamSsmIdeal.τ).loc Cert.AdamSsmIdeal.main_arg5) = m ((c.tc : Thread Cert.AdamSsmIdeal.nD Cert.AdamSsmIdeal.τ).loc Cert.AdamSsmIdeal.main_arg5))
      ∧ θ_run (Cert.AdamSsmRefIdeal.defs (F := Ideal)) (onTc (τ := Cert.AdamSsmRefIdeal.τ) (Cert.AdamSsmRefIdeal.main (F := Ideal))) ⟨m', fun _ => 0, g'⟩ (fun r => ∀ c : Dev Cert.AdamSsmRefIdeal.nD,
          r.2.mem ((c.tc : Thread Cert.AdamSsmRefIdeal.nD Cert.AdamSsmRefIdeal.τ).loc Cert.AdamSsmRefIdeal.main_v6) = v0 c
          ∧ r.2.mem ((c.tc : Thread Cert.AdamSsmRefIdeal.nD Cert.AdamSsmRefIdeal.τ).loc Cert.AdamSsmRefIdeal.main_v30) = v1 c
          ∧ r.2.mem ((c.tc : Thread Cert.AdamSsmRefIdeal.nD Cert.AdamSsmRefIdeal.τ).loc Cert.AdamSsmRefIdeal.main_v11) = v2 c
          ∧ r.2.mem ((c.tc : Thread Cert.AdamSsmRefIdeal.nD Cert.AdamSsmRefIdeal.τ).loc Cert.AdamSsmRefIdeal.main_v17) = v3 c
          ∧ r.2.mem ((c.tc : Thread Cert.AdamSsmRefIdeal.nD Cert.AdamSsmRefIdeal.τ).loc Cert.AdamSsmRefIdeal.main_arg0) = m' ((c.tc : Thread Cert.AdamSsmRefIdeal.nD Cert.AdamSsmRefIdeal.τ).loc Cert.AdamSsmRefIdeal.main_arg0)
          ∧ r.2.mem ((c.tc : Thread Cert.AdamSsmRefIdeal.nD Cert.AdamSsmRefIdeal.τ).loc Cert.AdamSsmRefIdeal.main_arg1) = m' ((c.tc : Thread Cert.AdamSsmRefIdeal.nD Cert.AdamSsmRefIdeal.τ).loc Cert.AdamSsmRefIdeal.main_arg1)
          ∧ r.2.mem ((c.tc : Thread Cert.AdamSsmRefIdeal.nD Cert.AdamSsmRefIdeal.τ).loc Cert.AdamSsmRefIdeal.main_arg2) = m' ((c.tc : Thread Cert.AdamSsmRefIdeal.nD Cert.AdamSsmRefIdeal.τ).loc Cert.AdamSsmRefIdeal.main_arg2)
          ∧ r.2.mem ((c.tc : Thread Cert.AdamSsmRefIdeal.nD Cert.AdamSsmRefIdeal.τ).loc Cert.AdamSsmRefIdeal.main_arg3) = m' ((c.tc : Thread Cert.AdamSsmRefIdeal.nD Cert.AdamSsmRefIdeal.τ).loc Cert.AdamSsmRefIdeal.main_arg3)
          ∧ r.2.mem ((c.tc : Thread Cert.AdamSsmRefIdeal.nD Cert.AdamSsmRefIdeal.τ).loc Cert.AdamSsmRefIdeal.main_arg4) = m' ((c.tc : Thread Cert.AdamSsmRefIdeal.nD Cert.AdamSsmRefIdeal.τ).loc Cert.AdamSsmRefIdeal.main_arg4)
          ∧ r.2.mem ((c.tc : Thread Cert.AdamSsmRefIdeal.nD Cert.AdamSsmRefIdeal.τ).loc Cert.AdamSsmRefIdeal.main_arg5) = m' ((c.tc : Thread Cert.AdamSsmRefIdeal.nD Cert.AdamSsmRefIdeal.τ).loc Cert.AdamSsmRefIdeal.main_arg5))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)
      ∧ m' ((c.tc : Thread Cert.AdamFfRefIdeal.nD Cert.AdamFfRefIdeal.τ).loc Cert.AdamFfRefIdeal.main_arg4) = m ((c.tc : Thread Cert.AdamFfIdeal.nD Cert.AdamFfIdeal.τ).loc Cert.AdamFfIdeal.main_arg4)
      ∧ m' ((c.tc : Thread Cert.AdamFfRefIdeal.nD Cert.AdamFfRefIdeal.τ).loc Cert.AdamFfRefIdeal.main_arg5) = m ((c.tc : Thread Cert.AdamFfIdeal.nD Cert.AdamFfIdeal.τ).loc Cert.AdamFfIdeal.main_arg5)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)) (v3 : (c : Dev Cert.AdamFfIdeal.nD) → Buf (Elt Ideal) ((c.tc : Thread Cert.AdamFfIdeal.nD Cert.AdamFfIdeal.τ).loc Cert.AdamFfIdeal.main_v0_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_v0_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
          ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v6) = v0 c
          ∧ r.2.mem ((c.tc : Thread Cert.AdamFfRefIdeal.nD Cert.AdamFfRefIdeal.τ).loc Cert.AdamFfRefIdeal.main_v30) = v1 c
          ∧ r.2.mem ((c.tc : Thread Cert.AdamFfRefIdeal.nD Cert.AdamFfRefIdeal.τ).loc Cert.AdamFfRefIdeal.main_v11) = v2 c
          ∧ r.2.mem ((c.tc : Thread Cert.AdamFfRefIdeal.nD Cert.AdamFfRefIdeal.τ).loc Cert.AdamFfRefIdeal.main_v17) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3)
          ∧ r.2.mem ((c.tc : Thread Cert.AdamFfRefIdeal.nD Cert.AdamFfRefIdeal.τ).loc Cert.AdamFfRefIdeal.main_arg4) = m' ((c.tc : Thread Cert.AdamFfRefIdeal.nD Cert.AdamFfRefIdeal.τ).loc Cert.AdamFfRefIdeal.main_arg4)
          ∧ r.2.mem ((c.tc : Thread Cert.AdamFfRefIdeal.nD Cert.AdamFfRefIdeal.τ).loc Cert.AdamFfRefIdeal.main_arg5) = m' ((c.tc : Thread Cert.AdamFfRefIdeal.nD Cert.AdamFfRefIdeal.τ).loc Cert.AdamFfRefIdeal.main_arg5))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)) →
    ∃ (v0 : (c : Dev Cert.AdamSmallIdeal.nD) → Buf (Elt Ideal) ((c.tc : Thread Cert.AdamSmallIdeal.nD Cert.AdamSmallIdeal.τ).loc Cert.AdamSmallIdeal.main_v67)) (v1 : (c : Dev Cert.AdamSmallIdeal.nD) → Buf (Elt Ideal) ((c.tc : Thread Cert.AdamSmallIdeal.nD Cert.AdamSmallIdeal.τ).loc Cert.AdamSmallIdeal.main_v69)) (v2 : (c : Dev Cert.AdamSmallIdeal.nD) → Buf (Elt Ideal) ((c.tc : Thread Cert.AdamSmallIdeal.nD Cert.AdamSmallIdeal.τ).loc Cert.AdamSmallIdeal.main_v71)) (v3 : (c : Dev Cert.AdamSmallIdeal.nD) → Buf (Elt Ideal) ((c.tc : Thread Cert.AdamSmallIdeal.nD Cert.AdamSmallIdeal.τ).loc Cert.AdamSmallIdeal.main_v73)) (v4 : (c : Dev Cert.AdamSmallIdeal.nD) → Buf (Elt Ideal) ((c.tc : Thread Cert.AdamSmallIdeal.nD Cert.AdamSmallIdeal.τ).loc Cert.AdamSmallIdeal.main_v75)) (v5 : (c : Dev Cert.AdamSmallIdeal.nD) → Buf (Elt Ideal) ((c.tc : Thread Cert.AdamSmallIdeal.nD Cert.AdamSmallIdeal.τ).loc Cert.AdamSmallIdeal.main_v77)) (v6 : (c : Dev Cert.AdamSmallIdeal.nD) → Buf (Elt Ideal) ((c.tc : Thread Cert.AdamSmallIdeal.nD Cert.AdamSmallIdeal.τ).loc Cert.AdamSmallIdeal.main_v79)) (v7 : (c : Dev Cert.AdamSmallIdeal.nD) → Buf (Elt Ideal) ((c.tc : Thread Cert.AdamSmallIdeal.nD Cert.AdamSmallIdeal.τ).loc Cert.AdamSmallIdeal.main_v81)) (v8 : (c : Dev Cert.AdamSmallIdeal.nD) → Buf (Elt Ideal) ((c.tc : Thread Cert.AdamSmallIdeal.nD Cert.AdamSmallIdeal.τ).loc Cert.AdamSmallIdeal.main_v83)) (v9 : (c : Dev Cert.AdamSmallIdeal.nD) → Buf (Elt Ideal) ((c.tc : Thread Cert.AdamSmallIdeal.nD Cert.AdamSmallIdeal.τ).loc Cert.AdamSmallIdeal.main_v85)) (v10 : (c : Dev Cert.AdamSmallIdeal.nD) → Buf (Elt Ideal) ((c.tc : Thread Cert.AdamSmallIdeal.nD Cert.AdamSmallIdeal.τ).loc Cert.AdamSmallIdeal.main_v87)) (v11 : (c : Dev Cert.AdamSmallIdeal.nD) → Buf (Elt Ideal) ((c.tc : Thread Cert.AdamSmallIdeal.nD Cert.AdamSmallIdeal.τ).loc Cert.AdamSmallIdeal.main_v89)) (v12 : (c : Dev Cert.AdamSmallIdeal.nD) → Buf (Elt Ideal) ((c.tc : Thread Cert.AdamSmallIdeal.nD Cert.AdamSmallIdeal.τ).loc Cert.AdamSmallIdeal.main_v91)) (v13 : (c : Dev Cert.AdamSmallIdeal.nD) → Buf (Elt Ideal) ((c.tc : Thread Cert.AdamSmallIdeal.nD Cert.AdamSmallIdeal.τ).loc Cert.AdamSmallIdeal.main_v94)) (v14 : (c : Dev Cert.AdamSmallIdeal.nD) → Buf (Elt Ideal) ((c.tc : Thread Cert.AdamSmallIdeal.nD Cert.AdamSmallIdeal.τ).loc Cert.AdamSmallIdeal.main_v96)) (v15 : (c : Dev Cert.AdamSmallIdeal.nD) → Buf (Elt Ideal) ((c.tc : Thread Cert.AdamSmallIdeal.nD Cert.AdamSmallIdeal.τ).loc Cert.AdamSmallIdeal.main_v98)) (v16 : (c : Dev Cert.AdamSmallIdeal.nD) → Buf (Elt Ideal) ((c.tc : Thread Cert.AdamSmallIdeal.nD Cert.AdamSmallIdeal.τ).loc Cert.AdamSmallIdeal.main_v100)) (v17 : (c : Dev Cert.AdamSmallIdeal.nD) → Buf (Elt Ideal) ((c.tc : Thread Cert.AdamSmallIdeal.nD Cert.AdamSmallIdeal.τ).loc Cert.AdamSmallIdeal.main_v102)) (v18 : (c : Dev Cert.AdamSmallIdeal.nD) → Buf (Elt Ideal) ((c.tc : Thread Cert.AdamSmallIdeal.nD Cert.AdamSmallIdeal.τ).loc Cert.AdamSmallIdeal.main_v104)) (v19 : (c : Dev Cert.AdamSmallIdeal.nD) → Buf (Elt Ideal) ((c.tc : Thread Cert.AdamSmallIdeal.nD Cert.AdamSmallIdeal.τ).loc Cert.AdamSmallIdeal.main_v106)) (v20 : (c : Dev Cert.AdamSmallIdeal.nD) → Buf (Elt Ideal) ((c.tc : Thread Cert.AdamSmallIdeal.nD Cert.AdamSmallIdeal.τ).loc Cert.AdamSmallIdeal.main_v108)) (v21 : (c : Dev Cert.AdamSmallIdeal.nD) → Buf (Elt Ideal) ((c.tc : Thread Cert.AdamSmallIdeal.nD Cert.AdamSmallIdeal.τ).loc Cert.AdamSmallIdeal.main_v110)) (v22 : (c : Dev Cert.AdamSmallIdeal.nD) → Buf (Elt Ideal) ((c.tc : Thread Cert.AdamSmallIdeal.nD Cert.AdamSmallIdeal.τ).loc Cert.AdamSmallIdeal.main_v112)) (v23 : (c : Dev Cert.AdamSmallIdeal.nD) → Buf (Elt Ideal) ((c.tc : Thread Cert.AdamSmallIdeal.nD Cert.AdamSmallIdeal.τ).loc Cert.AdamSmallIdeal.main_v114)) (v24 : (c : Dev Cert.AdamSmallIdeal.nD) → Buf (Elt Ideal) ((c.tc : Thread Cert.AdamSmallIdeal.nD Cert.AdamSmallIdeal.τ).loc Cert.AdamSmallIdeal.main_v116)) (v25 : (c : Dev Cert.AdamSmallIdeal.nD) → Buf (Elt Ideal) ((c.tc : Thread Cert.AdamSmallIdeal.nD Cert.AdamSmallIdeal.τ).loc Cert.AdamSmallIdeal.main_v118)) (v26 : (c : Dev Cert.AdamSmallIdeal.nD) → Buf (Elt Ideal) ((c.tc : Thread Cert.AdamSmallIdeal.nD Cert.AdamSmallIdeal.τ).loc Cert.AdamSmallIdeal.main_v121)) (v27 : (c : Dev Cert.AdamSmallIdeal.nD) → Buf (Elt Ideal) ((c.tc : Thread Cert.AdamSmallIdeal.nD Cert.AdamSmallIdeal.τ).loc Cert.AdamSmallIdeal.main_v123)) (v28 : (c : Dev Cert.AdamSmallIdeal.nD) → Buf (Elt Ideal) ((c.tc : Thread Cert.AdamSmallIdeal.nD Cert.AdamSmallIdeal.τ).loc Cert.AdamSmallIdeal.main_v125)) (v29 : (c : Dev Cert.AdamSmallIdeal.nD) → Buf (Elt Ideal) ((c.tc : Thread Cert.AdamSmallIdeal.nD Cert.AdamSmallIdeal.τ).loc Cert.AdamSmallIdeal.main_v127)) (v30 : (c : Dev Cert.AdamSmallIdeal.nD) → Buf (Elt Ideal) ((c.tc : Thread Cert.AdamSmallIdeal.nD Cert.AdamSmallIdeal.τ).loc Cert.AdamSmallIdeal.main_v129)) (v31 : (c : Dev Cert.AdamSmallIdeal.nD) → Buf (Elt Ideal) ((c.tc : Thread Cert.AdamSmallIdeal.nD Cert.AdamSmallIdeal.τ).loc Cert.AdamSmallIdeal.main_v131)) (v32 : (c : Dev Cert.AdamSmallIdeal.nD) → Buf (Elt Ideal) ((c.tc : Thread Cert.AdamSmallIdeal.nD Cert.AdamSmallIdeal.τ).loc Cert.AdamSmallIdeal.main_v133)) (v33 : (c : Dev Cert.AdamSmallIdeal.nD) → Buf (Elt Ideal) ((c.tc : Thread Cert.AdamSmallIdeal.nD Cert.AdamSmallIdeal.τ).loc Cert.AdamSmallIdeal.main_v135)) (v34 : (c : Dev Cert.AdamSmallIdeal.nD) → Buf (Elt Ideal) ((c.tc : Thread Cert.AdamSmallIdeal.nD Cert.AdamSmallIdeal.τ).loc Cert.AdamSmallIdeal.main_v137)) (v35 : (c : Dev Cert.AdamSmallIdeal.nD) → Buf (Elt Ideal) ((c.tc : Thread Cert.AdamSmallIdeal.nD Cert.AdamSmallIdeal.τ).loc Cert.AdamSmallIdeal.main_v139)) (v36 : (c : Dev Cert.AdamSmallIdeal.nD) → Buf (Elt Ideal) ((c.tc : Thread Cert.AdamSmallIdeal.nD Cert.AdamSmallIdeal.τ).loc Cert.AdamSmallIdeal.main_v141)) (v37 : (c : Dev Cert.AdamSmallIdeal.nD) → Buf (Elt Ideal) ((c.tc : Thread Cert.AdamSmallIdeal.nD Cert.AdamSmallIdeal.τ).loc Cert.AdamSmallIdeal.main_v143)) (v38 : (c : Dev Cert.AdamSmallIdeal.nD) → Buf (Elt Ideal) ((c.tc : Thread Cert.AdamSmallIdeal.nD Cert.AdamSmallIdeal.τ).loc Cert.AdamSmallIdeal.main_v145)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v67) = v0 c
          ∧ r.2.mem ((c.tc : Thread Cert.AdamSmallIdeal.nD Cert.AdamSmallIdeal.τ).loc Cert.AdamSmallIdeal.main_v69) = v1 c
          ∧ r.2.mem ((c.tc : Thread Cert.AdamSmallIdeal.nD Cert.AdamSmallIdeal.τ).loc Cert.AdamSmallIdeal.main_v71) = v2 c
          ∧ r.2.mem ((c.tc : Thread Cert.AdamSmallIdeal.nD Cert.AdamSmallIdeal.τ).loc Cert.AdamSmallIdeal.main_v73) = v3 c
          ∧ r.2.mem ((c.tc : Thread Cert.AdamSmallIdeal.nD Cert.AdamSmallIdeal.τ).loc Cert.AdamSmallIdeal.main_v75) = v4 c
          ∧ r.2.mem ((c.tc : Thread Cert.AdamSmallIdeal.nD Cert.AdamSmallIdeal.τ).loc Cert.AdamSmallIdeal.main_v77) = v5 c
          ∧ r.2.mem ((c.tc : Thread Cert.AdamSmallIdeal.nD Cert.AdamSmallIdeal.τ).loc Cert.AdamSmallIdeal.main_v79) = v6 c
          ∧ r.2.mem ((c.tc : Thread Cert.AdamSmallIdeal.nD Cert.AdamSmallIdeal.τ).loc Cert.AdamSmallIdeal.main_v81) = v7 c
          ∧ r.2.mem ((c.tc : Thread Cert.AdamSmallIdeal.nD Cert.AdamSmallIdeal.τ).loc Cert.AdamSmallIdeal.main_v83) = v8 c
          ∧ r.2.mem ((c.tc : Thread Cert.AdamSmallIdeal.nD Cert.AdamSmallIdeal.τ).loc Cert.AdamSmallIdeal.main_v85) = v9 c
          ∧ r.2.mem ((c.tc : Thread Cert.AdamSmallIdeal.nD Cert.AdamSmallIdeal.τ).loc Cert.AdamSmallIdeal.main_v87) = v10 c
          ∧ r.2.mem ((c.tc : Thread Cert.AdamSmallIdeal.nD Cert.AdamSmallIdeal.τ).loc Cert.AdamSmallIdeal.main_v89) = v11 c
          ∧ r.2.mem ((c.tc : Thread Cert.AdamSmallIdeal.nD Cert.AdamSmallIdeal.τ).loc Cert.AdamSmallIdeal.main_v91) = v12 c
          ∧ r.2.mem ((c.tc : Thread Cert.AdamSmallIdeal.nD Cert.AdamSmallIdeal.τ).loc Cert.AdamSmallIdeal.main_v94) = v13 c
          ∧ r.2.mem ((c.tc : Thread Cert.AdamSmallIdeal.nD Cert.AdamSmallIdeal.τ).loc Cert.AdamSmallIdeal.main_v96) = v14 c
          ∧ r.2.mem ((c.tc : Thread Cert.AdamSmallIdeal.nD Cert.AdamSmallIdeal.τ).loc Cert.AdamSmallIdeal.main_v98) = v15 c
          ∧ r.2.mem ((c.tc : Thread Cert.AdamSmallIdeal.nD Cert.AdamSmallIdeal.τ).loc Cert.AdamSmallIdeal.main_v100) = v16 c
          ∧ r.2.mem ((c.tc : Thread Cert.AdamSmallIdeal.nD Cert.AdamSmallIdeal.τ).loc Cert.AdamSmallIdeal.main_v102) = v17 c
          ∧ r.2.mem ((c.tc : Thread Cert.AdamSmallIdeal.nD Cert.AdamSmallIdeal.τ).loc Cert.AdamSmallIdeal.main_v104) = v18 c
          ∧ r.2.mem ((c.tc : Thread Cert.AdamSmallIdeal.nD Cert.AdamSmallIdeal.τ).loc Cert.AdamSmallIdeal.main_v106) = v19 c
          ∧ r.2.mem ((c.tc : Thread Cert.AdamSmallIdeal.nD Cert.AdamSmallIdeal.τ).loc Cert.AdamSmallIdeal.main_v108) = v20 c
          ∧ r.2.mem ((c.tc : Thread Cert.AdamSmallIdeal.nD Cert.AdamSmallIdeal.τ).loc Cert.AdamSmallIdeal.main_v110) = v21 c
          ∧ r.2.mem ((c.tc : Thread Cert.AdamSmallIdeal.nD Cert.AdamSmallIdeal.τ).loc Cert.AdamSmallIdeal.main_v112) = v22 c
          ∧ r.2.mem ((c.tc : Thread Cert.AdamSmallIdeal.nD Cert.AdamSmallIdeal.τ).loc Cert.AdamSmallIdeal.main_v114) = v23 c
          ∧ r.2.mem ((c.tc : Thread Cert.AdamSmallIdeal.nD Cert.AdamSmallIdeal.τ).loc Cert.AdamSmallIdeal.main_v116) = v24 c
          ∧ r.2.mem ((c.tc : Thread Cert.AdamSmallIdeal.nD Cert.AdamSmallIdeal.τ).loc Cert.AdamSmallIdeal.main_v118) = v25 c
          ∧ r.2.mem ((c.tc : Thread Cert.AdamSmallIdeal.nD Cert.AdamSmallIdeal.τ).loc Cert.AdamSmallIdeal.main_v121) = v26 c
          ∧ r.2.mem ((c.tc : Thread Cert.AdamSmallIdeal.nD Cert.AdamSmallIdeal.τ).loc Cert.AdamSmallIdeal.main_v123) = v27 c
          ∧ r.2.mem ((c.tc : Thread Cert.AdamSmallIdeal.nD Cert.AdamSmallIdeal.τ).loc Cert.AdamSmallIdeal.main_v125) = v28 c
          ∧ r.2.mem ((c.tc : Thread Cert.AdamSmallIdeal.nD Cert.AdamSmallIdeal.τ).loc Cert.AdamSmallIdeal.main_v127) = v29 c
          ∧ r.2.mem ((c.tc : Thread Cert.AdamSmallIdeal.nD Cert.AdamSmallIdeal.τ).loc Cert.AdamSmallIdeal.main_v129) = v30 c
          ∧ r.2.mem ((c.tc : Thread Cert.AdamSmallIdeal.nD Cert.AdamSmallIdeal.τ).loc Cert.AdamSmallIdeal.main_v131) = v31 c
          ∧ r.2.mem ((c.tc : Thread Cert.AdamSmallIdeal.nD Cert.AdamSmallIdeal.τ).loc Cert.AdamSmallIdeal.main_v133) = v32 c
          ∧ r.2.mem ((c.tc : Thread Cert.AdamSmallIdeal.nD Cert.AdamSmallIdeal.τ).loc Cert.AdamSmallIdeal.main_v135) = v33 c
          ∧ r.2.mem ((c.tc : Thread Cert.AdamSmallIdeal.nD Cert.AdamSmallIdeal.τ).loc Cert.AdamSmallIdeal.main_v137) = v34 c
          ∧ r.2.mem ((c.tc : Thread Cert.AdamSmallIdeal.nD Cert.AdamSmallIdeal.τ).loc Cert.AdamSmallIdeal.main_v139) = v35 c
          ∧ r.2.mem ((c.tc : Thread Cert.AdamSmallIdeal.nD Cert.AdamSmallIdeal.τ).loc Cert.AdamSmallIdeal.main_v141) = v36 c
          ∧ r.2.mem ((c.tc : Thread Cert.AdamSmallIdeal.nD Cert.AdamSmallIdeal.τ).loc Cert.AdamSmallIdeal.main_v143) = v37 c
          ∧ r.2.mem ((c.tc : Thread Cert.AdamSmallIdeal.nD Cert.AdamSmallIdeal.τ).loc Cert.AdamSmallIdeal.main_v145) = v38 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v311) = v12 c
          ∧ r.2.mem ((c.tc : Thread Cert.AdamSmallRefIdeal.nD Cert.AdamSmallRefIdeal.τ).loc Cert.AdamSmallRefIdeal.main_v4) = v13 c
          ∧ r.2.mem ((c.tc : Thread Cert.AdamSmallRefIdeal.nD Cert.AdamSmallRefIdeal.τ).loc Cert.AdamSmallRefIdeal.main_v28) = v14 c
          ∧ r.2.mem ((c.tc : Thread Cert.AdamSmallRefIdeal.nD Cert.AdamSmallRefIdeal.τ).loc Cert.AdamSmallRefIdeal.main_v52) = v15 c
          ∧ r.2.mem ((c.tc : Thread Cert.AdamSmallRefIdeal.nD Cert.AdamSmallRefIdeal.τ).loc Cert.AdamSmallRefIdeal.main_v76) = v16 c
          ∧ r.2.mem ((c.tc : Thread Cert.AdamSmallRefIdeal.nD Cert.AdamSmallRefIdeal.τ).loc Cert.AdamSmallRefIdeal.main_v100) = v17 c
          ∧ r.2.mem ((c.tc : Thread Cert.AdamSmallRefIdeal.nD Cert.AdamSmallRefIdeal.τ).loc Cert.AdamSmallRefIdeal.main_v124) = v18 c
          ∧ r.2.mem ((c.tc : Thread Cert.AdamSmallRefIdeal.nD Cert.AdamSmallRefIdeal.τ).loc Cert.AdamSmallRefIdeal.main_v148) = v19 c
          ∧ r.2.mem ((c.tc : Thread Cert.AdamSmallRefIdeal.nD Cert.AdamSmallRefIdeal.τ).loc Cert.AdamSmallRefIdeal.main_v172) = v20 c
          ∧ r.2.mem ((c.tc : Thread Cert.AdamSmallRefIdeal.nD Cert.AdamSmallRefIdeal.τ).loc Cert.AdamSmallRefIdeal.main_v196) = v21 c
          ∧ r.2.mem ((c.tc : Thread Cert.AdamSmallRefIdeal.nD Cert.AdamSmallRefIdeal.τ).loc Cert.AdamSmallRefIdeal.main_v220) = v22 c
          ∧ r.2.mem ((c.tc : Thread Cert.AdamSmallRefIdeal.nD Cert.AdamSmallRefIdeal.τ).loc Cert.AdamSmallRefIdeal.main_v244) = v23 c
          ∧ r.2.mem ((c.tc : Thread Cert.AdamSmallRefIdeal.nD Cert.AdamSmallRefIdeal.τ).loc Cert.AdamSmallRefIdeal.main_v268) = v24 c
          ∧ r.2.mem ((c.tc : Thread Cert.AdamSmallRefIdeal.nD Cert.AdamSmallRefIdeal.τ).loc Cert.AdamSmallRefIdeal.main_v292) = v25 c
          ∧ r.2.mem ((c.tc : Thread Cert.AdamSmallRefIdeal.nD Cert.AdamSmallRefIdeal.τ).loc Cert.AdamSmallRefIdeal.main_v10) = v26 c
          ∧ r.2.mem ((c.tc : Thread Cert.AdamSmallRefIdeal.nD Cert.AdamSmallRefIdeal.τ).loc Cert.AdamSmallRefIdeal.main_v34) = v27 c
          ∧ r.2.mem ((c.tc : Thread Cert.AdamSmallRefIdeal.nD Cert.AdamSmallRefIdeal.τ).loc Cert.AdamSmallRefIdeal.main_v58) = v28 c
          ∧ r.2.mem ((c.tc : Thread Cert.AdamSmallRefIdeal.nD Cert.AdamSmallRefIdeal.τ).loc Cert.AdamSmallRefIdeal.main_v82) = v29 c
          ∧ r.2.mem ((c.tc : Thread Cert.AdamSmallRefIdeal.nD Cert.AdamSmallRefIdeal.τ).loc Cert.AdamSmallRefIdeal.main_v106) = v30 c
          ∧ r.2.mem ((c.tc : Thread Cert.AdamSmallRefIdeal.nD Cert.AdamSmallRefIdeal.τ).loc Cert.AdamSmallRefIdeal.main_v130) = v31 c
          ∧ r.2.mem ((c.tc : Thread Cert.AdamSmallRefIdeal.nD Cert.AdamSmallRefIdeal.τ).loc Cert.AdamSmallRefIdeal.main_v154) = v32 c
          ∧ r.2.mem ((c.tc : Thread Cert.AdamSmallRefIdeal.nD Cert.AdamSmallRefIdeal.τ).loc Cert.AdamSmallRefIdeal.main_v178) = v33 c
          ∧ r.2.mem ((c.tc : Thread Cert.AdamSmallRefIdeal.nD Cert.AdamSmallRefIdeal.τ).loc Cert.AdamSmallRefIdeal.main_v202) = v34 c
          ∧ r.2.mem ((c.tc : Thread Cert.AdamSmallRefIdeal.nD Cert.AdamSmallRefIdeal.τ).loc Cert.AdamSmallRefIdeal.main_v226) = v35 c
          ∧ r.2.mem ((c.tc : Thread Cert.AdamSmallRefIdeal.nD Cert.AdamSmallRefIdeal.τ).loc Cert.AdamSmallRefIdeal.main_v250) = v36 c
          ∧ r.2.mem ((c.tc : Thread Cert.AdamSmallRefIdeal.nD Cert.AdamSmallRefIdeal.τ).loc Cert.AdamSmallRefIdeal.main_v274) = v37 c
          ∧ r.2.mem ((c.tc : Thread Cert.AdamSmallRefIdeal.nD Cert.AdamSmallRefIdeal.τ).loc Cert.AdamSmallRefIdeal.main_v298) = v38 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)
      ∧ m' ((c.tc : Thread Cert.SumSmallRefIdeal.nD Cert.SumSmallRefIdeal.τ).loc Cert.SumSmallRefIdeal.main_arg9) = m ((c.tc : Thread Cert.SumSmallIdeal.nD Cert.SumSmallIdeal.τ).loc Cert.SumSmallIdeal.main_arg9)
      ∧ m' ((c.tc : Thread Cert.SumSmallRefIdeal.nD Cert.SumSmallRefIdeal.τ).loc Cert.SumSmallRefIdeal.main_arg10) = m ((c.tc : Thread Cert.SumSmallIdeal.nD Cert.SumSmallIdeal.τ).loc Cert.SumSmallIdeal.main_arg10)
      ∧ m' ((c.tc : Thread Cert.SumSmallRefIdeal.nD Cert.SumSmallRefIdeal.τ).loc Cert.SumSmallRefIdeal.main_arg11) = m ((c.tc : Thread Cert.SumSmallIdeal.nD Cert.SumSmallIdeal.τ).loc Cert.SumSmallIdeal.main_arg11)
      ∧ m' ((c.tc : Thread Cert.SumSmallRefIdeal.nD Cert.SumSmallRefIdeal.τ).loc Cert.SumSmallRefIdeal.main_arg12) = m ((c.tc : Thread Cert.SumSmallIdeal.nD Cert.SumSmallIdeal.τ).loc Cert.SumSmallIdeal.main_arg12)) →
    ∃ (v0 : (c : Dev Cert.SumSmallIdeal.nD) → Buf (Elt Ideal) ((c.tc : Thread Cert.SumSmallIdeal.nD Cert.SumSmallIdeal.τ).loc Cert.SumSmallIdeal.main_v19)) (v1 : (c : Dev Cert.SumSmallIdeal.nD) → Buf (Elt Ideal) ((c.tc : Thread Cert.SumSmallIdeal.nD Cert.SumSmallIdeal.τ).loc Cert.SumSmallIdeal.main_v21)) (v2 : (c : Dev Cert.SumSmallIdeal.nD) → Buf (Elt Ideal) ((c.tc : Thread Cert.SumSmallIdeal.nD Cert.SumSmallIdeal.τ).loc Cert.SumSmallIdeal.main_v23)) (v3 : (c : Dev Cert.SumSmallIdeal.nD) → Buf (Elt Ideal) ((c.tc : Thread Cert.SumSmallIdeal.nD Cert.SumSmallIdeal.τ).loc Cert.SumSmallIdeal.main_v25)) (v4 : (c : Dev Cert.SumSmallIdeal.nD) → Buf (Elt Ideal) ((c.tc : Thread Cert.SumSmallIdeal.nD Cert.SumSmallIdeal.τ).loc Cert.SumSmallIdeal.main_v27)) (v5 : (c : Dev Cert.SumSmallIdeal.nD) → Buf (Elt Ideal) ((c.tc : Thread Cert.SumSmallIdeal.nD Cert.SumSmallIdeal.τ).loc Cert.SumSmallIdeal.main_v29)) (v6 : (c : Dev Cert.SumSmallIdeal.nD) → Buf (Elt Ideal) ((c.tc : Thread Cert.SumSmallIdeal.nD Cert.SumSmallIdeal.τ).loc Cert.SumSmallIdeal.main_v31)) (v7 : (c : Dev Cert.SumSmallIdeal.nD) → Buf (Elt Ideal) ((c.tc : Thread Cert.SumSmallIdeal.nD Cert.SumSmallIdeal.τ).loc Cert.SumSmallIdeal.main_v33)) (v8 : (c : Dev Cert.SumSmallIdeal.nD) → Buf (Elt Ideal) ((c.tc : Thread Cert.SumSmallIdeal.nD Cert.SumSmallIdeal.τ).loc Cert.SumSmallIdeal.main_v35)) (v9 : (c : Dev Cert.SumSmallIdeal.nD) → Buf (Elt Ideal) ((c.tc : Thread Cert.SumSmallIdeal.nD Cert.SumSmallIdeal.τ).loc Cert.SumSmallIdeal.main_v37)) (v10 : (c : Dev Cert.SumSmallIdeal.nD) → Buf (Elt Ideal) ((c.tc : Thread Cert.SumSmallIdeal.nD Cert.SumSmallIdeal.τ).loc Cert.SumSmallIdeal.main_v39)) (v11 : (c : Dev Cert.SumSmallIdeal.nD) → Buf (Elt Ideal) ((c.tc : Thread Cert.SumSmallIdeal.nD Cert.SumSmallIdeal.τ).loc Cert.SumSmallIdeal.main_v41)) (v12 : (c : Dev Cert.SumSmallIdeal.nD) → Buf (Elt Ideal) ((c.tc : Thread Cert.SumSmallIdeal.nD Cert.SumSmallIdeal.τ).loc Cert.SumSmallIdeal.main_v43)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v19) = v0 c
          ∧ r.2.mem ((c.tc : Thread Cert.SumSmallIdeal.nD Cert.SumSmallIdeal.τ).loc Cert.SumSmallIdeal.main_v21) = v1 c
          ∧ r.2.mem ((c.tc : Thread Cert.SumSmallIdeal.nD Cert.SumSmallIdeal.τ).loc Cert.SumSmallIdeal.main_v23) = v2 c
          ∧ r.2.mem ((c.tc : Thread Cert.SumSmallIdeal.nD Cert.SumSmallIdeal.τ).loc Cert.SumSmallIdeal.main_v25) = v3 c
          ∧ r.2.mem ((c.tc : Thread Cert.SumSmallIdeal.nD Cert.SumSmallIdeal.τ).loc Cert.SumSmallIdeal.main_v27) = v4 c
          ∧ r.2.mem ((c.tc : Thread Cert.SumSmallIdeal.nD Cert.SumSmallIdeal.τ).loc Cert.SumSmallIdeal.main_v29) = v5 c
          ∧ r.2.mem ((c.tc : Thread Cert.SumSmallIdeal.nD Cert.SumSmallIdeal.τ).loc Cert.SumSmallIdeal.main_v31) = v6 c
          ∧ r.2.mem ((c.tc : Thread Cert.SumSmallIdeal.nD Cert.SumSmallIdeal.τ).loc Cert.SumSmallIdeal.main_v33) = v7 c
          ∧ r.2.mem ((c.tc : Thread Cert.SumSmallIdeal.nD Cert.SumSmallIdeal.τ).loc Cert.SumSmallIdeal.main_v35) = v8 c
          ∧ r.2.mem ((c.tc : Thread Cert.SumSmallIdeal.nD Cert.SumSmallIdeal.τ).loc Cert.SumSmallIdeal.main_v37) = v9 c
          ∧ r.2.mem ((c.tc : Thread Cert.SumSmallIdeal.nD Cert.SumSmallIdeal.τ).loc Cert.SumSmallIdeal.main_v39) = v10 c
          ∧ r.2.mem ((c.tc : Thread Cert.SumSmallIdeal.nD Cert.SumSmallIdeal.τ).loc Cert.SumSmallIdeal.main_v41) = v11 c
          ∧ r.2.mem ((c.tc : Thread Cert.SumSmallIdeal.nD Cert.SumSmallIdeal.τ).loc Cert.SumSmallIdeal.main_v43) = v12 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
          ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
          ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
          ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v1) = v1 c
          ∧ r.2.mem ((c.tc : Thread Cert.SumSmallRefIdeal.nD Cert.SumSmallRefIdeal.τ).loc Cert.SumSmallRefIdeal.main_v2) = v2 c
          ∧ r.2.mem ((c.tc : Thread Cert.SumSmallRefIdeal.nD Cert.SumSmallRefIdeal.τ).loc Cert.SumSmallRefIdeal.main_v3) = v3 c
          ∧ r.2.mem ((c.tc : Thread Cert.SumSmallRefIdeal.nD Cert.SumSmallRefIdeal.τ).loc Cert.SumSmallRefIdeal.main_v4) = v4 c
          ∧ r.2.mem ((c.tc : Thread Cert.SumSmallRefIdeal.nD Cert.SumSmallRefIdeal.τ).loc Cert.SumSmallRefIdeal.main_v5) = v5 c
          ∧ r.2.mem ((c.tc : Thread Cert.SumSmallRefIdeal.nD Cert.SumSmallRefIdeal.τ).loc Cert.SumSmallRefIdeal.main_v6) = v6 c
          ∧ r.2.mem ((c.tc : Thread Cert.SumSmallRefIdeal.nD Cert.SumSmallRefIdeal.τ).loc Cert.SumSmallRefIdeal.main_v7) = v7 c
          ∧ r.2.mem ((c.tc : Thread Cert.SumSmallRefIdeal.nD Cert.SumSmallRefIdeal.τ).loc Cert.SumSmallRefIdeal.main_v8) = v8 c
          ∧ r.2.mem ((c.tc : Thread Cert.SumSmallRefIdeal.nD Cert.SumSmallRefIdeal.τ).loc Cert.SumSmallRefIdeal.main_v9) = v9 c
          ∧ r.2.mem ((c.tc : Thread Cert.SumSmallRefIdeal.nD Cert.SumSmallRefIdeal.τ).loc Cert.SumSmallRefIdeal.main_v10) = v10 c
          ∧ r.2.mem ((c.tc : Thread Cert.SumSmallRefIdeal.nD Cert.SumSmallRefIdeal.τ).loc Cert.SumSmallRefIdeal.main_v11) = v11 c
          ∧ r.2.mem ((c.tc : Thread Cert.SumSmallRefIdeal.nD Cert.SumSmallRefIdeal.τ).loc Cert.SumSmallRefIdeal.main_v12) = v12 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8)
          ∧ r.2.mem ((c.tc : Thread Cert.SumSmallRefIdeal.nD Cert.SumSmallRefIdeal.τ).loc Cert.SumSmallRefIdeal.main_arg9) = m' ((c.tc : Thread Cert.SumSmallRefIdeal.nD Cert.SumSmallRefIdeal.τ).loc Cert.SumSmallRefIdeal.main_arg9)
          ∧ r.2.mem ((c.tc : Thread Cert.SumSmallRefIdeal.nD Cert.SumSmallRefIdeal.τ).loc Cert.SumSmallRefIdeal.main_arg10) = m' ((c.tc : Thread Cert.SumSmallRefIdeal.nD Cert.SumSmallRefIdeal.τ).loc Cert.SumSmallRefIdeal.main_arg10)
          ∧ r.2.mem ((c.tc : Thread Cert.SumSmallRefIdeal.nD Cert.SumSmallRefIdeal.τ).loc Cert.SumSmallRefIdeal.main_arg11) = m' ((c.tc : Thread Cert.SumSmallRefIdeal.nD Cert.SumSmallRefIdeal.τ).loc Cert.SumSmallRefIdeal.main_arg11)
          ∧ r.2.mem ((c.tc : Thread Cert.SumSmallRefIdeal.nD Cert.SumSmallRefIdeal.τ).loc Cert.SumSmallRefIdeal.main_arg12) = m' ((c.tc : Thread Cert.SumSmallRefIdeal.nD Cert.SumSmallRefIdeal.τ).loc Cert.SumSmallRefIdeal.main_arg12))

def Claim : Prop :=
  ∃ (hKernel : Cert.Kernel.Facts) (hKernelIdeal : Cert.KernelIdeal.Facts) (hReferenceIdeal : Cert.ReferenceIdeal.Facts) (hFf2Dx : Cert.Ff2Dx.Facts) (hFf2DxIdeal : Cert.Ff2DxIdeal.Facts) (hFf2DxRefIdeal : Cert.Ff2DxRefIdeal.Facts) (hFf2Dw : Cert.Ff2Dw.Facts) (hFf2DwIdeal : Cert.Ff2DwIdeal.Facts) (hFf2DwRefIdeal : Cert.Ff2DwRefIdeal.Facts) (hFf1Dw : Cert.Ff1Dw.Facts) (hFf1DwIdeal : Cert.Ff1DwIdeal.Facts) (hFf1DwRefIdeal : Cert.Ff1DwRefIdeal.Facts) (hFf1Dx : Cert.Ff1Dx.Facts) (hFf1DxIdeal : Cert.Ff1DxIdeal.Facts) (hFf1DxRefIdeal : Cert.Ff1DxRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFf1Fwd : Cert.Ff1Fwd.Facts) (hFf1FwdIdeal : Cert.Ff1FwdIdeal.Facts) (hFf1FwdRefIdeal : Cert.Ff1FwdRefIdeal.Facts) (hFf2Fwd : Cert.Ff2Fwd.Facts) (hFf2FwdIdeal : Cert.Ff2FwdIdeal.Facts) (hFf2FwdRefIdeal : Cert.Ff2FwdRefIdeal.Facts) (hInFwd : Cert.InFwd.Facts) (hInFwdIdeal : Cert.InFwdIdeal.Facts) (hInFwdRefIdeal : Cert.InFwdRefIdeal.Facts) (hSsmFwd : Cert.SsmFwd.Facts) (hSsmFwdIdeal : Cert.SsmFwdIdeal.Facts) (hSsmFwdRefIdeal : Cert.SsmFwdRefIdeal.Facts) (hSsmDx : Cert.SsmDx.Facts) (hSsmDxIdeal : Cert.SsmDxIdeal.Facts) (hSsmDxRefIdeal : Cert.SsmDxRefIdeal.Facts) (hSsmDw : Cert.SsmDw.Facts) (hSsmDwIdeal : Cert.SsmDwIdeal.Facts) (hSsmDwRefIdeal : Cert.SsmDwRefIdeal.Facts) (hOutFwd : Cert.OutFwd.Facts) (hOutFwdIdeal : Cert.OutFwdIdeal.Facts) (hOutFwdRefIdeal : Cert.OutFwdRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamOut : Cert.AdamOut.Facts) (hAdamOutIdeal : Cert.AdamOutIdeal.Facts) (hAdamOutRefIdeal : Cert.AdamOutRefIdeal.Facts) (hAdamSsm : Cert.AdamSsm.Facts) (hAdamSsmIdeal : Cert.AdamSsmIdeal.Facts) (hAdamSsmRefIdeal : Cert.AdamSsmRefIdeal.Facts) (hAdamFf : Cert.AdamFf.Facts) (hAdamFfIdeal : Cert.AdamFfIdeal.Facts) (hAdamFfRefIdeal : Cert.AdamFfRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2Dx (hFf2Dx := hFf2Dx)
    ∧ quiescent_Ff2DxIdeal (hFf2DxIdeal := hFf2DxIdeal)
    ∧ quiescent_Ff2DxRefIdeal (hFf2DxRefIdeal := hFf2DxRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_Ff1Fwd (hFf1Fwd := hFf1Fwd)
    ∧ quiescent_Ff1FwdIdeal (hFf1FwdIdeal := hFf1FwdIdeal)
    ∧ quiescent_Ff1FwdRefIdeal (hFf1FwdRefIdeal := hFf1FwdRefIdeal)
    ∧ quiescent_Ff2Fwd (hFf2Fwd := hFf2Fwd)
    ∧ quiescent_Ff2FwdIdeal (hFf2FwdIdeal := hFf2FwdIdeal)
    ∧ quiescent_Ff2FwdRefIdeal (hFf2FwdRefIdeal := hFf2FwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_SsmFwd (hSsmFwd := hSsmFwd)
    ∧ quiescent_SsmFwdIdeal (hSsmFwdIdeal := hSsmFwdIdeal)
    ∧ quiescent_SsmFwdRefIdeal (hSsmFwdRefIdeal := hSsmFwdRefIdeal)
    ∧ quiescent_SsmDx (hSsmDx := hSsmDx)
    ∧ quiescent_SsmDxIdeal (hSsmDxIdeal := hSsmDxIdeal)
    ∧ quiescent_SsmDxRefIdeal (hSsmDxRefIdeal := hSsmDxRefIdeal)
    ∧ quiescent_SsmDw (hSsmDw := hSsmDw)
    ∧ quiescent_SsmDwIdeal (hSsmDwIdeal := hSsmDwIdeal)
    ∧ quiescent_SsmDwRefIdeal (hSsmDwRefIdeal := hSsmDwRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSsm (hAdamSsm := hAdamSsm)
    ∧ quiescent_AdamSsmIdeal (hAdamSsmIdeal := hAdamSsmIdeal)
    ∧ quiescent_AdamSsmRefIdeal (hAdamSsmRefIdeal := hAdamSsmRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2Dx_Ff2DxIdeal
    ∧ algebraic_Ff2DxIdeal_Ff2DxRefIdeal (hFf2DxIdeal := hFf2DxIdeal) (hFf2DxRefIdeal := hFf2DxRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_Ff1Fwd_Ff1FwdIdeal
    ∧ algebraic_Ff1FwdIdeal_Ff1FwdRefIdeal (hFf1FwdIdeal := hFf1FwdIdeal) (hFf1FwdRefIdeal := hFf1FwdRefIdeal)
    ∧ preserves_Ff2Fwd_Ff2FwdIdeal
    ∧ algebraic_Ff2FwdIdeal_Ff2FwdRefIdeal (hFf2FwdIdeal := hFf2FwdIdeal) (hFf2FwdRefIdeal := hFf2FwdRefIdeal)
    ∧ preserves_InFwd_InFwdIdeal
    ∧ algebraic_InFwdIdeal_InFwdRefIdeal (hInFwdIdeal := hInFwdIdeal) (hInFwdRefIdeal := hInFwdRefIdeal)
    ∧ preserves_SsmFwd_SsmFwdIdeal
    ∧ algebraic_SsmFwdIdeal_SsmFwdRefIdeal (hSsmFwdIdeal := hSsmFwdIdeal) (hSsmFwdRefIdeal := hSsmFwdRefIdeal)
    ∧ preserves_SsmDx_SsmDxIdeal
    ∧ algebraic_SsmDxIdeal_SsmDxRefIdeal (hSsmDxIdeal := hSsmDxIdeal) (hSsmDxRefIdeal := hSsmDxRefIdeal)
    ∧ preserves_SsmDw_SsmDwIdeal
    ∧ algebraic_SsmDwIdeal_SsmDwRefIdeal (hSsmDwIdeal := hSsmDwIdeal) (hSsmDwRefIdeal := hSsmDwRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamUq_AdamUqIdeal
    ∧ algebraic_AdamUqIdeal_AdamUqRefIdeal (hAdamUqIdeal := hAdamUqIdeal) (hAdamUqRefIdeal := hAdamUqRefIdeal)
    ∧ preserves_AdamUkv_AdamUkvIdeal
    ∧ algebraic_AdamUkvIdeal_AdamUkvRefIdeal (hAdamUkvIdeal := hAdamUkvIdeal) (hAdamUkvRefIdeal := hAdamUkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSsm_AdamSsmIdeal
    ∧ algebraic_AdamSsmIdeal_AdamSsmRefIdeal (hAdamSsmIdeal := hAdamSsmIdeal) (hAdamSsmRefIdeal := hAdamSsmRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite.lean ====
abbrev S2x4096x2048 : Shape := ⟨3, ![2, 4096, 2048]⟩
abbrev S2x4096x1024 : Shape := ⟨3, ![2, 4096, 1024]⟩
abbrev S_ : Shape := ⟨0, ![]⟩

class Facts : Prop where
  bitsLt_bf16_f32 : FTy.bits .bf16 < FTy.bits .f32
  bcast_S_S2x4096x2048 : S_.BroadcastsInDim S2x4096x2048 (![] : Fin 0 → Fin S2x4096x2048.rank)
  slices_S2x4096x2048_S2x4096x1024_0_0_1024 : S2x4096x2048.Slices ![0, 0, 1024] S2x4096x1024
  bcast_S_S2x4096x1024 : S_.BroadcastsInDim S2x4096x1024 (![] : Fin 0 → Fin S2x4096x1024.rank)
  slices_S2x4096x2048_S2x4096x1024_0_0_0 : S2x4096x2048.Slices ![0, 0, 0] S2x4096x1024

variable [Facts]

def fn_part1 {F : FTy → Type} [FloatOps F] (main_v8 : IVec S2x4096x2048 1) (main_v18 : IVec S2x4096x1024 1) (main_v19 : IVec S2x4096x1024 1) : IVec S2x4096x1024 1 :=
  let main_v20 : IVec S2x4096x1024 1 := (extractStridedSlice S2x4096x1024 ![0, 0, 1024] · slices_S2x4096x2048_S2x4096x1024_0_0_1024) main_v8
  let main_v21 : IVec S2x4096x1024 1 := andi main_v19 main_v20
  let main_v22 : IVec S2x4096x1024 1 := andi main_v21 main_v18
  main_v22

def fn {F : FTy → Type} [FloatOps F] (main_arg0 : FVec F S2x4096x2048 .bf16) (main_arg1 : FVec F S2x4096x2048 .bf16) (main_arg2 : FVec F S2x4096x2048 .bf16) (main_arg3 : FVec F S2x4096x1024 .bf16) : IVec S2x4096x1024 1 :=
  let main_v0 : FVec F S2x4096x2048 .f32 := (extf .f32 · bitsLt_bf16_f32) main_arg0
  let main_v1 : FVec F S2x4096x2048 .f32 := Host.absf main_v0
  let main_cst : FVec F S_ .f32 := constant S_ .f32 0x7F800000#32
  let main_v2 : FVec F S2x4096x2048 .f32 := broadcastInDim S2x4096x2048 ![] bcast_S_S2x4096x2048 main_cst
  let main_v3 : IVec S2x4096x2048 1 := cmpf .olt main_v1 main_v2
  let main_v4 : FVec F S2x4096x2048 .f32 := (extf .f32 · bitsLt_bf16_f32) main_arg1
  let main_v5 : FVec F S2x4096x2048 .f32 := Host.absf main_v4
  let main_cst_0 : FVec F S_ .f32 := constant S_ .f32 0x7F800000#32
  let main_v6 : FVec F S2x4096x2048 .f32 := broadcastInDim S2x4096x2048 ![] bcast_S_S2x4096x2048 main_cst_0
  let main_v7 : IVec S2x4096x2048 1 := cmpf .olt main_v5 main_v6
  let main_v8 : IVec S2x4096x2048 1 := andi main_v3 main_v7
  let main_v9 : FVec F S2x4096x1024 .bf16 := (extractStridedSlice S2x4096x1024 ![0, 0, 1024] · slices_S2x4096x2048_S2x4096x1024_0_0_1024) main_arg2
  let main_v10 : FVec F S2x4096x1024 .f32 := (extf .f32 · bitsLt_bf16_f32) main_v9
  let main_v11 : FVec F S2x4096x1024 .f32 := Host.absf main_v10
  let main_cst_1 : FVec F S_ .f32 := constant S_ .f32 0x7F800000#32
  let main_v12 : FVec F S2x4096x1024 .f32 := broadcastInDim S2x4096x1024 ![] bcast_S_S2x4096x1024 main_cst_1
  let main_v13 : IVec S2x4096x1024 1 := cmpf .olt main_v11 main_v12
  let main_v14 : FVec F S2x4096x1024 .f32 := (extf .f32 · bitsLt_bf16_f32) main_arg3
  let main_v15 : FVec F S2x4096x1024 .f32 := Host.absf main_v14
  let main_cst_2 : FVec F S_ .f32 := constant S_ .f32 0x7F800000#32
  let main_v16 : FVec F S2x4096x1024 .f32 := broadcastInDim S2x4096x1024 ![] bcast_S_S2x4096x1024 main_cst_2
  let main_v17 : IVec S2x4096x1024 1 := cmpf .olt main_v15 main_v16
  let main_v18 : IVec S2x4096x1024 1 := andi main_v13 main_v17
  let main_v19 : IVec S2x4096x1024 1 := (extractStridedSlice S2x4096x1024 ![0, 0, 0] · slices_S2x4096x2048_S2x4096x1024_0_0_0) main_v8
  fn_part1 (F := F) main_v8 main_v18 main_v19
-- ==== Kernel.lean ====
abbrev S2x4096x2048 : Shape := ⟨3, ![2, 4096, 2048]⟩
abbrev S2x4096x1024 : Shape := ⟨3, ![2, 4096, 1024]⟩
abbrev S36 : Shape := ⟨1, ![36]⟩
abbrev S2x4096x8x256 : Shape := ⟨4, ![2, 4096, 8, 256]⟩
abbrev S2x4096x8x128 : Shape := ⟨4, ![2, 4096, 8, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8x1 : Shape := ⟨4, ![2, 4096, 8, 1]⟩
abbrev S1x512x1024 : Shape := ⟨3, ![1, 512, 1024]⟩
abbrev S1 : Shape := ⟨1, ![1]⟩
abbrev S1x512x512 : Shape := ⟨3, ![1, 512, 512]⟩
abbrev S512x1024 : Shape := ⟨2, ![512, 1024]⟩
abbrev S4096x1024 : Shape := ⟨2, ![4096, 1024]⟩
abbrev S4096x512 : Shape := ⟨2, ![4096, 512]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 47
  | .vmem => 21
  | .smem => 2
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x2048, .bf16⟩
  | .hbm, ⟨3, _⟩ => ⟨S2x4096x1024, .bf16⟩
  | .hbm, ⟨4, _⟩ => ⟨S2x4096x8x256, .bf16⟩
  | .hbm, ⟨5, _⟩ => ⟨S2x4096x8x256, .f32⟩
  | .hbm, ⟨6, _⟩ => ⟨S2x4096x8x256, .bf16⟩
  | .hbm, ⟨7, _⟩ => ⟨S2x4096x8x256, .f32⟩
  | .hbm, ⟨8, _⟩ => ⟨S2x4096x1024, .bf16⟩
  | .hbm, ⟨9, _⟩ => ⟨S2x4096x8x128, .bf16⟩
  | .hbm, ⟨10, _⟩ => ⟨S2x4096x8x128, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S2x8x4096x4096, .f32⟩
  | .hbm, ⟨19, _⟩ => ⟨S_, .f32⟩
  | .hbm, ⟨20, _⟩ => ⟨S_, .f32⟩
  | .hbm, ⟨21, _⟩ => ⟨S2x8x4096x4096, .i1⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S2x8x4096x1, .f32⟩
  | .hbm, ⟨33, _⟩ => ⟨S2x8x4096x4096, .f32⟩
  | .hbm, ⟨34, _⟩ => ⟨S2x8x4096x4096, .f32⟩
  | .hbm, ⟨35, _⟩ => ⟨S2x8x128x4096, .f32⟩
  | .hbm, ⟨36, _⟩ => ⟨S2x4096x8x128, .f32⟩
  | .hbm, ⟨37, _⟩ => ⟨S2x4096x1024, .f32⟩
  | .hbm, ⟨38, _⟩ => ⟨S2x4096x1024, .bf16⟩
  | .hbm, ⟨39, _⟩ => ⟨S2x8x4096x1, .f32⟩
  | .hbm, ⟨40, _⟩ => ⟨S2x8x4096x1, .f32⟩
  | .hbm, ⟨41, _⟩ => ⟨S2x4096x8x1, .f32⟩
  | .hbm, ⟨42, _⟩ => ⟨S2x4096x8x128, .f32⟩
  | .hbm, ⟨43, _⟩ => ⟨S2x4096x1024, .f32⟩
  | .hbm, ⟨44, _⟩ => ⟨S2x4096x2048, .bf16⟩
  | .hbm, ⟨45, _⟩ => ⟨S2x4096x2048, .bf16⟩
  | .hbm, ⟨46, _⟩ => ⟨S2x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x512, .bf16⟩
  | .local _ .vmem, ⟨17, _⟩ => ⟨S1x512x512, .bf16⟩
  | .local _ .vmem, ⟨18, _⟩ => ⟨S512x1024, .f32⟩
  | .local _ .vmem, ⟨19, _⟩ => ⟨S4096x1024, .f32⟩
  | .local _ .vmem, ⟨20, _⟩ => ⟨S4096x512, .f32⟩
  | .local _ .smem, ⟨0, _⟩ => ⟨S36, .i32⟩
  | .local _ .smem, ⟨1, _⟩ => ⟨S36, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_mult1 (v3 : BitVec 32) : BitVec 32 :=
  let c512_i32 : BitVec 32 := 512#32
  let v10 : BitVec 32 := Scalar.muli v3 c512_i32
  v10

def k0_off2 (v3 : BitVec 32) : Fin 2 → Nat :=
  let c512_i32 : BitVec 32 := 512#32
  let v10 : BitVec 32 := Scalar.muli v3 c512_i32
  let v11 : BitVec 32 := v10
  let v59 : Index := Scalar.indexCast v11
  let c0_30 : Index := 0#32
  ![v59.toNat, 0]
def k0_cond3 (v1 : BitVec 32) (v3 : BitVec 32) : BitVec 1 :=
  let v12 : BitVec 1 := Scalar.cmpi .slt v3 v1
  let v13 : BitVec 32 := Scalar.extui v12
  let c0_i32_3 : BitVec 32 := 0#32
  let v14 : BitVec 1 := Scalar.cmpi .ne v13 c0_i32_3
  v14

def k0_off3 (v3 : BitVec 32) : Fin 2 → Nat :=
  let c512_i32 : BitVec 32 := 512#32
  let v10 : BitVec 32 := Scalar.muli v3 c512_i32
  let v11 : BitVec 32 := v10
  let v68 : Index := Scalar.indexCast v11
  let c0_33 : Index := 0#32
  ![v68.toNat, 0]
def k0_off4 (v3 : BitVec 32) : Fin 2 → Nat :=
  let c512_i32 : BitVec 32 := 512#32
  let v10 : BitVec 32 := Scalar.muli v3 c512_i32
  let v11 : BitVec 32 := v10
  let v102 : Index := Scalar.indexCast v11
  let c128 : Index := 128#32
  ![v102.toNat, 128]
def k0_off5 (v3 : BitVec 32) : Fin 2 → Nat :=
  let c512_i32 : BitVec 32 := 512#32
  let v10 : BitVec 32 := Scalar.muli v3 c512_i32
  let v11 : BitVec 32 := v10
  let v111 : Index := Scalar.indexCast v11
  let c256_45 : Index := 256#32
  ![v111.toNat, 256]
def k0_off6 (v3 : BitVec 32) : Fin 2 → Nat :=
  let c512_i32 : BitVec 32 := 512#32
  let v10 : BitVec 32 := Scalar.muli v3 c512_i32
  let v11 : BitVec 32 := v10
  let v145 : Index := Scalar.indexCast v11
  let c256_55 : Index := 256#32
  ![v145.toNat, 256]
def k0_off7 (v3 : BitVec 32) : Fin 2 → Nat :=
  let c512_i32 : BitVec 32 := 512#32
  let v10 : BitVec 32 := Scalar.muli v3 c512_i32
  let v11 : BitVec 32 := v10
  let v154 : Index := Scalar.indexCast v11
  let c512_58 : Index := 512#32
  ![v154.toNat, 512]
def k0_off8 (v3 : BitVec 32) : Fin 2 → Nat :=
  let c512_i32 : BitVec 32 := 512#32
  let v10 : BitVec 32 := Scalar.muli v3 c512_i32
  let v11 : BitVec 32 := v10
  let v188 : Index := Scalar.indexCast v11
  let c384 : Index := 384#32
  ![v188.toNat, 384]
def k0_off9 (v3 : BitVec 32) : Fin 2 → Nat :=
  let c512_i32 : BitVec 32 := 512#32
  let v10 : BitVec 32 := Scalar.muli v3 c512_i32
  let v11 : BitVec 32 := v10
  let v197 : Index := Scalar.indexCast v11
  let c768_70 : Index := 768#32
  ![v197.toNat, 768]
def k0_off10 (v3 : BitVec 32) : Fin 2 → Nat :=
  let c512_i32 : BitVec 32 := 512#32
  let v10 : BitVec 32 := Scalar.muli v3 c512_i32
  let v11 : BitVec 32 := v10
  let v64 : Index := Scalar.indexCast v11
  let c0_31 : Index := 0#32
  ![v64.toNat, 0]
def k0_cond4 (v1 : BitVec 32) (v3 : BitVec 32) : BitVec 1 :=
  let v15 : BitVec 1 := Scalar.cmpi .eq v3 v1
  let v16 : BitVec 32 := Scalar.extui v15
  let c0_i32_4 : BitVec 32 := 0#32
  let v17 : BitVec 1 := Scalar.cmpi .ne v16 c0_i32_4
  v17

def k0_off11 (v3 : BitVec 32) : Fin 2 → Nat :=
  let c512_i32 : BitVec 32 := 512#32
  let v10 : BitVec 32 := Scalar.muli v3 c512_i32
  let v11 : BitVec 32 := v10
  let v73 : Index := Scalar.indexCast v11
  let c0_34 : Index := 0#32
  ![v73.toNat, 0]
def k0_off12 (v3 : BitVec 32) : Fin 2 → Nat :=
  let c512_i32 : BitVec 32 := 512#32
  let v10 : BitVec 32 := Scalar.muli v3 c512_i32
  let v11 : BitVec 32 := v10
  let v112 : Index := Scalar.indexCast v11
  let c128 : Index := 128#32
  ![v112.toNat, 128]
def k0_off13 (v3 : BitVec 32) : Fin 2 → Nat :=
  let c512_i32 : BitVec 32 := 512#32
  let v10 : BitVec 32 := Scalar.muli v3 c512_i32
  let v11 : BitVec 32 := v10
  let v121 : Index := Scalar.indexCast v11
  let c256_47 : Index := 256#32
  ![v121.toNat, 256]
def k0_off14 (v3 : BitVec 32) : Fin 2 → Nat :=
  let c512_i32 : BitVec 32 := 512#32
  let v10 : BitVec 32 := Scalar.muli v3 c512_i32
  let v11 : BitVec 32 := v10
  let v160 : Index := Scalar.indexCast v11
  let c256_58 : Index := 256#32
  ![v160.toNat, 256]
def k0_off15 (v3 : BitVec 32) : Fin 2 → Nat :=
  let c512_i32 : BitVec 32 := 512#32
  let v10 : BitVec 32 := Scalar.muli v3 c512_i32
  let v11 : BitVec 32 := v10
  let v169 : Index := Scalar.indexCast v11
  let c512_61 : Index := 512#32
  ![v169.toNat, 512]
def k0_off16 (v3 : BitVec 32) : Fin 2 → Nat :=
  let c512_i32 : BitVec 32 := 512#32
  let v10 : BitVec 32 := Scalar.muli v3 c512_i32
  let v11 : BitVec 32 := v10
  let v208 : Index := Scalar.indexCast v11
  let c384 : Index := 384#32
  ![v208.toNat, 384]
def k0_off17 (v3 : BitVec 32) : Fin 2 → Nat :=
  let c512_i32 : BitVec 32 := 512#32
  let v10 : BitVec 32 := Scalar.muli v3 c512_i32
  let v11 : BitVec 32 := v10
  let v217 : Index := Scalar.indexCast v11
  let c768_74 : Index := 768#32
  ![v217.toNat, 768]
def k0_off18 (v3 : BitVec 32) : Fin 2 → Nat :=
  let c512_i32 : BitVec 32 := 512#32
  let v10 : BitVec 32 := Scalar.muli v3 c512_i32
  let v11 : BitVec 32 := v10
  let v21 : Index := Scalar.indexCast v11
  let c0 : Index := 0#32
  ![v21.toNat, 0]
def k0_cond5 (v1 : BitVec 32) : BitVec 1 :=
  let c7_i32 : BitVec 32 := 7#32
  let v18 : BitVec 1 := Scalar.cmpi .eq v1 c7_i32
  let v19 : BitVec 32 := Scalar.extui v18
  let c0_i32_5 : BitVec 32 := 0#32
  let v20 : BitVec 1 := Scalar.cmpi .ne v19 c0_i32_5
  v20

def k0_off19 (v3 : BitVec 32) : Fin 2 → Nat :=
  let c512_i32 : BitVec 32 := 512#32
  let v10 : BitVec 32 := Scalar.muli v3 c512_i32
  let v11 : BitVec 32 := v10
  let v27 : Index := Scalar.indexCast v11
  let c0_9 : Index := 0#32
  ![v27.toNat, 0]

def k0_chk1 (v1 : BitVec 32) (v3 : BitVec 32) : Prop :=
  (512 ∣ (k0_mult1 v3).toNat) ∧
  (∀ (k0_h3 : k0_cond3 v1 v3 = 1#1), ∀ a, (k0_off2 v3) a + S512x128.size a ≤ S4096x512.size a) ∧
  (∀ (k0_h3 : k0_cond3 v1 v3 = 1#1), ∀ a, (k0_off3 v3) a + S512x256.size a ≤ S4096x1024.size a) ∧
  (∀ (k0_h3 : k0_cond3 v1 v3 = 1#1), ∀ a, (k0_off4 v3) a + S512x128.size a ≤ S4096x512.size a) ∧
  (∀ (k0_h3 : k0_cond3 v1 v3 = 1#1), ∀ a, (k0_off5 v3) a + S512x256.size a ≤ S4096x1024.size a) ∧
  (∀ (k0_h3 : k0_cond3 v1 v3 = 1#1), ∀ a, (k0_off6 v3) a + S512x128.size a ≤ S4096x512.size a) ∧
  (∀ (k0_h3 : k0_cond3 v1 v3 = 1#1), ∀ a, (k0_off7 v3) a + S512x256.size a ≤ S4096x1024.size a) ∧
  (∀ (k0_h3 : k0_cond3 v1 v3 = 1#1), ∀ a, (k0_off8 v3) a + S512x128.size a ≤ S4096x512.size a) ∧
  (∀ (k0_h3 : k0_cond3 v1 v3 = 1#1), ∀ a, (k0_off9 v3) a + S512x256.size a ≤ S4096x1024.size a) ∧
  (∀ (k0_h4 : k0_cond4 v1 v3 = 1#1), ∀ a, (k0_off10 v3) a + S512x128.size a ≤ S4096x512.size a) ∧
  (∀ (k0_h4 : k0_cond4 v1 v3 = 1#1), ∀ a, (k0_off11 v3) a + S512x256.size a ≤ S4096x1024.size a) ∧
  (∀ (k0_h4 : k0_cond4 v1 v3 = 1#1), ∀ a, (k0_off12 v3) a + S512x128.size a ≤ S4096x512.size a) ∧
  (∀ (k0_h4 : k0_cond4 v1 v3 = 1#1), ∀ a, (k0_off13 v3) a + S512x256.size a ≤ S4096x1024.size a) ∧
  (∀ (k0_h4 : k0_cond4 v1 v3 = 1#1), ∀ a, (k0_off14 v3) a + S512x128.size a ≤ S4096x512.size a) ∧
  (∀ (k0_h4 : k0_cond4 v1 v3 = 1#1), ∀ a, (k0_off15 v3) a + S512x256.size a ≤ S4096x1024.size a) ∧
  (∀ (k0_h4 : k0_cond4 v1 v3 = 1#1), ∀ a, (k0_off16 v3) a + S512x128.size a ≤ S4096x512.size a) ∧
  (∀ (k0_h4 : k0_cond4 v1 v3 = 1#1), ∀ a, (k0_off17 v3) a + S512x256.size a ≤ S4096x1024.size a) ∧
  (∀ (k0_h5 : k0_cond5 v1 = 1#1), ∀ a, (k0_off18 v3) a + S512x1024.size a ≤ S4096x1024.size a) ∧
  (∀ (k0_h5 : k0_cond5 v1 = 1#1), ∀ a, (k0_off19 v3) a + S512x512.size a ≤ S4096x512.size a)
theorem k0_mult1_dvd : ∀ (v1 : BitVec 32) (v3 : BitVec 32) (k0_hw1 : k0_chk1 v1 v3), 512 ∣ (k0_mult1 v3).toNat := fun v1 v3 k0_hw1 => k0_hw1.1
theorem k0_off2_inb : ∀ (v1 : BitVec 32) (v3 : BitVec 32) (k0_hw1 : k0_chk1 v1 v3), ∀ (k0_h3 : k0_cond3 v1 v3 = 1#1), ∀ a, (k0_off2 v3) a + S512x128.size a ≤ S4096x512.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v3) a + S512x256.size a ≤ S4096x1024.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v3) a + S512x128.size a ≤ S4096x512.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S512x256.size a ≤ S4096x1024.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S512x128.size a ≤ S4096x512.size a := fun v1 v3 k0_hw1 k0_h3 => k0_hw1.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v3) a + S512x256.size a ≤ S4096x1024.size a := fun v1 v3 k0_hw1 k0_h3 => k0_hw1.2.2.2.2.2.2.1 k0_h3
theorem k0_off8_inb : ∀ (v1 : BitVec 32) (v3 : BitVec 32) (k0_hw1 : k0_chk1 v1 v3), ∀ (k0_h3 : k0_cond3 v1 v3 = 1#1), ∀ a, (k0_off8 v3) a + S512x128.size a ≤ S4096x512.size a := fun v1 v3 k0_hw1 k0_h3 => k0_hw1.2.2.2.2.2.2.2.1 k0_h3
theorem k0_off9_inb : ∀ (v1 : BitVec 32) (v3 : BitVec 32) (k0_hw1 : k0_chk1 v1 v3), ∀ (k0_h3 : k0_cond3 v1 v3 = 1#1), ∀ a, (k0_off9 v3) a + S512x256.size a ≤ S4096x1024.size a := fun v1 v3 k0_hw1 k0_h3 => k0_hw1.2.2.2.2.2.2.2.2.1 k0_h3
theorem k0_off10_inb : ∀ (v1 : BitVec 32) (v3 : BitVec 32) (k0_hw1 : k0_chk1 v1 v3), ∀ (k0_h4 : k0_cond4 v1 v3 = 1#1), ∀ a, (k0_off10 v3) a + S512x128.size a ≤ S4096x512.size a := fun v1 v3 k0_hw1 k0_h4 => k0_hw1.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v3) a + S512x256.size a ≤ S4096x1024.size a := fun v1 v3 k0_hw1 k0_h4 => k0_hw1.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v3) a + S512x128.size a ≤ S4096x512.size a := fun v1 v3 k0_hw1 k0_h4 => k0_hw1.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v3) a + S512x256.size a ≤ S4096x1024.size a := fun v1 v3 k0_hw1 k0_h4 => k0_hw1.2.2.2.2.2.2.2.2.2.2.2.2.1 k0_h4
theorem k0_off14_inb : ∀ (v1 : BitVec 32) (v3 : BitVec 32) (k0_hw1 : k0_chk1 v1 v3), ∀ (k0_h4 : k0_cond4 v1 v3 = 1#1), ∀ a, (k0_off14 v3) a + S512x128.size a ≤ S4096x512.size a := fun v1 v3 k0_hw1 k0_h4 => k0_hw1.2.2.2.2.2.2.2.2.2.2.2.2.2.1 k0_h4
theorem k0_off15_inb : ∀ (v1 : BitVec 32) (v3 : BitVec 32) (k0_hw1 : k0_chk1 v1 v3), ∀ (k0_h4 : k0_cond4 v1 v3 = 1#1), ∀ a, (k0_off15 v3) a + S512x256.size a ≤ S4096x1024.size a := fun v1 v3 k0_hw1 k0_h4 => k0_hw1.2.2.2.2.2.2.2.2.2.2.2.2.2.2.1 k0_h4
theorem k0_off16_inb : ∀ (v1 : BitVec 32) (v3 : BitVec 32) (k0_hw1 : k0_chk1 v1 v3), ∀ (k0_h4 : k0_cond4 v1 v3 = 1#1), ∀ a, (k0_off16 v3) a + S512x128.size a ≤ S4096x512.size a := fun v1 v3 k0_hw1 k0_h4 => k0_hw1.2.2.2.2.2.2.2.2.2.2.2.2.2.2.2.1 k0_h4
theorem k0_off17_inb : ∀ (v1 : BitVec 32) (v3 : BitVec 32) (k0_hw1 : k0_chk1 v1 v3), ∀ (k0_h4 : k0_cond4 v1 v3 = 1#1), ∀ a, (k0_off17 v3) a + S512x256.size a ≤ S4096x1024.size a := fun v1 v3 k0_hw1 k0_h4 => k0_hw1.2.2.2.2.2.2.2.2.2.2.2.2.2.2.2.2.1 k0_h4
theorem k0_off18_inb : ∀ (v1 : BitVec 32) (v3 : BitVec 32) (k0_hw1 : k0_chk1 v1 v3), ∀ (k0_h5 : k0_cond5 v1 = 1#1), ∀ a, (k0_off18 v3) a + S512x1024.size a ≤ S4096x1024.size a := fun v1 v3 k0_hw1 k0_h5 => k0_hw1.2.2.2.2.2.2.2.2.2.2.2.2.2.2.2.2.2.1 k0_h5
theorem k0_off19_inb : ∀ (v1 : BitVec 32) (v3 : BitVec 32) (k0_hw1 : k0_chk1 v1 v3), ∀ (k0_h5 : k0_cond5 v1 = 1#1), ∀ a, (k0_off19 v3) a + S512x512.size a ≤ S4096x512.size a := fun v1 v3 k0_hw1 k0_h5 => k0_hw1.2.2.2.2.2.2.2.2.2.2.2.2.2.2.2.2.2.2 k0_h5

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  ![arg0.toNat, v1.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c2_i32 : BitVec 32 := 2#32
  let v2 : BitVec 32 := Scalar.addi c2_i32 arg1
  let c0_i32 : BitVec 32 := 0#32
  ![arg0.toNat, v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c7_i32 : BitVec 32 := 7#32
  let v2 : BitVec 1 := Scalar.cmpi .eq v1 c7_i32
  let v3 : Index := Scalar.indexCast arg2
  let v4 : BitVec 32 := pf.at 1 (Rect.unit (s := S36) ![v3.toNat] S1.size (k0_off1_inb i)) numel1_S1
  let c0_i32 : BitVec 32 := 0#32
  let v5 : BitVec 32 := Scalar.select v2 v4 c0_i32
  let c0_i32_0 : BitVec 32 := 0#32
  ![arg0.toNat, v5.toNat, arg1.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c7_i32 : BitVec 32 := 7#32
  let v2 : BitVec 1 := Scalar.cmpi .eq v1 c7_i32
  let v3 : Index := Scalar.indexCast arg2
  let v4 : BitVec 32 := pf.at 1 (Rect.unit (s := S36) ![v3.toNat] S1.size (k0_off1_inb i)) numel1_S1
  let c0_i32 : BitVec 32 := 0#32
  let v5 : BitVec 32 := Scalar.select v2 v4 c0_i32
  let c0_i32_0 : BitVec 32 := 0#32
  ![arg0.toNat, v5.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x2048 : Shape := ⟨3, ![2, 4096, 2048]⟩
abbrev S2x4096x1024 : Shape := ⟨3, ![2, 4096, 1024]⟩
abbrev S2x4096x8x256 : Shape := ⟨4, ![2, 4096, 8, 256]⟩
abbrev S2x4096x8x128 : Shape := ⟨4, ![2, 4096, 8, 128]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x8x4096x256 : Shape := ⟨4, ![2, 8, 4096, 256]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x2048, .bf16⟩
  | .hbm, ⟨3, _⟩ => ⟨S2x4096x1024, .bf16⟩
  | .hbm, ⟨4, _⟩ => ⟨S2x4096x8x256, .bf16⟩
  | .hbm, ⟨5, _⟩ => ⟨S2x4096x8x256, .f32⟩
  | .hbm, ⟨6, _⟩ => ⟨S2x4096x8x256, .bf16⟩
  | .hbm, ⟨7, _⟩ => ⟨S2x4096x8x256, .f32⟩
  | .hbm, ⟨8, _⟩ => ⟨S2x4096x1024, .bf16⟩
  | .hbm, ⟨9, _⟩ => ⟨S2x4096x8x128, .bf16⟩
  | .hbm, ⟨10, _⟩ => ⟨S2x4096x8x128, .f32⟩
  | .hbm, ⟨11, _⟩ => ⟨S2x4096x8x128, .bf16⟩
  | .hbm, ⟨12, _⟩ => ⟨S2x4096x8x128, .f32⟩
  | .hbm, ⟨13, _⟩ => ⟨S2x8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S2x8x4096x4096, .i1⟩
  | .hbm, ⟨24, _⟩ => ⟨S2x8x4096x4096, .f32⟩
  | .hbm, ⟨25, _⟩ => ⟨S2x8x4096x4096, .f32⟩
  | .hbm, ⟨26, _⟩ => ⟨S_, .f32⟩
  | .hbm, ⟨27, _⟩ => ⟨S2x8x4096x4096, .f32⟩
  | .hbm, ⟨28, _⟩ => ⟨S_, .f32⟩
  | .hbm, ⟨29, _⟩ => ⟨S2x8x4096, .f32⟩
  | .hbm, ⟨30, _⟩ => ⟨S2x8x4096x1, .f32⟩
  | .hbm, ⟨31, _⟩ => ⟨S2x8x4096x4096, .f32⟩
  | .hbm, ⟨32, _⟩ => ⟨S2x8x4096x4096, .i1⟩
  | .hbm, ⟨33, _⟩ => ⟨S2x8x4096x4096, .f32⟩
  | .hbm, ⟨34, _⟩ => ⟨S_, .f32⟩
  | .hbm, ⟨35, _⟩ => ⟨S2x8x4096, .f32⟩
  | .hbm, ⟨36, _⟩ => ⟨S_, .f32⟩
  | .hbm, ⟨37, _⟩ => ⟨S2x8x4096, .f32⟩
  | .hbm, ⟨38, _⟩ => ⟨S2x8x4096, .f32⟩
  | .hbm, ⟨39, _⟩ => ⟨S_, .f32⟩
  | .hbm, ⟨40, _⟩ => ⟨S2x8x4096, .f32⟩
  | .hbm, ⟨41, _⟩ => ⟨S2x8x4096, .i1⟩
  | .hbm, ⟨42, _⟩ => ⟨S_, .f32⟩
  | .hbm, ⟨43, _⟩ => ⟨S2x8x4096, .f32⟩
  | .hbm, ⟨44, _⟩ => ⟨S2x8x4096, .i1⟩
  | .hbm, ⟨45, _⟩ => ⟨S_, .f32⟩
  | .hbm, ⟨46, _⟩ => ⟨S2x8x4096, .f32⟩
  | .hbm, ⟨47, _⟩ => ⟨S_, .f32⟩
  | .hbm, ⟨48, _⟩ => ⟨S2x8x4096, .f32⟩
  | .hbm, ⟨49, _⟩ => ⟨S_, .f32⟩
  | .hbm, ⟨50, _⟩ => ⟨S2x8x4096, .f32⟩
  | .hbm, ⟨51, _⟩ => ⟨S2x8x4096, .f32⟩
  | .hbm, ⟨52, _⟩ => ⟨S2x8x4096, .f32⟩
  | .hbm, ⟨53, _⟩ => ⟨S2x8x4096x1, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S_, .f32⟩
  | .hbm, ⟨58, _⟩ => ⟨S2x8x4096, .f32⟩
  | .hbm, ⟨59, _⟩ => ⟨S2x8x4096x1, .f32⟩
  | .hbm, ⟨60, _⟩ => ⟨S2x8x4096x4096, .f32⟩
  | .hbm, ⟨61, _⟩ => ⟨S2x8x4096x4096, .f32⟩
  | .hbm, ⟨62, _⟩ => ⟨S2x8x4096x1, .f32⟩
  | .hbm, ⟨63, _⟩ => ⟨S_, .f32⟩
  | .hbm, ⟨64, _⟩ => ⟨S2x8x4096x1, .f32⟩
  | .hbm, ⟨65, _⟩ => ⟨S2x8x4096x1, .f32⟩
  | .hbm, ⟨66, _⟩ => ⟨S2x8x128x4096, .f32⟩
  | .hbm, ⟨67, _⟩ => ⟨S2x4096x8x128, .f32⟩
  | .hbm, ⟨68, _⟩ => ⟨S2x8x128x4096, .f32⟩
  | .hbm, ⟨69, _⟩ => ⟨S2x8x4096x4096, .f32⟩
  | .hbm, ⟨70, _⟩ => ⟨S2x8x128x4096, .f32⟩
  | .hbm, ⟨71, _⟩ => ⟨S2x4096x8x128, .f32⟩
  | .hbm, ⟨72, _⟩ => ⟨S2x8x4096x4096, .f32⟩
  | .hbm, ⟨73, _⟩ => ⟨S2x8x4096x4096, .f32⟩
  | .hbm, ⟨74, _⟩ => ⟨S2x8x4096x4096, .f32⟩
  | .hbm, ⟨75, _⟩ => ⟨S_, .f32⟩
  | .hbm, ⟨76, _⟩ => ⟨S2x8x4096, .f32⟩
  | .hbm, ⟨77, _⟩ => ⟨S2x8x4096x1, .f32⟩
  | .hbm, ⟨78, _⟩ => ⟨S2x8x4096x1, .f32⟩
  | .hbm, ⟨79, _⟩ => ⟨S2x8x4096x4096, .f32⟩
  | .hbm, ⟨80, _⟩ => ⟨S2x8x4096x4096, .f32⟩
  | .hbm, ⟨81, _⟩ => ⟨S_, .f32⟩
  | .hbm, ⟨82, _⟩ => ⟨S2x8x4096, .f32⟩
  | .hbm, ⟨83, _⟩ => ⟨S2x8x4096x4096, .f32⟩
  | .hbm, ⟨84, _⟩ => ⟨S2x8x4096x4096, .f32⟩
  | .hbm, ⟨85, _⟩ => ⟨S2x8x4096x4096, .f32⟩
  | .hbm, ⟨86, _⟩ => ⟨S_, .f32⟩
  | .hbm, ⟨87, _⟩ => ⟨S2x8x4096x4096, .f32⟩
  | .hbm, ⟨88, _⟩ => ⟨S2x8x4096x4096, .f32⟩
  | .hbm, ⟨89, _⟩ => ⟨S2x8x4096x256, .f32⟩
  | .hbm, ⟨90, _⟩ => ⟨S2x4096x8x256, .f32⟩
  | .hbm, ⟨91, _⟩ => ⟨S2x8x4096x256, .f32⟩
  | .hbm, ⟨92, _⟩ => ⟨S2x4096x8x256, .f32⟩
  | .hbm, ⟨93, _⟩ => ⟨S2x4096x2048, .f32⟩
  | .hbm, ⟨94, _⟩ => ⟨S2x4096x2048, .bf16⟩
  | .hbm, ⟨95, _⟩ => ⟨S2x4096x2048, .f32⟩
  | .hbm, ⟨96, _⟩ => ⟨S2x4096x2048, .bf16⟩
  | .hbm, ⟨97, _⟩ => ⟨S2x4096x1024, .f32⟩
  | .hbm, ⟨98, _⟩ => ⟨S2x4096x1024, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_v17_1 : Ref sig .tc := ⟨.hbm, 23, rfl⟩
abbrev main_call0_v2 : Ref sig .tc := ⟨.hbm, 24, rfl⟩
abbrev main_v17_0 : Ref sig .tc := ⟨.hbm, 25, rfl⟩
abbrev main_call0_cst : Ref sig .tc := ⟨.hbm, 26, rfl⟩
abbrev main_v17_2 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Ff2Dx.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S1024x4096, .bf16⟩
  | .hbm, ⟨8, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .bf16⟩
  | .hbm, ⟨2, _⟩ => ⟨S8192x1024, .bf16⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Ff2Dw.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1Dw.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ff1Dx.lean ====
abbrev S8192x4096 : Shape := ⟨2, ![8192, 4096]⟩
abbrev S1024x4096 : Shape := ⟨2, ![1024, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x8960 : Shape := ⟨2, ![8192, 8960]⟩
abbrev S1024x8960 : Shape := ⟨2, ![1024, 8960]⟩
abbrev S8960x1024 : Shape := ⟨2, ![8960, 1024]⟩
abbrev S8192x1024 : Shape := ⟨2, ![8192, 1024]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8960, .bf16⟩
  | .hbm, ⟨1, _⟩ => ⟨S1024x8960, .bf16⟩
  | .hbm, ⟨2, _⟩ => ⟨S8960x1024, .bf16⟩
  | .hbm, ⟨3, _⟩ => ⟨S8192x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x8960 : Shape := ⟨2, ![8192, 8960]⟩
abbrev S1024x8960 : Shape := ⟨2, ![1024, 8960]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x8960, .bf16⟩
  | .hbm, ⟨1, _⟩ => ⟨S1024x8960, .bf16⟩
  | .hbm, ⟨2, _⟩ => ⟨S_, .f32⟩
  | .hbm, ⟨3, _⟩ => ⟨S8192x1024, .f32⟩
  | .hbm, ⟨4, _⟩ => ⟨S1024x8960, .f32⟩
  | .hbm, ⟨5, _⟩ => ⟨S8192x8960, .f32⟩
  | .hbm, ⟨6, _⟩ => ⟨S8192x8960, .f32⟩
  | .hbm, ⟨7, _⟩ => ⟨S8192x1024, .f32⟩
  | .hbm, ⟨8, _⟩ => ⟨S8192x1024, .bf16⟩
  | _, _ => ⟨S8192x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S8192x1024 : Shape := ⟨2, ![8192, 1024]⟩
abbrev S8192x8960 : Shape := ⟨2, ![8192, 8960]⟩
abbrev S1024x8192 : Shape := ⟨2, ![1024, 8192]⟩
abbrev S1024x8960 : Shape := ⟨2, ![1024, 8960]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8960, .bf16⟩
  | .hbm, ⟨2, _⟩ => ⟨S1024x8192, .bf16⟩
  | .hbm, ⟨3, _⟩ => ⟨S1024x8960, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x8960 : Shape := ⟨2, ![8192, 8960]⟩
abbrev S_ : Shape := ⟨0, ![]⟩
abbrev S1024x8960 : Shape := ⟨2, ![1024, 8960]⟩
abbrev S8960x1024 : Shape := ⟨2, ![8960, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8960, .bf16⟩
  | .hbm, ⟨2, _⟩ => ⟨S_, .f32⟩
  | .hbm, ⟨3, _⟩ => ⟨S1024x8960, .f32⟩
  | .hbm, ⟨4, _⟩ => ⟨S8192x1024, .f32⟩
  | .hbm, ⟨5, _⟩ => ⟨S8192x8960, .f32⟩
  | .hbm, ⟨6, _⟩ => ⟨S8192x8960, .f32⟩
  | .hbm, ⟨7, _⟩ => ⟨S8960x1024, .f32⟩
  | .hbm, ⟨8, _⟩ => ⟨S1024x8960, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1Fwd.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1FwdRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ff2Fwd.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2FwdRefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | .hbm, ⟨5, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InFwd.lean ====
abbrev S8192x1024 : Shape := ⟨2, ![8192, 1024]⟩
abbrev S1024x8960 : Shape := ⟨2, ![1024, 8960]⟩
abbrev S1024x8192 : Shape := ⟨2, ![1024, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8960, .bf16⟩
  | .hbm, ⟨2, _⟩ => ⟨S1024x8192, .bf16⟩
  | .hbm, ⟨3, _⟩ => ⟨S8192x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x1024 : Shape := ⟨2, ![8192, 1024]⟩
abbrev S1024x8960 : Shape := ⟨2, ![1024, 8960]⟩
abbrev S1024x8192 : Shape := ⟨2, ![1024, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8960, .bf16⟩
  | .hbm, ⟨2, _⟩ => ⟨S1024x8192, .bf16⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmFwd.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmFwdRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SsmDx.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S1024x2048, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamAda.lean ====
abbrev S1x1024x1536 : Shape := ⟨3, ![1, 1024, 1536]⟩
abbrev S512x1536 : Shape := ⟨2, ![512, 1536]⟩
abbrev S1 : Shape := ⟨1, ![1]⟩
abbrev S1x128x1536 : Shape := ⟨3, ![1, 128, 1536]⟩
abbrev S128x1536 : Shape := ⟨2, ![128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1536, .f32⟩
  | .hbm, ⟨1, _⟩ => ⟨S512x1536, .f32⟩
  | .hbm, ⟨2, _⟩ => ⟨S512x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .hbm, ⟨7, _⟩ => ⟨S1x1024x1536, .f32⟩
  | .hbm, ⟨8, _⟩ => ⟨S1x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | .local _ .smem, ⟨0, _⟩ => ⟨S1, .i32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaIdeal.lean ====
abbrev S1x1024x1536 : Shape := ⟨3, ![1, 1024, 1536]⟩
abbrev S512x1536 : Shape := ⟨2, ![512, 1536]⟩
abbrev S1 : Shape := ⟨1, ![1]⟩
abbrev S1x128x1536 : Shape := ⟨3, ![1, 128, 1536]⟩
abbrev S128x1536 : Shape := ⟨2, ![128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1536, .f32⟩
  | .hbm, ⟨1, _⟩ => ⟨S512x1536, .f32⟩
  | .hbm, ⟨2, _⟩ => ⟨S512x1536, .f32⟩
  | .hbm, ⟨3, _⟩ => ⟨S1x1024x1536, .f32⟩
  | .hbm, ⟨4, _⟩ => ⟨S1x1024x1536, .f32⟩
  | .hbm, ⟨5, _⟩ => ⟨S1x1024x1536, .f32⟩
  | .hbm, ⟨6, _⟩ => ⟨S1x1024x1536, .f32⟩
  | .hbm, ⟨7, _⟩ => ⟨S1x1024x1536, .f32⟩
  | .hbm, ⟨8, _⟩ => ⟨S1x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | .local _ .smem, ⟨0, _⟩ => ⟨S1, .i32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaRefIdeal.lean ====
abbrev S1x1024x1536 : Shape := ⟨3, ![1, 1024, 1536]⟩
abbrev S512x1536 : Shape := ⟨2, ![512, 1536]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x512x1536 : Shape := ⟨3, ![2, 512, 1536]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S512x1536, .f32⟩
  | .hbm, ⟨2, _⟩ => ⟨S512x1536, .f32⟩
  | .hbm, ⟨3, _⟩ => ⟨S1, .i32⟩
  | .hbm, ⟨4, _⟩ => ⟨S1x1024x1536, .f32⟩
  | .hbm, ⟨5, _⟩ => ⟨S1x1024x1536, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x512x1536, .i1⟩
  | .hbm, ⟨12, _⟩ => ⟨S2x512x1536, .f32⟩
  | .hbm, ⟨13, _⟩ => ⟨S2x512x1536, .f32⟩
  | .hbm, ⟨14, _⟩ => ⟨S2x512x1536, .f32⟩
  | .hbm, ⟨15, _⟩ => ⟨S1x1024x1536, .f32⟩
  | .hbm, ⟨16, _⟩ => ⟨S_, .f32⟩
  | .hbm, ⟨17, _⟩ => ⟨S1x1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S1x1024x1536, .f32⟩
  | .hbm, ⟨23, _⟩ => ⟨S_, .f32⟩
  | .hbm, ⟨24, _⟩ => ⟨S1x1024x1536, .f32⟩
  | .hbm, ⟨25, _⟩ => ⟨S1x1024x1536, .f32⟩
  | .hbm, ⟨26, _⟩ => ⟨S1x1024x1536, .f32⟩
  | .hbm, ⟨27, _⟩ => ⟨S_, .f32⟩
  | .hbm, ⟨28, _⟩ => ⟨S1x1024x1536, .f32⟩
  | .hbm, ⟨29, _⟩ => ⟨S1x1024x1536, .f32⟩
  | .hbm, ⟨30, _⟩ => ⟨S1x1024x1536, .f32⟩
  | .hbm, ⟨31, _⟩ => ⟨S_, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | .hbm, ⟨37, _⟩ => ⟨S1x1024x1536, .f32⟩
  | .hbm, ⟨38, _⟩ => ⟨S_, .f32⟩
  | .hbm, ⟨39, _⟩ => ⟨S1x1024x1536, .f32⟩
  | .hbm, ⟨40, _⟩ => ⟨S1x1024x1536, .f32⟩
  | .hbm, ⟨41, _⟩ => ⟨S1x1024x1536, .f32⟩
  | .hbm, ⟨42, _⟩ => ⟨S_, .f32⟩
  | .hbm, ⟨43, _⟩ => ⟨S1x1024x1536, .f32⟩
  | .hbm, ⟨44, _⟩ => ⟨S1x1024x1536, .f32⟩
  | .hbm, ⟨45, _⟩ => ⟨S1x1024x1536, .f32⟩
  | .hbm, ⟨46, _⟩ => ⟨S_, .f32⟩
  | .hbm, ⟨47, _⟩ => ⟨S1x1024x1536, .f32⟩
  | .hbm, ⟨48, _⟩ => ⟨S1x1024x1536, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamIn.lean ====
abbrev S1x1024x2200 : Shape := ⟨3, ![1, 1024, 2200]⟩
abbrev S512x2200 : Shape := ⟨2, ![512, 2200]⟩
abbrev S1 : Shape := ⟨1, ![1]⟩
abbrev S1x128x2200 : Shape := ⟨3, ![1, 128, 2200]⟩
abbrev S128x2200 : Shape := ⟨2, ![128, 2200]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x2200, .f32⟩
  | .hbm, ⟨1, _⟩ => ⟨S512x2200, .f32⟩
  | .hbm, ⟨2, _⟩ => ⟨S512x2200, .f32⟩
  | .hbm, ⟨3, _⟩ => ⟨S1x1024x2200, .f32⟩
  | .hbm, ⟨4, _⟩ => ⟨S1x1024x2200, .f32⟩
  | .hbm, ⟨5, _⟩ => ⟨S1x1024x2200, .f32⟩
  | .hbm, ⟨6, _⟩ => ⟨S1x1024x2200, .f32⟩
  | .hbm, ⟨7, _⟩ => ⟨S1x1024x2200, .f32⟩
  | .hbm, ⟨8, _⟩ => ⟨S1x1024x2200, .f32⟩
  | .local _ .vmem, ⟨0, _⟩ => ⟨S1x128x2200, .f32⟩
  | .local _ .vmem, ⟨1, _⟩ => ⟨S1x128x2200, .f32⟩
  | .local _ .vmem, ⟨2, _⟩ => ⟨S128x2200, .f32⟩
  | .local _ .vmem, ⟨3, _⟩ => ⟨S128x2200, .f32⟩
  | .local _ .vmem, ⟨4, _⟩ => ⟨S128x2200, .f32⟩
  | .local _ .vmem, ⟨5, _⟩ => ⟨S128x2200, .f32⟩
  | .local _ .vmem, ⟨6, _⟩ => ⟨S1x128x2200, .f32⟩
  | .local _ .vmem, ⟨7, _⟩ => ⟨S1x128x2200, .f32⟩
  | .local _ .vmem, ⟨8, _⟩ => ⟨S1x128x2200, .f32⟩
  | .local _ .vmem, ⟨9, _⟩ => ⟨S1x128x2200, .f32⟩
  | .local _ .vmem, ⟨10, _⟩ => ⟨S1x128x2200, .f32⟩
  | .local _ .vmem, ⟨11, _⟩ => ⟨S1x128x2200, .f32⟩
  | .local _ .vmem, ⟨12, _⟩ => ⟨S1x128x2200, .f32⟩
  | .local _ .vmem, ⟨13, _⟩ => ⟨S1x128x2200, .f32⟩
  | .local _ .vmem, ⟨14, _⟩ => ⟨S1x128x2200, .f32⟩
  | .local _ .vmem, ⟨15, _⟩ => ⟨S1x128x2200, .f32⟩
  | .local _ .vmem, ⟨16, _⟩ => ⟨S1x128x2200, .f32⟩
  | .local _ .vmem, ⟨17, _⟩ => ⟨S1x128x2200, .f32⟩
  | .local _ .smem, ⟨0, _⟩ => ⟨S1, .i32⟩
  | _, _ => ⟨S1x1024x2200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1x1024x2200 : Shape := ⟨3, ![1, 1024, 2200]⟩
abbrev S512x2200 : Shape := ⟨2, ![512, 2200]⟩
abbrev S1 : Shape := ⟨1, ![1]⟩
abbrev S1x128x2200 : Shape := ⟨3, ![1, 128, 2200]⟩
abbrev S128x2200 : Shape := ⟨2, ![128, 2200]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x2200, .f32⟩
  | .hbm, ⟨1, _⟩ => ⟨S512x2200, .f32⟩
  | .hbm, ⟨2, _⟩ => ⟨S512x2200, .f32⟩
  | .hbm, ⟨3, _⟩ => ⟨S1x1024x2200, .f32⟩
  | .hbm, ⟨4, _⟩ => ⟨S1x1024x2200, .f32⟩
  | .hbm, ⟨5, _⟩ => ⟨S1x1024x2200, .f32⟩
  | .hbm, ⟨6, _⟩ => ⟨S1x1024x2200, .f32⟩
  | .hbm, ⟨7, _⟩ => ⟨S1x1024x2200, .f32⟩
  | .hbm, ⟨8, _⟩ => ⟨S1x1024x2200, .f32⟩
  | .local _ .vmem, ⟨0, _⟩ => ⟨S1x128x2200, .f32⟩
  | .local _ .vmem, ⟨1, _⟩ => ⟨S1x128x2200, .f32⟩
  | .local _ .vmem, ⟨2, _⟩ => ⟨S128x2200, .f32⟩
  | .local _ .vmem, ⟨3, _⟩ => ⟨S128x2200, .f32⟩
  | .local _ .vmem, ⟨4, _⟩ => ⟨S128x2200, .f32⟩
  | .local _ .vmem, ⟨5, _⟩ => ⟨S128x2200, .f32⟩
  | .local _ .vmem, ⟨6, _⟩ => ⟨S1x128x2200, .f32⟩
  | .local _ .vmem, ⟨7, _⟩ => ⟨S1x128x2200, .f32⟩
  | .local _ .vmem, ⟨8, _⟩ => ⟨S1x128x2200, .f32⟩
  | .local _ .vmem, ⟨9, _⟩ => ⟨S1x128x2200, .f32⟩
  | .local _ .vmem, ⟨10, _⟩ => ⟨S1x128x2200, .f32⟩
  | .local _ .vmem, ⟨11, _⟩ => ⟨S1x128x2200, .f32⟩
  | .local _ .vmem, ⟨12, _⟩ => ⟨S1x128x2200, .f32⟩
  | .local _ .vmem, ⟨13, _⟩ => ⟨S1x128x2200, .f32⟩
  | .local _ .vmem, ⟨14, _⟩ => ⟨S1x128x2200, .f32⟩
  | .local _ .vmem, ⟨15, _⟩ => ⟨S1x128x2200, .f32⟩
  | .local _ .vmem, ⟨16, _⟩ => ⟨S1x128x2200, .f32⟩
  | .local _ .vmem, ⟨17, _⟩ => ⟨S1x128x2200, .f32⟩
  | .local _ .smem, ⟨0, _⟩ => ⟨S1, .i32⟩
  | _, _ => ⟨S1x1024x2200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1x1024x2200 : Shape := ⟨3, ![1, 1024, 2200]⟩
abbrev S512x2200 : Shape := ⟨2, ![512, 2200]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x512x2200 : Shape := ⟨3, ![2, 512, 2200]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x2200, .f32⟩
  | .hbm, ⟨1, _⟩ => ⟨S512x2200, .f32⟩
  | .hbm, ⟨2, _⟩ => ⟨S512x2200, .f32⟩
  | .hbm, ⟨3, _⟩ => ⟨S1, .i32⟩
  | .hbm, ⟨4, _⟩ => ⟨S1x1024x2200, .f32⟩
  | .hbm, ⟨5, _⟩ => ⟨S1x1024x2200, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x512x2200, .i1⟩
  | .hbm, ⟨12, _⟩ => ⟨S2x512x2200, .f32⟩
  | .hbm, ⟨13, _⟩ => ⟨S2x512x2200, .f32⟩
  | .hbm, ⟨14, _⟩ => ⟨S2x512x2200, .f32⟩
  | .hbm, ⟨15, _⟩ => ⟨S1x1024x2200, .f32⟩
  | .hbm, ⟨16, _⟩ => ⟨S_, .f32⟩
  | .hbm, ⟨17, _⟩ => ⟨S1x1024x2200, .f32⟩
  | .hbm, ⟨18, _⟩ => ⟨S1x1024x2200, .f32⟩
  | .hbm, ⟨19, _⟩ => ⟨S_, .f32⟩
  | .hbm, ⟨20, _⟩ => ⟨S1x1024x2200, .f32⟩
  | .hbm, ⟨21, _⟩ => ⟨S1x1024x2200, .f32⟩
  | .hbm, ⟨22, _⟩ => ⟨S1x1024x2200, .f32⟩
  | .hbm, ⟨23, _⟩ => ⟨S_, .f32⟩
  | .hbm, ⟨24, _⟩ => ⟨S1x1024x2200, .f32⟩
  | .hbm, ⟨25, _⟩ => ⟨S1x1024x2200, .f32⟩
  | .hbm, ⟨26, _⟩ => ⟨S1x1024x2200, .f32⟩
  | .hbm, ⟨27, _⟩ => ⟨S_, .f32⟩
  | .hbm, ⟨28, _⟩ => ⟨S1x1024x2200, .f32⟩
  | .hbm, ⟨29, _⟩ => ⟨S1x1024x2200, .f32⟩
  | .hbm, ⟨30, _⟩ => ⟨S1x1024x2200, .f32⟩
  | .hbm, ⟨31, _⟩ => ⟨S_, .f32⟩
  | .hbm, ⟨32, _⟩ => ⟨S1x1024x2200, .f32⟩
  | .hbm, ⟨33, _⟩ => ⟨S1x1024x2200, .f32⟩
  | .hbm, ⟨34, _⟩ => ⟨S_, .f32⟩
  | .hbm, ⟨35, _⟩ => ⟨S1x1024x2200, .f32⟩
  | .hbm, ⟨36, _⟩ => ⟨S1x1024x2200, .f32⟩
  | .hbm, ⟨37, _⟩ => ⟨S1x1024x2200, .f32⟩
  | .hbm, ⟨38, _⟩ => ⟨S_, .f32⟩
  | .hbm, ⟨39, _⟩ => ⟨S1x1024x2200, .f32⟩
  | .hbm, ⟨40, _⟩ => ⟨S1x1024x2200, .f32⟩
  | .hbm, ⟨41, _⟩ => ⟨S1x1024x2200, .f32⟩
  | .hbm, ⟨42, _⟩ => ⟨S_, .f32⟩
  | .hbm, ⟨43, _⟩ => ⟨S1x1024x2200, .f32⟩
  | .hbm, ⟨44, _⟩ => ⟨S1x1024x2200, .f32⟩
  | .hbm, ⟨45, _⟩ => ⟨S1x1024x2200, .f32⟩
  | .hbm, ⟨46, _⟩ => ⟨S_, .f32⟩
  | .hbm, ⟨47, _⟩ => ⟨S1x1024x2200, .f32⟩
  | .hbm, ⟨48, _⟩ => ⟨S1x1024x2200, .f32⟩
  | _, _ => ⟨S1x1024x2200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamUq.lean ====
abbrev S1x256x384 : Shape := ⟨3, ![1, 256, 384]⟩
abbrev S128x384 : Shape := ⟨2, ![128, 384]⟩
abbrev S1 : Shape := ⟨1, ![1]⟩
abbrev S1x128x384 : Shape := ⟨3, ![1, 128, 384]⟩

abbrev nBuf : Space → Nat
  | .hbm => 9
  | .vmem => 16
  | .smem => 1
  | _ => 0

abbrev bufTy : (tb : Table) → Fin (tcTables nBuf tb) → BufTy
  | .hbm, ⟨0, _⟩ => ⟨S1x256x384, .f32⟩
  | .hbm, ⟨1, _⟩ => ⟨S128x384, .f32⟩
  | .hbm, ⟨2, _⟩ => ⟨S128x384, .f32⟩
  | .hbm, ⟨3, _⟩ => ⟨S1x256x384, .f32⟩
  | .hbm, ⟨4, _⟩ => ⟨S1x256x384, .f32⟩
  | .hbm, ⟨5, _⟩ => ⟨S1x256x384, .f32⟩
  | .hbm, ⟨6, _⟩ => ⟨S1x256x384, .f32⟩
  | .hbm, ⟨7, _⟩ => ⟨S1x256x384, .f32⟩
  | .hbm, ⟨8, _⟩ => ⟨S1x256x384, .f32⟩
  | .local _ .vmem, ⟨0, _⟩ => ⟨S1x128x384, .f32⟩
  | .local _ .vmem, ⟨1, _⟩ => ⟨S1x128x384, .f32⟩
  | .local _ .vmem, ⟨2, _⟩ => ⟨S128x384, .f32⟩
  | .local _ .vmem, ⟨3, _⟩ => ⟨S128x384, .f32⟩
  | .local _ .vmem, ⟨4, _⟩ => ⟨S1x128x384, .f32⟩
  | .local _ .vmem, ⟨5, _⟩ => ⟨S1x128x384, .f32⟩
  | .local _ .vmem, ⟨6, _⟩ => ⟨S1x128x384, .f32⟩
  | .local _ .vmem, ⟨7, _⟩ => ⟨S1x128x384, .f32⟩
  | .local _ .vmem, ⟨8, _⟩ => ⟨S1x128x384, .f32⟩
  | .local _ .vmem, ⟨9, _⟩ => ⟨S1x128x384, .f32⟩
  | .local _ .vmem, ⟨10, _⟩ => ⟨S1x128x384, .f32⟩
  | .local _ .vmem, ⟨11, _⟩ => ⟨S1x128x384, .f32⟩
  | .local _ .vmem, ⟨12, _⟩ => ⟨S1x128x384, .f32⟩
  | .local _ .vmem, ⟨13, _⟩ => ⟨S1x128x384, .f32⟩
  | .local _ .vmem, ⟨14, _⟩ => ⟨S1x128x384, .f32⟩
  | .local _ .vmem, ⟨15, _⟩ => ⟨S1x128x384, .f32⟩
  | .local _ .smem, ⟨0, _⟩ => ⟨S1, .i32⟩
  | _, _ => ⟨S1x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUqIdeal.lean ====
abbrev S1x256x384 : Shape := ⟨3, ![1, 256, 384]⟩
abbrev S128x384 : Shape := ⟨2, ![128, 384]⟩
abbrev S1 : Shape := ⟨1, ![1]⟩
abbrev S1x128x384 : Shape := ⟨3, ![1, 128, 384]⟩

abbrev nBuf : Space → Nat
  | .hbm => 9
  | .vmem => 16
  | .smem => 1
  | _ => 0

abbrev bufTy : (tb : Table) → Fin (tcTables nBuf tb) → BufTy
  | .hbm, ⟨0, _⟩ => ⟨S1x256x384, .f32⟩
  | .hbm, ⟨1, _⟩ => ⟨S128x384, .f32⟩
  | .hbm, ⟨2, _⟩ => ⟨S128x384, .f32⟩
  | .hbm, ⟨3, _⟩ => ⟨S1x256x384, .f32⟩
  | .hbm, ⟨4, _⟩ => ⟨S1x256x384, .f32⟩
  | .hbm, ⟨5, _⟩ => ⟨S1x256x384, .f32⟩
  | .hbm, ⟨6, _⟩ => ⟨S1x256x384, .f32⟩
  | .hbm, ⟨7, _⟩ => ⟨S1x256x384, .f32⟩
  | .hbm, ⟨8, _⟩ => ⟨S1x256x384, .f32⟩
  | .local _ .vmem, ⟨0, _⟩ => ⟨S1x128x384, .f32⟩
  | .local _ .vmem, ⟨1, _⟩ => ⟨S1x128x384, .f32⟩
  | .local _ .vmem, ⟨2, _⟩ => ⟨S128x384, .f32⟩
  | .local _ .vmem, ⟨3, _⟩ => ⟨S128x384, .f32⟩
  | .local _ .vmem, ⟨4, _⟩ => ⟨S1x128x384, .f32⟩
  | .local _ .vmem, ⟨5, _⟩ => ⟨S1x128x384, .f32⟩
  | .local _ .vmem, ⟨6, _⟩ => ⟨S1x128x384, .f32⟩
  | .local _ .vmem, ⟨7, _⟩ => ⟨S1x128x384, .f32⟩
  | .local _ .vmem, ⟨8, _⟩ => ⟨S1x128x384, .f32⟩
  | .local _ .vmem, ⟨9, _⟩ => ⟨S1x128x384, .f32⟩
  | .local _ .vmem, ⟨10, _⟩ => ⟨S1x128x384, .f32⟩
  | .local _ .vmem, ⟨11, _⟩ => ⟨S1x128x384, .f32⟩
  | .local _ .vmem, ⟨12, _⟩ => ⟨S1x128x384, .f32⟩
  | .local _ .vmem, ⟨13, _⟩ => ⟨S1x128x384, .f32⟩
  | .local _ .vmem, ⟨14, _⟩ => ⟨S1x128x384, .f32⟩
  | .local _ .vmem, ⟨15, _⟩ => ⟨S1x128x384, .f32⟩
  | .local _ .smem, ⟨0, _⟩ => ⟨S1, .i32⟩
  | _, _ => ⟨S1x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUqRefIdeal.lean ====
abbrev S1x256x384 : Shape := ⟨3, ![1, 256, 384]⟩
abbrev S128x384 : Shape := ⟨2, ![128, 384]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x128x384 : Shape := ⟨3, ![2, 128, 384]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x256x384, .f32⟩
  | .hbm, ⟨1, _⟩ => ⟨S128x384, .f32⟩
  | .hbm, ⟨2, _⟩ => ⟨S128x384, .f32⟩
  | .hbm, ⟨3, _⟩ => ⟨S1, .i32⟩
  | .hbm, ⟨4, _⟩ => ⟨S1x256x384, .f32⟩
  | .hbm, ⟨5, _⟩ => ⟨S1x256x384, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x128x384, .i1⟩
  | .hbm, ⟨12, _⟩ => ⟨S2x128x384, .f32⟩
  | .hbm, ⟨13, _⟩ => ⟨S2x128x384, .f32⟩
  | .hbm, ⟨14, _⟩ => ⟨S2x128x384, .f32⟩
  | .hbm, ⟨15, _⟩ => ⟨S1x256x384, .f32⟩
  | .hbm, ⟨16, _⟩ => ⟨S_, .f32⟩
  | .hbm, ⟨17, _⟩ => ⟨S1x256x384, .f32⟩
  | .hbm, ⟨18, _⟩ => ⟨S1x256x384, .f32⟩
  | .hbm, ⟨19, _⟩ => ⟨S_, .f32⟩
  | .hbm, ⟨20, _⟩ => ⟨S1x256x384, .f32⟩
  | .hbm, ⟨21, _⟩ => ⟨S1x256x384, .f32⟩
  | .hbm, ⟨22, _⟩ => ⟨S1x256x384, .f32⟩
  | .hbm, ⟨23, _⟩ => ⟨S_, .f32⟩
  | .hbm, ⟨24, _⟩ => ⟨S1x256x384, .f32⟩
  | .hbm, ⟨25, _⟩ => ⟨S1x256x384, .f32⟩
  | .hbm, ⟨26, _⟩ => ⟨S1x256x384, .f32⟩
  | .hbm, ⟨27, _⟩ => ⟨S_, .f32⟩
  | .hbm, ⟨28, _⟩ => ⟨S1x256x384, .f32⟩
  | .hbm, ⟨29, _⟩ => ⟨S1x256x384, .f32⟩
  | .hbm, ⟨30, _⟩ => ⟨S1x256x384, .f32⟩
  | .hbm, ⟨31, _⟩ => ⟨S_, .f32⟩
  | .hbm, ⟨32, _⟩ => ⟨S1x256x384, .f32⟩
  | .hbm, ⟨33, _⟩ => ⟨S1x256x384, .f32⟩
  | .hbm, ⟨34, _⟩ => ⟨S_, .f32⟩
  | .hbm, ⟨35, _⟩ => ⟨S1x256x384, .f32⟩
  | .hbm, ⟨36, _⟩ => ⟨S1x256x384, .f32⟩
  | .hbm, ⟨37, _⟩ => ⟨S1x256x384, .f32⟩
  | .hbm, ⟨38, _⟩ => ⟨S_, .f32⟩
  | .hbm, ⟨39, _⟩ => ⟨S1x256x384, .f32⟩
  | .hbm, ⟨40, _⟩ => ⟨S1x256x384, .f32⟩
  | .hbm, ⟨41, _⟩ => ⟨S1x256x384, .f32⟩
  | .hbm, ⟨42, _⟩ => ⟨S_, .f32⟩
  | .hbm, ⟨43, _⟩ => ⟨S1x256x384, .f32⟩
  | .hbm, ⟨44, _⟩ => ⟨S1x256x384, .f32⟩
  | .hbm, ⟨45, _⟩ => ⟨S1x256x384, .f32⟩
  | .hbm, ⟨46, _⟩ => ⟨S_, .f32⟩
  | .hbm, ⟨47, _⟩ => ⟨S1x256x384, .f32⟩
  | .hbm, ⟨48, _⟩ => ⟨S1x256x384, .f32⟩
  | _, _ => ⟨S1x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamUkv.lean ====
abbrev S1x256x512 : Shape := ⟨3, ![1, 256, 512]⟩
abbrev S128x512 : Shape := ⟨2, ![128, 512]⟩
abbrev S1 : Shape := ⟨1, ![1]⟩
abbrev S1x128x512 : Shape := ⟨3, ![1, 128, 512]⟩

abbrev nBuf : Space → Nat
  | .hbm => 9
  | .vmem => 16
  | .smem => 1
  | _ => 0

abbrev bufTy : (tb : Table) → Fin (tcTables nBuf tb) → BufTy
  | .hbm, ⟨0, _⟩ => ⟨S1x256x512, .f32⟩
  | .hbm, ⟨1, _⟩ => ⟨S128x512, .f32⟩
  | .hbm, ⟨2, _⟩ => ⟨S128x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .local _ .vmem, ⟨0, _⟩ => ⟨S1x128x512, .f32⟩
  | .local _ .vmem, ⟨1, _⟩ => ⟨S1x128x512, .f32⟩
  | .local _ .vmem, ⟨2, _⟩ => ⟨S128x512, .f32⟩
  | .local _ .vmem, ⟨3, _⟩ => ⟨S128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .smem, ⟨0, _⟩ => ⟨S1, .i32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUkvIdeal.lean ====
abbrev S1x256x512 : Shape := ⟨3, ![1, 256, 512]⟩
abbrev S128x512 : Shape := ⟨2, ![128, 512]⟩
abbrev S1 : Shape := ⟨1, ![1]⟩
abbrev S1x128x512 : Shape := ⟨3, ![1, 128, 512]⟩

abbrev nBuf : Space → Nat
  | .hbm => 9
  | .vmem => 16
  | .smem => 1
  | _ => 0

abbrev bufTy : (tb : Table) → Fin (tcTables nBuf tb) → BufTy
  | .hbm, ⟨0, _⟩ => ⟨S1x256x512, .f32⟩
  | .hbm, ⟨1, _⟩ => ⟨S128x512, .f32⟩
  | .hbm, ⟨2, _⟩ => ⟨S128x512, .f32⟩
  | .hbm, ⟨3, _⟩ => ⟨S1x256x512, .f32⟩
  | .hbm, ⟨4, _⟩ => ⟨S1x256x512, .f32⟩
  | .hbm, ⟨5, _⟩ => ⟨S1x256x512, .f32⟩
  | .hbm, ⟨6, _⟩ => ⟨S1x256x512, .f32⟩
  | .hbm, ⟨7, _⟩ => ⟨S1x256x512, .f32⟩
  | .hbm, ⟨8, _⟩ => ⟨S1x256x512, .f32⟩
  | .local _ .vmem, ⟨0, _⟩ => ⟨S1x128x512, .f32⟩
  | .local _ .vmem, ⟨1, _⟩ => ⟨S1x128x512, .f32⟩
  | .local _ .vmem, ⟨2, _⟩ => ⟨S128x512, .f32⟩
  | .local _ .vmem, ⟨3, _⟩ => ⟨S128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .smem, ⟨0, _⟩ => ⟨S1, .i32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUkvRefIdeal.lean ====
abbrev S1x256x512 : Shape := ⟨3, ![1, 256, 512]⟩
abbrev S128x512 : Shape := ⟨2, ![128, 512]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x128x512 : Shape := ⟨3, ![2, 128, 512]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x256x512, .f32⟩
  | .hbm, ⟨1, _⟩ => ⟨S128x512, .f32⟩
  | .hbm, ⟨2, _⟩ => ⟨S128x512, .f32⟩
  | .hbm, ⟨3, _⟩ => ⟨S1, .i32⟩
  | .hbm, ⟨4, _⟩ => ⟨S1x256x512, .f32⟩
  | .hbm, ⟨5, _⟩ => ⟨S1x256x512, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x128x512, .i1⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S1x256x512, .f32⟩
  | .hbm, ⟨16, _⟩ => ⟨S_, .f32⟩
  | .hbm, ⟨17, _⟩ => ⟨S1x256x512, .f32⟩
  | .hbm, ⟨18, _⟩ => ⟨S1x256x512, .f32⟩
  | .hbm, ⟨19, _⟩ => ⟨S_, .f32⟩
  | .hbm, ⟨20, _⟩ => ⟨S1x256x512, .f32⟩
  | .hbm, ⟨21, _⟩ => ⟨S1x256x512, .f32⟩
  | .hbm, ⟨22, _⟩ => ⟨S1x256x512, .f32⟩
  | .hbm, ⟨23, _⟩ => ⟨S_, .f32⟩
  | .hbm, ⟨24, _⟩ => ⟨S1x256x512, .f32⟩
  | .hbm, ⟨25, _⟩ => ⟨S1x256x512, .f32⟩
  | .hbm, ⟨26, _⟩ => ⟨S1x256x512, .f32⟩
  | .hbm, ⟨27, _⟩ => ⟨S_, .f32⟩
  | .hbm, ⟨28, _⟩ => ⟨S1x256x512, .f32⟩
  | .hbm, ⟨29, _⟩ => ⟨S1x256x512, .f32⟩
  | .hbm, ⟨30, _⟩ => ⟨S1x256x512, .f32⟩
  | .hbm, ⟨31, _⟩ => ⟨S_, .f32⟩
  | .hbm, ⟨32, _⟩ => ⟨S1x256x512, .f32⟩
  | .hbm, ⟨33, _⟩ => ⟨S1x256x512, .f32⟩
  | .hbm, ⟨34, _⟩ => ⟨S_, .f32⟩
  | .hbm, ⟨35, _⟩ => ⟨S1x256x512, .f32⟩
  | .hbm, ⟨36, _⟩ => ⟨S1x256x512, .f32⟩
  | .hbm, ⟨37, _⟩ => ⟨S1x256x512, .f32⟩
  | .hbm, ⟨38, _⟩ => ⟨S_, .f32⟩
  | .hbm, ⟨39, _⟩ => ⟨S1x256x512, .f32⟩
  | .hbm, ⟨40, _⟩ => ⟨S1x256x512, .f32⟩
  | .hbm, ⟨41, _⟩ => ⟨S1x256x512, .f32⟩
  | .hbm, ⟨42, _⟩ => ⟨S_, .f32⟩
  | .hbm, ⟨43, _⟩ => ⟨S1x256x512, .f32⟩
  | .hbm, ⟨44, _⟩ => ⟨S1x256x512, .f32⟩
  | .hbm, ⟨45, _⟩ => ⟨S1x256x512, .f32⟩
  | .hbm, ⟨46, _⟩ => ⟨S_, .f32⟩
  | .hbm, ⟨47, _⟩ => ⟨S1x256x512, .f32⟩
  | .hbm, ⟨48, _⟩ => ⟨S1x256x512, .f32⟩
  | _, _ => ⟨S1x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamOut.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S1x256x1024 : Shape := ⟨3, ![1, 256, 1024]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1x256x1024 : Shape := ⟨3, ![1, 256, 1024]⟩
abbrev S128x1024 : Shape := ⟨2, ![128, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x128x1024 : Shape := ⟨3, ![2, 128, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1, .i32⟩
  | .hbm, ⟨4, _⟩ => ⟨S1x256x1024, .f32⟩
  | .hbm, ⟨5, _⟩ => ⟨S1x256x1024, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x128x1024, .i1⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamSsm.lean ====
abbrev S1x512x1024 : Shape := ⟨3, ![1, 512, 1024]⟩
abbrev S256x1024 : Shape := ⟨2, ![256, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsmIdeal.lean ====
abbrev S1x512x1024 : Shape := ⟨3, ![1, 512, 1024]⟩
abbrev S256x1024 : Shape := ⟨2, ![256, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSsmRefIdeal.lean ====
abbrev S1x512x1024 : Shape := ⟨3, ![1, 512, 1024]⟩
abbrev S256x1024 : Shape := ⟨2, ![256, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x256x1024 : Shape := ⟨3, ![2, 256, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1, .i32⟩
  | .hbm, ⟨4, _⟩ => ⟨S1x512x1024, .f32⟩
  | .hbm, ⟨5, _⟩ => ⟨S1x512x1024, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x256x1024, .i1⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S_, .f32⟩
  | .hbm, ⟨43, _⟩ => ⟨S1x512x1024, .f32⟩
  | .hbm, ⟨44, _⟩ => ⟨S1x512x1024, .f32⟩
  | .hbm, ⟨45, _⟩ => ⟨S1x512x1024, .f32⟩
  | .hbm, ⟨46, _⟩ => ⟨S_, .f32⟩
  | .hbm, ⟨47, _⟩ => ⟨S1x512x1024, .f32⟩
  | .hbm, ⟨48, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamFf.lean ====
abbrev S1x1024x1024 : Shape := ⟨3, ![1, 1024, 1024]⟩
abbrev S512x1024 : Shape := ⟨2, ![512, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfRefIdeal.lean ====
abbrev S1x1024x1024 : Shape := ⟨3, ![1, 1024, 1024]⟩
abbrev S512x1024 : Shape := ⟨2, ![512, 1024]⟩
abbrev S1 : Shape := ⟨1, ![1]⟩
abbrev S2 : Shape := ⟨1, ![2]⟩
abbrev S2x1x1 : Shape := ⟨3, ![2, 1, 1]⟩
abbrev S1x1x1 : Shape := ⟨3, ![1, 1, 1]⟩
abbrev S2x512x1024 : Shape := ⟨3, ![2, 512, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S512x1024, .f32⟩
  | .hbm, ⟨2, _⟩ => ⟨S512x1024, .f32⟩
  | .hbm, ⟨3, _⟩ => ⟨S1, .i32⟩
  | .hbm, ⟨4, _⟩ => ⟨S1x1024x1024, .f32⟩
  | .hbm, ⟨5, _⟩ => ⟨S1x1024x1024, .f32⟩
  | .hbm, ⟨6, _⟩ => ⟨S2, .i32⟩
  | .hbm, ⟨7, _⟩ => ⟨S2x1x1, .i32⟩
  | .hbm, ⟨8, _⟩ => ⟨S1x1x1, .i32⟩
  | .hbm, ⟨9, _⟩ => ⟨S2x1x1, .i32⟩
  | .hbm, ⟨10, _⟩ => ⟨S2x1x1, .i1⟩
  | .hbm, ⟨11, _⟩ => ⟨S2x512x1024, .i1⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S1x1024x1024, .f32⟩
  | .hbm, ⟨16, _⟩ => ⟨S_, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S_, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S_, .f32⟩
  | .hbm, ⟨39, _⟩ => ⟨S1x1024x1024, .f32⟩
  | .hbm, ⟨40, _⟩ => ⟨S1x1024x1024, .f32⟩
  | .hbm, ⟨41, _⟩ => ⟨S1x1024x1024, .f32⟩
  | .hbm, ⟨42, _⟩ => ⟨S_, .f32⟩
  | .hbm, ⟨43, _⟩ => ⟨S1x1024x1024, .f32⟩
  | .hbm, ⟨44, _⟩ => ⟨S1x1024x1024, .f32⟩
  | .hbm, ⟨45, _⟩ => ⟨S1x1024x1024, .f32⟩
  | .hbm, ⟨46, _⟩ => ⟨S_, .f32⟩
  | .hbm, ⟨47, _⟩ => ⟨S1x1024x1024, .f32⟩
  | .hbm, ⟨48, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamSmall.lean ====
abbrev S1x6144 : Shape := ⟨2, ![1, 6144]⟩
abbrev S1x1024 : Shape := ⟨2, ![1, 1024]⟩
abbrev S1x256 : Shape := ⟨2, ![1, 256]⟩
abbrev S1x4096 : Shape := ⟨2, ![1, 4096]⟩
abbrev S1x32 : Shape := ⟨2, ![1, 32]⟩
abbrev S1x2048 : Shape := ⟨2, ![1, 2048]⟩
abbrev S1x4x1024 : Shape := ⟨3, ![1, 4, 1024]⟩
abbrev S6144 : Shape := ⟨1, ![6144]⟩
abbrev S1024 : Shape := ⟨1, ![1024]⟩
abbrev S256 : Shape := ⟨1, ![256]⟩
abbrev S4096 : Shape := ⟨1, ![4096]⟩
abbrev S32 : Shape := ⟨1, ![32]⟩
abbrev S2048 : Shape := ⟨1, ![2048]⟩
abbrev S21088 : Shape := ⟨1, ![21088]⟩
abbrev S_ : Shape := ⟨0, ![]⟩
abbrev S21504 : Shape := ⟨1, ![21504]⟩
abbrev S168x128 : Shape := ⟨2, ![168, 128]⟩
abbrev S56x128 : Shape := ⟨2, ![56, 128]⟩

abbrev nBuf : Space → Nat
  | .hbm => 208
  | .vmem => 14
  | .smem => 0
  | _ => 0

abbrev hbmTy0_0 (i : Nat) : BufTy := match i % 128 with
  | 0 => ⟨S1x6144, .f32⟩
  | 1 => ⟨S1x1024, .f32⟩
  | 2 => ⟨S1x1024, .f32⟩
  | 3 => ⟨S1x256, .f32⟩
  | 4 => ⟨S1x256, .f32⟩
  | 5 => ⟨S1x4096, .f32⟩
  | 6 => ⟨S1x32, .f32⟩
  | 7 => ⟨S1x32, .f32⟩
  | 8 => ⟨S1x32, .f32⟩
  | 9 => ⟨S1x2048, .f32⟩
  | 10 => ⟨S1x1024, .f32⟩
  | 11 => ⟨S1x1024, .f32⟩
  | 12 => ⟨S1x4x1024, .f32⟩
  | 13 => ⟨S1x6144, .f32⟩
  | 14 => ⟨S1x1024, .f32⟩
  | 15 => ⟨S1x1024, .f32⟩
  | 16 => ⟨S1x256, .f32⟩
  | 17 => ⟨S1x256, .f32⟩
  | 18 => ⟨S1x4096, .f32⟩
  | 19 => ⟨S1x32, .f32⟩
  | 20 => ⟨S1x32, .f32⟩
  | 21 => ⟨S1x32, .f32⟩
  | 22 => ⟨S1x2048, .f32⟩
  | 23 => ⟨S1x1024, .f32⟩
  | 24 => ⟨S1x1024, .f32⟩
  | 25 => ⟨S1x4x1024, .f32⟩
  | 26 => ⟨S1x6144, .f32⟩
  | 27 => ⟨S1x1024, .f32⟩
  | 28 => ⟨S1x1024, .f32⟩
  | 29 => ⟨S1x256, .f32⟩
  | 30 => ⟨S1x256, .f32⟩
  | 31 => ⟨S1x4096, .f32⟩
  | 32 => ⟨S1x32, .f32⟩
  | 33 => ⟨S1x32, .f32⟩
  | 34 => ⟨S1x32, .f32⟩
  | 35 => ⟨S1x2048, .f32⟩
  | 36 => ⟨S1x1024, .f32⟩
  | 37 => ⟨S1x1024, .f32⟩
  | 38 => ⟨S1x4x1024, .f32⟩
  | 39 => ⟨S1x6144, .f32⟩
  | 40 => ⟨S1x1024, .f32⟩
  | 41 => ⟨S1x1024, .f32⟩
  | 42 => ⟨S1x256, .f32⟩
  | 43 => ⟨S1x256, .f32⟩
  | 44 => ⟨S1x4096, .f32⟩
  | 45 => ⟨S1x32, .f32⟩
  | 46 => ⟨S1x32, .f32⟩
  | 47 => ⟨S1x32, .f32⟩
  | 48 => ⟨S1x2048, .f32⟩
  | 49 => ⟨S1x1024, .f32⟩
  | 50 => ⟨S1x1024, .f32⟩
  | 51 => ⟨S1x4x1024, .f32⟩
  | 52 => ⟨S6144, .f32⟩
  | 53 => ⟨S1024, .f32⟩
  | 54 => ⟨S1024, .f32⟩
  | 55 => ⟨S256, .f32⟩
  | 56 => ⟨S256, .f32⟩
  | 57 => ⟨S4096, .f32⟩
  | 58 => ⟨S32, .f32⟩
  | 59 => ⟨S32, .f32⟩
  | 60 => ⟨S32, .f32⟩
  | 61 => ⟨S2048, .f32⟩
  | 62 => ⟨S1024, .f32⟩
  | 63 => ⟨S1024, .f32⟩
  | 64 => ⟨S4096, .f32⟩
  | 65 => ⟨S21088, .f32⟩
  | 66 => ⟨S_, .i32⟩
  | 67 => ⟨S_, .f32⟩
  | 68 => ⟨S21504, .f32⟩
  | 69 => ⟨S168x128, .f32⟩
  | 70 => ⟨S6144, .f32⟩
  | 71 => ⟨S1024, .f32⟩
  | 72 => ⟨S1024, .f32⟩
  | 73 => ⟨S256, .f32⟩
  | 74 => ⟨S256, .f32⟩
  | 75 => ⟨S4096, .f32⟩
  | 76 => ⟨S32, .f32⟩
  | 77 => ⟨S32, .f32⟩
  | 78 => ⟨S32, .f32⟩
  | 79 => ⟨S2048, .f32⟩
  | 80 => ⟨S1024, .f32⟩
  | 81 => ⟨S1024, .f32⟩
  | 82 => ⟨S4096, .f32⟩
  | 83 => ⟨S21088, .f32⟩
  | 84 => ⟨S_, .i32⟩
  | 85 => ⟨S_, .f32⟩
  | 86 => ⟨S21504, .f32⟩
  | 87 => ⟨S168x128, .f32⟩
  | 88 => ⟨S6144, .f32⟩
  | 89 => ⟨S1024, .f32⟩
  | 90 => ⟨S1024, .f32⟩
  | 91 => ⟨S256, .f32⟩
  | 92 => ⟨S256, .f32⟩
  | 93 => ⟨S4096, .f32⟩
  | 94 => ⟨S32, .f32⟩
  | 95 => ⟨S32, .f32⟩
  | 96 => ⟨S32, .f32⟩
  | 97 => ⟨S2048, .f32⟩
  | 98 => ⟨S1024, .f32⟩
  | 99 => ⟨S1024, .f32⟩
  | 100 => ⟨S4096, .f32⟩
  | 101 => ⟨S21088, .f32⟩
  | 102 => ⟨S_, .i32⟩
  | 103 => ⟨S_, .f32⟩
  | 104 => ⟨S21504, .f32⟩
  | 105 => ⟨S168x128, .f32⟩
  | 106 => ⟨S6144, .f32⟩
  | 107 => ⟨S1024, .f32⟩
  | 108 => ⟨S1024, .f32⟩
  | 109 => ⟨S256, .f32⟩
  | 110 => ⟨S256, .f32⟩
  | 111 => ⟨S4096, .f32⟩
  | 112 => ⟨S32, .f32⟩
  | 113 => ⟨S32, .f32⟩
  | 114 => ⟨S32, .f32⟩
  | 115 => ⟨S2048, .f32⟩
  | 116 => ⟨S1024, .f32⟩
  | 117 => ⟨S1024, .f32⟩
  | 118 => ⟨S4096, .f32⟩
  | 119 => ⟨S21088, .f32⟩
  | 120 => ⟨S_, .i32⟩
  | 121 => ⟨S_, .f32⟩
  | 122 => ⟨S21504, .f32⟩
  | 123 => ⟨S168x128, .f32⟩
  | 124 => ⟨S168x128, .f32⟩
  | 125 => ⟨S168x128, .f32⟩
  | 126 => ⟨S168x128, .f32⟩
  | 127 => ⟨S21504, .f32⟩
  | _ => ⟨S1x6144, .f32⟩

abbrev hbmTy0_1 (i : Nat) : BufTy := match i % 128 with
  | 0 => ⟨S6144, .f32⟩
  | 1 => ⟨S1x6144, .f32⟩
  | 2 => ⟨S1024, .f32⟩
  | 3 => ⟨S1x1024, .f32⟩
  | 4 => ⟨S1024, .f32⟩
  | 5 => ⟨S1x1024, .f32⟩
  | 6 => ⟨S256, .f32⟩
  | 7 => ⟨S1x256, .f32⟩
  | 8 => ⟨S256, .f32⟩
  | 9 => ⟨S1x256, .f32⟩
  | 10 => ⟨S4096, .f32⟩
  | 11 => ⟨S1x4096, .f32⟩
  | 12 => ⟨S32, .f32⟩
  | 13 => ⟨S1x32, .f32⟩
  | 14 => ⟨S32, .f32⟩
  | 15 => ⟨S1x32, .f32⟩
  | 16 => ⟨S32, .f32⟩
  | 17 => ⟨S1x32, .f32⟩
  | 18 => ⟨S2048, .f32⟩
  | 19 => ⟨S1x2048, .f32⟩
  | 20 => ⟨S1024, .f32⟩
  | 21 => ⟨S1x1024, .f32⟩
  | 22 => ⟨S1024, .f32⟩
  | 23 => ⟨S1x1024, .f32⟩
  | 24 => ⟨S4096, .f32⟩
  | 25 => ⟨S1x4x1024, .f32⟩
  | 26 => ⟨S21504, .f32⟩
  | 27 => ⟨S6144, .f32⟩
  | 28 => ⟨S1x6144, .f32⟩
  | 29 => ⟨S1024, .f32⟩
  | 30 => ⟨S1x1024, .f32⟩
  | 31 => ⟨S1024, .f32⟩
  | 32 => ⟨S1x1024, .f32⟩
  | 33 => ⟨S256, .f32⟩
  | 34 => ⟨S1x256, .f32⟩
  | 35 => ⟨S256, .f32⟩
  | 36 => ⟨S1x256, .f32⟩
  | 37 => ⟨S4096, .f32⟩
  | 38 => ⟨S1x4096, .f32⟩
  | 39 => ⟨S32, .f32⟩
  | 40 => ⟨S1x32, .f32⟩
  | 41 => ⟨S32, .f32⟩
  | 42 => ⟨S1x32, .f32⟩
  | 43 => ⟨S32, .f32⟩
  | 44 => ⟨S1x32, .f32⟩
  | 45 => ⟨S2048, .f32⟩
  | 46 => ⟨S1x2048, .f32⟩
  | 47 => ⟨S1024, .f32⟩
  | 48 => ⟨S1x1024, .f32⟩
  | 49 => ⟨S1024, .f32⟩
  | 50 => ⟨S1x1024, .f32⟩
  | 51 => ⟨S4096, .f32⟩
  | 52 => ⟨S1x4x1024, .f32⟩
  | 53 => ⟨S21504, .f32⟩
  | 54 => ⟨S6144, .f32⟩
  | 55 => ⟨S1x6144, .f32⟩
  | 56 => ⟨S1024, .f32⟩
  | 57 => ⟨S1x1024, .f32⟩
  | 58 => ⟨S1024, .f32⟩
  | 59 => ⟨S1x1024, .f32⟩
  | 60 => ⟨S256, .f32⟩
  | 61 => ⟨S1x256, .f32⟩
  | 62 => ⟨S256, .f32⟩
  | 63 => ⟨S1x256, .f32⟩
  | 64 => ⟨S4096, .f32⟩
  | 65 => ⟨S1x4096, .f32⟩
  | 66 => ⟨S32, .f32⟩
  | 67 => ⟨S1x32, .f32⟩
  | 68 => ⟨S32, .f32⟩
  | 69 => ⟨S1x32, .f32⟩
  | 70 => ⟨S32, .f32⟩
  | 71 => ⟨S1x32, .f32⟩
  | 72 => ⟨S2048, .f32⟩
  | 73 => ⟨S1x2048, .f32⟩
  | 74 => ⟨S1024, .f32⟩
  | 75 => ⟨S1x1024, .f32⟩
  | 76 => ⟨S1024, .f32⟩
  | 77 => ⟨S1x1024, .f32⟩
  | 78 => ⟨S4096, .f32⟩
  | 79 => ⟨S1x4x1024, .f32⟩
  | _ => ⟨S1x6144, .f32⟩

abbrev hbmTy (i : Nat) : BufTy := match i / 128 with
  | 0 => hbmTy0_0 i
  | 1 => hbmTy0_1 i
  | _ => ⟨S1x6144, .f32⟩

abbrev bufTy : (tb : Table) → Fin (tcTables nBuf tb) → BufTy
  | .hbm, ⟨i, _⟩ => hbmTy i
  | .local _ .vmem, ⟨0, _⟩ => ⟨S56x128, .f32⟩
  | .local _ .vmem, ⟨1, _⟩ => ⟨S56x128, .f32⟩
  | .local _ .vmem, ⟨2, _⟩ => ⟨S56x128, .f32⟩
  | .local _ .vmem, ⟨3, _⟩ => ⟨S56x128, .f32⟩
  | .local _ .vmem, ⟨4, _⟩ => ⟨S56x128, .f32⟩
  | .local _ .vmem, ⟨5, _⟩ => ⟨S56x128, .f32⟩
  | .local _ .vmem, ⟨6, _⟩ => ⟨S56x128, .f32⟩
  | .local _ .vmem, ⟨7, _⟩ => ⟨S56x128, .f32⟩
  | .local _ .vmem, ⟨8, _⟩ => ⟨S56x128, .f32⟩
  | .local _ .vmem, ⟨9, _⟩ => ⟨S56x128, .f32⟩
  | .local _ .vmem, ⟨10, _⟩ => ⟨S56x128, .f32⟩
  | .local _ .vmem, ⟨11, _⟩ => ⟨S56x128, .f32⟩
  | .local _ .vmem, ⟨12, _⟩ => ⟨S56x128, .f32⟩
  | .local _ .vmem, ⟨13, _⟩ => ⟨S56x128, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_call0_v0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_call1_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_1 : Ref sig .tc := ⟨.hbm, 102, rfl⟩
abbrev main_call2_v0 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_2 : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64_0 : Ref sig .tc := ⟨.hbm, 124, rfl⟩
abbrev main_v64_1 : Ref sig .tc := ⟨.hbm, 125, rfl⟩
abbrev main_v64_2 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1x6144 : Shape := ⟨2, ![1, 6144]⟩
abbrev S1x1024 : Shape := ⟨2, ![1, 1024]⟩
abbrev S1x256 : Shape := ⟨2, ![1, 256]⟩
abbrev S1x4096 : Shape := ⟨2, ![1, 4096]⟩
abbrev S1x32 : Shape := ⟨2, ![1, 32]⟩
abbrev S1x2048 : Shape := ⟨2, ![1, 2048]⟩
abbrev S1x4x1024 : Shape := ⟨3, ![1, 4, 1024]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S1x6144, .f32⟩
  | 1 => ⟨S1x1024, .f32⟩
  | 2 => ⟨S1x1024, .f32⟩
  | 3 => ⟨S1x256, .f32⟩
  | 4 => ⟨S1x256, .f32⟩
  | 5 => ⟨S1x4096, .f32⟩
  | 6 => ⟨S1x32, .f32⟩
  | 7 => ⟨S1x32, .f32⟩
  | 8 => ⟨S1x32, .f32⟩
  | 9 => ⟨S1x2048, .f32⟩
  | 10 => ⟨S1x1024, .f32⟩
  | 11 => ⟨S1x1024, .f32⟩
  | 12 => ⟨S1x4x1024, .f32⟩
  | 13 => ⟨S1x6144, .f32⟩
  | 14 => ⟨S1x1024, .f32⟩
  | 15 => ⟨S1x1024, .f32⟩
  | 16 => ⟨S1x256, .f32⟩
  | 17 => ⟨S1x256, .f32⟩
  | 18 => ⟨S1x4096, .f32⟩
  | 19 => ⟨S1x32, .f32⟩
  | 20 => ⟨S1x32, .f32⟩
  | 21 => ⟨S1x32, .f32⟩
  | 22 => ⟨S1x2048, .f32⟩
  | 23 => ⟨S1x1024, .f32⟩
  | 24 => ⟨S1x1024, .f32⟩
  | 25 => ⟨S1x4x1024, .f32⟩
  | 26 => ⟨S1x6144, .f32⟩
  | 27 => ⟨S1x1024, .f32⟩
  | 28 => ⟨S1x1024, .f32⟩
  | 29 => ⟨S1x256, .f32⟩
  | 30 => ⟨S1x256, .f32⟩
  | 31 => ⟨S1x4096, .f32⟩
  | 32 => ⟨S1x32, .f32⟩
  | 33 => ⟨S1x32, .f32⟩
  | 34 => ⟨S1x32, .f32⟩
  | 35 => ⟨S1x2048, .f32⟩
  | 36 => ⟨S1x1024, .f32⟩
  | 37 => ⟨S1x1024, .f32⟩
  | 38 => ⟨S1x4x1024, .f32⟩
  | 39 => ⟨S1x6144, .f32⟩
  | 40 => ⟨S1x1024, .f32⟩
  | 41 => ⟨S1x1024, .f32⟩
  | 42 => ⟨S1x256, .f32⟩
  | 43 => ⟨S1x256, .f32⟩
  | 44 => ⟨S1x4096, .f32⟩
  | 45 => ⟨S1x32, .f32⟩
  | 46 => ⟨S1x32, .f32⟩
  | 47 => ⟨S1x32, .f32⟩
  | 48 => ⟨S1x2048, .f32⟩
  | 49 => ⟨S1x1024, .f32⟩
  | 50 => ⟨S1x1024, .f32⟩
  | 51 => ⟨S1x4x1024, .f32⟩
  | 52 => ⟨S_, .f32⟩
  | 53 => ⟨S1x6144, .f32⟩
  | 54 => ⟨S1x6144, .f32⟩
  | 55 => ⟨S_, .f32⟩
  | 56 => ⟨S1x6144, .f32⟩
  | 57 => ⟨S1x6144, .f32⟩
  | 58 => ⟨S1x6144, .f32⟩
  | 59 => ⟨S_, .f32⟩
  | 60 => ⟨S1x6144, .f32⟩
  | 61 => ⟨S1x6144, .f32⟩
  | 62 => ⟨S1x6144, .f32⟩
  | 63 => ⟨S_, .f32⟩
  | 64 => ⟨S1x6144, .f32⟩
  | 65 => ⟨S1x6144, .f32⟩
  | 66 => ⟨S1x6144, .f32⟩
  | 67 => ⟨S_, .f32⟩
  | 68 => ⟨S1x6144, .f32⟩
  | 69 => ⟨S1x6144, .f32⟩
  | 70 => ⟨S_, .f32⟩
  | 71 => ⟨S1x6144, .f32⟩
  | 72 => ⟨S1x6144, .f32⟩
  | 73 => ⟨S1x6144, .f32⟩
  | 74 => ⟨S_, .f32⟩
  | 75 => ⟨S1x6144, .f32⟩
  | 76 => ⟨S1x6144, .f32⟩
  | 77 => ⟨S1x6144, .f32⟩
  | 78 => ⟨S_, .f32⟩
  | 79 => ⟨S1x6144, .f32⟩
  | 80 => ⟨S1x6144, .f32⟩
  | 81 => ⟨S1x6144, .f32⟩
  | 82 => ⟨S_, .f32⟩
  | 83 => ⟨S1x6144, .f32⟩
  | 84 => ⟨S1x6144, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x6144, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S_, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S1x256, .f32⟩
  | 34 => ⟨S_, .f32⟩
  | 35 => ⟨S1x256, .f32⟩
  | 36 => ⟨S1x256, .f32⟩
  | 37 => ⟨S1x256, .f32⟩
  | 38 => ⟨S_, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S_, .f32⟩
  | 46 => ⟨S1x256, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S1x256, .f32⟩
  | 53 => ⟨S_, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S_, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S1x256, .f32⟩
  | 86 => ⟨S_, .f32⟩
  | 87 => ⟨S1x256, .f32⟩
  | 88 => ⟨S1x256, .f32⟩
  | 89 => ⟨S_, .f32⟩
  | 90 => ⟨S1x4096, .f32⟩
  | 91 => ⟨S1x4096, .f32⟩
  | 92 => ⟨S_, .f32⟩
  | 93 => ⟨S1x4096, .f32⟩
  | 94 => ⟨S1x4096, .f32⟩
  | 95 => ⟨S1x4096, .f32⟩
  | 96 => ⟨S_, .f32⟩
  | 97 => ⟨S1x4096, .f32⟩
  | 98 => ⟨S1x4096, .f32⟩
  | 99 => ⟨S1x4096, .f32⟩
  | 100 => ⟨S_, .f32⟩
  | 101 => ⟨S1x4096, .f32⟩
  | 102 => ⟨S1x4096, .f32⟩
  | 103 => ⟨S1x4096, .f32⟩
  | 104 => ⟨S_, .f32⟩
  | 105 => ⟨S1x4096, .f32⟩
  | 106 => ⟨S1x4096, .f32⟩
  | 107 => ⟨S_, .f32⟩
  | 108 => ⟨S1x4096, .f32⟩
  | 109 => ⟨S1x4096, .f32⟩
  | 110 => ⟨S1x4096, .f32⟩
  | 111 => ⟨S_, .f32⟩
  | 112 => ⟨S1x4096, .f32⟩
  | 113 => ⟨S1x4096, .f32⟩
  | 114 => ⟨S1x4096, .f32⟩
  | 115 => ⟨S_, .f32⟩
  | 116 => ⟨S1x4096, .f32⟩
  | 117 => ⟨S1x4096, .f32⟩
  | 118 => ⟨S1x4096, .f32⟩
  | 119 => ⟨S_, .f32⟩
  | 120 => ⟨S1x4096, .f32⟩
  | 121 => ⟨S1x4096, .f32⟩
  | 122 => ⟨S_, .f32⟩
  | 123 => ⟨S1x32, .f32⟩
  | 124 => ⟨S1x32, .f32⟩
  | 125 => ⟨S_, .f32⟩
  | 126 => ⟨S1x32, .f32⟩
  | 127 => ⟨S1x32, .f32⟩
  | _ => ⟨S1x6144, .f32⟩

abbrev hbmTy0_2 (i : Nat) : BufTy := match i % 128 with
  | 0 => ⟨S1x32, .f32⟩
  | 1 => ⟨S_, .f32⟩
  | 2 => ⟨S1x32, .f32⟩
  | 3 => ⟨S1x32, .f32⟩
  | 4 => ⟨S1x32, .f32⟩
  | 5 => ⟨S_, .f32⟩
  | 6 => ⟨S1x32, .f32⟩
  | 7 => ⟨S1x32, .f32⟩
  | 8 => ⟨S1x32, .f32⟩
  | 9 => ⟨S_, .f32⟩
  | 10 => ⟨S1x32, .f32⟩
  | 11 => ⟨S1x32, .f32⟩
  | 12 => ⟨S_, .f32⟩
  | 13 => ⟨S1x32, .f32⟩
  | 14 => ⟨S1x32, .f32⟩
  | 15 => ⟨S1x32, .f32⟩
  | 16 => ⟨S_, .f32⟩
  | 17 => ⟨S1x32, .f32⟩
  | 18 => ⟨S1x32, .f32⟩
  | 19 => ⟨S1x32, .f32⟩
  | 20 => ⟨S_, .f32⟩
  | 21 => ⟨S1x32, .f32⟩
  | 22 => ⟨S1x32, .f32⟩
  | 23 => ⟨S1x32, .f32⟩
  | 24 => ⟨S_, .f32⟩
  | 25 => ⟨S1x32, .f32⟩
  | 26 => ⟨S1x32, .f32⟩
  | 27 => ⟨S_, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S1x32, .f32⟩
  | 34 => ⟨S_, .f32⟩
  | 35 => ⟨S1x32, .f32⟩
  | 36 => ⟨S1x32, .f32⟩
  | 37 => ⟨S1x32, .f32⟩
  | 38 => ⟨S_, .f32⟩
  | 39 => ⟨S1x32, .f32⟩
  | 40 => ⟨S1x32, .f32⟩
  | 41 => ⟨S1x32, .f32⟩
  | 42 => ⟨S_, .f32⟩
  | 43 => ⟨S1x32, .f32⟩
  | 44 => ⟨S1x32, .f32⟩
  | 45 => ⟨S_, .f32⟩
  | 46 => ⟨S1x32, .f32⟩
  | 47 => ⟨S1x32, .f32⟩
  | 48 => ⟨S1x32, .f32⟩
  | 49 => ⟨S_, .f32⟩
  | 50 => ⟨S1x32, .f32⟩
  | 51 => ⟨S1x32, .f32⟩
  | 52 => ⟨S1x32, .f32⟩
  | 53 => ⟨S_, .f32⟩
  | 54 => ⟨S1x32, .f32⟩
  | 55 => ⟨S1x32, .f32⟩
  | 56 => ⟨S1x32, .f32⟩
  | 57 => ⟨S_, .f32⟩
  | 58 => ⟨S1x32, .f32⟩
  | 59 => ⟨S1x32, .f32⟩
  | 60 => ⟨S_, .f32⟩
  | 61 => ⟨S1x32, .f32⟩
  | 62 => ⟨S1x32, .f32⟩
  | 63 => ⟨S_, .f32⟩
  | 64 => ⟨S1x32, .f32⟩
  | 65 => ⟨S1x32, .f32⟩
  | 66 => ⟨S1x32, .f32⟩
  | 67 => ⟨S_, .f32⟩
  | 68 => ⟨S1x32, .f32⟩
  | 69 => ⟨S1x32, .f32⟩
  | 70 => ⟨S1x32, .f32⟩
  | 71 => ⟨S_, .f32⟩
  | 72 => ⟨S1x32, .f32⟩
  | 73 => ⟨S1x32, .f32⟩
  | 74 => ⟨S1x32, .f32⟩
  | 75 => ⟨S_, .f32⟩
  | 76 => ⟨S1x32, .f32⟩
  | 77 => ⟨S1x32, .f32⟩
  | 78 => ⟨S_, .f32⟩
  | 79 => ⟨S1x32, .f32⟩
  | 80 => ⟨S1x32, .f32⟩
  | 81 => ⟨S1x32, .f32⟩
  | 82 => ⟨S_, .f32⟩
  | 83 => ⟨S1x32, .f32⟩
  | 84 => ⟨S1x32, .f32⟩
  | 85 => ⟨S1x32, .f32⟩
  | 86 => ⟨S_, .f32⟩
  | 87 => ⟨S1x32, .f32⟩
  | 88 => ⟨S1x32, .f32⟩
  | 89 => ⟨S1x32, .f32⟩
  | 90 => ⟨S_, .f32⟩
  | 91 => ⟨S1x32, .f32⟩
  | 92 => ⟨S1x32, .f32⟩
  | 93 => ⟨S_, .f32⟩
  | 94 => ⟨S1x2048, .f32⟩
  | 95 => ⟨S1x2048, .f32⟩
  | 96 => ⟨S_, .f32⟩
  | 97 => ⟨S1x2048, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S1x2048, .f32⟩
  | 123 => ⟨S_, .f32⟩
  | 124 => ⟨S1x2048, .f32⟩
  | 125 => ⟨S1x2048, .f32⟩
  | 126 => ⟨S_, .f32⟩
  | 127 => ⟨S1x1024, .f32⟩
  | _ => ⟨S1x6144, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x4x1024, .f32⟩
  | 66 => ⟨S1x4x1024, .f32⟩
  | 67 => ⟨S_, .f32⟩
  | 68 => ⟨S1x4x1024, .f32⟩
  | 69 => ⟨S1x4x1024, .f32⟩
  | 70 => ⟨S1x4x1024, .f32⟩
  | 71 => ⟨S_, .f32⟩
  | 72 => ⟨S1x4x1024, .f32⟩
  | 73 => ⟨S1x4x1024, .f32⟩
  | 74 => ⟨S1x4x1024, .f32⟩
  | 75 => ⟨S_, .f32⟩
  | 76 => ⟨S1x4x1024, .f32⟩
  | 77 => ⟨S1x4x1024, .f32⟩
  | 78 => ⟨S1x4x1024, .f32⟩
  | 79 => ⟨S_, .f32⟩
  | 80 => ⟨S1x4x1024, .f32⟩
  | 81 => ⟨S1x4x1024, .f32⟩
  | 82 => ⟨S_, .f32⟩
  | 83 => ⟨S1x4x1024, .f32⟩
  | 84 => ⟨S1x4x1024, .f32⟩
  | 85 => ⟨S1x4x1024, .f32⟩
  | 86 => ⟨S_, .f32⟩
  | 87 => ⟨S1x4x1024, .f32⟩
  | 88 => ⟨S1x4x1024, .f32⟩
  | 89 => ⟨S1x4x1024, .f32⟩
  | 90 => ⟨S_, .f32⟩
  | 91 => ⟨S1x4x1024, .f32⟩
  | 92 => ⟨S1x4x1024, .f32⟩
  | 93 => ⟨S1x4x1024, .f32⟩
  | 94 => ⟨S_, .f32⟩
  | 95 => ⟨S1x4x1024, .f32⟩
  | 96 => ⟨S1x4x1024, .f32⟩
  | _ => ⟨S1x6144, .f32⟩

abbrev hbmTy (i : Nat) : BufTy := match i / 128 with
  | 0 => hbmTy0_0 i
  | 1 => hbmTy0_1 i
  | 2 => hbmTy0_2 i
  | 3 => hbmTy0_3 i
  | _ => ⟨S1x6144, .f32⟩

abbrev bufTy : (tb : Table) → Fin (tcTables nBuf tb) → BufTy
  | .hbm, ⟨i, _⟩ => hbmTy i
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== SumSmall.lean ====
abbrev S8x1x6144 : Shape := ⟨3, ![8, 1, 6144]⟩
abbrev S8x1x1024 : Shape := ⟨3, ![8, 1, 1024]⟩
abbrev S8x1x256 : Shape := ⟨3, ![8, 1, 256]⟩
abbrev S8x1x4096 : Shape := ⟨3, ![8, 1, 4096]⟩
abbrev S8x1x32 : Shape := ⟨3, ![8, 1, 32]⟩
abbrev S8x1x2048 : Shape := ⟨3, ![8, 1, 2048]⟩
abbrev S8x4x4096 : Shape := ⟨3, ![8, 4, 4096]⟩
abbrev S8x6144 : Shape := ⟨2, ![8, 6144]⟩
abbrev S8x1024 : Shape := ⟨2, ![8, 1024]⟩
abbrev S8x256 : Shape := ⟨2, ![8, 256]⟩
abbrev S8x4096 : Shape := ⟨2, ![8, 4096]⟩
abbrev S8x32 : Shape := ⟨2, ![8, 32]⟩
abbrev S8x2048 : Shape := ⟨2, ![8, 2048]⟩
abbrev S8x16384 : Shape := ⟨2, ![8, 16384]⟩
abbrev S8x33376 : Shape := ⟨2, ![8, 33376]⟩
abbrev S_ : Shape := ⟨0, ![]⟩
abbrev S8x33792 : Shape := ⟨2, ![8, 33792]⟩
abbrev S8x264x128 : Shape := ⟨3, ![8, 264, 128]⟩
abbrev S264x128 : Shape := ⟨2, ![264, 128]⟩
abbrev S8x88x128 : Shape := ⟨3, ![8, 88, 128]⟩
abbrev S88x128 : Shape := ⟨2, ![88, 128]⟩
abbrev S1x88x128 : Shape := ⟨3, ![1, 88, 128]⟩
abbrev S33792 : Shape := ⟨1, ![33792]⟩
abbrev S6144 : Shape := ⟨1, ![6144]⟩
abbrev S1x6144 : Shape := ⟨2, ![1, 6144]⟩
abbrev S1024 : Shape := ⟨1, ![1024]⟩
abbrev S1x1024 : Shape := ⟨2, ![1, 1024]⟩
abbrev S256 : Shape := ⟨1, ![256]⟩
abbrev S1x256 : Shape := ⟨2, ![1, 256]⟩
abbrev S4096 : Shape := ⟨1, ![4096]⟩
abbrev S1x4096 : Shape := ⟨2, ![1, 4096]⟩
abbrev S32 : Shape := ⟨1, ![32]⟩
abbrev S1x32 : Shape := ⟨2, ![1, 32]⟩
abbrev S2048 : Shape := ⟨1, ![2048]⟩
abbrev S1x2048 : Shape := ⟨2, ![1, 2048]⟩
abbrev S16384 : Shape := ⟨1, ![16384]⟩
abbrev S4x4096 : Shape := ⟨2, ![4, 4096]⟩

abbrev nBuf : Space → Nat
  | .hbm => 59
  | .vmem => 4
  | .smem => 0
  | _ => 0

abbrev bufTy : (tb : Table) → Fin (tcTables nBuf tb) → BufTy
  | .hbm, ⟨0, _⟩ => ⟨S8x1x6144, .f32⟩
  | .hbm, ⟨1, _⟩ => ⟨S8x1x1024, .f32⟩
  | .hbm, ⟨2, _⟩ => ⟨S8x1x1024, .f32⟩
  | .hbm, ⟨3, _⟩ => ⟨S8x1x256, .f32⟩
  | .hbm, ⟨4, _⟩ => ⟨S8x1x256, .f32⟩
  | .hbm, ⟨5, _⟩ => ⟨S8x1x4096, .f32⟩
  | .hbm, ⟨6, _⟩ => ⟨S8x1x32, .f32⟩
  | .hbm, ⟨7, _⟩ => ⟨S8x1x32, .f32⟩
  | .hbm, ⟨8, _⟩ => ⟨S8x1x32, .f32⟩
  | .hbm, ⟨9, _⟩ => ⟨S8x1x2048, .f32⟩
  | .hbm, ⟨10, _⟩ => ⟨S8x1x1024, .f32⟩
  | .hbm, ⟨11, _⟩ => ⟨S8x1x1024, .f32⟩
  | .hbm, ⟨12, _⟩ => ⟨S8x4x4096, .f32⟩
  | .hbm, ⟨13, _⟩ => ⟨S8x6144, .f32⟩
  | .hbm, ⟨14, _⟩ => ⟨S8x1024, .f32⟩
  | .hbm, ⟨15, _⟩ => ⟨S8x1024, .f32⟩
  | .hbm, ⟨16, _⟩ => ⟨S8x256, .f32⟩
  | .hbm, ⟨17, _⟩ => ⟨S8x256, .f32⟩
  | .hbm, ⟨18, _⟩ => ⟨S8x4096, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x2048, .f32⟩
  | .hbm, ⟨23, _⟩ => ⟨S8x1024, .f32⟩
  | .hbm, ⟨24, _⟩ => ⟨S8x1024, .f32⟩
  | .hbm, ⟨25, _⟩ => ⟨S8x16384, .f32⟩
  | .hbm, ⟨26, _⟩ => ⟨S8x33376, .f32⟩
  | .hbm, ⟨27, _⟩ => ⟨S_, .i32⟩
  | .hbm, ⟨28, _⟩ => ⟨S_, .f32⟩
  | .hbm, ⟨29, _⟩ => ⟨S8x33792, .f32⟩
  | .hbm, ⟨30, _⟩ => ⟨S8x264x128, .f32⟩
  | .hbm, ⟨31, _⟩ => ⟨S264x128, .f32⟩
  | .hbm, ⟨32, _⟩ => ⟨S33792, .f32⟩
  | .hbm, ⟨33, _⟩ => ⟨S6144, .f32⟩
  | .hbm, ⟨34, _⟩ => ⟨S1x6144, .f32⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S256, .f32⟩
  | .hbm, ⟨40, _⟩ => ⟨S1x256, .f32⟩
  | .hbm, ⟨41, _⟩ => ⟨S256, .f32⟩
  | .hbm, ⟨42, _⟩ => ⟨S1x256, .f32⟩
  | .hbm, ⟨43, _⟩ => ⟨S4096, .f32⟩
  | .hbm, ⟨44, _⟩ => ⟨S1x4096, .f32⟩
  | .hbm, ⟨45, _⟩ => ⟨S32, .f32⟩
  | .hbm, ⟨46, _⟩ => ⟨S1x32, .f32⟩
  | .hbm, ⟨47, _⟩ => ⟨S32, .f32⟩
  | .hbm, ⟨48, _⟩ => ⟨S1x32, .f32⟩
  | .hbm, ⟨49, _⟩ => ⟨S32, .f32⟩
  | .hbm, ⟨50, _⟩ => ⟨S1x32, .f32⟩
  | .hbm, ⟨51, _⟩ => ⟨S2048, .f32⟩
  | .hbm, ⟨52, _⟩ => ⟨S1x2048, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S16384, .f32⟩
  | .hbm, ⟨58, _⟩ => ⟨S4x4096, .f32⟩
  | .local _ .vmem, ⟨0, _⟩ => ⟨S8x88x128, .f32⟩
  | .local _ .vmem, ⟨1, _⟩ => ⟨S8x88x128, .f32⟩
  | .local _ .vmem, ⟨2, _⟩ => ⟨S88x128, .f32⟩
  | .local _ .vmem, ⟨3, _⟩ => ⟨S88x128, .f32⟩
  | _, _ => ⟨S8x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x1x6144 : Shape := ⟨3, ![8, 1, 6144]⟩
abbrev S8x1x1024 : Shape := ⟨3, ![8, 1, 1024]⟩
abbrev S8x1x256 : Shape := ⟨3, ![8, 1, 256]⟩
abbrev S8x1x4096 : Shape := ⟨3, ![8, 1, 4096]⟩
abbrev S8x1x32 : Shape := ⟨3, ![8, 1, 32]⟩
abbrev S8x1x2048 : Shape := ⟨3, ![8, 1, 2048]⟩
abbrev S8x4x4096 : Shape := ⟨3, ![8, 4, 4096]⟩
abbrev S_ : Shape := ⟨0, ![]⟩
abbrev S1x6144 : Shape := ⟨2, ![1, 6144]⟩
abbrev S1x1024 : Shape := ⟨2, ![1, 1024]⟩
abbrev S1x256 : Shape := ⟨2, ![1, 256]⟩
abbrev S1x4096 : Shape := ⟨2, ![1, 4096]⟩
abbrev S1x32 : Shape := ⟨2, ![1, 32]⟩
abbrev S1x2048 : Shape := ⟨2, ![1, 2048]⟩
abbrev S4x4096 : Shape := ⟨2, ![4, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x1x6144, .f32⟩
  | .hbm, ⟨1, _⟩ => ⟨S8x1x1024, .f32⟩
  | .hbm, ⟨2, _⟩ => ⟨S8x1x1024, .f32⟩
  | .hbm, ⟨3, _⟩ => ⟨S8x1x256, .f32⟩
  | .hbm, ⟨4, _⟩ => ⟨S8x1x256, .f32⟩
  | .hbm, ⟨5, _⟩ => ⟨S8x1x4096, .f32⟩
  | .hbm, ⟨6, _⟩ => ⟨S8x1x32, .f32⟩
  | .hbm, ⟨7, _⟩ => ⟨S8x1x32, .f32⟩
  | .hbm, ⟨8, _⟩ => ⟨S8x1x32, .f32⟩
  | .hbm, ⟨9, _⟩ => ⟨S8x1x2048, .f32⟩
  | .hbm, ⟨10, _⟩ => ⟨S8x1x1024, .f32⟩
  | .hbm, ⟨11, _⟩ => ⟨S8x1x1024, .f32⟩
  | .hbm, ⟨12, _⟩ => ⟨S8x4x4096, .f32⟩
  | .hbm, ⟨13, _⟩ => ⟨S_, .f32⟩
  | .hbm, ⟨14, _⟩ => ⟨S1x6144, .f32⟩
  | .hbm, ⟨15, _⟩ => ⟨S_, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S_, .f32⟩
  | .hbm, ⟨24, _⟩ => ⟨S1x4096, .f32⟩
  | .hbm, ⟨25, _⟩ => ⟨S_, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S_, .f32⟩
  | .hbm, ⟨30, _⟩ => ⟨S1x32, .f32⟩
  | .hbm, ⟨31, _⟩ => ⟨S_, .f32⟩
  | .hbm, ⟨32, _⟩ => ⟨S1x2048, .f32⟩
  | .hbm, ⟨33, _⟩ => ⟨S_, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S_, .f32⟩
  | .hbm, ⟨38, _⟩ => ⟨S4x4096, .f32⟩
  | _, _ => ⟨S8x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_cst_3 : Ref sig .tc := ⟨.hbm, 21, rfl⟩
abbrev main_v4 : Ref sig .tc := ⟨.hbm, 22, rfl⟩
abbrev main_cst_4 : Ref sig .tc := ⟨.hbm, 23, rfl⟩
abbrev main_v5 : Ref sig .tc := ⟨.hbm, 24, rfl⟩
abbrev main_cst_5 : Ref sig .tc := ⟨.hbm, 25, rfl⟩
abbrev main_v6 : Ref sig .tc := ⟨.hbm, 26, rfl⟩
abbrev main_cst_6 : Ref sig .tc := ⟨.hbm, 27, rfl⟩
abbrev main_v7 : Ref sig .tc := ⟨.hbm, 28, rfl⟩
abbrev main_cst_7 : Ref sig .tc := ⟨.hbm, 29, rfl⟩
abbrev main_v8 : Ref sig .tc := ⟨.hbm, 30, rfl⟩
abbrev main_cst_8 : Ref sig .tc := ⟨.hbm, 31, rfl⟩
abbrev main_v9 : Ref sig .tc := ⟨.hbm, 32, rfl⟩
abbrev main_cst_9 : Ref sig .tc := ⟨.hbm, 33, rfl⟩
abbrev main_v10 : Ref sig .tc := ⟨.hbm, 34, rfl⟩
abbrev main_cst_10 : Ref sig .tc := ⟨.hbm, 35, rfl⟩
abbrev main_v11 : Ref sig .tc := ⟨.hbm, 36, rfl⟩
abbrev main_cst_11 : Ref sig .tc := ⟨.hbm, 37, rfl⟩
abbrev main_v12 : Ref sig .tc := ⟨.hbm, 38, rfl⟩

abbrev nD : Nat := 1
abbrev τ : Topo := Topo.v7x

variable {F : FTy → Type} [FloatOps F]
-- ==== Proof.Ff2Dx.lean ====
/-
`w_ff2_dx`, the gradient of the feed-forward block's hidden layer before its squared relu: what the grid of the
idealized call writes is the reference's gradient, element by element.
-/
module

public import proofs.«01_k».proof.Proof.Gen.Ff2DxIdeal.Frame
public import proofs.«01_k».proof.Proof.Gen.Ff2DxIdeal.Value
public import proofs.«01_k».proof.Proof.Gen.Ff2DxRefIdeal.Run
public import proofs.«01_k».proof.Defs
public import Idealize.ShloMosaic.Lib.Pipeline.ValueKit

@[expose] public section

set_option maxRecDepth 16384

noncomputable section

namespace Cert.Ffn.HiddenGrad

open Idealize.ShloMosaic Idealize.ShloMosaic.TcCoe Idealize.SL.Sem Cert.Ff2DxIdeal Cert.Ff2DxIdeal.Gen

variable (m : (ℓ : Loc nD τ sig) → Buf (Elt Ideal) ℓ)

/-- The reference, over its three arguments. -/
abbrev REF (U : FVec Ideal S8192x4096 .f32) (W : FVec Ideal S4096x1024 .bf16) (G : FVec Ideal S8192x1024 .bf16) : FVec Ideal S8192x4096 .bf16 :=
  truncf .bf16 (select (cmpf .ogt U (broadcastInDim S8192x4096 ![] Cert.Ff2DxRefIdeal.Gen.bcast_S_S8192x4096 (constant S_ .f32 0x00000000#32))) (mulf (Host.dotGeneral Cert.Ff2DxRefIdeal.dot_S8192x1024_S4096x1024_S8192x4096_1_1_0_0_n_n none (extf .f32 G Cert.Ff2DxRefIdeal.Gen.bitsLt_bf16_f32) (extf .f32 W Cert.Ff2DxRefIdeal.Gen.bitsLt_bf16_f32)) (mulf (broadcastInDim S8192x4096 ![] Cert.Ff2DxRefIdeal.Gen.bcast_S_S8192x4096 (constant S_ .f32 0x40000000#32)) (maximumf U (broadcastInDim S8192x4096 ![] Cert.Ff2DxRefIdeal.Gen.bcast_S_S8192x4096 (constant S_ .f32 0x00000000#32))))) (broadcastInDim S8192x4096 ![] Cert.Ff2DxRefIdeal.Gen.bcast_S_S8192x4096 (constant S_ .f32 0x00000000#32))) Cert.Ff2DxRefIdeal.Gen.bitsLt_bf16_f32

theorem idx : ∀ t : Fin cfg0.N, win0_0.index t = ![t.val / 4, 0] ∧ win0_1.index t = ![0, t.val % 4]
    ∧ win0_2.index t = ![t.val / 4, t.val % 4] ∧ win0_3.index t = ![t.val / 4, t.val % 4] := (by decide +kernel : ∀ t : Fin grid0.N, _)

/-- The hidden layer before its activation, the weight and the output's gradient, as launched. -/
abbrev U (c : Dev nD) : FVec Ideal S8192x4096 .f32 := m ((c.tc : Thread nD τ).loc main_arg0)
abbrev W (c : Dev nD) : FVec Ideal S4096x1024 .bf16 := m ((c.tc : Thread nD τ).loc main_arg1)
abbrev G (c : Dev nD) : FVec Ideal S8192x1024 .bf16 := m ((c.tc : Thread nD τ).loc main_arg2)

/-- The weight as the call takes it: transposed. -/
theorem entry_w (c : Dev nD) : V m c main_v2 = transpose S1024x4096 [1, 0] (W m c) transposes_S4096x1024_S1024x4096_1_0 := by
  simp only [V, hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results

/-- The relu as the call takes it. -/
theorem entry_r (c : Dev nD) (i : S8192x4096.Idx) : (V m c main_v1 : FVec Ideal S8192x4096 .bf16) i = max (U m c i) 0 := by
  have h : (V m c main_v1 : FVec Ideal S8192x4096 .bf16)
      = truncf .bf16 (maximumf (U m c) (broadcastInDim S8192x4096 ![] bcast_S_S8192x4096 (constant S_ .f32 0x00000000#32))) bitsLt_bf16_f32 := by
    simp only [V, hostOps0, hostOps0_1, List.flatten_cons, List.flatten_nil, List.append_nil, List.cons_append, List.nil_append,
      StableHlo.TRef.binary, StableHlo.TRef.nullary, StableHlo.TRef.unary, StableHlo.TRef.toBuf, StableHlo.TRef.ofBuf, cast_eq]
    after_results
  rw [h]
  pointwise

/-- One element of a block, `j` its place in the array. -/
theorem point (c : Dev nD) (t : Fin cfg0.N) (y : S2048x1024.Idx) (j : S8192x4096.Idx)
    (h0 : (j 0 : ℕ) = t.val / 4 * 2048 + y 0) (h1 : (j 1 : ℕ) = t.val % 4 * 1024 + y 1) :
    k0_pay1 (F := Ideal) (iblk m c 0 t) (iblk m c 1 t) (iblk m c 2 t) y
      = REF (U m c) (W m c) (G m c) j := by
  have eg : ∀ k : Fin 1024, iblk m c 0 t (ix2 (y 0) k) = G m c (ix2 (j 0) k) := by
    intro k
    blk_point [iblk, V, idx t]
  have ew : ∀ k : Fin 1024, iblk m c 1 t (ix2 k (y 1)) = W m c (ix2 (j 1) k) := by
    intro k
    refine (congrFun (entry_w m c) _).trans ?_
    refine Eq.trans (b := W m c (ix2 (((cfg0.win 1).blk t).view.emb (ix2 k (y 1)) 1) (((cfg0.win 1).blk t).view.emb (ix2 k (y 1)) 0))) ?_ ?_
    · pointwise
    · blk_point [idx t]
  have er : iblk m c 2 t y = max (U m c j) 0 := by
    refine (entry_r m c _).trans ?_
    blk_point [idx t]
  pointwise [k0_pay1, REF, eg, ew, er]
  by_cases h : 0 < U m c j
  · rw [if_pos h]
  · rw [if_neg h, max_eq_right (le_of_not_gt h), mul_zero, mul_zero]

theorem final (c : Dev nD) : (dats m 0 c).arrAt 3 (cfgs 0).N
    = REF (U m c) (W m c) (G m c) := by
  refine (dats m 0 c).arrAt_eq_of_covers 3 _ (by decide +kernel) fun t _ y => ?_
  blk_simp
  rw [after0_3]
  frame_out
  refine point m c t y _ ?_ ?_ <;> blk_simp [idx t]

/-- The reference ends, its arguments as they were. -/
theorem frame_reference : Cert.quiescent_Ff2DxRefIdeal (hFf2DxRefIdeal := Cert.Ff2DxRefIdeal.Gen.facts) := by
  intro m g _
  refine (θ_run _ _ _).mono (fun r h => ?_) (Cert.Ff2DxRefIdeal.Value.run (F := Ideal) m g)
  exact ⟨fun c => (h c).2, sem_eq_zero_of_no_sems rfl r.2⟩

/-- Both end with the same array. -/
theorem algebraic : Cert.algebraic_Ff2DxIdeal_Ff2DxRefIdeal (hFf2DxIdeal := Cert.Ff2DxIdeal.Gen.facts)
    (hFf2DxRefIdeal := Cert.Ff2DxRefIdeal.Gen.facts) := by
  intro m g m' g' _ hArgs
  refine ⟨fun c => REF (U m c) (W m c) (G m c), ?_, ?_⟩
  · exact (θ_run _ _ _).mono (fun r h c => ⟨(h c).1.trans (final m c), (h c).2⟩) (Cert.Ff2DxIdeal.Value.run_blocks m g)
  · refine (θ_run _ _ _).mono (fun r h c => ⟨(h c).1.trans ?_, (h c).2⟩) (Cert.Ff2DxRefIdeal.Value.run (F := Ideal) m' g')
    obtain ⟨e0, e1, e2⟩ := hArgs c
    rw [e0, e1, e2]

end Cert.Ffn.HiddenGrad

end
-- ==== Proof.Ff2Dw.lean ====
/-
`w_ff2_dw`, the gradient of the feed-forward block's second weight: each block of it is accumulated over four
groups of rows, and what the grid of the idealized call writes is the reference's gradient.
-/
module

public import proofs.«01_k».proof.Proof.Gen.Ff2DwIdeal.Frame
public import proofs.«01_k».proof.Proof.Gen.Ff2DwIdeal.Value
public import proofs.«01_k».proof.Proof.Gen.Ff2DwRefIdeal.Run
public import proofs.«01_k».proof.Defs
public import Idealize.ShloMosaic.Lib.Pipeline.ValueKit

@[expose] public section

set_option maxRecDepth 16384

noncomputable section

namespace Cert.Ffn.OutWeightGrad

open Idealize.ShloMosaic Idealize.ShloMosaic.TcCoe Idealize.SL.Sem Cert.Ff2DwIdeal Cert.Ff2DwIdeal.Gen

variable (m : (ℓ : Loc nD τ sig) → Buf (Elt Ideal) ℓ)

/-- The activations and the output's gradient, as launched. -/
abbrev A (c : Dev nD) : FVec Ideal S8192x4096 .bf16 := m ((c.tc : Thread nD τ).loc main_arg0)
abbrev G (c : Dev nD) : FVec Ideal S8192x1024 .bf16 := m ((c.tc : Thread nD τ).loc main_arg1)

/-- The reference, over its arguments. -/
abbrev REF (A : FVec Ideal S8192x4096 .bf16) (G : FVec Ideal S8192x1024 .bf16) : FVec Ideal S4096x1024 .f32 :=
  transpose S4096x1024 [1, 0] (Host.dotGeneral (F := Ideal) Cert.Ff2DwRefIdeal.dot_S8192x1024_S8192x4096_S1024x4096_0_0_1_1_n_n none
    (extf .f32 G Cert.Ff2DwRefIdeal.Gen.bitsLt_bf16_f32) (extf .f32 A Cert.Ff2DwRefIdeal.Gen.bitsLt_bf16_f32))
    Cert.Ff2DwRefIdeal.Gen.transposes_S1024x4096_S4096x1024_1_0

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- A point's own part of a block. -/
theorem part_apply (a : Vec Ideal S2048x1024 .bf16) (g : Vec Ideal S2048x1024 .bf16) (y : S1024x1024.Idx) :
    k0_pay1 (F := Ideal) a g y = ∑ k : Fin 2048, a (ix2 k (y 0)) * g (ix2 k (y 1)) := by
  pointwise [k0_pay1]

/-- A later point's block: what was there, plus its part. -/
theorem step_apply (a : Vec Ideal S2048x1024 .bf16) (g : Vec Ideal S2048x1024 .bf16) (acc : Vec Ideal S1024x1024 .f32) (y : S1024x1024.Idx) :
    k0_pay2 (F := Ideal) a g acc y = acc y + ∑ k : Fin 2048, a (ix2 k (y 0)) * g (ix2 k (y 1)) := by
  pointwise [k0_pay2, k0_pay1]

theorem ref_apply (A : FVec Ideal S8192x4096 .bf16) (G : FVec Ideal S8192x1024 .bf16) (j : S4096x1024.Idx) :
    REF A G j = ∑ l : Fin 8192, A (ix2 l (j 0)) * G (ix2 l (j 1)) := by
  pointwise! [REF]

theorem final (c : Dev nD) : (dats m 0 c).arrAt 2 (cfgs 0).N = REF (A m c) (G m c) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [part_apply]; exact (zero_add _).symm)
    (fun t h j => by rw [outsAt0_B m c t h (by omega)]; frame_out; rw [step_apply])
    t ((flush0_2 t).mp hf) _, zero_add, ref_apply]
  refine Fin.sum_mul_add_congr fun s k hl => ?_
  blk_point [iblk, V, idx t, idx ⟨_, Pipeline.run_point_lt_of_flush t ((flush0_2 t).mp hf) s⟩]

/-- The reference ends, its arguments as they were. -/
theorem frame_reference : Cert.quiescent_Ff2DwRefIdeal (hFf2DwRefIdeal := Cert.Ff2DwRefIdeal.Gen.facts) := by
  intro m g _
  refine (θ_run _ _ _).mono (fun r h => ?_) (Cert.Ff2DwRefIdeal.Value.run (F := Ideal) m g)
  exact ⟨fun c => (h c).2, sem_eq_zero_of_no_sems rfl r.2⟩

/-- Both end with the same array. -/
theorem algebraic : Cert.algebraic_Ff2DwIdeal_Ff2DwRefIdeal (hFf2DwIdeal := Cert.Ff2DwIdeal.Gen.facts)
    (hFf2DwRefIdeal := Cert.Ff2DwRefIdeal.Gen.facts) := by
  intro m g m' g' _ hArgs
  refine ⟨fun c => REF (A m c) (G m c), ?_, ?_⟩
  · exact (θ_run _ _ _).mono (fun r h c => ⟨(h c).1.trans (final m c), (h c).2⟩) (Cert.Ff2DwIdeal.Value.run_blocks m g)
  · refine (θ_run _ _ _).mono (fun r h c => ⟨(h c).1.trans ?_, (h c).2⟩) (Cert.Ff2DwRefIdeal.Value.run (F := Ideal) m' g')
    obtain ⟨e0, e1⟩ := hArgs c
    rw [e0, e1]

end Cert.Ffn.OutWeightGrad

end
-- ==== Proof.Ff1Dw.lean ====
/-
`w_ff1_dw`, the gradient of the feed-forward block's first weight, its columns in four groups: each group's block is
accumulated over four groups of rows, and what the grid of the idealized call writes is the reference's gradient.
-/
module

public import proofs.«01_k».proof.Proof.Gen.Ff1DwIdeal.Frame
public import proofs.«01_k».proof.Proof.Gen.Ff1DwIdeal.Value
public import proofs.«01_k».proof.Proof.Gen.Ff1DwRefIdeal.Run
public import proofs.«01_k».proof.Defs
public import Idealize.ShloMosaic.Lib.Pipeline.ValueKit

@[expose] public section

set_option maxRecDepth 16384

noncomputable section

namespace Cert.Ffn.InWeightGrad

open Idealize.ShloMosaic Idealize.ShloMosaic.TcCoe Idealize.SL.Sem Cert.Ff1DwIdeal Cert.Ff1DwIdeal.Gen

variable (m : (ℓ : Loc nD τ sig) → Buf (Elt Ideal) ℓ)

/-- The block's input and the hidden layer's gradient, as launched. -/
abbrev H (c : Dev nD) : FVec Ideal S8192x1024 .bf16 := m ((c.tc : Thread nD τ).loc main_arg0)
abbrev D (c : Dev nD) : FVec Ideal S8192x4096 .bf16 := m ((c.tc : Thread nD τ).loc main_arg1)

/-- The reference, over its arguments. -/
abbrev REF (H : FVec Ideal S8192x1024 .bf16) (D : FVec Ideal S8192x4096 .bf16) : FVec Ideal S4x1024x1024 .f32 :=
  transpose S4x1024x1024 [1, 0, 2] (shapeCast Cert.Ff1DwRefIdeal.S1024x4x1024 (transpose Cert.Ff1DwRefIdeal.S1024x4096 [1, 0]
    (Host.dotGeneral (F := Ideal) Cert.Ff1DwRefIdeal.dot_S8192x4096_S8192x1024_S4096x1024_0_0_1_1_n_n none
      (extf .f32 D Cert.Ff1DwRefIdeal.Gen.bitsLt_bf16_f32) (extf .f32 H Cert.Ff1DwRefIdeal.Gen.bitsLt_bf16_f32))
    Cert.Ff1DwRefIdeal.Gen.transposes_S4096x1024_S1024x4096_1_0) Cert.Ff1DwRefIdeal.Gen.shapeCasts_S1024x4096_S1024x4x1024)
    Cert.Ff1DwRefIdeal.Gen.transposes_S1024x4x1024_S4x1024x1024_1_0_2

theorem idx : ∀ t : Fin cfg0.N, win0_0.index t = ![t.val % 4, 0] ∧ win0_1.index t = ![t.val % 4, t.val / 4]
    ∧ win0_2.index t = ![t.val / 4, 0, 0] := (by decide +kernel : ∀ t : Fin grid0.N, _)

/-- What a run's first point leaves in a block: its own part. -/
theorem part_apply (h : Vec Ideal S2048x1024 .bf16) (d : Vec Ideal S2048x1024 .bf16) (y : S1x1024x1024.Idx) :
    k0_pay2 (F := Ideal) h d y = ∑ k : Fin 2048, h (ix2 k (y 1)) * d (ix2 k (y 2)) := by
  pointwise [k0_pay2, k0_pay1]

/-- A later point's block: what was there, plus its part. -/
theorem step_apply (h : Vec Ideal S2048x1024 .bf16) (d : Vec Ideal S2048x1024 .bf16) (acc : Vec Ideal S1x1024x1024 .f32) (y : S1x1024x1024.Idx) :
    k0_pay3 (F := Ideal) h d acc y = acc y + ∑ k : Fin 2048, h (ix2 k (y 1)) * d (ix2 k (y 2)) := by
  pointwise [k0_pay3, k0_pay1]

theorem ref_apply (H : FVec Ideal S8192x1024 .bf16) (D : FVec Ideal S8192x4096 .bf16) (j : S4x1024x1024.Idx) :
    REF H D j = ∑ l : Fin 8192, H (ix2 l (j 1)) * D (ix2 l ⟨(j 0 : ℕ) * 1024 + j 2, by have := (j 0).isLt; have := (j 2).isLt; dsimp at *; omega⟩) := by
  pointwise! [REF]

theorem final (c : Dev nD) : (dats m 0 c).arrAt 2 (cfgs 0).N = REF (H m c) (D m c) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [part_apply]; exact (zero_add _).symm)
    (fun t h j => by rw [outsAt0_B m c t h (by omega)]; frame_out; rw [step_apply])
    t ((flush0_2 t).mp hf) _, zero_add, ref_apply]
  refine Fin.sum_mul_add_congr fun s k hl => ?_
  blk_point [iblk, V, idx t, idx ⟨_, Pipeline.run_point_lt_of_flush t ((flush0_2 t).mp hf) s⟩]

/-- The reference ends, its arguments as they were. -/
theorem frame_reference : Cert.quiescent_Ff1DwRefIdeal (hFf1DwRefIdeal := Cert.Ff1DwRefIdeal.Gen.facts) := by
  intro m g _
  refine (θ_run _ _ _).mono (fun r h => ?_) (Cert.Ff1DwRefIdeal.Value.run (F := Ideal) m g)
  exact ⟨fun c => (h c).2, sem_eq_zero_of_no_sems rfl r.2⟩

/-- Both end with the same array. -/
theorem algebraic : Cert.algebraic_Ff1DwIdeal_Ff1DwRefIdeal (hFf1DwIdeal := Cert.Ff1DwIdeal.Gen.facts)
    (hFf1DwRefIdeal := Cert.Ff1DwRefIdeal.Gen.facts) := by
  intro m g m' g' _ hArgs
  refine ⟨fun c => REF (H m c) (D m c), ?_, ?_⟩
  · exact (θ_run _ _ _).mono (fun r h c => ⟨(h c).1.trans (final m c), (h c).2⟩) (Cert.Ff1DwIdeal.Value.run_blocks m g)
  · refine (θ_run _ _ _).mono (fun r h c => ⟨(h c).1.trans ?_, (h c).2⟩) (Cert.Ff1DwRefIdeal.Value.run (F := Ideal) m' g')
    obtain ⟨e0, e1⟩ := hArgs c
    rw [e0, e1]

end Cert.Ffn.InWeightGrad

end
-- ==== Proof.Ff1Dx.lean ====
/-
`w_ff1_dx`, the gradient of the feed-forward block's input: each block is accumulated over two groups of columns in a
scratch and stored at the last, and what the grid of the idealized call writes is the reference's gradient.
-/
module

public import proofs.«01_k».proof.Proof.Gen.Ff1DxIdeal.Frame
public import proofs.«01_k».proof.Proof.Gen.Ff1DxIdeal.Value
public import proofs.«01_k».proof.Proof.Gen.Ff1DxRefIdeal.Run
public import proofs.«01_k».proof.Defs
public import Idealize.ShloMosaic.Lib.Pipeline.ValueKit

@[expose] public section

set_option maxRecDepth 16384

noncomputable section

namespace Cert.Ffn.InputGrad

open Idealize.ShloMosaic Idealize.ShloMosaic.TcCoe Idealize.SL.Sem Cert.Ff1DxIdeal Cert.Ff1DxIdeal.Gen

variable (m : (ℓ : Loc nD τ sig) → Buf (Elt Ideal) ℓ)

/-- The hidden layer's gradient and the weight, as launched. -/
abbrev D (c : Dev nD) : FVec Ideal S8192x4096 .bf16 := m ((c.tc : Thread nD τ).loc main_arg0)
abbrev W (c : Dev nD) : FVec Ideal S1024x4096 .bf16 := m ((c.tc : Thread nD τ).loc main_arg1)

/-- The reference, over its arguments. -/
abbrev REF (D : FVec Ideal S8192x4096 .bf16) (W : FVec Ideal S1024x4096 .bf16) : FVec Ideal S8192x1024 .bf16 :=
  truncf .bf16 (Host.dotGeneral (F := Ideal) Cert.Ff1DxRefIdeal.dot_S8192x4096_S1024x4096_S8192x1024_1_1_0_0_n_n none
    (extf .f32 D Cert.Ff1DxRefIdeal.Gen.bitsLt_bf16_f32) (extf .f32 W Cert.Ff1DxRefIdeal.Gen.bitsLt_bf16_f32))
    Cert.Ff1DxRefIdeal.Gen.bitsLt_bf16_f32

theorem idx : ∀ t : Fin cfg0.N, win0_0.index t = ![t.val / 2, t.val % 2] ∧ win0_1.index t = ![t.val % 2, 0]
    ∧ win0_2.index t = ![t.val / 2, 0] := (by decide +kernel : ∀ t : Fin grid0.N, _)

/-- The weight as the call takes it: transposed. -/
theorem entry_w (c : Dev nD) (i : S4096x1024.Idx) : (V m c main_v0 : FVec Ideal S4096x1024 .bf16) i = W m c (ix2 (i 1) (i 0)) := by
  have h : V m c main_v0 = transpose S4096x1024 [1, 0] (W m c) transposes_S1024x4096_S4096x1024_1_0 := by
    unfold V; after_results
  rw [h]
  pointwise

/-- What a run's first point leaves in the scratch: its own part. -/
theorem part_apply (d : Vec Ideal S1024x2048 .bf16) (w : Vec Ideal S2048x1024 .bf16) (y : S1024x1024.Idx) :
    k0_pay2 (F := Ideal) d w y = ∑ k : Fin 2048, d (ix2 (y 0) k) * w (ix2 k (y 1)) := by
  pointwise [k0_pay2, k0_pay1]

/-- A later point's scratch: what was there, plus its part. -/
theorem step_apply (d : Vec Ideal S1024x2048 .bf16) (w : Vec Ideal S2048x1024 .bf16) (acc : Vec Ideal S1024x1024 .f32) (y : S1024x1024.Idx) :
    k0_pay3 (F := Ideal) d w acc y = acc y + ∑ k : Fin 2048, d (ix2 (y 0) k) * w (ix2 k (y 1)) := by
  pointwise [k0_pay3, k0_pay1]

theorem ref_apply (D : FVec Ideal S8192x4096 .bf16) (W : FVec Ideal S1024x4096 .bf16) (j : S8192x1024.Idx) :
    REF D W j = ∑ l : Fin 4096, D (ix2 (j 0) l) * W (ix2 (j 1) l) := by
  pointwise [REF]

/-- A run's last point stores the scratch it leaves. -/
theorem stored_eq (c : Dev nD) (t : Fin cfg0.N) (h : t.val % 2 = 1) (y : S1024x1024.Idx) :
    (outsAt0 m c t.val t.isLt).1 y = ((outsAt0 m c t.val t.isLt).2 y : EReal) := by
  rw [outsAt0_B m c t (by omega) h h]
  frame_out
  pointwise [k0_pay4]

theorem final (c : Dev nD) : (dats m 0 c).arrAt 2 (cfgs 0).N = REF (D m c) (W m c) := by
  refine (dats m 0 c).arrAt_eq_of_covers 2 _ (by decide +kernel) fun t hf y => ?_
  blk_simp
  rw [after0_2, stored_eq m c t ((flush0_2 t).mp hf), Pipeline.eq_sum_fin_of_reset_step_apply_of_flush (fun n h => (outsAt0 m c n h).2) 2 (fun _ => 0) _
    (fun t h j => by rw [outsAt0_A m c t h (by omega) (by omega)]; frame_out; rw [part_apply]; exact (zero_add _).symm)
    (fun t h j => by rw [outsAt0_B m c t h (by omega) (by omega)]; frame_out; rw [step_apply]; exact congrArg₂ (· + ·) (congrFun (Memref.IsWhole.read_unread _ _) j) rfl)
    t ((flush0_2 t).mp hf) _, zero_add, ref_apply]
  refine Fin.sum_mul_add_congr fun s k hl => ?_
  have e := idx ⟨_, Pipeline.run_point_lt_of_flush t ((flush0_2 t).mp hf) s⟩
  refine congrArg₂ (· * ·) ?_ ((entry_w m c _).trans ?_)
  · blk_point [iblk, V, idx t, e]
  · blk_point [idx t, e]

/-- The reference ends, its arguments as they were. -/
theorem frame_reference : Cert.quiescent_Ff1DxRefIdeal (hFf1DxRefIdeal := Cert.Ff1DxRefIdeal.Gen.facts) := by
  intro m g _
  refine (θ_run _ _ _).mono (fun r h => ?_) (Cert.Ff1DxRefIdeal.Value.run (F := Ideal) m g)
  exact ⟨fun c => (h c).2, sem_eq_zero_of_no_sems rfl r.2⟩

/-- Both end with the same array. -/
theorem algebraic : Cert.algebraic_Ff1DxIdeal_Ff1DxRefIdeal (hFf1DxIdeal := Cert.Ff1DxIdeal.Gen.facts)
    (hFf1DxRefIdeal := Cert.Ff1DxRefIdeal.Gen.facts) := by
  intro m g m' g' _ hArgs
  refine ⟨fun c => REF (D m c) (W m c), ?_, ?_⟩
  · exact (θ_run _ _ _).mono (fun r h c => ⟨(h c).1.trans (final m c), (h c).2⟩) (Cert.Ff1DxIdeal.Value.run_blocks m g)
  · refine (θ_run _ _ _).mono (fun r h c => ⟨(h c).1.trans ?_, (h c).2⟩) (Cert.Ff1DxRefIdeal.Value.run (F := Ideal) m' g')
    obtain ⟨e0, e1⟩ := hArgs c
    rw [e0, e1]

end Cert.Ffn.InputGrad

end
-- ==== Proof.InDx.lean ====
/-
`w_in_dx`, the gradient of the block's input through its first projection: each block is accumulated over five groups
of columns in a scratch and stored at the last.
-/
module

public import proofs.«01_k».proof.Proof.Gen.InDxIdeal.Frame
public import proofs.«01_k».proof.Proof.Gen.InDxIdeal.Value
public import proofs.«01_k».proof.Proof.Gen.InDxRefIdeal.Run
public import proofs.«01_k».proof.Defs
public import Idealize.ShloMosaic.Lib.Pipeline.ValueKit

@[expose] public section

set_option maxRecDepth 16384

noncomputable section

namespace Cert.InProj.InputGrad

open Idealize.ShloMosaic Idealize.ShloMosaic.TcCoe Idealize.SL.Sem Cert.InDxIdeal Cert.InDxIdeal.Gen

variable (m : (ℓ : Loc nD τ sig) → Buf (Elt Ideal) ℓ)

/-- The projection's gradient and the weight, as launched. -/
abbrev G (c : Dev nD) : FVec Ideal S8192x8960 .bf16 := m ((c.tc : Thread nD τ).loc main_arg0)
abbrev W (c : Dev nD) : FVec Ideal S1024x8960 .bf16 := m ((c.tc : Thread nD τ).loc main_arg1)

/-- The product, an element a sum. -/
def product (G : FVec Ideal S8192x8960 .bf16) (W : FVec Ideal S1024x8960 .bf16) : FVec Ideal S8192x1024 .bf16 :=
  fun j => ∑ l : Fin 8960, G (ix2 (j 0) l) * W (ix2 (j 1) l)

theorem idx : ∀ t : Fin cfg0.N, win0_0.index t = ![t.val / 5, t.val % 5] ∧ win0_1.index t = ![t.val % 5, 0]
    ∧ win0_2.index t = ![t.val / 5, 0] := (by decide +kernel : ∀ t : Fin grid0.N, _)

/-- The weight as the call takes it: transposed. -/
theorem entry (c : Dev nD) (i : S8960x1024.Idx) : (V m c main_v0 : FVec Ideal S8960x1024 .bf16) i = W m c (ix2 (i 1) (i 0)) := by
  have h : V m c main_v0 = transpose S8960x1024 [1, 0] (W m c) transposes_S1024x8960_S8960x1024_1_0 := by
    unfold V; after_results
  rw [h]
  pointwise

/-- A run's first point's block: its own part. -/
theorem part_apply (a : Vec Ideal S1024x1792 .bf16) (b : Vec Ideal S1792x1024 .bf16) (y : S1024x1024.Idx) :
    k0_pay2 (F := Ideal) a b y = ∑ k : Fin 1792, a (ix2 (y 0) k) * b (ix2 k (y 1)) := by
  pointwise [k0_pay2, k0_pay1]

/-- A later point's block: what was there, plus its part. -/
theorem step_apply (a : Vec Ideal S1024x1792 .bf16) (b : Vec Ideal S1792x1024 .bf16) (acc : Vec Ideal S1024x1024 .f32) (y : S1024x1024.Idx) :
    k0_pay3 (F := Ideal) a b acc y = acc y + ∑ k : Fin 1792, a (ix2 (y 0) k) * b (ix2 k (y 1)) := by
  pointwise [k0_pay3, k0_pay1]

/-- A run's last point stores the scratch it leaves. -/
theorem stored_eq (c : Dev nD) (t : Fin cfg0.N) (h : t.val % 5 = 4) (y : S1024x1024.Idx) :
    (outsAt0 m c t.val t.isLt).1 y = ((outsAt0 m c t.val t.isLt).2 y : EReal) := by
  rw [outsAt0_C m c t (by omega) (by omega) h]
  frame_out
  pointwise [k0_pay4]

/-- A point that is not a run's first adds its part to the scratch. -/
theorem scratch_step (c : Dev nD) (t : Fin cfg0.N) (h : ¬t.val % 5 = 0) (y : S1024x1024.Idx) :
    (outsAt0 m c t.val t.isLt).2 y = (outsAt0 m c (t.val - 1) (Nat.lt_of_le_of_lt (Nat.sub_le _ _) t.isLt)).2 y
      + k0_pay2 (F := Ideal) (iblk m c 0 t) (iblk m c 1 t) y := by
  by_cases hl : t.val % 5 = 4
  · rw [outsAt0_C m c t h (by omega) hl]; frame_out; rw [step_apply, part_apply]
    exact congrArg₂ (· + ·) (congrFun (Memref.IsWhole.read_unread _ _) y) rfl
  · rw [outsAt0_B m c t h (by omega) hl]; frame_out; rw [step_apply, part_apply]
    exact congrArg₂ (· + ·) (congrFun (Memref.IsWhole.read_unread _ _) y) rfl

theorem final (c : Dev nD) : (dats m 0 c).arrAt 2 (cfgs 0).N = product (G m c) (W m c) := by
  refine (dats m 0 c).arrAt_eq_of_covers 2 _ (by decide +kernel) fun t hf y => ?_
  blk_simp
  rw [after0_2, stored_eq m c t ((flush0_2 t).mp hf), Pipeline.eq_sum_fin_of_reset_step_apply_of_flush (fun n h => (outsAt0 m c n h).2) 5 (fun _ => 0) _
    (fun t h j => by rw [outsAt0_A m c t h (by omega) (by omega)]; frame_out; rw [part_apply]; exact (zero_add _).symm)
    (fun t h j => by rw [scratch_step m c t h, part_apply])
    t ((flush0_2 t).mp hf) _, zero_add]
  refine Fin.sum_mul_add_congr fun s k hl => ?_
  have e := idx ⟨_, Pipeline.run_point_lt_of_flush t ((flush0_2 t).mp hf) s⟩
  refine congrArg₂ (· * ·) ?_ ((entry m c _).trans ?_)
  · blk_point [iblk, V, idx t, e]
  · blk_point [idx t, e]

/-- The reference ends, its arguments as they were. -/
theorem frame_reference : Cert.quiescent_InDxRefIdeal (hInDxRefIdeal := Cert.InDxRefIdeal.Gen.facts) := by
  intro m g _
  refine (θ_run _ _ _).mono (fun r h => ?_) (Cert.InDxRefIdeal.Value.run (F := Ideal) m g)
  exact ⟨fun c => (h c).2, sem_eq_zero_of_no_sems rfl r.2⟩

/-- Both end with the same array. -/
theorem algebraic : Cert.algebraic_InDxIdeal_InDxRefIdeal (hInDxIdeal := Cert.InDxIdeal.Gen.facts)
    (hInDxRefIdeal := Cert.InDxRefIdeal.Gen.facts) := by
  intro m g m' g' _ hArgs
  refine ⟨fun c => product (G m c) (W m c), ?_, ?_⟩
  · exact (θ_run _ _ _).mono (fun r h c => ⟨(h c).1.trans (final m c), (h c).2⟩) (Cert.InDxIdeal.Value.run_blocks m g)
  · refine (θ_run _ _ _).mono (fun r h c => ⟨(h c).1.trans ?_, (h c).2⟩) (Cert.InDxRefIdeal.Value.run (F := Ideal) m' g')
    obtain ⟨e0, e1⟩ := hArgs c
    rw [e0, e1]
    funext j
    pointwise! [product]

end Cert.InProj.InputGrad

end
-- ==== Proof.InDw.lean ====
/-
`w_in_dw`, the gradient of the first projection's weight: each block is accumulated over four groups of rows in a
scratch and stored at the last.
-/
module

public import proofs.«01_k».proof.Proof.Gen.InDwIdeal.Frame
public import proofs.«01_k».proof.Proof.Gen.InDwIdeal.Value
public import proofs.«01_k».proof.Proof.Gen.InDwRefIdeal.Run
public import proofs.«01_k».proof.Defs
public import Idealize.ShloMosaic.Lib.Pipeline.ValueKit

@[expose] public section

set_option maxRecDepth 16384

noncomputable section

namespace Cert.InProj.WeightGrad

open Idealize.ShloMosaic Idealize.ShloMosaic.TcCoe Idealize.SL.Sem Cert.InDwIdeal Cert.InDwIdeal.Gen

variable (m : (ℓ : Loc nD τ sig) → Buf (Elt Ideal) ℓ)

/-- The input and the projection's gradient, as launched. -/
abbrev H (c : Dev nD) : FVec Ideal S8192x1024 .bf16 := m ((c.tc : Thread nD τ).loc main_arg0)
abbrev G (c : Dev nD) : FVec Ideal S8192x8960 .bf16 := m ((c.tc : Thread nD τ).loc main_arg1)

/-- The product, an element a sum. -/
def product (H : FVec Ideal S8192x1024 .bf16) (G : FVec Ideal S8192x8960 .bf16) : FVec Ideal S1024x8960 .f32 :=
  fun j => ∑ l : Fin 8192, H (ix2 l (j 0)) * G (ix2 l (j 1))

theorem idx : ∀ t : Fin cfg0.N, win0_0.index t = ![0, t.val % 4] ∧ win0_1.index t = ![t.val % 4, t.val / 4]
    ∧ win0_2.index t = ![0, t.val / 4] := (by decide +kernel : ∀ t : Fin grid0.N, _)

/-- The input as the call takes it: transposed. -/
theorem entry (c : Dev nD) (i : S1024x8192.Idx) : (V m c main_v0 : FVec Ideal S1024x8192 .bf16) i = H m c (ix2 (i 1) (i 0)) := by
  have h : V m c main_v0 = transpose S1024x8192 [1, 0] (H m c) transposes_S8192x1024_S1024x8192_1_0 := by
    unfold V; after_results
  rw [h]
  pointwise

/-- A run's first point's block: its own part. -/
theorem part_apply (a : Vec Ideal S1024x2048 .bf16) (b : Vec Ideal S2048x896 .bf16) (y : S1024x896.Idx) :
    k0_pay2 (F := Ideal) a b y = ∑ k : Fin 2048, a (ix2 (y 0) k) * b (ix2 k (y 1)) := by
  pointwise [k0_pay2, k0_pay1]

/-- A later point's block: what was there, plus its part. -/
theorem step_apply (a : Vec Ideal S1024x2048 .bf16) (b : Vec Ideal S2048x896 .bf16) (acc : Vec Ideal S1024x896 .f32) (y : S1024x896.Idx) :
    k0_pay3 (F := Ideal) a b acc y = acc y + ∑ k : Fin 2048, a (ix2 (y 0) k) * b (ix2 k (y 1)) := by
  pointwise [k0_pay3, k0_pay1]

/-- A run's last point stores the scratch it leaves. -/
theorem stored_eq (c : Dev nD) (t : Fin cfg0.N) (h : t.val % 4 = 3) (y : S1024x896.Idx) :
    (outsAt0 m c t.val t.isLt).1 y = ((outsAt0 m c t.val t.isLt).2 y : EReal) := by
  rw [outsAt0_C m c t (by omega) (by omega) h]
  frame_out

/-- A point that is not a run's first adds its part to the scratch. -/
theorem scratch_step (c : Dev nD) (t : Fin cfg0.N) (h : ¬t.val % 4 = 0) (y : S1024x896.Idx) :
    (outsAt0 m c t.val t.isLt).2 y = (outsAt0 m c (t.val - 1) (Nat.lt_of_le_of_lt (Nat.sub_le _ _) t.isLt)).2 y
      + k0_pay2 (F := Ideal) (iblk m c 0 t) (iblk m c 1 t) y := by
  by_cases hl : t.val % 4 = 3
  · rw [outsAt0_C m c t h (by omega) hl]; frame_out; rw [step_apply, part_apply]
    exact congrArg₂ (· + ·) (congrFun (Memref.IsWhole.read_unread _ _) y) rfl
  · rw [outsAt0_B m c t h (by omega) hl]; frame_out; rw [step_apply, part_apply]
    exact congrArg₂ (· + ·) (congrFun (Memref.IsWhole.read_unread _ _) y) rfl

theorem final (c : Dev nD) : (dats m 0 c).arrAt 2 (cfgs 0).N = product (H m c) (G m c) := by
  refine (dats m 0 c).arrAt_eq_of_covers 2 _ (by decide +kernel) fun t hf y => ?_
  blk_simp
  rw [after0_2, stored_eq m c t ((flush0_2 t).mp hf), Pipeline.eq_sum_fin_of_reset_step_apply_of_flush (fun n h => (outsAt0 m c n h).2) 4 (fun _ => 0) _
    (fun t h j => by rw [outsAt0_A m c t h (by omega) (by omega)]; frame_out; rw [part_apply]; exact (zero_add _).symm)
    (fun t h j => by rw [scratch_step m c t h, part_apply])
    t ((flush0_2 t).mp hf) _, zero_add]
  refine Fin.sum_mul_add_congr fun s k hl => ?_
  have e := idx ⟨_, Pipeline.run_point_lt_of_flush t ((flush0_2 t).mp hf) s⟩
  refine congrArg₂ (· * ·) ((entry m c _).trans ?_) ?_
  · blk_point [idx t, e]
  · blk_point [iblk, V, idx t, e]

/-- The reference ends, its arguments as they were. -/
theorem frame_reference : Cert.quiescent_InDwRefIdeal (hInDwRefIdeal := Cert.InDwRefIdeal.Gen.facts) := by
  intro m g _
  refine (θ_run _ _ _).mono (fun r h => ?_) (Cert.InDwRefIdeal.Value.run (F := Ideal) m g)
  exact ⟨fun c => (h c).2, sem_eq_zero_of_no_sems rfl r.2⟩

/-- Both end with the same array. -/
theorem algebraic : Cert.algebraic_InDwIdeal_InDwRefIdeal (hInDwIdeal := Cert.InDwIdeal.Gen.facts)
    (hInDwRefIdeal := Cert.InDwRefIdeal.Gen.facts) := by
  intro m g m' g' _ hArgs
  refine ⟨fun c => product (H m c) (G m c), ?_, ?_⟩
  · exact (θ_run _ _ _).mono (fun r h c => ⟨(h c).1.trans (final m c), (h c).2⟩) (Cert.InDwIdeal.Value.run_blocks m g)
  · refine (θ_run _ _ _).mono (fun r h c => ⟨(h c).1.trans ?_, (h c).2⟩) (Cert.InDwRefIdeal.Value.run (F := Ideal) m' g')
    obtain ⟨e0, e1⟩ := hArgs c
    rw [e0, e1]
    funext j
    pointwise! [product]
    exact Finset.sum_congr rfl fun l _ => mul_comm _ _

end Cert.InProj.WeightGrad

end
-- ==== Proof.Ff1Fwd.lean ====
/-
`w_ff1_fwd`, the feed-forward block's first product with its activation: a point stores the square of the product's
positive part and the positive part itself.
-/
module

public import proofs.«01_k».proof.Proof.Gen.Ff1FwdIdeal.Frame
public import proofs.«01_k».proof.Proof.Gen.Ff1FwdIdeal.Value
public import proofs.«01_k».proof.Proof.Gen.Ff1FwdRefIdeal.Run
public import proofs.«01_k».proof.Defs
public import Idealize.ShloMosaic.Lib.Pipeline.ValueKit

@[expose] public section

set_option maxRecDepth 16384

noncomputable section

namespace Cert.Ffn.Activation

open Idealize.ShloMosaic Idealize.ShloMosaic.TcCoe Idealize.SL.Sem Cert.Ff1FwdIdeal Cert.Ff1FwdIdeal.Gen

variable (m : (ℓ : Loc nD τ sig) → Buf (Elt Ideal) ℓ)

/-- The input and the weight, as launched. -/
abbrev H (c : Dev nD) : FVec Ideal S8192x1024 .bf16 := m ((c.tc : Thread nD τ).loc main_arg0)
abbrev W (c : Dev nD) : FVec Ideal S1024x4096 .bf16 := m ((c.tc : Thread nD τ).loc main_arg1)

/-- The product's positive part. -/
def positive (H : FVec Ideal S8192x1024 .bf16) (W : FVec Ideal S1024x4096 .bf16) : FVec Ideal S8192x4096 .bf16 :=
  fun j => max (∑ l : Fin 1024, H (ix2 (j 0) l) * W (ix2 l (j 1)) : EReal) 0

/-- Its square. -/
def square (H : FVec Ideal S8192x1024 .bf16) (W : FVec Ideal S1024x4096 .bf16) : FVec Ideal S8192x4096 .bf16 :=
  fun j => (positive H W j * positive H W j : EReal)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The positive part of a block's product. -/
theorem part_apply (a : Vec Ideal S2048x1024 .bf16) (b : Vec Ideal S1024x1024 .bf16) (y : S2048x1024.Idx) :
    k0_pay1 (F := Ideal) a b y = max (∑ k : Fin 1024, a (ix2 (y 0) k) * b (ix2 k (y 1)) : EReal) 0 := by
  pointwise [k0_pay1]

/-- At an element, with the blocks' places put in. -/
theorem part_eq (c : Dev nD) (t : Fin cfg0.N) (y : S2048x1024.Idx) (j : S8192x4096.Idx)
    (h0 : (j 0 : ℕ) = t.val / 4 * 2048 + y 0) (h1 : (j 1 : ℕ) = t.val % 4 * 1024 + y 1) :
    k0_pay1 (F := Ideal) (iblk m c 0 t) (iblk m c 1 t) y
      = positive (H m c) (W m c) j := by
  rw [part_apply]
  refine congrArg (max · 0) (Finset.sum_congr rfl fun k _ => congrArg₂ (· * ·) ?_ ?_)
  · blk_point [iblk, V, idx t]
  · blk_point [iblk, V, idx t]

/-- The two values stored. -/
theorem positive_apply (a : Vec Ideal S2048x1024 .bf16) (b : Vec Ideal S1024x1024 .bf16) (y : S2048x1024.Idx) :
    k0_pay3 (F := Ideal) a b y = k0_pay1 (F := Ideal) a b y := by
  pointwise [k0_pay3]

theorem square_apply (a : Vec Ideal S2048x1024 .bf16) (b : Vec Ideal S1024x1024 .bf16) (y : S2048x1024.Idx) :
    k0_pay2 (F := Ideal) a b y = k0_pay1 (F := Ideal) a b y * k0_pay1 (F := Ideal) a b y := by
  pointwise [k0_pay2]

theorem final_square (c : Dev nD) : (dats m 0 c).arrAt 2 (cfgs 0).N = square (H m c) (W m c) := by
  refine (dats m 0 c).arrAt_eq_of_covers 2 _ (by decide +kernel) fun t _ y => ?_
  blk_simp
  rw [after0_2]
  frame_out
  rw [square_apply, square, part_eq m c t y _ ?_ ?_] <;> blk_simp [idx t]

theorem final_positive (c : Dev nD) : (dats m 0 c).arrAt 3 (cfgs 0).N = positive (H m c) (W m c) := by
  refine (dats m 0 c).arrAt_eq_of_covers 3 _ (by decide +kernel) fun t _ y => ?_
  blk_simp
  rw [after0_3]
  frame_out
  rw [positive_apply, part_eq m c t y _ ?_ ?_] <;> blk_simp [idx t]

/-- The reference ends, its arguments as they were. -/
theorem frame_reference : Cert.quiescent_Ff1FwdRefIdeal (hFf1FwdRefIdeal := Cert.Ff1FwdRefIdeal.Gen.facts) := by
  intro m g _
  refine (θ_run _ _ _).mono (fun r h => ?_) (Cert.Ff1FwdRefIdeal.Value.run (F := Ideal) m g)
  exact ⟨fun c => (h c).2.2, sem_eq_zero_of_no_sems rfl r.2⟩

/-- Both end with the same two arrays. -/
theorem algebraic : Cert.algebraic_Ff1FwdIdeal_Ff1FwdRefIdeal (hFf1FwdIdeal := Cert.Ff1FwdIdeal.Gen.facts)
    (hFf1FwdRefIdeal := Cert.Ff1FwdRefIdeal.Gen.facts) := by
  intro m g m' g' _ hArgs
  refine ⟨fun c => square (H m c) (W m c), fun c => positive (H m c) (W m c), ?_, ?_⟩
  · exact (θ_run _ _ _).mono (fun r h c => ⟨(h c).1.trans (final_square m c), (h c).2.1.trans (final_positive m c), (h c).2.2⟩)
      (Cert.Ff1FwdIdeal.Value.run_blocks m g)
  · refine (θ_run _ _ _).mono (fun r h c => ⟨(h c).1.trans ?_, (h c).2.1.trans ?_, (h c).2.2⟩)
      (Cert.Ff1FwdRefIdeal.Value.run (F := Ideal) m' g')
    all_goals
      obtain ⟨e0, e1⟩ := hArgs c
      rw [e0, e1]
      funext j
      pointwise! [square, positive]

end Cert.Ffn.Activation

end
-- ==== Proof.Ff2Fwd.lean ====
/-
`w_ff2_fwd`, the feed-forward block's second product: each block is accumulated over two groups of columns in a
scratch and stored at the last.
-/
module

public import proofs.«01_k».proof.Proof.Gen.Ff2FwdIdeal.Frame
public import proofs.«01_k».proof.Proof.Gen.Ff2FwdIdeal.Value
public import proofs.«01_k».proof.Proof.Gen.Ff2FwdRefIdeal.Run
public import proofs.«01_k».proof.Defs
public import Idealize.ShloMosaic.Lib.Pipeline.ValueKit

@[expose] public section

set_option maxRecDepth 16384

noncomputable section

namespace Cert.Ffn.Forward

open Idealize.ShloMosaic Idealize.ShloMosaic.TcCoe Idealize.SL.Sem Cert.Ff2FwdIdeal Cert.Ff2FwdIdeal.Gen

variable (m : (ℓ : Loc nD τ sig) → Buf (Elt Ideal) ℓ)

/-- The activations and the weight, as launched. -/
abbrev A (c : Dev nD) : FVec Ideal S8192x4096 .bf16 := m ((c.tc : Thread nD τ).loc main_arg0)
abbrev W (c : Dev nD) : FVec Ideal S4096x1024 .bf16 := m ((c.tc : Thread nD τ).loc main_arg1)

/-- The product, an element a sum. -/
def product (A : FVec Ideal S8192x4096 .bf16) (W : FVec Ideal S4096x1024 .bf16) : FVec Ideal S8192x1024 .bf16 :=
  fun j => ∑ l : Fin 4096, A (ix2 (j 0) l) * W (ix2 l (j 1))

theorem idx : ∀ t : Fin cfg0.N, win0_0.index t = ![t.val / 2, t.val % 2] ∧ win0_1.index t = ![t.val % 2, 0]
    ∧ win0_2.index t = ![t.val / 2, 0] := (by decide +kernel : ∀ t : Fin grid0.N, _)

/-- A run's first point's block: its own part. -/
theorem part_apply (a : Vec Ideal S1024x2048 .bf16) (b : Vec Ideal S2048x1024 .bf16) (y : S1024x1024.Idx) :
    k0_pay2 (F := Ideal) a b y = ∑ k : Fin 2048, a (ix2 (y 0) k) * b (ix2 k (y 1)) := by
  pointwise [k0_pay2, k0_pay1]

/-- A later point's block: what was there, plus its part. -/
theorem step_apply (a : Vec Ideal S1024x2048 .bf16) (b : Vec Ideal S2048x1024 .bf16) (acc : Vec Ideal S1024x1024 .f32) (y : S1024x1024.Idx) :
    k0_pay3 (F := Ideal) a b acc y = acc y + ∑ k : Fin 2048, a (ix2 (y 0) k) * b (ix2 k (y 1)) := by
  pointwise [k0_pay3, k0_pay1]

/-- A run's last point stores the scratch it leaves. -/
theorem stored_eq (c : Dev nD) (t : Fin cfg0.N) (h : t.val % 2 = 1) (y : S1024x1024.Idx) :
    (outsAt0 m c t.val t.isLt).1 y = ((outsAt0 m c t.val t.isLt).2 y : EReal) := by
  rw [outsAt0_B m c t (by omega) h h]
  frame_out
  pointwise [k0_pay4]

theorem final (c : Dev nD) : (dats m 0 c).arrAt 2 (cfgs 0).N = product (A m c) (W m c) := by
  refine (dats m 0 c).arrAt_eq_of_covers 2 _ (by decide +kernel) fun t hf y => ?_
  blk_simp
  rw [after0_2, stored_eq m c t ((flush0_2 t).mp hf), Pipeline.eq_sum_fin_of_reset_step_apply_of_flush (fun n h => (outsAt0 m c n h).2) 2 (fun _ => 0) _
    (fun t h j => by rw [outsAt0_A m c t h (by omega) (by omega)]; frame_out; rw [part_apply]; exact (zero_add _).symm)
    (fun t h j => by
      rw [outsAt0_B m c t h (by omega) (by omega)]; frame_out; rw [step_apply]
      exact congrArg₂ (· + ·) (congrFun (Memref.IsWhole.read_unread _ _) j) rfl)
    t ((flush0_2 t).mp hf) _, zero_add]
  refine Fin.sum_mul_add_congr fun s k hl => ?_
  have e := idx ⟨_, Pipeline.run_point_lt_of_flush t ((flush0_2 t).mp hf) s⟩
  blk_point [iblk, V, idx t, e]

/-- The reference ends, its arguments as they were. -/
theorem frame_reference : Cert.quiescent_Ff2FwdRefIdeal (hFf2FwdRefIdeal := Cert.Ff2FwdRefIdeal.Gen.facts) := by
  intro m g _
  refine (θ_run _ _ _).mono (fun r h => ?_) (Cert.Ff2FwdRefIdeal.Value.run (F := Ideal) m g)
  exact ⟨fun c => (h c).2, sem_eq_zero_of_no_sems rfl r.2⟩

/-- Both end with the same array. -/
theorem algebraic : Cert.algebraic_Ff2FwdIdeal_Ff2FwdRefIdeal (hFf2FwdIdeal := Cert.Ff2FwdIdeal.Gen.facts)
    (hFf2FwdRefIdeal := Cert.Ff2FwdRefIdeal.Gen.facts) := by
  intro m g m' g' _ hArgs
  refine ⟨fun c => product (A m c) (W m c), ?_, ?_⟩
  · exact (θ_run _ _ _).mono (fun r h c => ⟨(h c).1.trans (final m c), (h c).2⟩) (Cert.Ff2FwdIdeal.Value.run_blocks m g)
  · refine (θ_run _ _ _).mono (fun r h c => ⟨(h c).1.trans ?_, (h c).2⟩) (Cert.Ff2FwdRefIdeal.Value.run (F := Ideal) m' g')
    obtain ⟨e0, e1⟩ := hArgs c
    rw [e0, e1]
    funext j
    pointwise! [product]

end Cert.Ffn.Forward

end
-- ==== Proof.InFwd.lean ====
/-
`w_in_fwd`, the first projection's first 8192 columns: the gates, z and the convolution's input.
-/
module

public import proofs.«01_k».proof.Proof.Gen.InFwdIdeal.Frame
public import proofs.«01_k».proof.Proof.Gen.InFwdIdeal.Value
public import proofs.«01_k».proof.Proof.Gen.InFwdRefIdeal.Run
public import proofs.«01_k».proof.Defs
public import Idealize.ShloMosaic.Lib.Pipeline.ValueKit

@[expose] public section

set_option maxRecDepth 16384

noncomputable section

namespace Cert.InProj.Forward

open Idealize.ShloMosaic Idealize.ShloMosaic.TcCoe Idealize.SL.Sem Cert.InFwdIdeal Cert.InFwdIdeal.Gen

variable (m : (ℓ : Loc nD τ sig) → Buf (Elt Ideal) ℓ)

/-- The input and the weight, as launched. -/
abbrev H (c : Dev nD) : FVec Ideal S8192x1024 .bf16 := m ((c.tc : Thread nD τ).loc main_arg0)
abbrev W (c : Dev nD) : FVec Ideal S1024x8960 .bf16 := m ((c.tc : Thread nD τ).loc main_arg1)

/-- The product, an element a sum. -/
def product (H : FVec Ideal S8192x1024 .bf16) (W : FVec Ideal S1024x8960 .bf16) : FVec Ideal S8192x8192 .bf16 :=
  fun j => ∑ l : Fin 1024, H (ix2 (j 0) l) * W (ix2 l ⟨(j 1 : ℕ), by have := (j 1).isLt; dsimp at this; omega⟩)

theorem idx : ∀ t : Fin cfg0.N, win0_0.index t = ![t.val / 8, 0] ∧ win0_1.index t = ![0, t.val % 8]
    ∧ win0_2.index t = ![t.val / 8, t.val % 8] := (by decide +kernel : ∀ t : Fin grid0.N, _)

/-- The weight as the call takes it: its first columns. -/
theorem entry (c : Dev nD) (i : S1024x8192.Idx) : (V m c main_v0 : FVec Ideal S1024x8192 .bf16) i = W m c (ix2 (i 0) ⟨(i 1 : ℕ), by have := (i 1).isLt; dsimp at this; omega⟩) := by
  have h : V m c main_v0 = extractStridedSlice S1024x8192 ![0, 0] (W m c) slices_S1024x8960_S1024x8192_0_0 := by
    unfold V; after_results
  rw [h]
  pointwise

/-- A point's block. -/
theorem part_apply (a : Vec Ideal S2048x1024 .bf16) (b : Vec Ideal S1024x1024 .bf16) (y : S2048x1024.Idx) :
    k0_pay1 (F := Ideal) a b y = ∑ k : Fin 1024, a (ix2 (y 0) k) * b (ix2 k (y 1)) := by
  pointwise [k0_pay1]

theorem final (c : Dev nD) : (dats m 0 c).arrAt 2 (cfgs 0).N = product (H m c) (W m c) := by
  refine (dats m 0 c).arrAt_eq_of_covers 2 _ (by decide +kernel) fun t _ y => ?_
  blk_simp
  rw [after0_2]
  frame_out
  rw [part_apply]
  refine Fin.sum_fin_congr fun k => ?_
  refine congrArg₂ (· * ·) ?_ ((entry m c _).trans ?_)
  · blk_point [iblk, V, idx t]
  · blk_point [idx t]

/-- The reference ends, its arguments as they were. -/
theorem frame_reference : Cert.quiescent_InFwdRefIdeal (hInFwdRefIdeal := Cert.InFwdRefIdeal.Gen.facts) := by
  intro m g _
  refine (θ_run _ _ _).mono (fun r h => ?_) (Cert.InFwdRefIdeal.Value.run (F := Ideal) m g)
  exact ⟨fun c => (h c).2, sem_eq_zero_of_no_sems rfl r.2⟩

/-- Both end with the same array. -/
theorem algebraic : Cert.algebraic_InFwdIdeal_InFwdRefIdeal (hInFwdIdeal := Cert.InFwdIdeal.Gen.facts)
    (hInFwdRefIdeal := Cert.InFwdRefIdeal.Gen.facts) := by
  intro m g m' g' _ hArgs
  refine ⟨fun c => product (H m c) (W m c), ?_, ?_⟩
  · exact (θ_run _ _ _).mono (fun r h c => ⟨(h c).1.trans (final m c), (h c).2⟩) (Cert.InFwdIdeal.Value.run_blocks m g)
  · refine (θ_run _ _ _).mono (fun r h c => ⟨(h c).1.trans ?_, (h c).2⟩) (Cert.InFwdRefIdeal.Value.run (F := Ideal) m' g')
    obtain ⟨e0, e1⟩ := hArgs c
    rw [e0, e1]
    funext j
    pointwise! [product]

end Cert.InProj.Forward

end
-- ==== Proof.SsmFwd.lean ====
/-
`w_o_ssm_fwd`, the projection of the state-space mixer's output.
-/
module

public import proofs.«01_k».proof.Proof.Gen.SsmFwdIdeal.Frame
public import proofs.«01_k».proof.Proof.Gen.SsmFwdIdeal.Value
public import proofs.«01_k».proof.Proof.Gen.SsmFwdRefIdeal.Run
public import proofs.«01_k».proof.Defs
public import Idealize.ShloMosaic.Lib.Pipeline.ValueKit

@[expose] public section

set_option maxRecDepth 16384

noncomputable section

namespace Cert.SsmOut.Forward

open Idealize.ShloMosaic Idealize.ShloMosaic.TcCoe Idealize.SL.Sem Cert.SsmFwdIdeal Cert.SsmFwdIdeal.Gen

variable (m : (ℓ : Loc nD τ sig) → Buf (Elt Ideal) ℓ)

/-- The mixer's output and the weight, as launched. -/
abbrev A (c : Dev nD) : FVec Ideal S8192x2048 .bf16 := m ((c.tc : Thread nD τ).loc main_arg0)
abbrev W (c : Dev nD) : FVec Ideal S2048x1024 .bf16 := m ((c.tc : Thread nD τ).loc main_arg1)

/-- The product, an element a sum. -/
def product (A : FVec Ideal S8192x2048 .bf16) (W : FVec Ideal S2048x1024 .bf16) : FVec Ideal S8192x1024 .bf16 :=
  fun j => ∑ l : Fin 2048, A (ix2 (j 0) l) * W (ix2 l (j 1))

theorem idx : ∀ t : Fin cfg0.N, win0_0.index t = ![t.val, 0] ∧ win0_1.index t = ![0, 0]
    ∧ win0_2.index t = ![t.val, 0] := (by decide +kernel : ∀ t : Fin grid0.N, _)

/-- A point's block. -/
theorem part_apply (a : Vec Ideal S1024x2048 .bf16) (b : Vec Ideal S2048x1024 .bf16) (y : S1024x1024.Idx) :
    k0_pay1 (F := Ideal) a b y = ∑ k : Fin 2048, a (ix2 (y 0) k) * b (ix2 k (y 1)) := by
  pointwise [k0_pay1]

theorem final (c : Dev nD) : (dats m 0 c).arrAt 2 (cfgs 0).N = product (A m c) (W m c) := by
  refine (dats m 0 c).arrAt_eq_of_covers 2 _ (by decide +kernel) fun t _ y => ?_
  blk_simp
  rw [after0_2]
  frame_out
  rw [part_apply]
  refine Fin.sum_fin_congr fun k => ?_
  blk_point [iblk, V, idx t]

/-- The reference ends, its arguments as they were. -/
theorem frame_reference : Cert.quiescent_SsmFwdRefIdeal (hSsmFwdRefIdeal := Cert.SsmFwdRefIdeal.Gen.facts) := by
  intro m g _
  refine (θ_run _ _ _).mono (fun r h => ?_) (Cert.SsmFwdRefIdeal.Value.run (F := Ideal) m g)
  exact ⟨fun c => (h c).2, sem_eq_zero_of_no_sems rfl r.2⟩

/-- Both end with the same array. -/
theorem algebraic : Cert.algebraic_SsmFwdIdeal_SsmFwdRefIdeal (hSsmFwdIdeal := Cert.SsmFwdIdeal.Gen.facts)
    (hSsmFwdRefIdeal := Cert.SsmFwdRefIdeal.Gen.facts) := by
  intro m g m' g' _ hArgs
  refine ⟨fun c => product (A m c) (W m c), ?_, ?_⟩
  · exact (θ_run _ _ _).mono (fun r h c => ⟨(h c).1.trans (final m c), (h c).2⟩) (Cert.SsmFwdIdeal.Value.run_blocks m g)
  · refine (θ_run _ _ _).mono (fun r h c => ⟨(h c).1.trans ?_, (h c).2⟩) (Cert.SsmFwdRefIdeal.Value.run (F := Ideal) m' g')
    obtain ⟨e0, e1⟩ := hArgs c
    rw [e0, e1]
    funext j
    pointwise! [product]

end Cert.SsmOut.Forward

end
-- ==== Proof.SsmDx.lean ====
/-
`w_o_ssm_dx`, the gradient of the state-space mixer's output through its projection.
-/
module

public import proofs.«01_k».proof.Proof.Gen.SsmDxIdeal.Frame
public import proofs.«01_k».proof.Proof.Gen.SsmDxIdeal.Value
public import proofs.«01_k».proof.Proof.Gen.SsmDxRefIdeal.Run
public import proofs.«01_k».proof.Defs
public import Idealize.ShloMosaic.Lib.Pipeline.ValueKit

@[expose] public section

set_option maxRecDepth 16384

noncomputable section

namespace Cert.SsmOut.InputGrad

open Idealize.ShloMosaic Idealize.ShloMosaic.TcCoe Idealize.SL.Sem Cert.SsmDxIdeal Cert.SsmDxIdeal.Gen

variable (m : (ℓ : Loc nD τ sig) → Buf (Elt Ideal) ℓ)

/-- The projection's gradient and the weight, as launched. -/
abbrev G (c : Dev nD) : FVec Ideal S8192x1024 .bf16 := m ((c.tc : Thread nD τ).loc main_arg0)
abbrev W (c : Dev nD) : FVec Ideal S2048x1024 .bf16 := m ((c.tc : Thread nD τ).loc main_arg1)

/-- The product, an element a sum. -/
def product (G : FVec Ideal S8192x1024 .bf16) (W : FVec Ideal S2048x1024 .bf16) : FVec Ideal S8192x2048 .bf16 :=
  fun j => ∑ l : Fin 1024, G (ix2 (j 0) l) * W (ix2 (j 1) l)

theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- The weight as the call takes it: transposed. -/
theorem entry (c : Dev nD) (i : S1024x2048.Idx) : (V m c main_v0 : FVec Ideal S1024x2048 .bf16) i = W m c (ix2 (i 1) (i 0)) := by
  have h : V m c main_v0 = transpose S1024x2048 [1, 0] (W m c) transposes_S2048x1024_S1024x2048_1_0 := by
    unfold V; after_results
  rw [h]
  pointwise

/-- A point's block. -/
theorem part_apply (a : Vec Ideal S2048x1024 .bf16) (b : Vec Ideal S1024x1024 .bf16) (y : S2048x1024.Idx) :
    k0_pay1 (F := Ideal) a b y = ∑ k : Fin 1024, a (ix2 (y 0) k) * b (ix2 k (y 1)) := by
  pointwise [k0_pay1]

theorem final (c : Dev nD) : (dats m 0 c).arrAt 2 (cfgs 0).N = product (G m c) (W m c) := by
  refine (dats m 0 c).arrAt_eq_of_covers 2 _ (by decide +kernel) fun t _ y => ?_
  blk_simp
  rw [after0_2]
  frame_out
  rw [part_apply]
  refine Fin.sum_fin_congr fun k => ?_
  refine congrArg₂ (· * ·) ?_ ((entry m c _).trans ?_)
  · blk_point [iblk, V, idx t]
  · blk_point [idx t]

/-- The reference ends, its arguments as they were. -/
theorem frame_reference : Cert.quiescent_SsmDxRefIdeal (hSsmDxRefIdeal := Cert.SsmDxRefIdeal.Gen.facts) := by
  intro m g _
  refine (θ_run _ _ _).mono (fun r h => ?_) (Cert.SsmDxRefIdeal.Value.run (F := Ideal) m g)
  exact ⟨fun c => (h c).2, sem_eq_zero_of_no_sems rfl r.2⟩

/-- Both end with the same array. -/
theorem algebraic : Cert.algebraic_SsmDxIdeal_SsmDxRefIdeal (hSsmDxIdeal := Cert.SsmDxIdeal.Gen.facts)
    (hSsmDxRefIdeal := Cert.SsmDxRefIdeal.Gen.facts) := by
  intro m g m' g' _ hArgs
  refine ⟨fun c => product (G m c) (W m c), ?_, ?_⟩
  · exact (θ_run _ _ _).mono (fun r h c => ⟨(h c).1.trans (final m c), (h c).2⟩) (Cert.SsmDxIdeal.Value.run_blocks m g)
  · refine (θ_run _ _ _).mono (fun r h c => ⟨(h c).1.trans ?_, (h c).2⟩) (Cert.SsmDxRefIdeal.Value.run (F := Ideal) m' g')
    obtain ⟨e0, e1⟩ := hArgs c
    rw [e0, e1]
    funext j
    pointwise! [product]

end Cert.SsmOut.InputGrad

end
-- ==== Proof.SsmDw.lean ====
/-
`w_o_ssm_dw`, the gradient of the weight that projects the state-space mixer's output: each block is accumulated over
four groups of rows.
-/
module

public import proofs.«01_k».proof.Proof.Gen.SsmDwIdeal.Frame
public import proofs.«01_k».proof.Proof.Gen.SsmDwIdeal.Value
public import proofs.«01_k».proof.Proof.Gen.SsmDwRefIdeal.Run
public import proofs.«01_k».proof.Defs
public import Idealize.ShloMosaic.Lib.Pipeline.ValueKit

@[expose] public section

set_option maxRecDepth 16384

noncomputable section

namespace Cert.SsmOut.WeightGrad

open Idealize.ShloMosaic Idealize.ShloMosaic.TcCoe Idealize.SL.Sem Cert.SsmDwIdeal Cert.SsmDwIdeal.Gen

variable (m : (ℓ : Loc nD τ sig) → Buf (Elt Ideal) ℓ)

/-- The mixer's output and the projection's gradient, as launched. -/
abbrev A (c : Dev nD) : FVec Ideal S8192x2048 .bf16 := m ((c.tc : Thread nD τ).loc main_arg0)
abbrev G (c : Dev nD) : FVec Ideal S8192x1024 .bf16 := m ((c.tc : Thread nD τ).loc main_arg1)

/-- The product, an element a sum. -/
def product (A : FVec Ideal S8192x2048 .bf16) (G : FVec Ideal S8192x1024 .bf16) : FVec Ideal S2048x1024 .f32 :=
  fun j => ∑ l : Fin 8192, A (ix2 l (j 0)) * G (ix2 l (j 1))

theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- A run's first point's block: its own part. -/
theorem part_apply (a : Vec Ideal S2048x1024 .bf16) (b : Vec Ideal S2048x1024 .bf16) (y : S1024x1024.Idx) :
    k0_pay1 (F := Ideal) a b y = ∑ k : Fin 2048, a (ix2 k (y 0)) * b (ix2 k (y 1)) := by
  pointwise [k0_pay1]

/-- A later point's block: what was there, plus its part. -/
theorem step_apply (a : Vec Ideal S2048x1024 .bf16) (b : Vec Ideal S2048x1024 .bf16) (acc : Vec Ideal S1024x1024 .f32) (y : S1024x1024.Idx) :
    k0_pay2 (F := Ideal) a b acc y = acc y + ∑ k : Fin 2048, a (ix2 k (y 0)) * b (ix2 k (y 1)) := by
  pointwise [k0_pay2, k0_pay1]

theorem final (c : Dev nD) : (dats m 0 c).arrAt 2 (cfgs 0).N = product (A m c) (G m c) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [part_apply]; exact (zero_add _).symm)
    (fun t h j => by rw [outsAt0_B m c t h (by omega)]; frame_out; rw [step_apply])
    t ((flush0_2 t).mp hf) _, zero_add]
  refine Fin.sum_mul_add_congr fun s k hl => ?_
  have e := idx ⟨_, Pipeline.run_point_lt_of_flush t ((flush0_2 t).mp hf) s⟩
  blk_point [iblk, V, idx t, e]

/-- The reference ends, its arguments as they were. -/
theorem frame_reference : Cert.quiescent_SsmDwRefIdeal (hSsmDwRefIdeal := Cert.SsmDwRefIdeal.Gen.facts) := by
  intro m g _
  refine (θ_run _ _ _).mono (fun r h => ?_) (Cert.SsmDwRefIdeal.Value.run (F := Ideal) m g)
  exact ⟨fun c => (h c).2, sem_eq_zero_of_no_sems rfl r.2⟩

/-- Both end with the same array. -/
theorem algebraic : Cert.algebraic_SsmDwIdeal_SsmDwRefIdeal (hSsmDwIdeal := Cert.SsmDwIdeal.Gen.facts)
    (hSsmDwRefIdeal := Cert.SsmDwRefIdeal.Gen.facts) := by
  intro m g m' g' _ hArgs
  refine ⟨fun c => product (A m c) (G m c), ?_, ?_⟩
  · exact (θ_run _ _ _).mono (fun r h c => ⟨(h c).1.trans (final m c), (h c).2⟩) (Cert.SsmDwIdeal.Value.run_blocks m g)
  · refine (θ_run _ _ _).mono (fun r h c => ⟨(h c).1.trans ?_, (h c).2⟩) (Cert.SsmDwRefIdeal.Value.run (F := Ideal) m' g')
    obtain ⟨e0, e1⟩ := hArgs c
    rw [e0, e1]
    funext j
    pointwise! [product]

end Cert.SsmOut.WeightGrad

end
-- ==== Proof.OutFwd.lean ====
/-
`w_out_fwd`, the projection of the merged mixers; the attention's own projection `w_o_attn_fwd` is the same call.
-/
module

public import proofs.«01_k».proof.Proof.Gen.OutFwdIdeal.Frame
public import proofs.«01_k».proof.Proof.Gen.OutFwdIdeal.Value
public import proofs.«01_k».proof.Proof.Gen.OutFwdRefIdeal.Run
public import proofs.«01_k».proof.Defs
public import Idealize.ShloMosaic.Lib.Pipeline.ValueKit

@[expose] public section

set_option maxRecDepth 16384

noncomputable section

namespace Cert.MixOut.Forward

open Idealize.ShloMosaic Idealize.ShloMosaic.TcCoe Idealize.SL.Sem Cert.OutFwdIdeal Cert.OutFwdIdeal.Gen

variable (m : (ℓ : Loc nD τ sig) → Buf (Elt Ideal) ℓ)

/-- The merged mixers and the weight, as launched. -/
abbrev A (c : Dev nD) : FVec Ideal S8192x1024 .bf16 := m ((c.tc : Thread nD τ).loc main_arg0)
abbrev W (c : Dev nD) : FVec Ideal S1024x1024 .bf16 := m ((c.tc : Thread nD τ).loc main_arg1)

/-- The product, an element a sum. -/
def product (A : FVec Ideal S8192x1024 .bf16) (W : FVec Ideal S1024x1024 .bf16) : FVec Ideal S8192x1024 .bf16 :=
  fun j => ∑ l : Fin 1024, A (ix2 (j 0) l) * W (ix2 l (j 1))

theorem idx : ∀ t : Fin cfg0.N, win0_0.index t = ![t.val, 0] ∧ win0_1.index t = ![0, 0]
    ∧ win0_2.index t = ![t.val, 0] := (by decide +kernel : ∀ t : Fin grid0.N, _)

/-- A point's block. -/
theorem part_apply (a : Vec Ideal S2048x1024 .bf16) (b : Vec Ideal S1024x1024 .bf16) (y : S2048x1024.Idx) :
    k0_pay1 (F := Ideal) a b y = ∑ k : Fin 1024, a (ix2 (y 0) k) * b (ix2 k (y 1)) := by
  pointwise [k0_pay1]

theorem final (c : Dev nD) : (dats m 0 c).arrAt 2 (cfgs 0).N = product (A m c) (W m c) := by
  refine (dats m 0 c).arrAt_eq_of_covers 2 _ (by decide +kernel) fun t _ y => ?_
  blk_simp
  rw [after0_2]
  frame_out
  rw [part_apply]
  refine Fin.sum_fin_congr fun k => ?_
  blk_point [iblk, V, idx t]

/-- The reference ends, its arguments as they were. -/
theorem frame_reference : Cert.quiescent_OutFwdRefIdeal (hOutFwdRefIdeal := Cert.OutFwdRefIdeal.Gen.facts) := by
  intro m g _
  refine (θ_run _ _ _).mono (fun r h => ?_) (Cert.OutFwdRefIdeal.Value.run (F := Ideal) m g)
  exact ⟨fun c => (h c).2, sem_eq_zero_of_no_sems rfl r.2⟩

/-- Both end with the same array. -/
theorem algebraic : Cert.algebraic_OutFwdIdeal_OutFwdRefIdeal (hOutFwdIdeal := Cert.OutFwdIdeal.Gen.facts)
    (hOutFwdRefIdeal := Cert.OutFwdRefIdeal.Gen.facts) := by
  intro m g m' g' _ hArgs
  refine ⟨fun c => product (A m c) (W m c), ?_, ?_⟩
  · exact (θ_run _ _ _).mono (fun r h c => ⟨(h c).1.trans (final m c), (h c).2⟩) (Cert.OutFwdIdeal.Value.run_blocks m g)
  · refine (θ_run _ _ _).mono (fun r h c => ⟨(h c).1.trans ?_, (h c).2⟩) (Cert.OutFwdRefIdeal.Value.run (F := Ideal) m' g')
    obtain ⟨e0, e1⟩ := hArgs c
    rw [e0, e1]
    funext j
    pointwise! [product]

end Cert.MixOut.Forward

end
-- ==== Proof.OutDx.lean ====
/-
`w_out_dx`, the gradient of the merged mixers through their projection; `w_o_attn_dx` is the same call.
-/
module

public import proofs.«01_k».proof.Proof.Gen.OutDxIdeal.Frame
public import proofs.«01_k».proof.Proof.Gen.OutDxIdeal.Value
public import proofs.«01_k».proof.Proof.Gen.OutDxRefIdeal.Run
public import proofs.«01_k».proof.Defs
public import Idealize.ShloMosaic.Lib.Pipeline.ValueKit

@[expose] public section

set_option maxRecDepth 16384

noncomputable section

namespace Cert.MixOut.InputGrad

open Idealize.ShloMosaic Idealize.ShloMosaic.TcCoe Idealize.SL.Sem Cert.OutDxIdeal Cert.OutDxIdeal.Gen

variable (m : (ℓ : Loc nD τ sig) → Buf (Elt Ideal) ℓ)

/-- The projection's gradient and the weight, as launched. -/
abbrev G (c : Dev nD) : FVec Ideal S8192x1024 .bf16 := m ((c.tc : Thread nD τ).loc main_arg0)
abbrev W (c : Dev nD) : FVec Ideal S1024x1024 .bf16 := m ((c.tc : Thread nD τ).loc main_arg1)

/-- The product, an element a sum. -/
def product (G : FVec Ideal S8192x1024 .bf16) (W : FVec Ideal S1024x1024 .bf16) : FVec Ideal S8192x1024 .bf16 :=
  fun j => ∑ l : Fin 1024, G (ix2 (j 0) l) * W (ix2 (j 1) l)

theorem idx : ∀ t : Fin cfg0.N, win0_0.index t = ![t.val, 0] ∧ win0_1.index t = ![0, 0]
    ∧ win0_2.index t = ![t.val, 0] := (by decide +kernel : ∀ t : Fin grid0.N, _)

/-- The weight as the call takes it: transposed. -/
theorem entry (c : Dev nD) (i : S1024x1024.Idx) : (V m c main_v0 : FVec Ideal S1024x1024 .bf16) i = W m c (ix2 (i 1) (i 0)) := by
  have h : V m c main_v0 = transpose S1024x1024 [1, 0] (W m c) transposes_S1024x1024_S1024x1024_1_0 := by
    unfold V; after_results
  rw [h]
  pointwise

/-- A point's block. -/
theorem part_apply (a : Vec Ideal S2048x1024 .bf16) (b : Vec Ideal S1024x1024 .bf16) (y : S2048x1024.Idx) :
    k0_pay1 (F := Ideal) a b y = ∑ k : Fin 1024, a (ix2 (y 0) k) * b (ix2 k (y 1)) := by
  pointwise [k0_pay1]

theorem final (c : Dev nD) : (dats m 0 c).arrAt 2 (cfgs 0).N = product (G m c) (W m c) := by
  refine (dats m 0 c).arrAt_eq_of_covers 2 _ (by decide +kernel) fun t _ y => ?_
  blk_simp
  rw [after0_2]
  frame_out
  rw [part_apply]
  refine Fin.sum_fin_congr fun k => ?_
  refine congrArg₂ (· * ·) ?_ ((entry m c _).trans ?_)
  · blk_point [iblk, V, idx t]
  · blk_point [idx t]

/-- The reference ends, its arguments as they were. -/
theorem frame_reference : Cert.quiescent_OutDxRefIdeal (hOutDxRefIdeal := Cert.OutDxRefIdeal.Gen.facts) := by
  intro m g _
  refine (θ_run _ _ _).mono (fun r h => ?_) (Cert.OutDxRefIdeal.Value.run (F := Ideal) m g)
  exact ⟨fun c => (h c).2, sem_eq_zero_of_no_sems rfl r.2⟩

/-- Both end with the same array. -/
theorem algebraic : Cert.algebraic_OutDxIdeal_OutDxRefIdeal (hOutDxIdeal := Cert.OutDxIdeal.Gen.facts)
    (hOutDxRefIdeal := Cert.OutDxRefIdeal.Gen.facts) := by
  intro m g m' g' _ hArgs
  refine ⟨fun c => product (G m c) (W m c), ?_, ?_⟩
  · exact (θ_run _ _ _).mono (fun r h c => ⟨(h c).1.trans (final m c), (h c).2⟩) (Cert.OutDxIdeal.Value.run_blocks m g)
  · refine (θ_run _ _ _).mono (fun r h c => ⟨(h c).1.trans ?_, (h c).2⟩) (Cert.OutDxRefIdeal.Value.run (F := Ideal) m' g')
    obtain ⟨e0, e1⟩ := hArgs c
    rw [e0, e1]
    funext j
    pointwise! [product]

end Cert.MixOut.InputGrad

end
-- ==== Proof.OutDw.lean ====
/-
`w_out_dw`, the gradient of the weight that projects the merged mixers, accumulated over four groups of rows;
`w_o_attn_dw` is the same call.
-/
module

public import proofs.«01_k».proof.Proof.Gen.OutDwIdeal.Frame
public import proofs.«01_k».proof.Proof.Gen.OutDwIdeal.Value
public import proofs.«01_k».proof.Proof.Gen.OutDwRefIdeal.Run
public import proofs.«01_k».proof.Defs
public import Idealize.ShloMosaic.Lib.Pipeline.ValueKit

@[expose] public section

set_option maxRecDepth 16384

noncomputable section

namespace Cert.MixOut.WeightGrad

open Idealize.ShloMosaic Idealize.ShloMosaic.TcCoe Idealize.SL.Sem Cert.OutDwIdeal Cert.OutDwIdeal.Gen

variable (m : (ℓ : Loc nD τ sig) → Buf (Elt Ideal) ℓ)

/-- The merged mixers and the projection's gradient, as launched. -/
abbrev A (c : Dev nD) : FVec Ideal S8192x1024 .bf16 := m ((c.tc : Thread nD τ).loc main_arg0)
abbrev G (c : Dev nD) : FVec Ideal S8192x1024 .bf16 := m ((c.tc : Thread nD τ).loc main_arg1)

/-- The product, an element a sum. -/
def product (A : FVec Ideal S8192x1024 .bf16) (G : FVec Ideal S8192x1024 .bf16) : FVec Ideal S1024x1024 .f32 :=
  fun j => ∑ l : Fin 8192, A (ix2 l (j 0)) * G (ix2 l (j 1))

theorem idx : ∀ t : Fin cfg0.N, win0_0.index t = ![t.val, 0] ∧ win0_1.index t = ![t.val, 0]
    ∧ win0_2.index t = ![0, 0] := (by decide +kernel : ∀ t : Fin grid0.N, _)

/-- A run's first point's block: its own part. -/
theorem part_apply (a : Vec Ideal S2048x1024 .bf16) (b : Vec Ideal S2048x1024 .bf16) (y : S1024x1024.Idx) :
    k0_pay1 (F := Ideal) a b y = ∑ k : Fin 2048, a (ix2 k (y 0)) * b (ix2 k (y 1)) := by
  pointwise [k0_pay1]

/-- A later point's block: what was there, plus its part. -/
theorem step_apply (a : Vec Ideal S2048x1024 .bf16) (b : Vec Ideal S2048x1024 .bf16) (acc : Vec Ideal S1024x1024 .f32) (y : S1024x1024.Idx) :
    k0_pay2 (F := Ideal) a b acc y = acc y + ∑ k : Fin 2048, a (ix2 k (y 0)) * b (ix2 k (y 1)) := by
  pointwise [k0_pay2, k0_pay1]

theorem final (c : Dev nD) : (dats m 0 c).arrAt 2 (cfgs 0).N = product (A m c) (G m c) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by have := lt_of_lt_of_eq t.isLt N_0; omega)]; frame_out; rw [part_apply]; exact (zero_add _).symm)
    (fun t h j => by rw [outsAt0_B m c t h (by have := lt_of_lt_of_eq t.isLt N_0; omega)]; frame_out; rw [step_apply])
    t ((flush0_2 t).mp hf) _, zero_add]
  refine Fin.sum_mul_add_congr fun s k hl => ?_
  have e := idx ⟨_, Pipeline.run_point_lt_of_flush t ((flush0_2 t).mp hf) s⟩
  blk_point [iblk, V, idx t, e]

/-- The reference ends, its arguments as they were. -/
theorem frame_reference : Cert.quiescent_OutDwRefIdeal (hOutDwRefIdeal := Cert.OutDwRefIdeal.Gen.facts) := by
  intro m g _
  refine (θ_run _ _ _).mono (fun r h => ?_) (Cert.OutDwRefIdeal.Value.run (F := Ideal) m g)
  exact ⟨fun c => (h c).2, sem_eq_zero_of_no_sems rfl r.2⟩

/-- Both end with the same array. -/
theorem algebraic : Cert.algebraic_OutDwIdeal_OutDwRefIdeal (hOutDwIdeal := Cert.OutDwIdeal.Gen.facts)
    (hOutDwRefIdeal := Cert.OutDwRefIdeal.Gen.facts) := by
  intro m g m' g' _ hArgs
  refine ⟨fun c => product (A m c) (G m c), ?_, ?_⟩
  · exact (θ_run _ _ _).mono (fun r h c => ⟨(h c).1.trans (final m c), (h c).2⟩) (Cert.OutDwIdeal.Value.run_blocks m g)
  · refine (θ_run _ _ _).mono (fun r h c => ⟨(h c).1.trans ?_, (h c).2⟩) (Cert.OutDwRefIdeal.Value.run (F := Ideal) m' g')
    obtain ⟨e0, e1⟩ := hArgs c
    rw [e0, e1]
    funext j
    pointwise! [product]

end Cert.MixOut.WeightGrad

end
-- ==== Proof.AdamW.lean ====
/-
The optimiser's step of an element: AdamW's averages of the gradient and of its square, and the weight's change.
-/
module

public import Idealize.ShloMosaic.Lib.Pipeline.ValueKit

@[expose] public section

noncomputable section

namespace Cert.AdamW

open Idealize.ShloMosaic

/-- The averages of the gradient and of its square, from the gradient `g` and the averages before. -/
def mean (g μ : EReal) : EReal := Ideal.ofBits .f32 0x3F666666#32 * μ + Ideal.ofBits .f32 0x3DCCCCCD#32 * g
def square (g ν : EReal) : EReal := Ideal.ofBits .f32 0x3F7FBE77#32 * ν + Ideal.ofBits .f32 0x3A83126F#32 * (g * g)

/-- The weight's change. -/
def change (w g μ ν : EReal) : EReal :=
  Ideal.ofBits .f32 0xBA83126F#32 *
    (Ideal.div (Ideal.div (mean g μ) (Ideal.ofBits .f32 0x3F26BD02#32))
        (Ideal.sqrt (Ideal.div (square g ν) (Ideal.ofBits .f32 0x3C231ACC#32)) + Ideal.ofBits .f32 0x322BCC77#32)
      + Ideal.ofBits .f32 0x3C23D70A#32 * w)

/-- The same of whole arrays. -/
def means {s : Shape} (g μ : FVec Ideal s .f32) : FVec Ideal s .f32 := fun j => mean (g j) (μ j)
def squares {s : Shape} (g ν : FVec Ideal s .f32) : FVec Ideal s .f32 := fun j => square (g j) (ν j)
def changes {s : Shape} (w g μ ν : FVec Ideal s .f32) : FVec Ideal s .f32 := fun j => change (w j) (g j) (μ j) (ν j)

/-- A choice by an equality of words. -/
theorem select_eq {α : Type} (x c : BitVec 32) (a b : α) :
    Scalar.select (IntOp.cmpi .eq x c) a b = if x = c then a else b := by
  by_cases h : x = c
  · simp [Scalar.select, IntOp.cmpi, h]
  · simp [Scalar.select, IntOp.cmpi, h, beq_false_of_ne h]

/-- An element's place in an array from its place in a block. -/
theorem at_block {p q n y j : Nat} (h : p = q) (e : q * n + y = j) : p * n + y = j := h ▸ e

end Cert.AdamW

end
-- ==== Proof.AdamAda.lean ====
/-
AdamW's step of `w_ada`: a point takes a block of rows of the half it lies in, the gradient's own half or
the one handed over, and stores the gradient, the weight's change and the two averages.
-/
module

public import proofs.«01_k».proof.Proof.Gen.AdamAdaIdeal.Frame
public import proofs.«01_k».proof.Proof.Gen.AdamAdaRefIdeal.Run
public import proofs.«01_k».proof.Defs
public import proofs.«01_k».proof.Proof.AdamW

@[expose] public section

set_option maxRecDepth 16384

noncomputable section

namespace Cert.AdamW.Ada

open Idealize.ShloMosaic Idealize.ShloMosaic.TcCoe Idealize.SL.Sem Cert.AdamAdaIdeal Cert.AdamAdaIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 4, 0]
    ∧ Scalar.extui (IntOp.cmpi .sge (BitVec.ofNat 32 ((grid0.coords t) 0)) 4#32) = BitVec.ofNat 32 (t.val / 4) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 4
    ∧ (pcfg0.win (adm m (ok m)) 1).index t (1 : Fin 2) = 0 ∧ (pcfg0.win (adm m (ok m)) 2).index t (0 : Fin 2) = t.val % 4
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x1024x1536 .f32 := m ((c.tc : Thread nD τ).loc main_arg0)
abbrev A : FVec Ideal S512x1536 .f32 := m ((c.tc : Thread nD τ).loc main_arg1)
abbrev B : FVec Ideal S512x1536 .f32 := m ((c.tc : Thread nD τ).loc main_arg2)
abbrev C : IVec S1 32 := m ((c.tc : Thread nD τ).loc main_arg3)
abbrev M : FVec Ideal S1x1024x1536 .f32 := m ((c.tc : Thread nD τ).loc main_arg4)
abbrev S : FVec Ideal S1x1024x1536 .f32 := m ((c.tc : Thread nD τ).loc main_arg5)

/-- The gradient: half `C` of its rows is `A`, the other half `B`. -/
def gradient (A B : FVec Ideal S512x1536 .f32) (C : IVec S1 32) : FVec Ideal S1x1024x1536 .f32 := fun j =>
  if BitVec.ofNat 32 ((j 1).val / 512) = C (ix1 0) then A (ix2 ⟨(j 1).val % 512, Nat.mod_lt _ (by decide)⟩ (j 2))
  else B (ix2 ⟨(j 1).val % 512, Nat.mod_lt _ (by decide)⟩ (j 2))

abbrev G : FVec Ideal S1x1024x1536 .f32 := gradient (A m c) (B m c) (C m c)

/-- The blocks of a point. -/
abbrev w (t : Fin grid0.N) : Vec Ideal S1x128x1536 .f32 := iblk m (ok m) c 0 t
abbrev a (t : Fin grid0.N) : Vec Ideal S128x1536 .f32 := iblk m (ok m) c 1 t
abbrev b (t : Fin grid0.N) : Vec Ideal S128x1536 .f32 := iblk m (ok m) c 2 t
abbrev μ (t : Fin grid0.N) : Vec Ideal S1x128x1536 .f32 := iblk m (ok m) c 3 t
abbrev ν (t : Fin grid0.N) : Vec Ideal S1x128x1536 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x1536 .f32) (u v z : Vec Ideal S1x128x1536 .f32)

/-- What the body stores of the blocks, element by element. -/
theorem pay_gradient (e : S1x128x1536.Idx) : k0_pay5 (F := Ideal) i k x y e
    = if Scalar.extui (IntOp.cmpi .sge (BitVec.ofNat 32 (i 0)) 4#32) = k then x (ix2 (e 1) (e 2)) else y (ix2 (e 1) (e 2)) := by
  rw [← select_eq]
  pointwise [k0_pay5, k0_pay4]
  rfl

theorem pay_mean (e : S1x128x1536.Idx) : k0_pay2 (k0_pay7 (F := Ideal) i k x y u) e = mean (k0_pay5 (F := Ideal) i k x y e) (u e) := by
  pointwise [k0_pay2, k0_pay7, k0_pay5, mean]

theorem pay_square (e : S1x128x1536.Idx) : k0_pay3 (k0_pay8 (F := Ideal) i k x y v) e = square (k0_pay5 (F := Ideal) i k x y e) (v e) := by
  pointwise [k0_pay3, k0_pay8, k0_pay5, square]

theorem pay_change (e : S1x128x1536.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x1536.Idx) (j : S1x1024x1536.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 4 = (j 1 : ℕ) / 512 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x1536.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamAdaRefIdeal (hAdamAdaRefIdeal := Cert.AdamAdaRefIdeal.Gen.facts) := by
  intro m g _
  refine (θ_run _ _ _).mono (fun r h => ?_) (Cert.AdamAdaRefIdeal.Value.run (F := Ideal) m g)
  exact ⟨fun c => (h c).2.2.2.2, sem_eq_zero_of_no_sems rfl r.2⟩

/-- Both end with the same four arrays. -/
theorem algebraic : Cert.algebraic_AdamAdaIdeal_AdamAdaRefIdeal (hAdamAdaIdeal := Cert.AdamAdaIdeal.Gen.facts)
    (hAdamAdaRefIdeal := Cert.AdamAdaRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamAdaRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.Ada

end
-- ==== Proof.AdamIn.lean ====
/-
AdamW's step of `w_in`: a point takes a block of rows of the half it lies in, the gradient's own half or
the one handed over, and stores the gradient, the weight's change and the two averages.
-/
module

public import proofs.«01_k».proof.Proof.Gen.AdamInIdeal.Frame
public import proofs.«01_k».proof.Proof.Gen.AdamInRefIdeal.Run
public import proofs.«01_k».proof.Defs
public import proofs.«01_k».proof.Proof.AdamW

@[expose] public section

set_option maxRecDepth 16384

noncomputable section

namespace Cert.AdamW.InProj

open Idealize.ShloMosaic Idealize.ShloMosaic.TcCoe Idealize.SL.Sem Cert.AdamInIdeal Cert.AdamInIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 4, 0]
    ∧ Scalar.extui (IntOp.cmpi .sge (BitVec.ofNat 32 ((grid0.coords t) 0)) 4#32) = BitVec.ofNat 32 (t.val / 4) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 4
    ∧ (pcfg0.win (adm m (ok m)) 1).index t (1 : Fin 2) = 0 ∧ (pcfg0.win (adm m (ok m)) 2).index t (0 : Fin 2) = t.val % 4
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x1024x2200 .f32 := m ((c.tc : Thread nD τ).loc main_arg0)
abbrev A : FVec Ideal S512x2200 .f32 := m ((c.tc : Thread nD τ).loc main_arg1)
abbrev B : FVec Ideal S512x2200 .f32 := m ((c.tc : Thread nD τ).loc main_arg2)
abbrev C : IVec S1 32 := m ((c.tc : Thread nD τ).loc main_arg3)
abbrev M : FVec Ideal S1x1024x2200 .f32 := m ((c.tc : Thread nD τ).loc main_arg4)
abbrev S : FVec Ideal S1x1024x2200 .f32 := m ((c.tc : Thread nD τ).loc main_arg5)

/-- The gradient: half `C` of its rows is `A`, the other half `B`. -/
def gradient (A B : FVec Ideal S512x2200 .f32) (C : IVec S1 32) : FVec Ideal S1x1024x2200 .f32 := fun j =>
  if BitVec.ofNat 32 ((j 1).val / 512) = C (ix1 0) then A (ix2 ⟨(j 1).val % 512, Nat.mod_lt _ (by decide)⟩ (j 2))
  else B (ix2 ⟨(j 1).val % 512, Nat.mod_lt _ (by decide)⟩ (j 2))

abbrev G : FVec Ideal S1x1024x2200 .f32 := gradient (A m c) (B m c) (C m c)

/-- The blocks of a point. -/
abbrev w (t : Fin grid0.N) : Vec Ideal S1x128x2200 .f32 := iblk m (ok m) c 0 t
abbrev a (t : Fin grid0.N) : Vec Ideal S128x2200 .f32 := iblk m (ok m) c 1 t
abbrev b (t : Fin grid0.N) : Vec Ideal S128x2200 .f32 := iblk m (ok m) c 2 t
abbrev μ (t : Fin grid0.N) : Vec Ideal S1x128x2200 .f32 := iblk m (ok m) c 3 t
abbrev ν (t : Fin grid0.N) : Vec Ideal S1x128x2200 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x2200 .f32) (u v z : Vec Ideal S1x128x2200 .f32)

/-- What the body stores of the blocks, element by element. -/
theorem pay_gradient (e : S1x128x2200.Idx) : k0_pay5 (F := Ideal) i k x y e
    = if Scalar.extui (IntOp.cmpi .sge (BitVec.ofNat 32 (i 0)) 4#32) = k then x (ix2 (e 1) (e 2)) else y (ix2 (e 1) (e 2)) := by
  rw [← select_eq]
  pointwise [k0_pay5, k0_pay4]
  rfl

theorem pay_mean (e : S1x128x2200.Idx) : k0_pay2 (k0_pay7 (F := Ideal) i k x y u) e = mean (k0_pay5 (F := Ideal) i k x y e) (u e) := by
  pointwise [k0_pay2, k0_pay7, k0_pay5, mean]

theorem pay_square (e : S1x128x2200.Idx) : k0_pay3 (k0_pay8 (F := Ideal) i k x y v) e = square (k0_pay5 (F := Ideal) i k x y e) (v e) := by
  pointwise [k0_pay3, k0_pay8, k0_pay5, square]

theorem pay_change (e : S1x128x2200.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x2200.Idx) (j : S1x1024x2200.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 4 = (j 1 : ℕ) / 512 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x2200.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamInRefIdeal (hAdamInRefIdeal := Cert.AdamInRefIdeal.Gen.facts) := by
  intro m g _
  refine (θ_run _ _ _).mono (fun r h => ?_) (Cert.AdamInRefIdeal.Value.run (F := Ideal) m g)
  exact ⟨fun c => (h c).2.2.2.2, sem_eq_zero_of_no_sems rfl r.2⟩

/-- Both end with the same four arrays. -/
theorem algebraic : Cert.algebraic_AdamInIdeal_AdamInRefIdeal (hAdamInIdeal := Cert.AdamInIdeal.Gen.facts)
    (hAdamInRefIdeal := Cert.AdamInRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamInRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.InProj

end
-- ==== Proof.AdamUq.lean ====
/-
AdamW's step of `w_uq`: a point takes a block of rows of the half it lies in, the gradient's own half or
the one handed over, and stores the gradient, the weight's change and the two averages.
-/
module

public import proofs.«01_k».proof.Proof.Gen.AdamUqIdeal.Frame
public import proofs.«01_k».proof.Proof.Gen.AdamUqRefIdeal.Run
public import proofs.«01_k».proof.Defs
public import proofs.«01_k».proof.Proof.AdamW

@[expose] public section

set_option maxRecDepth 16384

noncomputable section

namespace Cert.AdamW.Uq

open Idealize.ShloMosaic Idealize.ShloMosaic.TcCoe Idealize.SL.Sem Cert.AdamUqIdeal Cert.AdamUqIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 1, 0]
    ∧ Scalar.extui (IntOp.cmpi .sge (BitVec.ofNat 32 ((grid0.coords t) 0)) 1#32) = BitVec.ofNat 32 (t.val / 1) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 1
    ∧ (pcfg0.win (adm m (ok m)) 1).index t (1 : Fin 2) = 0 ∧ (pcfg0.win (adm m (ok m)) 2).index t (0 : Fin 2) = t.val % 1
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x256x384 .f32 := m ((c.tc : Thread nD τ).loc main_arg0)
abbrev A : FVec Ideal S128x384 .f32 := m ((c.tc : Thread nD τ).loc main_arg1)
abbrev B : FVec Ideal S128x384 .f32 := m ((c.tc : Thread nD τ).loc main_arg2)
abbrev C : IVec S1 32 := m ((c.tc : Thread nD τ).loc main_arg3)
abbrev M : FVec Ideal S1x256x384 .f32 := m ((c.tc : Thread nD τ).loc main_arg4)
abbrev S : FVec Ideal S1x256x384 .f32 := m ((c.tc : Thread nD τ).loc main_arg5)

/-- The gradient: half `C` of its rows is `A`, the other half `B`. -/
def gradient (A B : FVec Ideal S128x384 .f32) (C : IVec S1 32) : FVec Ideal S1x256x384 .f32 := fun j =>
  if BitVec.ofNat 32 ((j 1).val / 128) = C (ix1 0) then A (ix2 ⟨(j 1).val % 128, Nat.mod_lt _ (by decide)⟩ (j 2))
  else B (ix2 ⟨(j 1).val % 128, Nat.mod_lt _ (by decide)⟩ (j 2))

abbrev G : FVec Ideal S1x256x384 .f32 := gradient (A m c) (B m c) (C m c)

/-- The blocks of a point. -/
abbrev w (t : Fin grid0.N) : Vec Ideal S1x128x384 .f32 := iblk m (ok m) c 0 t
abbrev a (t : Fin grid0.N) : Vec Ideal S128x384 .f32 := iblk m (ok m) c 1 t
abbrev b (t : Fin grid0.N) : Vec Ideal S128x384 .f32 := iblk m (ok m) c 2 t
abbrev μ (t : Fin grid0.N) : Vec Ideal S1x128x384 .f32 := iblk m (ok m) c 3 t
abbrev ν (t : Fin grid0.N) : Vec Ideal S1x128x384 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x384 .f32) (u v z : Vec Ideal S1x128x384 .f32)

/-- What the body stores of the blocks, element by element. -/
theorem pay_gradient (e : S1x128x384.Idx) : k0_pay5 (F := Ideal) i k x y e
    = if Scalar.extui (IntOp.cmpi .sge (BitVec.ofNat 32 (i 0)) 1#32) = k then x (ix2 (e 1) (e 2)) else y (ix2 (e 1) (e 2)) := by
  rw [← select_eq]
  pointwise [k0_pay5, k0_pay4]
  rfl

theorem pay_mean (e : S1x128x384.Idx) : k0_pay2 (k0_pay7 (F := Ideal) i k x y u) e = mean (k0_pay5 (F := Ideal) i k x y e) (u e) := by
  pointwise [k0_pay2, k0_pay7, k0_pay5, mean]

theorem pay_square (e : S1x128x384.Idx) : k0_pay3 (k0_pay8 (F := Ideal) i k x y v) e = square (k0_pay5 (F := Ideal) i k x y e) (v e) := by
  pointwise [k0_pay3, k0_pay8, k0_pay5, square]

theorem pay_change (e : S1x128x384.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x384.Idx) (j : S1x256x384.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 1 = (j 1 : ℕ) / 128 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x384.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamUqRefIdeal (hAdamUqRefIdeal := Cert.AdamUqRefIdeal.Gen.facts) := by
  intro m g _
  refine (θ_run _ _ _).mono (fun r h => ?_) (Cert.AdamUqRefIdeal.Value.run (F := Ideal) m g)
  exact ⟨fun c => (h c).2.2.2.2, sem_eq_zero_of_no_sems rfl r.2⟩

/-- Both end with the same four arrays. -/
theorem algebraic : Cert.algebraic_AdamUqIdeal_AdamUqRefIdeal (hAdamUqIdeal := Cert.AdamUqIdeal.Gen.facts)
    (hAdamUqRefIdeal := Cert.AdamUqRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamUqRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.Uq

end
-- ==== Proof.AdamUkv.lean ====
/-
AdamW's step of `w_ukv`: a point takes a block of rows of the half it lies in, the gradient's own half or
the one handed over, and stores the gradient, the weight's change and the two averages.
-/
module

public import proofs.«01_k».proof.Proof.Gen.AdamUkvIdeal.Frame
public import proofs.«01_k».proof.Proof.Gen.AdamUkvRefIdeal.Run
public import proofs.«01_k».proof.Defs
public import proofs.«01_k».proof.Proof.AdamW

@[expose] public section

set_option maxRecDepth 16384

noncomputable section

namespace Cert.AdamW.Ukv

open Idealize.ShloMosaic Idealize.ShloMosaic.TcCoe Idealize.SL.Sem Cert.AdamUkvIdeal Cert.AdamUkvIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 1, 0]
    ∧ Scalar.extui (IntOp.cmpi .sge (BitVec.ofNat 32 ((grid0.coords t) 0)) 1#32) = BitVec.ofNat 32 (t.val / 1) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 1
    ∧ (pcfg0.win (adm m (ok m)) 1).index t (1 : Fin 2) = 0 ∧ (pcfg0.win (adm m (ok m)) 2).index t (0 : Fin 2) = t.val % 1
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x256x512 .f32 := m ((c.tc : Thread nD τ).loc main_arg0)
abbrev A : FVec Ideal S128x512 .f32 := m ((c.tc : Thread nD τ).loc main_arg1)
abbrev B : FVec Ideal S128x512 .f32 := m ((c.tc : Thread nD τ).loc main_arg2)
abbrev C : IVec S1 32 := m ((c.tc : Thread nD τ).loc main_arg3)
abbrev M : FVec Ideal S1x256x512 .f32 := m ((c.tc : Thread nD τ).loc main_arg4)
abbrev S : FVec Ideal S1x256x512 .f32 := m ((c.tc : Thread nD τ).loc main_arg5)

/-- The gradient: half `C` of its rows is `A`, the other half `B`. -/
def gradient (A B : FVec Ideal S128x512 .f32) (C : IVec S1 32) : FVec Ideal S1x256x512 .f32 := fun j =>
  if BitVec.ofNat 32 ((j 1).val / 128) = C (ix1 0) then A (ix2 ⟨(j 1).val % 128, Nat.mod_lt _ (by decide)⟩ (j 2))
  else B (ix2 ⟨(j 1).val % 128, Nat.mod_lt _ (by decide)⟩ (j 2))

abbrev G : FVec Ideal S1x256x512 .f32 := gradient (A m c) (B m c) (C m c)

/-- The blocks of a point. -/
abbrev w (t : Fin grid0.N) : Vec Ideal S1x128x512 .f32 := iblk m (ok m) c 0 t
abbrev a (t : Fin grid0.N) : Vec Ideal S128x512 .f32 := iblk m (ok m) c 1 t
abbrev b (t : Fin grid0.N) : Vec Ideal S128x512 .f32 := iblk m (ok m) c 2 t
abbrev μ (t : Fin grid0.N) : Vec Ideal S1x128x512 .f32 := iblk m (ok m) c 3 t
abbrev ν (t : Fin grid0.N) : Vec Ideal S1x128x512 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x512 .f32) (u v z : Vec Ideal S1x128x512 .f32)

/-- What the body stores of the blocks, element by element. -/
theorem pay_gradient (e : S1x128x512.Idx) : k0_pay5 (F := Ideal) i k x y e
    = if Scalar.extui (IntOp.cmpi .sge (BitVec.ofNat 32 (i 0)) 1#32) = k then x (ix2 (e 1) (e 2)) else y (ix2 (e 1) (e 2)) := by
  rw [← select_eq]
  pointwise [k0_pay5, k0_pay4]
  rfl

theorem pay_mean (e : S1x128x512.Idx) : k0_pay2 (k0_pay7 (F := Ideal) i k x y u) e = mean (k0_pay5 (F := Ideal) i k x y e) (u e) := by
  pointwise [k0_pay2, k0_pay7, k0_pay5, mean]

theorem pay_square (e : S1x128x512.Idx) : k0_pay3 (k0_pay8 (F := Ideal) i k x y v) e = square (k0_pay5 (F := Ideal) i k x y e) (v e) := by
  pointwise [k0_pay3, k0_pay8, k0_pay5, square]

theorem pay_change (e : S1x128x512.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x512.Idx) (j : S1x256x512.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 1 = (j 1 : ℕ) / 128 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x512.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamUkvRefIdeal (hAdamUkvRefIdeal := Cert.AdamUkvRefIdeal.Gen.facts) := by
  intro m g _
  refine (θ_run _ _ _).mono (fun r h => ?_) (Cert.AdamUkvRefIdeal.Value.run (F := Ideal) m g)
  exact ⟨fun c => (h c).2.2.2.2, sem_eq_zero_of_no_sems rfl r.2⟩

/-- Both end with the same four arrays. -/
theorem algebraic : Cert.algebraic_AdamUkvIdeal_AdamUkvRefIdeal (hAdamUkvIdeal := Cert.AdamUkvIdeal.Gen.facts)
    (hAdamUkvRefIdeal := Cert.AdamUkvRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamUkvRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.Ukv

end
-- ==== Proof.AdamOut.lean ====
/-
AdamW's step of `w_o_attn` and of `w_out`: a point takes a block of rows of the half it lies in, the gradient's own half or
the one handed over, and stores the gradient, the weight's change and the two averages.
-/
module

public import proofs.«01_k».proof.Proof.Gen.AdamOutIdeal.Frame
public import proofs.«01_k».proof.Proof.Gen.AdamOutRefIdeal.Run
public import proofs.«01_k».proof.Defs
public import proofs.«01_k».proof.Proof.AdamW

@[expose] public section

set_option maxRecDepth 16384

noncomputable section

namespace Cert.AdamW.MixOut

open Idealize.ShloMosaic Idealize.ShloMosaic.TcCoe Idealize.SL.Sem Cert.AdamOutIdeal Cert.AdamOutIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 1, 0]
    ∧ Scalar.extui (IntOp.cmpi .sge (BitVec.ofNat 32 ((grid0.coords t) 0)) 1#32) = BitVec.ofNat 32 (t.val / 1) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 1
    ∧ (pcfg0.win (adm m (ok m)) 1).index t (1 : Fin 2) = 0 ∧ (pcfg0.win (adm m (ok m)) 2).index t (0 : Fin 2) = t.val % 1
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x256x1024 .f32 := m ((c.tc : Thread nD τ).loc main_arg0)
abbrev A : FVec Ideal S128x1024 .f32 := m ((c.tc : Thread nD τ).loc main_arg1)
abbrev B : FVec Ideal S128x1024 .f32 := m ((c.tc : Thread nD τ).loc main_arg2)
abbrev C : IVec S1 32 := m ((c.tc : Thread nD τ).loc main_arg3)
abbrev M : FVec Ideal S1x256x1024 .f32 := m ((c.tc : Thread nD τ).loc main_arg4)
abbrev S : FVec Ideal S1x256x1024 .f32 := m ((c.tc : Thread nD τ).loc main_arg5)

/-- The gradient: half `C` of its rows is `A`, the other half `B`. -/
def gradient (A B : FVec Ideal S128x1024 .f32) (C : IVec S1 32) : FVec Ideal S1x256x1024 .f32 := fun j =>
  if BitVec.ofNat 32 ((j 1).val / 128) = C (ix1 0) then A (ix2 ⟨(j 1).val % 128, Nat.mod_lt _ (by decide)⟩ (j 2))
  else B (ix2 ⟨(j 1).val % 128, Nat.mod_lt _ (by decide)⟩ (j 2))

abbrev G : FVec Ideal S1x256x1024 .f32 := gradient (A m c) (B m c) (C m c)

/-- The blocks of a point. -/
abbrev w (t : Fin grid0.N) : Vec Ideal S1x128x1024 .f32 := iblk m (ok m) c 0 t
abbrev a (t : Fin grid0.N) : Vec Ideal S128x1024 .f32 := iblk m (ok m) c 1 t
abbrev b (t : Fin grid0.N) : Vec Ideal S128x1024 .f32 := iblk m (ok m) c 2 t
abbrev μ (t : Fin grid0.N) : Vec Ideal S1x128x1024 .f32 := iblk m (ok m) c 3 t
abbrev ν (t : Fin grid0.N) : Vec Ideal S1x128x1024 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x1024 .f32) (u v z : Vec Ideal S1x128x1024 .f32)

/-- What the body stores of the blocks, element by element. -/
theorem pay_gradient (e : S1x128x1024.Idx) : k0_pay5 (F := Ideal) i k x y e
    = if Scalar.extui (IntOp.cmpi .sge (BitVec.ofNat 32 (i 0)) 1#32) = k then x (ix2 (e 1) (e 2)) else y (ix2 (e 1) (e 2)) := by
  rw [← select_eq]
  pointwise [k0_pay5, k0_pay4]
  rfl

theorem pay_mean (e : S1x128x1024.Idx) : k0_pay2 (k0_pay7 (F := Ideal) i k x y u) e = mean (k0_pay5 (F := Ideal) i k x y e) (u e) := by
  pointwise [k0_pay2, k0_pay7, k0_pay5, mean]

theorem pay_square (e : S1x128x1024.Idx) : k0_pay3 (k0_pay8 (F := Ideal) i k x y v) e = square (k0_pay5 (F := Ideal) i k x y e) (v e) := by
  pointwise [k0_pay3, k0_pay8, k0_pay5, square]

theorem pay_change (e : S1x128x1024.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x1024.Idx) (j : S1x256x1024.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 1 = (j 1 : ℕ) / 128 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x1024.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamOutRefIdeal (hAdamOutRefIdeal := Cert.AdamOutRefIdeal.Gen.facts) := by
  intro m g _
  refine (θ_run _ _ _).mono (fun r h => ?_) (Cert.AdamOutRefIdeal.Value.run (F := Ideal) m g)
  exact ⟨fun c => (h c).2.2.2.2, sem_eq_zero_of_no_sems rfl r.2⟩

/-- Both end with the same four arrays. -/
theorem algebraic : Cert.algebraic_AdamOutIdeal_AdamOutRefIdeal (hAdamOutIdeal := Cert.AdamOutIdeal.Gen.facts)
    (hAdamOutRefIdeal := Cert.AdamOutRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamOutRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.MixOut

end
-- ==== Proof.AdamSsm.lean ====
/-
AdamW's step of `w_o_ssm`: a point takes a block of rows of the half it lies in, the gradient's own half or
the one handed over, and stores the gradient, the weight's change and the two averages.
-/
module

public import proofs.«01_k».proof.Proof.Gen.AdamSsmIdeal.Frame
public import proofs.«01_k».proof.Proof.Gen.AdamSsmRefIdeal.Run
public import proofs.«01_k».proof.Defs
public import proofs.«01_k».proof.Proof.AdamW

@[expose] public section

set_option maxRecDepth 16384

noncomputable section

namespace Cert.AdamW.SsmOut

open Idealize.ShloMosaic Idealize.ShloMosaic.TcCoe Idealize.SL.Sem Cert.AdamSsmIdeal Cert.AdamSsmIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 2, 0]
    ∧ Scalar.extui (IntOp.cmpi .sge (BitVec.ofNat 32 ((grid0.coords t) 0)) 2#32) = BitVec.ofNat 32 (t.val / 2) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 2
    ∧ (pcfg0.win (adm m (ok m)) 1).index t (1 : Fin 2) = 0 ∧ (pcfg0.win (adm m (ok m)) 2).index t (0 : Fin 2) = t.val % 2
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x512x1024 .f32 := m ((c.tc : Thread nD τ).loc main_arg0)
abbrev A : FVec Ideal S256x1024 .f32 := m ((c.tc : Thread nD τ).loc main_arg1)
abbrev B : FVec Ideal S256x1024 .f32 := m ((c.tc : Thread nD τ).loc main_arg2)
abbrev C : IVec S1 32 := m ((c.tc : Thread nD τ).loc main_arg3)
abbrev M : FVec Ideal S1x512x1024 .f32 := m ((c.tc : Thread nD τ).loc main_arg4)
abbrev S : FVec Ideal S1x512x1024 .f32 := m ((c.tc : Thread nD τ).loc main_arg5)

/-- The gradient: half `C` of its rows is `A`, the other half `B`. -/
def gradient (A B : FVec Ideal S256x1024 .f32) (C : IVec S1 32) : FVec Ideal S1x512x1024 .f32 := fun j =>
  if BitVec.ofNat 32 ((j 1).val / 256) = C (ix1 0) then A (ix2 ⟨(j 1).val % 256, Nat.mod_lt _ (by decide)⟩ (j 2))
  else B (ix2 ⟨(j 1).val % 256, Nat.mod_lt _ (by decide)⟩ (j 2))

abbrev G : FVec Ideal S1x512x1024 .f32 := gradient (A m c) (B m c) (C m c)

/-- The blocks of a point. -/
abbrev w (t : Fin grid0.N) : Vec Ideal S1x128x1024 .f32 := iblk m (ok m) c 0 t
abbrev a (t : Fin grid0.N) : Vec Ideal S128x1024 .f32 := iblk m (ok m) c 1 t
abbrev b (t : Fin grid0.N) : Vec Ideal S128x1024 .f32 := iblk m (ok m) c 2 t
abbrev μ (t : Fin grid0.N) : Vec Ideal S1x128x1024 .f32 := iblk m (ok m) c 3 t
abbrev ν (t : Fin grid0.N) : Vec Ideal S1x128x1024 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x1024 .f32) (u v z : Vec Ideal S1x128x1024 .f32)

/-- What the body stores of the blocks, element by element. -/
theorem pay_gradient (e : S1x128x1024.Idx) : k0_pay5 (F := Ideal) i k x y e
    = if Scalar.extui (IntOp.cmpi .sge (BitVec.ofNat 32 (i 0)) 2#32) = k then x (ix2 (e 1) (e 2)) else y (ix2 (e 1) (e 2)) := by
  rw [← select_eq]
  pointwise [k0_pay5, k0_pay4]
  rfl

theorem pay_mean (e : S1x128x1024.Idx) : k0_pay2 (k0_pay7 (F := Ideal) i k x y u) e = mean (k0_pay5 (F := Ideal) i k x y e) (u e) := by
  pointwise [k0_pay2, k0_pay7, k0_pay5, mean]

theorem pay_square (e : S1x128x1024.Idx) : k0_pay3 (k0_pay8 (F := Ideal) i k x y v) e = square (k0_pay5 (F := Ideal) i k x y e) (v e) := by
  pointwise [k0_pay3, k0_pay8, k0_pay5, square]

theorem pay_change (e : S1x128x1024.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x1024.Idx) (j : S1x512x1024.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 2 = (j 1 : ℕ) / 256 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x1024.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamSsmRefIdeal (hAdamSsmRefIdeal := Cert.AdamSsmRefIdeal.Gen.facts) := by
  intro m g _
  refine (θ_run _ _ _).mono (fun r h => ?_) (Cert.AdamSsmRefIdeal.Value.run (F := Ideal) m g)
  exact ⟨fun c => (h c).2.2.2.2, sem_eq_zero_of_no_sems rfl r.2⟩

/-- Both end with the same four arrays. -/
theorem algebraic : Cert.algebraic_AdamSsmIdeal_AdamSsmRefIdeal (hAdamSsmIdeal := Cert.AdamSsmIdeal.Gen.facts)
    (hAdamSsmRefIdeal := Cert.AdamSsmRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamSsmRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.SsmOut

end
-- ==== Proof.AdamFf.lean ====
/-
AdamW's step of `w_ff1` and of `w_ff2`: a point takes a block of rows of the half it lies in, the gradient's own half or
the one handed over, and stores the gradient, the weight's change and the two averages.
-/
module

public import proofs.«01_k».proof.Proof.Gen.AdamFfIdeal.Frame
public import proofs.«01_k».proof.Proof.Gen.AdamFfRefIdeal.Run
public import proofs.«01_k».proof.Defs
public import proofs.«01_k».proof.Proof.AdamW

@[expose] public section

set_option maxRecDepth 16384

noncomputable section

namespace Cert.AdamW.Ffn

open Idealize.ShloMosaic Idealize.ShloMosaic.TcCoe Idealize.SL.Sem Cert.AdamFfIdeal Cert.AdamFfIdeal.Gen

/-- The places of the blocks do not depend on the table's contents, so they are computed at one. -/
def table : (pcfg0 (F := Ideal)).Adm := ⟨fun | 0 => fun _ => (0#32 : BitVec 32), trivial⟩

theorem places : ∀ t : Fin (cfg0 table).N, (win0 table 0).index t = ![0, t.val, 0] ∧ (win0 table 1).index t = ![t.val % 4, 0]
    ∧ Scalar.extui (IntOp.cmpi .sge (BitVec.ofNat 32 ((grid0.coords t) 0)) 4#32) = BitVec.ofNat 32 (t.val / 4) :=
  (by decide +kernel : ∀ t : Fin grid0.N, _)

theorem covers : (win0 table 5).Covers := by decide +kernel

variable (m : (ℓ : Loc nD τ sig) → Buf (Elt Ideal) ℓ) (c : Dev nD)

theorem ok : Ok m := trivial

/-- The same at the launch's table, axis by axis. -/
theorem half (t : Fin grid0.N) : (pcfg0.win (adm m (ok m)) 1).index t (0 : Fin 2) = t.val % 4
    ∧ (pcfg0.win (adm m (ok m)) 1).index t (1 : Fin 2) = 0 ∧ (pcfg0.win (adm m (ok m)) 2).index t (0 : Fin 2) = t.val % 4
    ∧ (pcfg0.win (adm m (ok m)) 2).index t (1 : Fin 2) = 0 :=
  have e := (places t).2.1
  ⟨congrFun e 0, congrFun e 1, congrFun e 0, congrFun e 1⟩

theorem whole (t : Fin grid0.N) : (pcfg0.win (adm m (ok m)) 5).index t (1 : Fin 3) = t.val
    ∧ (pcfg0.win (adm m (ok m)) 5).index t (2 : Fin 3) = 0 :=
  have h := (places t).1
  ⟨congrFun h 1, congrFun h 2⟩

/-- The arrays, as launched. -/
abbrev W : FVec Ideal S1x1024x1024 .f32 := m ((c.tc : Thread nD τ).loc main_arg0)
abbrev A : FVec Ideal S512x1024 .f32 := m ((c.tc : Thread nD τ).loc main_arg1)
abbrev B : FVec Ideal S512x1024 .f32 := m ((c.tc : Thread nD τ).loc main_arg2)
abbrev C : IVec S1 32 := m ((c.tc : Thread nD τ).loc main_arg3)
abbrev M : FVec Ideal S1x1024x1024 .f32 := m ((c.tc : Thread nD τ).loc main_arg4)
abbrev S : FVec Ideal S1x1024x1024 .f32 := m ((c.tc : Thread nD τ).loc main_arg5)

/-- The gradient: half `C` of its rows is `A`, the other half `B`. -/
def gradient (A B : FVec Ideal S512x1024 .f32) (C : IVec S1 32) : FVec Ideal S1x1024x1024 .f32 := fun j =>
  if BitVec.ofNat 32 ((j 1).val / 512) = C (ix1 0) then A (ix2 ⟨(j 1).val % 512, Nat.mod_lt _ (by decide)⟩ (j 2))
  else B (ix2 ⟨(j 1).val % 512, Nat.mod_lt _ (by decide)⟩ (j 2))

abbrev G : FVec Ideal S1x1024x1024 .f32 := gradient (A m c) (B m c) (C m c)

/-- The blocks of a point. -/
abbrev w (t : Fin grid0.N) : Vec Ideal S1x128x1024 .f32 := iblk m (ok m) c 0 t
abbrev a (t : Fin grid0.N) : Vec Ideal S128x1024 .f32 := iblk m (ok m) c 1 t
abbrev b (t : Fin grid0.N) : Vec Ideal S128x1024 .f32 := iblk m (ok m) c 2 t
abbrev μ (t : Fin grid0.N) : Vec Ideal S1x128x1024 .f32 := iblk m (ok m) c 3 t
abbrev ν (t : Fin grid0.N) : Vec Ideal S1x128x1024 .f32 := iblk m (ok m) c 4 t

/-- The word the body reads from the table. -/
theorem core : View.readAt (Elt Ideal) (View.whole main_arg3) (Rect.unit (s := S1) ![0] ![1] inb_S1_S1_0).toLoadRect
    (tbl m 0) (Shape.Idx.first (by decide)) = C m c (ix1 0) := by
  obtain rfl : c = 0 := Subsingleton.elim _ _
  exact congrArg (C m 0) (funext fun | 0 => rfl)

variable (i : grid0.Coords) (k : BitVec 32) (x y : Vec Ideal S128x1024 .f32) (u v z : Vec Ideal S1x128x1024 .f32)

/-- What the body stores of the blocks, element by element. -/
theorem pay_gradient (e : S1x128x1024.Idx) : k0_pay5 (F := Ideal) i k x y e
    = if Scalar.extui (IntOp.cmpi .sge (BitVec.ofNat 32 (i 0)) 4#32) = k then x (ix2 (e 1) (e 2)) else y (ix2 (e 1) (e 2)) := by
  rw [← select_eq]
  pointwise [k0_pay5, k0_pay4]
  rfl

theorem pay_mean (e : S1x128x1024.Idx) : k0_pay2 (k0_pay7 (F := Ideal) i k x y u) e = mean (k0_pay5 (F := Ideal) i k x y e) (u e) := by
  pointwise [k0_pay2, k0_pay7, k0_pay5, mean]

theorem pay_square (e : S1x128x1024.Idx) : k0_pay3 (k0_pay8 (F := Ideal) i k x y v) e = square (k0_pay5 (F := Ideal) i k x y e) (v e) := by
  pointwise [k0_pay3, k0_pay8, k0_pay5, square]

theorem pay_change (e : S1x128x1024.Idx) :
    k0_pay1 (k0_pay6 z) (k0_pay9 i k x y u) (k0_pay10 i k x y v) (k0_pay11 (F := Ideal)) e
      = change (z e) (k0_pay5 (F := Ideal) i k x y e) (u e) (v e) := by
  pointwise [k0_pay1, k0_pay6, k0_pay9, k0_pay10, k0_pay11, k0_pay7, k0_pay8, k0_pay5, change, mean, square]

theorem gradient_eq (t : Fin grid0.N) (y : S1x128x1024.Idx) (j : S1x1024x1024.Idx)
    (h1 : (j 1 : ℕ) = t.val * 128 + y 1) (h2 : (j 2 : ℕ) = y 2) :
    k0_pay5 (F := Ideal) (grid0.coords t) (C m c (ix1 0)) (a m c t) (b m c t) y = G m c j := by
  have e : (y 1 : ℕ) < 128 := (y 1).isLt
  rw [pay_gradient, (places t).2.2, G, gradient, show t.val / 4 = (j 1 : ℕ) / 512 by omega]
  refine if_congr Iff.rfl ?_ ?_
  · blk_point [iblk, V]
    · exact at_block (half m t).1 (by omega)
    · exact at_block (half m t).2.1 (by omega)
  · blk_point [iblk, V]
    · exact at_block (half m t).2.2.1 (by omega)
    · exact at_block (half m t).2.2.2 (by omega)

/-- What the body stores at a point. -/
theorem outs (t : Fin grid0.N) : outsAt0 m (ok m) c t
    = (k0_pay5 (F := Ideal) (grid0.coords t) (C m c (ix1 0)) (a m c t) (b m c t),
      k0_pay1 (F := Ideal) (k0_pay6 (w m c t)) (k0_pay9 (grid0.coords t) (C m c (ix1 0)) (a m c t) (b m c t) (μ m c t))
        (k0_pay10 (grid0.coords t) (C m c (ix1 0)) (a m c t) (b m c t) (ν m c t)) k0_pay11,
      k0_pay2 (F := Ideal) (k0_pay7 (grid0.coords t) (C m c (ix1 0)) (a m c t) (b m c t) (μ m c t)),
      k0_pay3 (F := Ideal) (k0_pay8 (grid0.coords t) (C m c (ix1 0)) (a m c t) (b m c t) (ν m c t))) := by
  unfold outsAt0
  frame_out
  erw [core m c, (hs0_0 m (ok m) t).read_unread (w m c t), (hs0_1 m (ok m) t).read_unread (a m c t), (hs0_2 m (ok m) t).read_unread (b m c t),
    (hs0_3 m (ok m) t).read_unread (μ m c t), (hs0_4 m (ok m) t).read_unread (ν m c t)]

/-- The gradient's block, at its place in the array. -/
theorem gradient_at (t : Fin grid0.N) (y : S1x128x1024.Idx) :
    k0_pay5 (F := Ideal) (grid0.coords t) (C m c (ix1 0)) (a m c t) (b m c t) y
      = G m c (((win0 (adm m (ok m)) 5).blk t).view.emb y) := by
  refine gradient_eq m c t y _ ?_ ?_ <;> blk_simp
  · exact at_block (whole m t).1 rfl
  · exact at_block (whole m t).2 (Nat.zero_add _)

/-- The arrays the launch leaves. -/
theorem final_gradient : (dats m (ok m) 0 c).arrAt 5 (cfgM m (ok m)).N = G m c := by
  refine (dats m (ok m) 0 c).arrAt_eq_of_covers 5 _ covers fun t _ y => ?_
  blk_simp
  rw [after0_5, outs]
  exact gradient_at m c t y

theorem final_change : (dats m (ok m) 0 c).arrAt 6 (cfgM m (ok m)).N = changes (W m c) (G m c) (M m c) (S m c) := by
  refine (dats m (ok m) 0 c).arrAt_eq_of_covers 6 _ covers fun t _ y => ?_
  blk_simp
  rw [after0_6, outs]
  exact (pay_change _ _ _ _ _ _ _ y).trans (congrArg (change _ · _ _) (gradient_at m c t y))

theorem final_mean : (dats m (ok m) 0 c).arrAt 7 (cfgM m (ok m)).N = means (G m c) (M m c) := by
  refine (dats m (ok m) 0 c).arrAt_eq_of_covers 7 _ covers fun t _ y => ?_
  blk_simp
  rw [after0_7, outs]
  exact (pay_mean _ _ _ _ _ y).trans (congrArg (mean · _) (gradient_at m c t y))

theorem final_square : (dats m (ok m) 0 c).arrAt 8 (cfgM m (ok m)).N = squares (G m c) (S m c) := by
  refine (dats m (ok m) 0 c).arrAt_eq_of_covers 8 _ covers fun t _ y => ?_
  blk_simp
  rw [after0_8, outs]
  exact (pay_square _ _ _ _ _ y).trans (congrArg (square · _) (gradient_at m c t y))

/-- The reference ends, its arguments as they were. -/
theorem frame_reference : Cert.quiescent_AdamFfRefIdeal (hAdamFfRefIdeal := Cert.AdamFfRefIdeal.Gen.facts) := by
  intro m g _
  refine (θ_run _ _ _).mono (fun r h => ?_) (Cert.AdamFfRefIdeal.Value.run (F := Ideal) m g)
  exact ⟨fun c => (h c).2.2.2.2, sem_eq_zero_of_no_sems rfl r.2⟩

/-- Both end with the same four arrays. -/
theorem algebraic : Cert.algebraic_AdamFfIdeal_AdamFfRefIdeal (hAdamFfIdeal := Cert.AdamFfIdeal.Gen.facts)
    (hAdamFfRefIdeal := Cert.AdamFfRefIdeal.Gen.facts) := by
  intro m g m' g' _ hArgs
  refine ⟨fun c => G m c, fun c => changes (W m c) (G m c) (M m c) (S m c), fun c => means (G m c) (M m c),
    fun c => squares (G m c) (S m c), ?_, ?_⟩
  · refine (θ_run _ _ _).mono (fun r h c => ⟨((h c).1 5).trans (final_gradient m c), ((h c).1 6).trans (final_change m c),
      ((h c).1 7).trans (final_mean m c), ((h c).1 8).trans (final_square m c), ?_⟩) (run_main m g (ok m))
    exact ⟨((h c).1 0).trans ((dats m (ok m) 0 c).arrAt_in 0 rfl _), ((h c).1 1).trans ((dats m (ok m) 0 c).arrAt_in 1 rfl _),
      ((h c).1 2).trans ((dats m (ok m) 0 c).arrAt_in 2 rfl _), (h c).2 main_arg3 (by decide : main_arg3 ∈ Pipeline.restRefs sig spec0),
      ((h c).1 3).trans ((dats m (ok m) 0 c).arrAt_in 3 rfl _), ((h c).1 4).trans ((dats m (ok m) 0 c).arrAt_in 4 rfl _)⟩
  · refine (θ_run _ _ _).mono (fun r h c => ?_) (Cert.AdamFfRefIdeal.Value.run (F := Ideal) m' g')
    obtain ⟨hg, hd, hm, hs, kept⟩ := h c
    obtain ⟨e0, e1, e2, e3, e4, e5⟩ := hArgs c
    rw [← hg] at hd hm hs
    have e : _ = G m c := hg.trans (by
      rw [e1, e2, e3]
      funext j
      pointwise [gradient, select_eq])
    rw [e, e4] at hm
    rw [e, e5] at hs
    rw [e, e0, e4, e5] at hd
    refine ⟨e, hd.trans ?_, hm.trans ?_, hs.trans ?_, kept⟩
    · funext j
      pointwise [changes, change, mean, square]
    · funext j
      pointwise [means, mean]
    · funext j
      pointwise [squares, square]

end Cert.AdamW.Ffn

end
-- ==== Proof.Packing.lean ====
/-
Arrays packed end to end into one, padded to whole rows: where an element goes, and where it is read back.
-/
module

public import Idealize.ShloMosaic.Lib.Pipeline.ValueKit
public import Idealize.ShloMosaic.Lib.KernelVsHost

@[expose] public section

noncomputable section

namespace Cert.Packing

open Idealize.ShloMosaic

/-- A vector of `n` elements. -/
abbrev line (n : Nat) : Shape := ⟨1, ![n]⟩

variable {α : Type} {r t : Shape} {n N M : Nat}

/-- The place, in the packed array, of an element of the array that starts at `o`. -/
def place (r : Shape) (o : Nat) (i : t.Idx) (h : o + t.numel ≤ r.numel) : r.Idx :=
  r.rowMajor.symm ⟨o + (t.rowMajor i).val, by have := (t.rowMajor i).isLt; omega⟩

theorem place_val (o : Nat) (i : t.Idx) (h : o + t.numel ≤ r.numel) :
    (r.rowMajor (place r o i h)).val = o + (t.rowMajor i).val := by
  rw [place, Equiv.apply_symm_apply]

/-- What the packed array holds there. -/
theorem packed_at (xs : List ((s : Shape) × (s.Idx → α))) (h : Shape.Concatenates (xs.map (·.1)) (line N) 0)
    {u : Shape} (v : u.Idx → α) {p : Nat} (hp : (line N).Pads ![0] ![p] ![0] (line M)) (hu : 0 < u.numel)
    (hr : (line M).ShapeCasts r) (k o : Nat) (y : t.Idx → α) (hy : t.ShapeCasts (line n))
    (e : xs[k]? = some ⟨line n, shapeCast (line n) y hy⟩)
    (S : List Shape) (hS : xs.map (·.1) = S)
    (ho : ((S.take k).map fun s => if h : s.rank = (line N).rank then s.size ((0 : Fin 1).cast h.symm) else 0).sum = o)
    (hn : t.numel = n) (hN : o + n ≤ N) (i : t.Idx) (hi : o + t.numel ≤ r.numel) :
    shapeCast r (pad (line M) ![0] ![p] ![0] (concatenate (line N) 0 xs h) v hp hu) hr (place r o i hi) = y i := by
  have l : (t.rowMajor i).val < n := hn ▸ (t.rowMajor i).isLt
  obtain ⟨hk, e⟩ := List.getElem?_eq_some_iff.mp e
  have NM : N ≤ M := by have := hp.2 0; simp at this; omega
  rw [shapeCast_apply _ hr _ (ix1 ⟨o + (t.rowMajor i).val, by omega⟩) (by rw [place_val, Shape.rowMajor_val_one]; rfl),
    pad_apply_of_inside _ _ _ _ _ hp hu _ (ix1 ⟨o + (t.rowMajor i).val, by omega⟩) (fun | 0 => by simp),
    concatenate_apply_piece 0 xs h _ k hk (line n) _ e rfl o (by rw [List.map_take, hS]; exact ho) (ix1 ⟨(t.rowMajor i).val, l⟩) (fun | 0, q => absurd rfl q) rfl,
    shapeCast_apply y hy _ i (by rw [Shape.rowMajor_val_one]; rfl)]

/-- Reading an array back. -/
theorem unpacked_at (x : r.Idx → α) (hr : r.ShapeCasts (line M)) (o : Nat) (hs : (line M).Slices ![o] (line n))
    (ht : (line n).ShapeCasts t) (i : t.Idx) (hi : o + t.numel ≤ r.numel) :
    shapeCast t (extractStridedSlice (line n) ![o] (shapeCast (line M) x hr) hs) ht i = x (place r o i hi) := by
  have l : (t.rowMajor i).val < n := by
    have e : (line n).numel = n := by simp [Shape.numel]
    have := (t.rowMajor i).isLt
    unfold Shape.ShapeCasts at ht
    omega
  have nM : o + n ≤ M := by have := hs.2 0; simpa using this
  rw [shapeCast_apply _ ht _ (ix1 ⟨(t.rowMajor i).val, l⟩) (by rw [Shape.rowMajor_val_one]; rfl),
    extractStridedSlice_apply _ _ hs _ (ix1 ⟨o + (t.rowMajor i).val, by omega⟩) (fun | 0 => by simp),
    shapeCast_apply _ hr _ (place r o i hi) (by rw [place_val, Shape.rowMajor_val_one]; rfl)]

/-- A stack of `D` vectors of `n` elements. -/
abbrev lines (D n : Nat) : Shape := ⟨2, ![D, n]⟩

/-- The same of vectors stacked: what the packed stack holds of its member `d`. -/
theorem stacked_at {D : Nat} (xs : List ((s : Shape) × (s.Idx → α))) (h : Shape.Concatenates (xs.map (·.1)) (lines D N) 1)
    {u : Shape} (v : u.Idx → α) {p : Nat} (hp : (lines D N).Pads ![0, 0] ![0, p] ![0, 0] (lines D M)) (hu : 0 < u.numel)
    (hr : (lines D M).ShapeCasts r) (k o : Nat) (y : t.Idx → α) (hy : t.ShapeCasts (lines D n))
    (e : xs[k]? = some ⟨lines D n, shapeCast (lines D n) y hy⟩)
    (S : List Shape) (hS : xs.map (·.1) = S)
    (ho : ((S.take k).map fun s => if h : s.rank = (lines D N).rank then s.size ((1 : Fin 2).cast h.symm) else 0).sum = o)
    (hN : o + n ≤ N) (d : Fin D) (q : Nat) (hq : q < n) (j : r.Idx) (hj : (r.rowMajor j).val = d.val * M + (o + q))
    (i : t.Idx) (hi : (t.rowMajor i).val = d.val * n + q) :
    shapeCast r (pad (lines D M) ![0, 0] ![0, p] ![0, 0] (concatenate (lines D N) 1 xs h) v hp hu) hr j = y i := by
  obtain ⟨hk, e⟩ := List.getElem?_eq_some_iff.mp e
  have NM : N ≤ M := by have := hp.2 1; simp at this; omega
  rw [shapeCast_apply _ hr _ (ix2 d ⟨o + q, by omega⟩) (by rw [hj, Shape.rowMajor_val_two]; rfl),
    pad_apply_of_inside _ _ _ _ _ hp hu _ (ix2 d ⟨o + q, by omega⟩) (fun | 0 => by simp | 1 => by simp),
    concatenate_apply_piece 1 xs h _ k hk (lines D n) _ e rfl o (by rw [List.map_take, hS]; exact ho) (ix2 d ⟨q, hq⟩)
      (fun | 0, _ => rfl | 1, q => absurd rfl q) rfl,
    shapeCast_apply y hy _ i (by rw [hi, Shape.rowMajor_val_two]; rfl)]

section total

variable {D a b R C : Nat}

/-- The sum of the members of a stack. -/
def total (y : FVec Ideal ⟨3, ![D, a, b]⟩ .f32) : FVec Ideal ⟨2, ![a, b]⟩ .f32 := fun i => ∑ d : Fin D, y (ix3 d (i 0) (i 1))

/-- The sum of packed arrays is the packed sum. -/
theorem total_at (xs : List ((s : Shape) × (s.Idx → EReal))) (h : Shape.Concatenates (xs.map (·.1)) (lines D N) 1)
    {u : Shape} (v : u.Idx → EReal) {p : Nat} (hp : (lines D N).Pads ![0, 0] ![0, p] ![0, 0] (lines D M)) (hu : 0 < u.numel)
    (hr : (lines D M).ShapeCasts ⟨3, ![D, R, C]⟩) (k o : Nat) (y : FVec Ideal ⟨3, ![D, a, b]⟩ .f32)
    (hy : (⟨3, ![D, a, b]⟩ : Shape).ShapeCasts (lines D n)) (e : xs[k]? = some ⟨lines D n, shapeCast (lines D n) y hy⟩)
    (S : List Shape) (hS : xs.map (·.1) = S)
    (ho : ((S.take k).map fun s => if h : s.rank = (lines D N).rank then s.size ((1 : Fin 2).cast h.symm) else 0).sum = o)
    (hn : a * b = n) (hM : R * C = M) (hN : o + n ≤ N) (i : (⟨2, ![a, b]⟩ : Shape).Idx) (hi : o + (⟨2, ![a, b]⟩ : Shape).numel ≤ (⟨2, ![R, C]⟩ : Shape).numel) :
    total (shapeCast ⟨3, ![D, R, C]⟩ (pad (lines D M) ![0, 0] ![0, p] ![0, 0] (concatenate (lines D N) 1 xs h) v hp hu) hr)
      (place ⟨2, ![R, C]⟩ o i hi) = total y i := by
  refine Finset.sum_congr rfl fun d _ => ?_
  have l : ((⟨2, ![a, b]⟩ : Shape).rowMajor i).val < n := by
    have := ((⟨2, ![a, b]⟩ : Shape).rowMajor i).isLt
    have e : (⟨2, ![a, b]⟩ : Shape).numel = a * b := by simp [Shape.numel, Fin.prod_univ_two]
    omega
  have f {A B : Nat} (j : (⟨2, ![A, B]⟩ : Shape).Idx) : ((⟨3, ![D, A, B]⟩ : Shape).rowMajor (ix3 d (j 0) (j 1))).val
      = d.val * (A * B) + ((⟨2, ![A, B]⟩ : Shape).rowMajor j).val := by
    rw [Shape.rowMajor_val_three, Shape.rowMajor_val_two]
    show (d.val * A + (j 0).val) * B + (j 1).val = d.val * (A * B) + ((j 0).val * B + (j 1).val)
    ring
  exact stacked_at xs h v hp hu hr k o y hy e S hS ho hN d _ l _ (by rw [f, place_val, hM]) _ (by rw [f, hn])

end total

end Cert.Packing

end
-- ==== Proof.AdamSmall.lean ====
/-
AdamW's step of the vectors and of `conv_w`: the arrays are packed end to end into rows, a point takes a block of rows
and stores the change and the two averages, and the results are cut out of the rows again.
-/
module

public import proofs.«01_k».proof.Proof.Gen.AdamSmallIdeal.Frame
public import proofs.«01_k».proof.Proof.Gen.AdamSmallRefIdeal.Run
public import proofs.«01_k».proof.Defs
public import proofs.«01_k».proof.Proof.AdamW
public import proofs.«01_k».proof.Proof.Packing
public import Idealize.ShloMosaic.Lib.StableHlo.RunRead

@[expose] public section

set_option maxRecDepth 16384

noncomputable section

namespace Cert.SmallStep

open Idealize.ShloMosaic Idealize.ShloMosaic.TcCoe Idealize.SL.Sem Cert.AdamSmallIdeal Cert.AdamSmallIdeal.Gen
open Cert.AdamW Cert.Packing

/-- The arrays of one kind: the weights, their gradients, or one of the two averages. -/
structure Small where
  (bAda : FVec Ideal S1x6144 .f32)
  (gPreMix gPostMix : FVec Ideal S1x1024 .f32)
  (gQLat gKvLat : FVec Ideal S1x256 .f32)
  (convB : FVec Ideal S1x4096 .f32)
  (dtBias aLog dSkip : FVec Ideal S1x32 .f32)
  (gSsmOut : FVec Ideal S1x2048 .f32)
  (gPreMlp gPostMlp : FVec Ideal S1x1024 .f32)
  (convW : FVec Ideal S1x4x1024 .f32)

/-- The arrays packed into rows. -/
def Small.packed (x : Small) : FVec Ideal S168x128 .f32 :=
  shapeCast S168x128 (pad S21504 ![0] ![416] ![0] (concatenate S21088 0 [
    ⟨S6144, shapeCast S6144 x.bAda shapeCasts_S1x6144_S6144⟩,
    ⟨S1024, shapeCast S1024 x.gPreMix shapeCasts_S1x1024_S1024⟩,
    ⟨S1024, shapeCast S1024 x.gPostMix shapeCasts_S1x1024_S1024⟩,
    ⟨S256, shapeCast S256 x.gQLat shapeCasts_S1x256_S256⟩,
    ⟨S256, shapeCast S256 x.gKvLat shapeCasts_S1x256_S256⟩,
    ⟨S4096, shapeCast S4096 x.convB shapeCasts_S1x4096_S4096⟩,
    ⟨S32, shapeCast S32 x.dtBias shapeCasts_S1x32_S32⟩,
    ⟨S32, shapeCast S32 x.aLog shapeCasts_S1x32_S32⟩,
    ⟨S32, shapeCast S32 x.dSkip shapeCasts_S1x32_S32⟩,
    ⟨S2048, shapeCast S2048 x.gSsmOut shapeCasts_S1x2048_S2048⟩,
    ⟨S1024, shapeCast S1024 x.gPreMlp shapeCasts_S1x1024_S1024⟩,
    ⟨S1024, shapeCast S1024 x.gPostMlp shapeCasts_S1x1024_S1024⟩,
    ⟨S4096, shapeCast S4096 x.convW shapeCasts_S1x4x1024_S4096⟩]
    concatenates_S6144_S1024_S1024_S256_S256_S4096_S32_S32_S32_S2048_S1024_S1024_S4096_S21088_d0)
    (sitofp (F := Ideal) .f32 (constantI S_ 32 0#32)) pads_S21088_S21504_04160 h_S_) shapeCasts_S21504_S168x128

/-- The arrays cut out of rows. -/
def flat (x : FVec Ideal S168x128 .f32) : FVec Ideal S21504 .f32 := shapeCast S21504 x shapeCasts_S168x128_S21504
def unpack (x : FVec Ideal S168x128 .f32) : Small :=
  ⟨shapeCast S1x6144 (extractStridedSlice S6144 ![0] (flat x) slices_S21504_S6144_0) shapeCasts_S6144_S1x6144,
    shapeCast S1x1024 (extractStridedSlice S1024 ![6144] (flat x) slices_S21504_S1024_6144) shapeCasts_S1024_S1x1024,
    shapeCast S1x1024 (extractStridedSlice S1024 ![7168] (flat x) slices_S21504_S1024_7168) shapeCasts_S1024_S1x1024,
    shapeCast S1x256 (extractStridedSlice S256 ![8192] (flat x) slices_S21504_S256_8192) shapeCasts_S256_S1x256,
    shapeCast S1x256 (extractStridedSlice S256 ![8448] (flat x) slices_S21504_S256_8448) shapeCasts_S256_S1x256,
    shapeCast S1x4096 (extractStridedSlice S4096 ![8704] (flat x) slices_S21504_S4096_8704) shapeCasts_S4096_S1x4096,
    shapeCast S1x32 (extractStridedSlice S32 ![12800] (flat x) slices_S21504_S32_12800) shapeCasts_S32_S1x32,
    shapeCast S1x32 (extractStridedSlice S32 ![12832] (flat x) slices_S21504_S32_12832) shapeCasts_S32_S1x32,
    shapeCast S1x32 (extractStridedSlice S32 ![12864] (flat x) slices_S21504_S32_12864) shapeCasts_S32_S1x32,
    shapeCast S1x2048 (extractStridedSlice S2048 ![12896] (flat x) slices_S21504_S2048_12896) shapeCasts_S2048_S1x2048,
    shapeCast S1x1024 (extractStridedSlice S1024 ![14944] (flat x) slices_S21504_S1024_14944) shapeCasts_S1024_S1x1024,
    shapeCast S1x1024 (extractStridedSlice S1024 ![15968] (flat x) slices_S21504_S1024_15968) shapeCasts_S1024_S1x1024,
    shapeCast S1x4x1024 (extractStridedSlice S4096 ![16992] (flat x) slices_S21504_S4096_16992) shapeCasts_S4096_S1x4x1024⟩

/-- A function of the elements, array by array. -/
def step (F : EReal → EReal → EReal → EReal → EReal) (w g μ ν : Small) : Small :=
  ⟨
    fun i => F (w.bAda i) (g.bAda i) (μ.bAda i) (ν.bAda i), fun i => F (w.gPreMix i) (g.gPreMix i) (μ.gPreMix i) (ν.gPreMix i),
    fun i => F (w.gPostMix i) (g.gPostMix i) (μ.gPostMix i) (ν.gPostMix i), fun i => F (w.gQLat i) (g.gQLat i) (μ.gQLat i) (ν.gQLat i),
    fun i => F (w.gKvLat i) (g.gKvLat i) (μ.gKvLat i) (ν.gKvLat i), fun i => F (w.convB i) (g.convB i) (μ.convB i) (ν.convB i),
    fun i => F (w.dtBias i) (g.dtBias i) (μ.dtBias i) (ν.dtBias i), fun i => F (w.aLog i) (g.aLog i) (μ.aLog i) (ν.aLog i),
    fun i => F (w.dSkip i) (g.dSkip i) (μ.dSkip i) (ν.dSkip i), fun i => F (w.gSsmOut i) (g.gSsmOut i) (μ.gSsmOut i) (ν.gSsmOut i),
    fun i => F (w.gPreMlp i) (g.gPreMlp i) (μ.gPreMlp i) (ν.gPreMlp i),
    fun i => F (w.gPostMlp i) (g.gPostMlp i) (μ.gPostMlp i) (ν.gPostMlp i), fun i => F (w.convW i) (g.convW i) (μ.convW i) (ν.convW i)⟩

/-- The arrays, laid flat. -/
def sizes : List Shape := [S6144, S1024, S1024, S256, S256, S4096, S32, S32, S32, S2048, S1024, S1024, S4096]

/-- Where the packed rows hold each array. -/
theorem at_bAda (x : Small) (i : S1x6144.Idx) (h) : x.packed (place S168x128 0 i h) = x.bAda i :=
  packed_at _ _ _ _ _ _ 0 0 _ _ rfl sizes rfl (by decide +kernel) (by decide) (by decide) i h
theorem at_gPreMix (x : Small) (i : S1x1024.Idx) (h) : x.packed (place S168x128 6144 i h) = x.gPreMix i :=
  packed_at _ _ _ _ _ _ 1 6144 _ _ rfl sizes rfl (by decide +kernel) (by decide) (by decide) i h
theorem at_gPostMix (x : Small) (i : S1x1024.Idx) (h) : x.packed (place S168x128 7168 i h) = x.gPostMix i :=
  packed_at _ _ _ _ _ _ 2 7168 _ _ rfl sizes rfl (by decide +kernel) (by decide) (by decide) i h
theorem at_gQLat (x : Small) (i : S1x256.Idx) (h) : x.packed (place S168x128 8192 i h) = x.gQLat i :=
  packed_at _ _ _ _ _ _ 3 8192 _ _ rfl sizes rfl (by decide +kernel) (by decide) (by decide) i h
theorem at_gKvLat (x : Small) (i : S1x256.Idx) (h) : x.packed (place S168x128 8448 i h) = x.gKvLat i :=
  packed_at _ _ _ _ _ _ 4 8448 _ _ rfl sizes rfl (by decide +kernel) (by decide) (by decide) i h
theorem at_convB (x : Small) (i : S1x4096.Idx) (h) : x.packed (place S168x128 8704 i h) = x.convB i :=
  packed_at _ _ _ _ _ _ 5 8704 _ _ rfl sizes rfl (by decide +kernel) (by decide) (by decide) i h
theorem at_dtBias (x : Small) (i : S1x32.Idx) (h) : x.packed (place S168x128 12800 i h) = x.dtBias i :=
  packed_at _ _ _ _ _ _ 6 12800 _ _ rfl sizes rfl (by decide +kernel) (by decide) (by decide) i h
theorem at_aLog (x : Small) (i : S1x32.Idx) (h) : x.packed (place S168x128 12832 i h) = x.aLog i :=
  packed_at _ _ _ _ _ _ 7 12832 _ _ rfl sizes rfl (by decide +kernel) (by decide) (by decide) i h
theorem at_dSkip (x : Small) (i : S1x32.Idx) (h) : x.packed (place S168x128 12864 i h) = x.dSkip i :=
  packed_at _ _ _ _ _ _ 8 12864 _ _ rfl sizes rfl (by decide +kernel) (by decide) (by decide) i h
theorem at_gSsmOut (x : Small) (i : S1x2048.Idx) (h) : x.packed (place S168x128 12896 i h) = x.gSsmOut i :=
  packed_at _ _ _ _ _ _ 9 12896 _ _ rfl sizes rfl (by decide +kernel) (by decide) (by decide) i h
theorem at_gPreMlp (x : Small) (i : S1x1024.Idx) (h) : x.packed (place S168x128 14944 i h) = x.gPreMlp i :=
  packed_at _ _ _ _ _ _ 10 14944 _ _ rfl sizes rfl (by decide +kernel) (by decide) (by decide) i h
theorem at_gPostMlp (x : Small) (i : S1x1024.Idx) (h) : x.packed (place S168x128 15968 i h) = x.gPostMlp i :=
  packed_at _ _ _ _ _ _ 11 15968 _ _ rfl sizes rfl (by decide +kernel) (by decide) (by decide) i h
theorem at_convW (x : Small) (i : S1x4x1024.Idx) (h) : x.packed (place S168x128 16992 i h) = x.convW i :=
  packed_at _ _ _ _ _ _ 12 16992 _ _ rfl sizes rfl (by decide +kernel) (by decide) (by decide) i h

/-- One array of the results. -/
theorem field {t : Shape} {n : Nat} {get : Small → t.Idx → EReal} (o : Nat) (hs : S21504.Slices ![o] (line n)) (ht : (line n).ShapeCasts t)
    (h : ∀ x i h, x.packed (place S168x128 o i h) = get x i) (F : EReal → EReal → EReal → EReal → EReal) (w g μ ν : Small) :
    shapeCast t (extractStridedSlice (line n) ![o] (flat fun j => F (w.packed j) (g.packed j) (μ.packed j) (ν.packed j)) hs) ht
      = fun i => F (get w i) (get g i) (get μ i) (get ν i) := by
  have l : o + t.numel ≤ S168x128.numel := by
    have e : (line n).numel = n := by simp [Shape.numel]
    have f : S168x128.numel = 21504 := by decide
    have k : o + n ≤ 21504 := by simpa using hs.2 0
    unfold Shape.ShapeCasts at ht
    omega
  funext i
  refine (unpacked_at _ _ o hs ht i l).trans ?_
  simp only [h]

/-- Cutting the arrays out of a step of the rows gives the step of the arrays. -/
theorem unpack_step (F : EReal → EReal → EReal → EReal → EReal) (w g μ ν : Small) :
    unpack (fun j => F (w.packed j) (g.packed j) (μ.packed j) (ν.packed j)) = step F w g μ ν := by
  simp only [unpack, step, Small.mk.injEq]
  exact ⟨
  field 0 _ _ at_bAda F w g μ ν, field 6144 _ _ at_gPreMix F w g μ ν, field 7168 _ _ at_gPostMix F w g μ ν,
  field 8192 _ _ at_gQLat F w g μ ν, field 8448 _ _ at_gKvLat F w g μ ν, field 8704 _ _ at_convB F w g μ ν,
  field 12800 _ _ at_dtBias F w g μ ν, field 12832 _ _ at_aLog F w g μ ν, field 12864 _ _ at_dSkip F w g μ ν,
  field 12896 _ _ at_gSsmOut F w g μ ν, field 14944 _ _ at_gPreMlp F w g μ ν, field 15968 _ _ at_gPostMlp F w g μ ν,
  field 16992 _ _ at_convW F w g μ ν⟩

variable (m : (ℓ : Loc nD τ sig) → Buf (Elt Ideal) ℓ) (c : Dev nD)

abbrev loc (c : Dev nD) (b : Ref sig .tc) : Loc nD τ sig := (c.tc : Thread nD τ).loc b

/-- The arrays, as launched. -/
def weights : Small :=
  ⟨
    m (loc c main_arg0), m (loc c main_arg1), m (loc c main_arg2), m (loc c main_arg3), m (loc c main_arg4), m (loc c main_arg5),
    m (loc c main_arg6), m (loc c main_arg7), m (loc c main_arg8), m (loc c main_arg9), m (loc c main_arg10), m (loc c main_arg11),
    m (loc c main_arg12)⟩
def gradients : Small :=
  ⟨
    m (loc c main_arg13), m (loc c main_arg14), m (loc c main_arg15), m (loc c main_arg16), m (loc c main_arg17), m (loc c main_arg18),
    m (loc c main_arg19), m (loc c main_arg20), m (loc c main_arg21), m (loc c main_arg22), m (loc c main_arg23), m (loc c main_arg24),
    m (loc c main_arg25)⟩
def oldMeans : Small :=
  ⟨
    m (loc c main_arg26), m (loc c main_arg27), m (loc c main_arg28), m (loc c main_arg29), m (loc c main_arg30), m (loc c main_arg31),
    m (loc c main_arg32), m (loc c main_arg33), m (loc c main_arg34), m (loc c main_arg35), m (loc c main_arg36), m (loc c main_arg37),
    m (loc c main_arg38)⟩
def oldSquares : Small :=
  ⟨
    m (loc c main_arg39), m (loc c main_arg40), m (loc c main_arg41), m (loc c main_arg42), m (loc c main_arg43), m (loc c main_arg44),
    m (loc c main_arg45), m (loc c main_arg46), m (loc c main_arg47), m (loc c main_arg48), m (loc c main_arg49), m (loc c main_arg50),
    m (loc c main_arg51)⟩

/-- The rows the call takes. -/
theorem entry_w : V m c main_v15 = (weights m c).packed := by
  simp only [V, V0, List.flatten_cons, List.flatten_nil, List.append_nil, List.cons_append, List.nil_append,
    StableHlo.TRef.binary, StableHlo.TRef.unary, StableHlo.TRef.toBuf, StableHlo.TRef.ofBuf, cast_eq]
  after_reads_simp
  rfl

theorem entry_g : V m c main_v31 = (gradients m c).packed := by
  simp only [V, V0, List.flatten_cons, List.flatten_nil, List.append_nil, List.cons_append, List.nil_append,
    StableHlo.TRef.binary, StableHlo.TRef.unary, StableHlo.TRef.toBuf, StableHlo.TRef.ofBuf, cast_eq]
  after_reads_simp
  rfl

theorem entry_m : V m c main_v47 = (oldMeans m c).packed := by
  simp only [V, V0, List.flatten_cons, List.flatten_nil, List.append_nil, List.cons_append, List.nil_append,
    StableHlo.TRef.binary, StableHlo.TRef.unary, StableHlo.TRef.toBuf, StableHlo.TRef.ofBuf, cast_eq]
  after_reads_simp
  rfl

theorem entry_s : V m c main_v63 = (oldSquares m c).packed := by
  simp only [V, V0, List.flatten_cons, List.flatten_nil, List.append_nil, List.cons_append, List.nil_append,
    StableHlo.TRef.binary, StableHlo.TRef.unary, StableHlo.TRef.toBuf, StableHlo.TRef.ofBuf, cast_eq]
  after_reads_simp
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The blocks of a point, at their places in the rows. -/
theorem blocks (t : Fin cfg0.N) (y : S56x128.Idx) (j : S168x128.Idx) (h0 : (j 0 : ℕ) = t.val * 56 + y 0) (h1 : (j 1 : ℕ) = y 1) :
    iblk m c 0 t y = (weights m c).packed j ∧ iblk m c 1 t y = (gradients m c).packed j
      ∧ iblk m c 2 t y = (oldMeans m c).packed j ∧ iblk m c 3 t y = (oldSquares m c).packed j := by
  have h (A : FVec Ideal S168x128 .f32) : A (((cfg0.win 0).blk t).view.emb y) = A j ∧ A (((cfg0.win 1).blk t).view.emb y) = A j
      ∧ A (((cfg0.win 2).blk t).view.emb y) = A j ∧ A (((cfg0.win 3).blk t).view.emb y) = A j := by
    refine ⟨?_, ?_, ?_, ?_⟩ <;> blk_point [idx t]
  exact ⟨(congrFun (entry_w m c) _).trans (h _).1, (congrFun (entry_g m c) _).trans (h _).2.1,
    (congrFun (entry_m m c) _).trans (h _).2.2.1, (congrFun (entry_s m c) _).trans (h _).2.2.2⟩

variable (w g μ ν : Vec Ideal S56x128 .f32) (e : S56x128.Idx)

/-- What the body stores of the blocks, element by element. -/
theorem pay_mean : k0_pay2 (F := Ideal) g μ e = mean (g e) (μ e) := by
  pointwise [k0_pay2, k0_pay1, mean]

theorem pay_square : k0_pay3 (F := Ideal) g ν e = square (g e) (ν e) := by
  pointwise [k0_pay3, k0_pay1, square]

theorem pay_change : k0_pay4 (F := Ideal) w g μ ν e = change (w e) (g e) (μ e) (ν e) := by
  pointwise [k0_pay4, k0_pay2, k0_pay3, k0_pay1, change, mean, square]

/-- The rows the launch leaves. -/
abbrev rows (F : EReal → EReal → EReal → EReal → EReal) : FVec Ideal S168x128 .f32 := fun j =>
  F ((weights m c).packed j) ((gradients m c).packed j) ((oldMeans m c).packed j) ((oldSquares m c).packed j)

theorem final_change : (dats m 0 c).arrAt 4 (cfgs 0).N = rows m c change := by
  refine (dats m 0 c).arrAt_eq_of_covers 4 _ (by decide +kernel) fun t _ y => ?_
  blk_simp
  rw [after0_4]
  frame_out
  obtain ⟨hw, hg, hm, hs⟩ := blocks m c t y (((cfg0.win 4).blk t).view.emb y) (by blk_simp [idx t]) (by blk_simp [idx t])
  exact (pay_change _ _ _ _ y).trans (by rw [hw, hg, hm, hs])

theorem final_mean : (dats m 0 c).arrAt 5 (cfgs 0).N = rows m c fun _ g μ _ => mean g μ := by
  refine (dats m 0 c).arrAt_eq_of_covers 5 _ (by decide +kernel) fun t _ y => ?_
  blk_simp
  rw [after0_5]
  frame_out
  obtain ⟨_, hg, hm, _⟩ := blocks m c t y (((cfg0.win 5).blk t).view.emb y) (by blk_simp [idx t]) (by blk_simp [idx t])
  exact (pay_mean _ _ y).trans (by rw [hg, hm])

theorem final_square : (dats m 0 c).arrAt 6 (cfgs 0).N = rows m c fun _ g _ ν => square g ν := by
  refine (dats m 0 c).arrAt_eq_of_covers 6 _ (by decide +kernel) fun t _ y => ?_
  blk_simp
  rw [after0_6]
  frame_out
  obtain ⟨_, hg, _, hs⟩ := blocks m c t y (((cfg0.win 6).blk t).view.emb y) (by blk_simp [idx t]) (by blk_simp [idx t])
  exact (pay_square _ _ y).trans (by rw [hg, hs])

/-- The lines after the call cut the arrays out of its results. -/
theorem tail_change (Z : Valuation τ sig (Elt Ideal)) :
    (⟨
    StableHlo.after (List.flatten [hostOps1]) Z (Proc.devRef .tc main_v67),
    StableHlo.after (List.flatten [hostOps1]) Z (Proc.devRef .tc main_v69),
    StableHlo.after (List.flatten [hostOps1]) Z (Proc.devRef .tc main_v71),
    StableHlo.after (List.flatten [hostOps1]) Z (Proc.devRef .tc main_v73),
    StableHlo.after (List.flatten [hostOps1]) Z (Proc.devRef .tc main_v75),
    StableHlo.after (List.flatten [hostOps1]) Z (Proc.devRef .tc main_v77),
    StableHlo.after (List.flatten [hostOps1]) Z (Proc.devRef .tc main_v79),
    StableHlo.after (List.flatten [hostOps1]) Z (Proc.devRef .tc main_v81),
    StableHlo.after (List.flatten [hostOps1]) Z (Proc.devRef .tc main_v83),
    StableHlo.after (List.flatten [hostOps1]) Z (Proc.devRef .tc main_v85),
    StableHlo.after (List.flatten [hostOps1]) Z (Proc.devRef .tc main_v87),
    StableHlo.after (List.flatten [hostOps1]) Z (Proc.devRef .tc main_v89),
    StableHlo.after (List.flatten [hostOps1]) Z (Proc.devRef .tc main_v91)⟩ : Small) = unpack (Z (Proc.devRef .tc main_v64_0)) := by
  simp only [unpack, flat, Small.mk.injEq, List.flatten_cons, List.flatten_nil, List.append_nil]
  after_reads_simp
  trivial

theorem tail_mean (Z : Valuation τ sig (Elt Ideal)) :
    (⟨
    StableHlo.after (List.flatten [hostOps1]) Z (Proc.devRef .tc main_v94),
    StableHlo.after (List.flatten [hostOps1]) Z (Proc.devRef .tc main_v96),
    StableHlo.after (List.flatten [hostOps1]) Z (Proc.devRef .tc main_v98),
    StableHlo.after (List.flatten [hostOps1]) Z (Proc.devRef .tc main_v100),
    StableHlo.after (List.flatten [hostOps1]) Z (Proc.devRef .tc main_v102),
    StableHlo.after (List.flatten [hostOps1]) Z (Proc.devRef .tc main_v104),
    StableHlo.after (List.flatten [hostOps1]) Z (Proc.devRef .tc main_v106),
    StableHlo.after (List.flatten [hostOps1]) Z (Proc.devRef .tc main_v108),
    StableHlo.after (List.flatten [hostOps1]) Z (Proc.devRef .tc main_v110),
    StableHlo.after (List.flatten [hostOps1]) Z (Proc.devRef .tc main_v112),
    StableHlo.after (List.flatten [hostOps1]) Z (Proc.devRef .tc main_v114),
    StableHlo.after (List.flatten [hostOps1]) Z (Proc.devRef .tc main_v116),
    StableHlo.after (List.flatten [hostOps1]) Z (Proc.devRef .tc main_v118)⟩ : Small) = unpack (Z (Proc.devRef .tc main_v64_1)) := by
  simp only [unpack, flat, Small.mk.injEq, List.flatten_cons, List.flatten_nil, List.append_nil]
  after_reads_simp
  trivial

theorem tail_square (Z : Valuation τ sig (Elt Ideal)) :
    (⟨
    StableHlo.after (List.flatten [hostOps1]) Z (Proc.devRef .tc main_v121),
    StableHlo.after (List.flatten [hostOps1]) Z (Proc.devRef .tc main_v123),
    StableHlo.after (List.flatten [hostOps1]) Z (Proc.devRef .tc main_v125),
    StableHlo.after (List.flatten [hostOps1]) Z (Proc.devRef .tc main_v127),
    StableHlo.after (List.flatten [hostOps1]) Z (Proc.devRef .tc main_v129),
    StableHlo.after (List.flatten [hostOps1]) Z (Proc.devRef .tc main_v131),
    StableHlo.after (List.flatten [hostOps1]) Z (Proc.devRef .tc main_v133),
    StableHlo.after (List.flatten [hostOps1]) Z (Proc.devRef .tc main_v135),
    StableHlo.after (List.flatten [hostOps1]) Z (Proc.devRef .tc main_v137),
    StableHlo.after (List.flatten [hostOps1]) Z (Proc.devRef .tc main_v139),
    StableHlo.after (List.flatten [hostOps1]) Z (Proc.devRef .tc main_v141),
    StableHlo.after (List.flatten [hostOps1]) Z (Proc.devRef .tc main_v143),
    StableHlo.after (List.flatten [hostOps1]) Z (Proc.devRef .tc main_v145)⟩ : Small) = unpack (Z (Proc.devRef .tc main_v64_2)) := by
  simp only [unpack, flat, Small.mk.injEq, List.flatten_cons, List.flatten_nil, List.append_nil]
  after_reads_simp
  trivial

/-- What the step makes of the arrays at the start. -/
abbrev stepped (F : EReal → EReal → EReal → EReal → EReal) : Small :=
  step F (weights m c) (gradients m c) (oldMeans m c) (oldSquares m c)

/-- What an array is at the end. -/
abbrev fin (b : Ref sig .tc) := Pipeline.afterTail₀ cfgs (dats m) 0 (V0 m) [hostOps1] c b

theorem ends_change : (⟨
    fin m c main_v67, fin m c main_v69, fin m c main_v71, fin m c main_v73, fin m c main_v75, fin m c main_v77, fin m c main_v79,
    fin m c main_v81, fin m c main_v83, fin m c main_v85, fin m c main_v87, fin m c main_v89, fin m c main_v91⟩ : Small) = stepped m c change :=
  (tail_change _).trans ((congrArg unpack ((Pipeline.withArrays_arr spec0 launch0.win.arr_inj c (V0 m c) _ 4).trans
    (final_change m c))).trans (unpack_step _ _ _ _ _))

theorem ends_mean : (⟨
    fin m c main_v94, fin m c main_v96, fin m c main_v98, fin m c main_v100, fin m c main_v102, fin m c main_v104, fin m c main_v106,
    fin m c main_v108, fin m c main_v110, fin m c main_v112, fin m c main_v114, fin m c main_v116, fin m c main_v118⟩ : Small) = stepped m c fun _ g μ _ => mean g μ :=
  (tail_mean _).trans ((congrArg unpack ((Pipeline.withArrays_arr spec0 launch0.win.arr_inj c (V0 m c) _ 5).trans
    (final_mean m c))).trans (unpack_step _ _ _ _ _))

theorem ends_square : (⟨
    fin m c main_v121, fin m c main_v123, fin m c main_v125, fin m c main_v127, fin m c main_v129, fin m c main_v131, fin m c main_v133,
    fin m c main_v135, fin m c main_v137, fin m c main_v139, fin m c main_v141, fin m c main_v143, fin m c main_v145⟩ : Small) = stepped m c fun _ g _ ν => square g ν :=
  (tail_square _).trans ((congrArg unpack ((Pipeline.withArrays_arr spec0 launch0.win.arr_inj c (V0 m c) _ 6).trans
    (final_square m c))).trans (unpack_step _ _ _ _ _))

section host

variable {s : Shape} (hb : S_.BroadcastsInDim s ![]) {w g μ ν w' g' μ' ν' : FVec Ideal s .f32}

/-- The reference's lines for one array are the step of its elements. -/
theorem host_mean (eg : g' = g) (eμ : μ' = μ) :
    addf (mulf (broadcastInDim s ![] hb (constant S_ .f32 0x3F666666#32)) μ')
      (mulf (broadcastInDim s ![] hb (constant S_ .f32 0x3DCCCCCD#32)) g') = fun i => mean (g i) (μ i) := by
  subst eg eμ
  funext i
  pointwise [mean]

theorem host_square (eg : g' = g) (eν : ν' = ν) :
    addf (mulf (broadcastInDim s ![] hb (constant S_ .f32 0x3F7FBE77#32)) ν')
      (mulf (broadcastInDim s ![] hb (constant S_ .f32 0x3A83126F#32)) (mulf g' g')) = fun i => square (g i) (ν i) := by
  subst eg eν
  funext i
  pointwise [square]

theorem host_change (ew : w' = w) (eg : g' = g) (eμ : μ' = μ) (eν : ν' = ν) :
    mulf (broadcastInDim s ![] hb (constant S_ .f32 0xBA83126F#32)) (addf (Host.divf (Host.divf (addf (mulf (broadcastInDim s ![] hb (constant S_ .f32 0x3F666666#32)) μ')
      (mulf (broadcastInDim s ![] hb (constant S_ .f32 0x3DCCCCCD#32)) g')) (broadcastInDim s ![] hb (constant S_ .f32 0x3F26BD02#32)))
      (addf (Host.sqrt (Host.divf (addf (mulf (broadcastInDim s ![] hb (constant S_ .f32 0x3F7FBE77#32)) ν')
      (mulf (broadcastInDim s ![] hb (constant S_ .f32 0x3A83126F#32)) (mulf g' g'))) (broadcastInDim s ![] hb (constant S_ .f32 0x3C231ACC#32))))
      (broadcastInDim s ![] hb (constant S_ .f32 0x322BCC77#32)))) (mulf (broadcastInDim s ![] hb (constant S_ .f32 0x3C23D70A#32)) w'))
      = fun i => change (w i) (g i) (μ i) (ν i) := by
  subst ew
  rw [host_mean hb eg eμ, host_square hb eg eν]
  funext i
  pointwise [change]

end host

/-- The reference ends, its arguments as they were. -/
theorem frame_reference : Cert.quiescent_AdamSmallRefIdeal (hAdamSmallRefIdeal := Cert.AdamSmallRefIdeal.Gen.facts) := by
  intro m g _
  refine (θ_run _ _ _).mono (fun r h => ?_) (Cert.AdamSmallRefIdeal.Value.run (F := Ideal) m g)
  refine ⟨fun c => ?_, sem_eq_zero_of_no_sems rfl r.2⟩
  obtain ⟨
    _, _, _, _, _, _, _, _, _, _, _, _, _, _, _, _, _, _, _, _, _, _, _, _, _, _, _, _, _, _, _, _, _, _, _, _, _, _, _, kept⟩ := h c
  exact kept

set_option maxHeartbeats 2000000 in
/-- Both end with the same changes and averages of every array. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' _ hArgs
  refine ⟨
    fun c => (stepped m c change).bAda, fun c => (stepped m c change).gPreMix, fun c => (stepped m c change).gPostMix,
    fun c => (stepped m c change).gQLat, fun c => (stepped m c change).gKvLat, fun c => (stepped m c change).convB,
    fun c => (stepped m c change).dtBias, fun c => (stepped m c change).aLog, fun c => (stepped m c change).dSkip,
    fun c => (stepped m c change).gSsmOut, fun c => (stepped m c change).gPreMlp, fun c => (stepped m c change).gPostMlp,
    fun c => (stepped m c change).convW, fun c => (stepped m c (fun _ g μ _ => mean g μ)).bAda,
    fun c => (stepped m c (fun _ g μ _ => mean g μ)).gPreMix, fun c => (stepped m c (fun _ g μ _ => mean g μ)).gPostMix,
    fun c => (stepped m c (fun _ g μ _ => mean g μ)).gQLat, fun c => (stepped m c (fun _ g μ _ => mean g μ)).gKvLat,
    fun c => (stepped m c (fun _ g μ _ => mean g μ)).convB, fun c => (stepped m c (fun _ g μ _ => mean g μ)).dtBias,
    fun c => (stepped m c (fun _ g μ _ => mean g μ)).aLog, fun c => (stepped m c (fun _ g μ _ => mean g μ)).dSkip,
    fun c => (stepped m c (fun _ g μ _ => mean g μ)).gSsmOut, fun c => (stepped m c (fun _ g μ _ => mean g μ)).gPreMlp,
    fun c => (stepped m c (fun _ g μ _ => mean g μ)).gPostMlp, fun c => (stepped m c (fun _ g μ _ => mean g μ)).convW,
    fun c => (stepped m c (fun _ g _ ν => square g ν)).bAda, fun c => (stepped m c (fun _ g _ ν => square g ν)).gPreMix,
    fun c => (stepped m c (fun _ g _ ν => square g ν)).gPostMix, fun c => (stepped m c (fun _ g _ ν => square g ν)).gQLat,
    fun c => (stepped m c (fun _ g _ ν => square g ν)).gKvLat, fun c => (stepped m c (fun _ g _ ν => square g ν)).convB,
    fun c => (stepped m c (fun _ g _ ν => square g ν)).dtBias, fun c => (stepped m c (fun _ g _ ν => square g ν)).aLog,
    fun c => (stepped m c (fun _ g _ ν => square g ν)).dSkip, fun c => (stepped m c (fun _ g _ ν => square g ν)).gSsmOut,
    fun c => (stepped m c (fun _ g _ ν => square g ν)).gPreMlp, fun c => (stepped m c (fun _ g _ ν => square g ν)).gPostMlp,
    fun c => (stepped m c (fun _ g _ ν => square g ν)).convW, ?_, ?_⟩
  · refine (θ_run _ _ _).mono (fun r h c => ?_) (θ_run_and (unchanged m g) (run_main m g))
    have rest (b : Ref sig .tc) (hs : b.isScoped = false) (ha : ∀ w, (spec0 w).arr.view.ref ≠ b) :
        r.2.mem ((c.tc : Thread nD τ).loc b) = fin m c b := (h.2 c).2 b (Pipeline.mem_restRefs_of b hs ha)
    exact ⟨
      (rest main_v67 rfl (by decide)).trans (congrArg Small.bAda (ends_change m c)),
      (rest main_v69 rfl (by decide)).trans (congrArg Small.gPreMix (ends_change m c)),
      (rest main_v71 rfl (by decide)).trans (congrArg Small.gPostMix (ends_change m c)),
      (rest main_v73 rfl (by decide)).trans (congrArg Small.gQLat (ends_change m c)),
      (rest main_v75 rfl (by decide)).trans (congrArg Small.gKvLat (ends_change m c)),
      (rest main_v77 rfl (by decide)).trans (congrArg Small.convB (ends_change m c)),
      (rest main_v79 rfl (by decide)).trans (congrArg Small.dtBias (ends_change m c)),
      (rest main_v81 rfl (by decide)).trans (congrArg Small.aLog (ends_change m c)),
      (rest main_v83 rfl (by decide)).trans (congrArg Small.dSkip (ends_change m c)),
      (rest main_v85 rfl (by decide)).trans (congrArg Small.gSsmOut (ends_change m c)),
      (rest main_v87 rfl (by decide)).trans (congrArg Small.gPreMlp (ends_change m c)),
      (rest main_v89 rfl (by decide)).trans (congrArg Small.gPostMlp (ends_change m c)),
      (rest main_v91 rfl (by decide)).trans (congrArg Small.convW (ends_change m c)),
      (rest main_v94 rfl (by decide)).trans (congrArg Small.bAda (ends_mean m c)),
      (rest main_v96 rfl (by decide)).trans (congrArg Small.gPreMix (ends_mean m c)),
      (rest main_v98 rfl (by decide)).trans (congrArg Small.gPostMix (ends_mean m c)),
      (rest main_v100 rfl (by decide)).trans (congrArg Small.gQLat (ends_mean m c)),
      (rest main_v102 rfl (by decide)).trans (congrArg Small.gKvLat (ends_mean m c)),
      (rest main_v104 rfl (by decide)).trans (congrArg Small.convB (ends_mean m c)),
      (rest main_v106 rfl (by decide)).trans (congrArg Small.dtBias (ends_mean m c)),
      (rest main_v108 rfl (by decide)).trans (congrArg Small.aLog (ends_mean m c)),
      (rest main_v110 rfl (by decide)).trans (congrArg Small.dSkip (ends_mean m c)),
      (rest main_v112 rfl (by decide)).trans (congrArg Small.gSsmOut (ends_mean m c)),
      (rest main_v114 rfl (by decide)).trans (congrArg Small.gPreMlp (ends_mean m c)),
      (rest main_v116 rfl (by decide)).trans (congrArg Small.gPostMlp (ends_mean m c)),
      (rest main_v118 rfl (by decide)).trans (congrArg Small.convW (ends_mean m c)),
      (rest main_v121 rfl (by decide)).trans (congrArg Small.bAda (ends_square m c)),
      (rest main_v123 rfl (by decide)).trans (congrArg Small.gPreMix (ends_square m c)),
      (rest main_v125 rfl (by decide)).trans (congrArg Small.gPostMix (ends_square m c)),
      (rest main_v127 rfl (by decide)).trans (congrArg Small.gQLat (ends_square m c)),
      (rest main_v129 rfl (by decide)).trans (congrArg Small.gKvLat (ends_square m c)),
      (rest main_v131 rfl (by decide)).trans (congrArg Small.convB (ends_square m c)),
      (rest main_v133 rfl (by decide)).trans (congrArg Small.dtBias (ends_square m c)),
      (rest main_v135 rfl (by decide)).trans (congrArg Small.aLog (ends_square m c)),
      (rest main_v137 rfl (by decide)).trans (congrArg Small.dSkip (ends_square m c)),
      (rest main_v139 rfl (by decide)).trans (congrArg Small.gSsmOut (ends_square m c)),
      (rest main_v141 rfl (by decide)).trans (congrArg Small.gPreMlp (ends_square m c)),
      (rest main_v143 rfl (by decide)).trans (congrArg Small.gPostMlp (ends_square m c)),
      (rest main_v145 rfl (by decide)).trans (congrArg Small.convW (ends_square m c)), h.1 c⟩
  · refine (θ_run _ _ _).mono (fun r h c => ?_) (Cert.AdamSmallRefIdeal.Value.run (F := Ideal) m' g')
    obtain ⟨
      d0, d1, d2, d3, d4, d5, d6, d7, d8, d9, d10, d11, d12, μ0, μ1, μ2, μ3, μ4, μ5, μ6, μ7, μ8, μ9, μ10, μ11, μ12, ν0, ν1, ν2, ν3, ν4, ν5,
      ν6, ν7, ν8, ν9, ν10, ν11, ν12, kept⟩ := h c
    obtain ⟨
      e0, e1, e2, e3, e4, e5, e6, e7, e8, e9, e10, e11, e12, e13, e14, e15, e16, e17, e18, e19, e20, e21, e22, e23, e24, e25, e26, e27,
      e28, e29, e30, e31, e32, e33, e34, e35, e36, e37, e38, e39, e40, e41, e42, e43, e44, e45, e46, e47, e48, e49, e50, e51⟩ := hArgs c
    exact ⟨
      d0.trans (host_change _ e0 e13 e26 e39), d1.trans (host_change _ e1 e14 e27 e40), d2.trans (host_change _ e2 e15 e28 e41),
      d3.trans (host_change _ e3 e16 e29 e42), d4.trans (host_change _ e4 e17 e30 e43), d5.trans (host_change _ e5 e18 e31 e44),
      d6.trans (host_change _ e6 e19 e32 e45), d7.trans (host_change _ e7 e20 e33 e46), d8.trans (host_change _ e8 e21 e34 e47),
      d9.trans (host_change _ e9 e22 e35 e48), d10.trans (host_change _ e10 e23 e36 e49), d11.trans (host_change _ e11 e24 e37 e50),
      d12.trans (host_change _ e12 e25 e38 e51), μ0.trans (host_mean _ e13 e26), μ1.trans (host_mean _ e14 e27),
      μ2.trans (host_mean _ e15 e28), μ3.trans (host_mean _ e16 e29), μ4.trans (host_mean _ e17 e30), μ5.trans (host_mean _ e18 e31),
      μ6.trans (host_mean _ e19 e32), μ7.trans (host_mean _ e20 e33), μ8.trans (host_mean _ e21 e34), μ9.trans (host_mean _ e22 e35),
      μ10.trans (host_mean _ e23 e36), μ11.trans (host_mean _ e24 e37), μ12.trans (host_mean _ e25 e38), ν0.trans (host_square _ e13 e39),
      ν1.trans (host_square _ e14 e40), ν2.trans (host_square _ e15 e41), ν3.trans (host_square _ e16 e42),
      ν4.trans (host_square _ e17 e43), ν5.trans (host_square _ e18 e44), ν6.trans (host_square _ e19 e45),
      ν7.trans (host_square _ e20 e46), ν8.trans (host_square _ e21 e47), ν9.trans (host_square _ e22 e48),
      ν10.trans (host_square _ e23 e49), ν11.trans (host_square _ e24 e50), ν12.trans (host_square _ e25 e51), kept⟩

end Cert.SmallStep

end
-- ==== Proof.SumSmall.lean ====
/-
The sum of the eight devices' gradients of the vectors and of `conv_w`: every device's are packed end to end into rows, a
point adds a block of rows of the eight, and the thirteen sums are cut out of the rows again.
-/
module

public import proofs.«01_k».proof.Proof.Gen.SumSmallIdeal.Frame
public import proofs.«01_k».proof.Proof.Gen.SumSmallRefIdeal.Run
public import proofs.«01_k».proof.Defs
public import proofs.«01_k».proof.Proof.Packing
public import Idealize.ShloMosaic.Lib.StableHlo.RunRead

@[expose] public section

set_option maxRecDepth 16384

noncomputable section

namespace Cert.GradientSum

open Idealize.ShloMosaic Cert.Packing Cert.SumSmallIdeal Cert.SumSmallIdeal.Gen

/-- The gradients of the eight devices, and their sums. -/
structure Stacks where
  (bAda : FVec Ideal S8x1x6144 .f32)
  (gPreMix gPostMix : FVec Ideal S8x1x1024 .f32)
  (gQLat gKvLat : FVec Ideal S8x1x256 .f32)
  (convB : FVec Ideal S8x1x4096 .f32)
  (dtBias aLog dSkip : FVec Ideal S8x1x32 .f32)
  (gSsmOut : FVec Ideal S8x1x2048 .f32)
  (gPreMlp gPostMlp : FVec Ideal S8x1x1024 .f32)
  (convW : FVec Ideal S8x4x4096 .f32)

structure Sums where
  (bAda : FVec Ideal S1x6144 .f32)
  (gPreMix gPostMix : FVec Ideal S1x1024 .f32)
  (gQLat gKvLat : FVec Ideal S1x256 .f32)
  (convB : FVec Ideal S1x4096 .f32)
  (dtBias aLog dSkip : FVec Ideal S1x32 .f32)
  (gSsmOut : FVec Ideal S1x2048 .f32)
  (gPreMlp gPostMlp : FVec Ideal S1x1024 .f32)
  (convW : FVec Ideal S4x4096 .f32)

/-- The rows that the call takes. -/
def Stacks.packed (x : Stacks) : FVec Ideal S8x264x128 .f32 :=
  shapeCast S8x264x128 (pad S8x33792 ![0, 0] ![0, 416] ![0, 0] (concatenate S8x33376 1 [
    ⟨S8x6144, shapeCast S8x6144 x.bAda shapeCasts_S8x1x6144_S8x6144⟩, ⟨S8x1024, shapeCast S8x1024 x.gPreMix shapeCasts_S8x1x1024_S8x1024⟩,
    ⟨S8x1024, shapeCast S8x1024 x.gPostMix shapeCasts_S8x1x1024_S8x1024⟩, ⟨S8x256, shapeCast S8x256 x.gQLat shapeCasts_S8x1x256_S8x256⟩,
    ⟨S8x256, shapeCast S8x256 x.gKvLat shapeCasts_S8x1x256_S8x256⟩, ⟨S8x4096, shapeCast S8x4096 x.convB shapeCasts_S8x1x4096_S8x4096⟩,
    ⟨S8x32, shapeCast S8x32 x.dtBias shapeCasts_S8x1x32_S8x32⟩, ⟨S8x32, shapeCast S8x32 x.aLog shapeCasts_S8x1x32_S8x32⟩,
    ⟨S8x32, shapeCast S8x32 x.dSkip shapeCasts_S8x1x32_S8x32⟩, ⟨S8x2048, shapeCast S8x2048 x.gSsmOut shapeCasts_S8x1x2048_S8x2048⟩,
    ⟨S8x1024, shapeCast S8x1024 x.gPreMlp shapeCasts_S8x1x1024_S8x1024⟩,
    ⟨S8x1024, shapeCast S8x1024 x.gPostMlp shapeCasts_S8x1x1024_S8x1024⟩,
    ⟨S8x16384, shapeCast S8x16384 x.convW shapeCasts_S8x4x4096_S8x16384⟩]
    concatenates_S8x6144_S8x1024_S8x1024_S8x256_S8x256_S8x4096_S8x32_S8x32_S8x32_S8x2048_S8x1024_S8x1024_S8x16384_S8x33376_d1)
    (sitofp (F := Ideal) .f32 (constantI S_ 32 0#32)) pads_S8x33376_S8x33792_000_04160 h_S_) shapeCasts_S8x33792_S8x264x128

/-- The arrays cut out of rows. -/
def flat (x : FVec Ideal S264x128 .f32) : FVec Ideal S33792 .f32 := shapeCast S33792 x shapeCasts_S264x128_S33792
def unpack (x : FVec Ideal S264x128 .f32) : Sums :=
  ⟨
    shapeCast S1x6144 (extractStridedSlice S6144 ![0] (flat x) slices_S33792_S6144_0) shapeCasts_S6144_S1x6144,
    shapeCast S1x1024 (extractStridedSlice S1024 ![6144] (flat x) slices_S33792_S1024_6144) shapeCasts_S1024_S1x1024,
    shapeCast S1x1024 (extractStridedSlice S1024 ![7168] (flat x) slices_S33792_S1024_7168) shapeCasts_S1024_S1x1024,
    shapeCast S1x256 (extractStridedSlice S256 ![8192] (flat x) slices_S33792_S256_8192) shapeCasts_S256_S1x256,
    shapeCast S1x256 (extractStridedSlice S256 ![8448] (flat x) slices_S33792_S256_8448) shapeCasts_S256_S1x256,
    shapeCast S1x4096 (extractStridedSlice S4096 ![8704] (flat x) slices_S33792_S4096_8704) shapeCasts_S4096_S1x4096,
    shapeCast S1x32 (extractStridedSlice S32 ![12800] (flat x) slices_S33792_S32_12800) shapeCasts_S32_S1x32,
    shapeCast S1x32 (extractStridedSlice S32 ![12832] (flat x) slices_S33792_S32_12832) shapeCasts_S32_S1x32,
    shapeCast S1x32 (extractStridedSlice S32 ![12864] (flat x) slices_S33792_S32_12864) shapeCasts_S32_S1x32,
    shapeCast S1x2048 (extractStridedSlice S2048 ![12896] (flat x) slices_S33792_S2048_12896) shapeCasts_S2048_S1x2048,
    shapeCast S1x1024 (extractStridedSlice S1024 ![14944] (flat x) slices_S33792_S1024_14944) shapeCasts_S1024_S1x1024,
    shapeCast S1x1024 (extractStridedSlice S1024 ![15968] (flat x) slices_S33792_S1024_15968) shapeCasts_S1024_S1x1024,
    shapeCast S4x4096 (extractStridedSlice S16384 ![16992] (flat x) slices_S33792_S16384_16992) shapeCasts_S16384_S4x4096⟩

/-- The sums, array by array. -/
def Stacks.sums (x : Stacks) : Sums :=
  ⟨
    total x.bAda, total x.gPreMix, total x.gPostMix, total x.gQLat, total x.gKvLat, total x.convB, total x.dtBias, total x.aLog,
    total x.dSkip, total x.gSsmOut, total x.gPreMlp, total x.gPostMlp, total x.convW⟩

/-- The arrays, each device's laid flat. -/
def sizes : List Shape := [S8x6144, S8x1024, S8x1024, S8x256, S8x256, S8x4096, S8x32, S8x32, S8x32, S8x2048, S8x1024, S8x1024, S8x16384]

/-- Where the rows hold each sum. -/
theorem at_bAda (x : Stacks) (i : S1x6144.Idx) (h) : total x.packed (place S264x128 0 i h) = total x.bAda i :=
  total_at _ _ _ _ _ _ 0 0 _ _ rfl sizes rfl (by decide +kernel) rfl rfl (by decide) i h
theorem at_gPreMix (x : Stacks) (i : S1x1024.Idx) (h) : total x.packed (place S264x128 6144 i h) = total x.gPreMix i :=
  total_at _ _ _ _ _ _ 1 6144 _ _ rfl sizes rfl (by decide +kernel) rfl rfl (by decide) i h
theorem at_gPostMix (x : Stacks) (i : S1x1024.Idx) (h) : total x.packed (place S264x128 7168 i h) = total x.gPostMix i :=
  total_at _ _ _ _ _ _ 2 7168 _ _ rfl sizes rfl (by decide +kernel) rfl rfl (by decide) i h
theorem at_gQLat (x : Stacks) (i : S1x256.Idx) (h) : total x.packed (place S264x128 8192 i h) = total x.gQLat i :=
  total_at _ _ _ _ _ _ 3 8192 _ _ rfl sizes rfl (by decide +kernel) rfl rfl (by decide) i h
theorem at_gKvLat (x : Stacks) (i : S1x256.Idx) (h) : total x.packed (place S264x128 8448 i h) = total x.gKvLat i :=
  total_at _ _ _ _ _ _ 4 8448 _ _ rfl sizes rfl (by decide +kernel) rfl rfl (by decide) i h
theorem at_convB (x : Stacks) (i : S1x4096.Idx) (h) : total x.packed (place S264x128 8704 i h) = total x.convB i :=
  total_at _ _ _ _ _ _ 5 8704 _ _ rfl sizes rfl (by decide +kernel) rfl rfl (by decide) i h
theorem at_dtBias (x : Stacks) (i : S1x32.Idx) (h) : total x.packed (place S264x128 12800 i h) = total x.dtBias i :=
  total_at _ _ _ _ _ _ 6 12800 _ _ rfl sizes rfl (by decide +kernel) rfl rfl (by decide) i h
theorem at_aLog (x : Stacks) (i : S1x32.Idx) (h) : total x.packed (place S264x128 12832 i h) = total x.aLog i :=
  total_at _ _ _ _ _ _ 7 12832 _ _ rfl sizes rfl (by decide +kernel) rfl rfl (by decide) i h
theorem at_dSkip (x : Stacks) (i : S1x32.Idx) (h) : total x.packed (place S264x128 12864 i h) = total x.dSkip i :=
  total_at _ _ _ _ _ _ 8 12864 _ _ rfl sizes rfl (by decide +kernel) rfl rfl (by decide) i h
theorem at_gSsmOut (x : Stacks) (i : S1x2048.Idx) (h) : total x.packed (place S264x128 12896 i h) = total x.gSsmOut i :=
  total_at _ _ _ _ _ _ 9 12896 _ _ rfl sizes rfl (by decide +kernel) rfl rfl (by decide) i h
theorem at_gPreMlp (x : Stacks) (i : S1x1024.Idx) (h) : total x.packed (place S264x128 14944 i h) = total x.gPreMlp i :=
  total_at _ _ _ _ _ _ 10 14944 _ _ rfl sizes rfl (by decide +kernel) rfl rfl (by decide) i h
theorem at_gPostMlp (x : Stacks) (i : S1x1024.Idx) (h) : total x.packed (place S264x128 15968 i h) = total x.gPostMlp i :=
  total_at _ _ _ _ _ _ 11 15968 _ _ rfl sizes rfl (by decide +kernel) rfl rfl (by decide) i h
theorem at_convW (x : Stacks) (i : S4x4096.Idx) (h) : total x.packed (place S264x128 16992 i h) = total x.convW i :=
  total_at _ _ _ _ _ _ 12 16992 _ _ rfl sizes rfl (by decide +kernel) rfl rfl (by decide) i h

theorem field {t : Shape} {n : Nat} {x : FVec Ideal S264x128 .f32} {y : FVec Ideal t .f32} (o : Nat) (hs : S33792.Slices ![o] (line n))
    (ht : (line n).ShapeCasts t) (h : ∀ i h, x (place S264x128 o i h) = y i) :
    shapeCast t (extractStridedSlice (line n) ![o] (flat x) hs) ht = y := by
  have l : o + t.numel ≤ S264x128.numel := by
    have e : (line n).numel = n := by simp [Shape.numel]
    have f : S264x128.numel = 33792 := by decide
    have k : o + n ≤ 33792 := by simpa using hs.2 0
    unfold Shape.ShapeCasts at ht
    omega
  funext i
  exact (unpacked_at _ _ o hs ht i l).trans (h i l)

/-- Cutting the summed rows gives the sums. -/
theorem unpack_total (x : Stacks) : unpack (total x.packed) = x.sums := by
  simp only [unpack, Stacks.sums, Sums.mk.injEq]
  exact ⟨
    field 0 _ _ (at_bAda x), field 6144 _ _ (at_gPreMix x), field 7168 _ _ (at_gPostMix x), field 8192 _ _ (at_gQLat x),
    field 8448 _ _ (at_gKvLat x), field 8704 _ _ (at_convB x), field 12800 _ _ (at_dtBias x), field 12832 _ _ (at_aLog x),
    field 12864 _ _ (at_dSkip x), field 12896 _ _ (at_gSsmOut x), field 14944 _ _ (at_gPreMlp x), field 15968 _ _ (at_gPostMlp x),
    field 16992 _ _ (at_convW x)⟩

variable (m : (ℓ : Loc nD τ sig) → Buf (Elt Ideal) ℓ) (c : Dev nD)

abbrev loc (c : Dev nD) (b : Ref sig .tc) : Loc nD τ sig := (c.tc : Thread nD τ).loc b

/-- The gradients at the start. -/
abbrev gradients : Stacks :=
  ⟨
    m (loc c main_arg0), m (loc c main_arg1), m (loc c main_arg2), m (loc c main_arg3), m (loc c main_arg4), m (loc c main_arg5),
    m (loc c main_arg6), m (loc c main_arg7), m (loc c main_arg8), m (loc c main_arg9), m (loc c main_arg10), m (loc c main_arg11),
    m (loc c main_arg12)⟩

theorem entry : V m c main_v15 = (gradients m c).packed := by
  simp only [V, V0, List.flatten_cons, List.flatten_nil, List.append_nil, List.cons_append, List.nil_append,
    StableHlo.TRef.binary, StableHlo.TRef.unary, StableHlo.TRef.toBuf, StableHlo.TRef.ofBuf, cast_eq]
  after_reads_simp
  rfl

theorem idx : ∀ t : Fin cfg0.N, win0_0.index t = ![0, t.val, 0] ∧ win0_1.index t = ![t.val, 0] :=
  (by decide +kernel : ∀ t : Fin grid0.N, _)

/-- A member's block of a point, at its place in the rows. -/
theorem block (t : Fin cfg0.N) (d : Fin 8) (y : S88x128.Idx) (j : S264x128.Idx) (h0 : (j 0 : ℕ) = t.val * 88 + y 0)
    (h1 : (j 1 : ℕ) = y 1) : iblk m c 0 t (ix3 d (y 0) (y 1)) = (gradients m c).packed (ix3 d (j 0) (j 1)) := by
  have h (A : FVec Ideal S8x264x128 .f32) : A (((cfg0.win 0).blk t).view.emb (ix3 d (y 0) (y 1))) = A (ix3 d (j 0) (j 1)) := by
    blk_point [idx t]
  exact (congrFun (entry m c) _).trans (h _)

/-- What the body stores: the sum of the eight. -/
theorem pay (x : Vec Ideal S8x88x128 .f32) (e : S88x128.Idx) :
    k0_pay1 (F := Ideal) (View.ld x r0_0) (View.ld x r0_1) (View.ld x r0_2) (View.ld x r0_3) (View.ld x r0_4) (View.ld x r0_5)
      (View.ld x r0_6) (View.ld x r0_7) e = total x e := by
  rw [total, Fin.sum_univ_eight]
  pointwise [k0_pay1]

/-- The rows the launch leaves. -/
theorem final : (dats m 0 c).arrAt 1 (cfgs 0).N = total (gradients m c).packed := by
  refine (dats m 0 c).arrAt_eq_of_covers 1 _ (by decide +kernel) fun t _ y => ?_
  blk_simp
  rw [after0_1]
  frame_out
  refine (pay _ y).trans (Finset.sum_congr rfl fun d _ => ?_)
  exact block m c t d y _ (by blk_simp [idx t]) (by blk_simp [idx t])

/-- The lines after the call cut the sums out of its result. -/
theorem tail (Z : Valuation τ sig (Elt Ideal)) :
    (⟨
    StableHlo.after (List.flatten [hostOps1]) Z (Proc.devRef .tc main_v19),
    StableHlo.after (List.flatten [hostOps1]) Z (Proc.devRef .tc main_v21),
    StableHlo.after (List.flatten [hostOps1]) Z (Proc.devRef .tc main_v23),
    StableHlo.after (List.flatten [hostOps1]) Z (Proc.devRef .tc main_v25),
    StableHlo.after (List.flatten [hostOps1]) Z (Proc.devRef .tc main_v27),
    StableHlo.after (List.flatten [hostOps1]) Z (Proc.devRef .tc main_v29),
    StableHlo.after (List.flatten [hostOps1]) Z (Proc.devRef .tc main_v31),
    StableHlo.after (List.flatten [hostOps1]) Z (Proc.devRef .tc main_v33),
    StableHlo.after (List.flatten [hostOps1]) Z (Proc.devRef .tc main_v35),
    StableHlo.after (List.flatten [hostOps1]) Z (Proc.devRef .tc main_v37),
    StableHlo.after (List.flatten [hostOps1]) Z (Proc.devRef .tc main_v39),
    StableHlo.after (List.flatten [hostOps1]) Z (Proc.devRef .tc main_v41),
    StableHlo.after (List.flatten [hostOps1]) Z (Proc.devRef .tc main_v43)⟩ : Sums) = unpack (Z (Proc.devRef .tc main_v16)) := by
  simp only [unpack, flat, Sums.mk.injEq, List.flatten_cons, List.flatten_nil, List.append_nil]
  after_reads_simp
  trivial

/-- What an array is at the end. -/
abbrev fin (b : Ref sig .tc) := Pipeline.afterTail₀ cfgs (dats m) 0 (V0 m) [hostOps1] c b

theorem ends : (⟨
    fin m c main_v19, fin m c main_v21, fin m c main_v23, fin m c main_v25, fin m c main_v27, fin m c main_v29, fin m c main_v31,
    fin m c main_v33, fin m c main_v35, fin m c main_v37, fin m c main_v39, fin m c main_v41, fin m c main_v43⟩ : Sums) = (gradients m c).sums :=
  (tail _).trans ((congrArg unpack ((Pipeline.withArrays_arr spec0 launch0.win.arr_inj c (V0 m c) _ 1).trans
    (final m c))).trans (unpack_total _))

/-- The reference's sum along the first axis. -/
theorem host_total {a b : Nat} (hr : (⟨3, ![8, a, b]⟩ : Shape).ReducesTo [0] ⟨2, ![a, b]⟩) (hu : 0 < S_.numel)
    {y y' : FVec Ideal ⟨3, ![8, a, b]⟩ .f32} (e : y' = y) :
    Host.reduceAdd y' (constant S_ .f32 0x00000000#32) hr hu = total y := by
  subst e
  funext i
  pointwise [total]

/-- The reference ends, its arguments as they were. -/
theorem frame_reference : Cert.quiescent_SumSmallRefIdeal (hSumSmallRefIdeal := Cert.SumSmallRefIdeal.Gen.facts) := by
  intro m g _
  refine (θ_run _ _ _).mono (fun r h => ?_) (Cert.SumSmallRefIdeal.Value.run (F := Ideal) m g)
  refine ⟨fun c => ?_, sem_eq_zero_of_no_sems rfl r.2⟩
  obtain ⟨_, _, _, _, _, _, _, _, _, _, _, _, _, kept⟩ := h c
  exact kept

set_option maxHeartbeats 2000000 in
/-- Both end with the same sums. -/
theorem algebraic : Cert.algebraic_SumSmallIdeal_SumSmallRefIdeal (hSumSmallIdeal := Cert.SumSmallIdeal.Gen.facts)
    (hSumSmallRefIdeal := Cert.SumSmallRefIdeal.Gen.facts) := by
  intro m g m' g' _ hArgs
  refine ⟨
    fun c => total (gradients m c).bAda, fun c => total (gradients m c).gPreMix, fun c => total (gradients m c).gPostMix,
    fun c => total (gradients m c).gQLat, fun c => total (gradients m c).gKvLat, fun c => total (gradients m c).convB,
    fun c => total (gradients m c).dtBias, fun c => total (gradients m c).aLog, fun c => total (gradients m c).dSkip,
    fun c => total (gradients m c).gSsmOut, fun c => total (gradients m c).gPreMlp, fun c => total (gradients m c).gPostMlp,
    fun c => total (gradients m c).convW, ?_, ?_⟩
  · refine (θ_run _ _ _).mono (fun r h c => ?_) (θ_run_and (unchanged m g) (run_main m g))
    have rest (b : Ref sig .tc) (hs : b.isScoped = false) (ha : ∀ w, (spec0 w).arr.view.ref ≠ b) :
        r.2.mem ((c.tc : Thread nD τ).loc b) = fin m c b := (h.2 c).2 b (Pipeline.mem_restRefs_of b hs ha)
    exact ⟨
      (rest main_v19 rfl (by decide)).trans (congrArg Sums.bAda (ends m c)),
      (rest main_v21 rfl (by decide)).trans (congrArg Sums.gPreMix (ends m c)),
      (rest main_v23 rfl (by decide)).trans (congrArg Sums.gPostMix (ends m c)),
      (rest main_v25 rfl (by decide)).trans (congrArg Sums.gQLat (ends m c)),
      (rest main_v27 rfl (by decide)).trans (congrArg Sums.gKvLat (ends m c)),
      (rest main_v29 rfl (by decide)).trans (congrArg Sums.convB (ends m c)),
      (rest main_v31 rfl (by decide)).trans (congrArg Sums.dtBias (ends m c)),
      (rest main_v33 rfl (by decide)).trans (congrArg Sums.aLog (ends m c)),
      (rest main_v35 rfl (by decide)).trans (congrArg Sums.dSkip (ends m c)),
      (rest main_v37 rfl (by decide)).trans (congrArg Sums.gSsmOut (ends m c)),
      (rest main_v39 rfl (by decide)).trans (congrArg Sums.gPreMlp (ends m c)),
      (rest main_v41 rfl (by decide)).trans (congrArg Sums.gPostMlp (ends m c)),
      (rest main_v43 rfl (by decide)).trans (congrArg Sums.convW (ends m c)), h.1 c⟩
  · refine (θ_run _ _ _).mono (fun r h c => ?_) (Cert.SumSmallRefIdeal.Value.run (F := Ideal) m' g')
    obtain ⟨d0, d1, d2, d3, d4, d5, d6, d7, d8, d9, d10, d11, d12, kept⟩ := h c
    obtain ⟨e0, e1, e2, e3, e4, e5, e6, e7, e8, e9, e10, e11, e12⟩ := hArgs c
    exact ⟨
      d0.trans (host_total _ _ e0), d1.trans (host_total _ _ e1), d2.trans (host_total _ _ e2), d3.trans (host_total _ _ e3),
      d4.trans (host_total _ _ e4), d5.trans (host_total _ _ e5), d6.trans (host_total _ _ e6), d7.trans (host_total _ _ e7),
      d8.trans (host_total _ _ e8), d9.trans (host_total _ _ e9), d10.trans (host_total _ _ e10), d11.trans (host_total _ _ e11),
      d12.trans (host_total _ _ e12), kept⟩

end Cert.GradientSum

end
-- ==== Proof.Step.lean ====
module

public import proofs.«01_k».proof.Proof.Gen.KernelIdeal.Skeleton
public import proofs.«01_k».proof.Proof.Gen.KernelIdeal.Launch
public import Idealize.ShloMosaic.Lib.VecWindow

/-!
One grid point of the attention gradient as plain functions of vectors. A point reads one block of each operand and works on four
heads; `accQ`, `accK` and `accV` add each head's contribution to its columns of the three accumulators.
-/

@[expose] public section

noncomputable section

namespace Cert.Proof.Bwd

open Cert.KernelIdeal Cert.KernelIdeal.Gen
open Idealize.ShloMosaic
open Idealize.ShloMosaic.VecWindow (window put)

variable {F : FTy → Type} [FloatOps F] [Named F]

/-- The blocks that one grid point reads: queries, keys, values, forward output, cotangent and log-sum rows. -/
structure Ins (F : FTy → Type) where
  /-- queries -/
  q : S1x512x1024.Idx → Elt F .bf16
  /-- keys -/
  k : S1x512x1024.Idx → Elt F .bf16
  /-- values -/
  v : S1x512x512.Idx → Elt F .bf16
  /-- forward output -/
  o : S1x512x512.Idx → Elt F .bf16
  /-- cotangent of the output -/
  d : S1x512x512.Idx → Elt F .bf16
  /-- log-sum of each row's exponentials, repeated along a head's lanes -/
  l : S1x512x512.Idx → Elt F .f32

theorem slices256 (h : Fin 4) : S512x1024.Slices ![0, 256 * h.val] S512x256 := by revert h; decide
theorem slices128 (h : Fin 4) : S512x512.Slices ![0, 128 * h.val] S512x128 := by revert h; decide

/-- The 256 columns of head `h`. -/
def head256 (h : Fin 4) (x : FVec F S1x512x1024 .bf16) : FVec F S512x256 .bf16 :=
  extractStridedSlice S512x256 ![0, 256 * h.val] (shapeCast S512x1024 x shapeCasts_S1x512x1024_S512x1024) (slices256 h)

/-- The 128 columns of head `h`. -/
def head128 {φ : FTy} (h : Fin 4) (x : FVec F S1x512x512 φ) : FVec F S512x128 φ :=
  extractStridedSlice S512x128 ![0, 128 * h.val] (shapeCast S512x512 x shapeCasts_S1x512x512_S512x512) (slices128 h)

/-- The scores of head `h`; on the diagonal block (`m`) the places after the row are masked. -/
def scores (m : Bool) (x : Ins F) (h : Fin 4) : FVec F S512x512 .f32 :=
  let s := matmul dot_S512x256_S512x256_S512x512_1_1_0_0_n_n none (head256 h x.q) (head256 h x.k) (constant S512x512 .f32 0x00000000#32)
  if m then
    select (cmpi .sle (iota .tc S512x512 32 [1] iota_S512x512_d1_w32) (iota .tc S512x512 32 [0] iota_S512x512_d0_w32)) s
      (broadcast S512x512 (Named.named κ "mask" 0xF149F2CA#32))
  else s

/-- The probabilities of head `h`, from the scores and the rows' log-sums. -/
def probs (m : Bool) (x : Ins F) (h : Fin 4) : FVec F S512x512 .f32 :=
  exp (subf (scores m x h)
    (concatenate S512x512 1 [⟨S512x128, head128 h x.l⟩, ⟨S512x128, head128 h x.l⟩, ⟨S512x128, head128 h x.l⟩, ⟨S512x128, head128 h x.l⟩]
      concatenates_S512x128_S512x128_S512x128_S512x128_S512x512_d1))

/-- The gradient of the scores of head `h`. -/
def dscores (m : Bool) (x : Ins F) (h : Fin 4) : FVec F S512x512 .bf16 :=
  truncf .bf16 (mulf (probs m x h)
    (subf (matmul dot_S512x128_S512x128_S512x512_1_1_0_0_n_n none (head128 h x.d) (head128 h x.v) (constant S512x512 .f32 0x00000000#32))
      (broadcastTo S512x512 (shapeCast S512x1
        (multiReduction .add [1] S512 (mulf (extf .f32 (head128 h x.d) bitsLt_bf16_f32) (extf .f32 (head128 h x.o) bitsLt_bf16_f32)) 0x00000000#32
          reduces_S512x128_S512 (.inl rfl) rfl) shapeCasts_S512_S512x1) broadcasts_S512x1_S512x512))) bitsLt_bf16_f32

/-- What head `h` adds to the gradient of the queries. -/
def conQ (m : Bool) (x : Ins F) (h : Fin 4) : FVec F S512x256 .f32 :=
  matmul dot_S512x512_S512x256_S512x256_1_0_0_1_n_n none (dscores m x h) (head256 h x.k) (constant S512x256 .f32 0x00000000#32)

/-- What head `h` adds to the gradient of the keys. -/
def conK (m : Bool) (x : Ins F) (h : Fin 4) : FVec F S512x256 .f32 :=
  matmul dot_S512x512_S512x256_S512x256_0_0_1_1_n_n none (dscores m x h) (head256 h x.q) (constant S512x256 .f32 0x00000000#32)

/-- What head `h` adds to the gradient of the values. -/
def conV (m : Bool) (x : Ins F) (h : Fin 4) : FVec F S512x128 .f32 :=
  matmul dot_S512x512_S512x128_S512x128_0_0_1_1_n_n none (truncf .bf16 (probs m x h) bitsLt_bf16_f32) (head128 h x.d) (constant S512x128 .f32 0x00000000#32)

/-- Four windows of `a`, one after another, each with its contribution added. -/
def add4 {s : Shape} (off : Fin 4 → Fin s.rank → ℕ) (size : Fin s.rank → ℕ) (inb : ∀ h a, off h a + size a ≤ s.size a)
    (C : Fin 4 → ((a : Fin s.rank) → Fin (size a)) → F .f32) (a : s.Idx → F .f32) : s.Idx → F .f32 :=
  let st (h : Fin 4) (a : s.Idx → F .f32) : s.Idx → F .f32 :=
    put a (off h) size (fun x => FloatOps.addf (window a (off h) size (inb h) x) (C h x))
  st 3 (st 2 (st 1 (st 0 a)))

theorem inbQ (h : Fin 4) (a : Fin 2) : (![0, 256 * h.val] : Fin 2 → ℕ) a + S512x256.size a ≤ S512x1024.size a := by revert h a; decide
theorem inbK {J : ℕ} (hJ : J < 8) (h : Fin 4) (a : Fin 2) : (![512 * J, 256 * h.val] : Fin 2 → ℕ) a + S512x256.size a ≤ S4096x1024.size a := by
  revert h a; interval_cases J <;> decide
theorem inbV {J : ℕ} (hJ : J < 8) (h : Fin 4) (a : Fin 2) : (![512 * J, 128 * h.val] : Fin 2 → ℕ) a + S512x128.size a ≤ S4096x512.size a := by
  revert h a; interval_cases J <;> decide
theorem inbRowsK {J : ℕ} (hJ : J < 8) (a : Fin 2) : (![512 * J, 0] : Fin 2 → ℕ) a + S512x1024.size a ≤ S4096x1024.size a := by
  revert a; interval_cases J <;> decide
theorem inbRowsV {J : ℕ} (hJ : J < 8) (a : Fin 2) : (![512 * J, 0] : Fin 2 → ℕ) a + S512x512.size a ≤ S4096x512.size a := by
  revert a; interval_cases J <;> decide

/-- The queries' accumulator with every head's contribution added. -/
def accQ (m : Bool) (x : Ins F) (a : FVec F S512x1024 .f32) : FVec F S512x1024 .f32 :=
  add4 (s := S512x1024) (fun h => ![0, 256 * h.val]) S512x256.size inbQ (conQ m x) a

/-- The keys' accumulator with every head's contribution added to the rows of block `J`. -/
def accK {J : ℕ} (hJ : J < 8) (m : Bool) (x : Ins F) (a : FVec F S4096x1024 .f32) : FVec F S4096x1024 .f32 :=
  add4 (s := S4096x1024) (fun h => ![512 * J, 256 * h.val]) S512x256.size (inbK hJ) (conK m x) a

/-- The values' accumulator with every head's contribution added to the rows of block `J`. -/
def accV {J : ℕ} (hJ : J < 8) (m : Bool) (x : Ins F) (a : FVec F S4096x512 .f32) : FVec F S4096x512 .f32 :=
  add4 (s := S4096x512) (fun h => ![512 * J, 128 * h.val]) S512x128.size (inbV hJ) (conV m x) a

/-- One point's work on an accumulator: cleared when `z`, then added to unless the key block lies after the query block. -/
def stepOf {α : Type} (z : Prop) [Decidable z] (I J : ℕ) (zero : α) (acc : Bool → α → α) (a : α) : α :=
  let b := if z then zero else a
  if J < I then acc false b else if J = I then acc true b else b

/-- The queries' accumulator after the point of blocks `I`, `J`. -/
def stepQ (I J : ℕ) (x : Ins F) (a : FVec F S512x1024 .f32) : FVec F S512x1024 .f32 :=
  stepOf (J = 0) I J (fun _ => Scalar.ofBits .f32 0x00000000#32) (fun m => accQ m x) a

/-- The keys' accumulator after the `p`-th point, of blocks `I`, `J`. -/
def stepK (p I : ℕ) {J : ℕ} (hJ : J < 8) (x : Ins F) (a : FVec F S4096x1024 .f32) : FVec F S4096x1024 .f32 :=
  stepOf (p = 0) I J (fun _ => Scalar.ofBits .f32 0x00000000#32) (fun m => accK hJ m x) a

/-- The values' accumulator after the `p`-th point, of blocks `I`, `J`. -/
def stepV (p I : ℕ) {J : ℕ} (hJ : J < 8) (x : Ins F) (a : FVec F S4096x512 .f32) : FVec F S4096x512 .f32 :=
  stepOf (p = 0) I J (fun _ => Scalar.ofBits .f32 0x00000000#32) (fun m => accV hJ m x) a

/-- The block of the queries' gradient that leaves at a diagonal point. -/
def outQ (a : FVec F S512x1024 .f32) : FVec F S1x512x1024 .bf16 :=
  shapeCast S1x512x1024 (truncf .bf16 a bitsLt_bf16_f32) shapeCasts_S512x1024_S1x512x1024

/-- The block `J` of the keys' gradient that leaves with the last block of queries. -/
def outK {J : ℕ} (hJ : J < 8) (a : FVec F S4096x1024 .f32) : FVec F S1x512x1024 .bf16 :=
  outQ (window a ![512 * J, 0] S512x1024.size (inbRowsK hJ))

/-- The block `J` of the values' gradient that leaves with the last block of queries. -/
def outV {J : ℕ} (hJ : J < 8) (a : FVec F S4096x512 .f32) : FVec F S1x512x512 .bf16 :=
  shapeCast S1x512x512 (truncf .bf16 (window a ![512 * J, 0] S512x512.size (inbRowsV hJ) : FVec F S512x512 .f32) bitsLt_bf16_f32) shapeCasts_S512x512_S1x512x512

end Cert.Proof.Bwd
-- ==== Proof.Body.lean ====
module

public import proofs.«01_k».proof.Proof.Step
public import Idealize.ShloMosaic.Lib.Pipeline.Kit
public import Idealize.ShloMosaic.Lib.Pipeline.FrameBody
public import Idealize.ShloMosaic.Lib.Exec
public import Idealize.ShloMosaic.Lib.Tactic

/-!
The body at one grid point, run once on symbolic contents: what it leaves in the staging buffers of the results and in the three
accumulators.
-/

@[expose] public section

set_option maxRecDepth 16384

noncomputable section

namespace Cert.Proof.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The assertions of this launch. -/
local notation "𝕄" => MT nD τ sig Unit (Elt F) ℕ (UR sig nD τ) ℕ

/-- The table of query blocks. -/
abbrev tbM0 : Memref sig .tc .smem S36 .i32 := Memref.whole main_c
/-- The table of key blocks. -/
abbrev tbM1 : Memref sig .tc .smem S36 .i32 := Memref.whole main_c_0
/-- The queries' accumulator. -/
abbrev scM0 : Memref sig .tc .vmem S512x1024 .f32 := Memref.whole cc0_scratch0
/-- The keys' accumulator. -/
abbrev scM1 : Memref sig .tc .vmem S4096x1024 .f32 := Memref.whole cc0_scratch1
/-- The values' accumulator. -/
abbrev scM2 : Memref sig .tc .vmem S4096x512 .f32 := Memref.whole cc0_scratch2

/-- The word of a table at a grid point. -/
abbrev word (m : Memref sig .tc .smem S36 .i32) (i : grid0.Coords) (T : m.view.ty.Contents (Elt F)) : BitVec 32 :=
  View.readAt (Elt F) m.view (Rect.unit (s := S36) (k0_off1 i) S1.size (k0_off1_inb i)).toLoadRect T (Shape.Idx.first (numel1_S1.symm ▸ Nat.one_pos))

set_option backward.proofsInPublic true in
set_option maxHeartbeats 8000000 in
/-- What the body leaves: the three results' staging buffers `o6`, `o7`, `o8` and the three accumulators `b0`, `b1`, `b2`, with the
    run that leaves them. -/
def bodyRun (c : Dev nD) (i : grid0.Coords)
    (arg5 : Memref sig .tc .vmem S1x512x1024 .bf16) (harg5 : arg5.IsWhole)
    (arg6 : Memref sig .tc .vmem S1x512x1024 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .f32) (harg10 : arg10.IsWhole)
    (arg11 : Memref sig .tc .vmem S1x512x1024 .bf16) (harg11 : arg11.IsWhole)
    (arg12 : Memref sig .tc .vmem S1x512x1024 .bf16) (harg12 : arg12.IsWhole)
    (arg13 : Memref sig .tc .vmem S1x512x512 .bf16) (harg13 : arg13.IsWhole)
    (T0 T1 : S36.Idx → Elt F .i32) (x : Ins F) (y6 y7 : S1x512x1024.Idx → Elt F .bf16) (y8 : S1x512x512.Idx → Elt F .bf16)
    (a0 : FVec F S512x1024 .f32) (a1 : FVec F S4096x1024 .f32) (a2 : FVec F S4096x512 .f32)
    (k0_hw1 : k0_chk1 (word tbM0 i T0) (word tbM1 i T1)) :
    Σ' (o6 : arg11.view.ty.Contents (Elt F)) (o7 : arg12.view.ty.Contents (Elt F)) (o8 : arg13.view.ty.Contents (Elt F))
      (b0 : FVec F S512x1024 .f32) (b1 : FVec F S4096x1024 .f32), { b2 : FVec F S4096x512 .f32 // ∀ K : PUnit → sProp 𝕄,
      iprop((arg5.view.loc (c : Thread nD τ) ↦[arg5.view.set]{fullShare} arg5.view.rep x.q)
        ∗ (arg6.view.loc (c : Thread nD τ) ↦[arg6.view.set]{fullShare} arg6.view.rep x.k)
        ∗ (arg7.view.loc (c : Thread nD τ) ↦[arg7.view.set]{fullShare} arg7.view.rep x.v)
        ∗ (arg8.view.loc (c : Thread nD τ) ↦[arg8.view.set]{fullShare} arg8.view.rep x.o)
        ∗ (arg9.view.loc (c : Thread nD τ) ↦[arg9.view.set]{fullShare} arg9.view.rep x.d)
        ∗ (arg10.view.loc (c : Thread nD τ) ↦[arg10.view.set]{fullShare} arg10.view.rep x.l)
        ∗ (tbM0.view.loc (c : Thread nD τ) ↦{fullShare.right} T0)
        ∗ (tbM1.view.loc (c : Thread nD τ) ↦{fullShare.right} T1)
        ∗ (arg11.view.loc (c : Thread nD τ) ↦[arg11.view.set]{fullShare} harg11.unread y6)
        ∗ (arg12.view.loc (c : Thread nD τ) ↦[arg12.view.set]{fullShare} harg12.unread y7)
        ∗ (arg13.view.loc (c : Thread nD τ) ↦[arg13.view.set]{fullShare} harg13.unread y8)
        ∗ (scM0.view.loc (c : Thread nD τ) ↦{fullShare} a0)
        ∗ (scM1.view.loc (c : Thread nD τ) ↦{fullShare} a1)
        ∗ (scM2.view.loc (c : Thread nD τ) ↦{fullShare} a2)
        ∗ (iprop((arg5.view.loc (c : Thread nD τ) ↦[arg5.view.set]{fullShare} arg5.view.rep x.q)
            ∗ (arg6.view.loc (c : Thread nD τ) ↦[arg6.view.set]{fullShare} arg6.view.rep x.k)
            ∗ (arg7.view.loc (c : Thread nD τ) ↦[arg7.view.set]{fullShare} arg7.view.rep x.v)
            ∗ (arg8.view.loc (c : Thread nD τ) ↦[arg8.view.set]{fullShare} arg8.view.rep x.o)
            ∗ (arg9.view.loc (c : Thread nD τ) ↦[arg9.view.set]{fullShare} arg9.view.rep x.d)
            ∗ (arg10.view.loc (c : Thread nD τ) ↦[arg10.view.set]{fullShare} arg10.view.rep x.l)
            ∗ (tbM0.view.loc (c : Thread nD τ) ↦{fullShare.right} T0)
            ∗ (tbM1.view.loc (c : Thread nD τ) ↦{fullShare.right} T1)
            ∗ (arg11.view.loc (c : Thread nD τ) ↦[arg11.view.set]{fullShare} o6)
            ∗ (arg12.view.loc (c : Thread nD τ) ↦[arg12.view.set]{fullShare} o7)
            ∗ (arg13.view.loc (c : Thread nD τ) ↦[arg13.view.set]{fullShare} o8)
            ∗ (scM0.view.loc (c : Thread nD τ) ↦{fullShare} b0)
            ∗ (scM1.view.loc (c : Thread nD τ) ↦{fullShare} b1)
            ∗ (scM2.view.loc (c : Thread nD τ) ↦{fullShare} b2)) -∗ K ⟨⟩))
      ⊢ wp frame (wpE (defs₀ (F := F)) Variants.none (c : Thread nD τ) none) Set.univ
          (cc0_attn_bwd i tbM0 (Memref.isWhole_whole _) tbM1 (Memref.isWhole_whole _) arg5 harg5 arg6 harg6 arg7 harg7 arg8 harg8 arg9 harg9 arg10 harg10 arg11 harg11 arg12 harg12 arg13 harg13
            scM0 (Memref.isWhole_whole _) scM1 (Memref.isWhole_whole _) scM2 (Memref.isWhole_whole _)) K } :=
  ⟨_, _, _, _, _, _, fun K => by
    rw [cc0_attn_bwd_eq_skeleton]; unfold cc0_attn_bwd_skel
    iintro ⟨H0, H1, H2, H3, H4, H5, HT0, HT1, HO6, HO7, HO8, HS0, HS1, HS2, Hk⟩
    have hf6 : arg11.view.read (Elt F) (harg11.unread y6) = y6 := harg11.read_unread y6
    have hf7 : arg12.view.read (Elt F) (harg12.unread y7) = y7 := harg12.read_unread y7
    have hf8 : arg13.view.read (Elt F) (harg13.unread y8) = y8 := harg13.read_unread y8
    have hS0 : scM0.IsWhole := Memref.isWhole_whole _
    have hS1 : scM1.IsWhole := Memref.isWhole_whole _
    have hS2 : scM2.IsWhole := Memref.isWhole_whole _
    have hT0 : tbM0.IsWhole := Memref.isWhole_whole _
    have hT1 : tbM1.IsWhole := Memref.isWhole_whole _
    sl_exec! (disch := first | (guard_target = k0_chk1 _ _; exact k0_hw1))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    isplitl [HO7]; · iexact HO7
    isplitl [HO8]; · iexact HO8
    isplitl [HS0]; · iexact HS0
    isplitl [HS1]; · iexact HS1
    iexact HS2⟩

end Cert.Proof.Bwd
-- ==== Proof.BodyEq.lean ====
module
public import proofs.«01_k».proof.Proof.Body
/-!
What the body leaves, in the terms of `Step`: the three accumulators after a point are `stepQ`, `stepK` and `stepV` of what they held, and
a result's staging buffer holds the block that leaves there or what it held.
-/

@[expose] public section
set_option maxRecDepth 16384

noncomputable section

namespace Cert.Proof.Bwd

open Cert.KernelIdeal Cert.KernelIdeal.Gen
open Idealize.ShloMosaic
open Idealize.ShloMosaic.TcCoe
open Idealize.ShloMosaic.VecWindow (window put)

variable {F : FTy → Type} [FloatOps F] [Named F]

/-- Four stores through `v` over the contents `f`, each of what `W` makes of what it reads at its own window. -/
def fourStores {κ : Kind} {sp : Space} {s : Shape} {e : EltTy} (v : View sig κ sp s e) (f : v.ty.Contents (Elt F)) (off : Fin 4 → Fin s.rank → ℕ)
    (size : Fin s.rank → ℕ) (inb : ∀ h a, off h a + size a ≤ s.size a)
    (W : Fin 4 → (((a : Fin s.rank) → Fin (size a)) → Elt F e) → ((a : Fin s.rank) → Fin (size a)) → Elt F e) : v.ty.Contents (Elt F) :=
  let st (h : Fin 4) (L : List (View.Piece (Elt F) s e)) : List (View.Piece (Elt F) s e) :=
    ⟨Rect.unit (off h) size (inb h), W h (v.readAt (Elt F) (Rect.unit (off h) size (inb h)).toLoadRect (v.writes (Elt F) f L))⟩ :: L
  v.writes (Elt F) f (st 3 (st 2 (st 1 (st 0 []))))

theorem read_fourStores {κ : Kind} {sp : Space} {s : Shape} (v : View sig κ sp s .f32) (f : v.ty.Contents (Elt F)) {off off' : Fin 4 → Fin s.rank → ℕ}
    {size : Fin s.rank → ℕ} (inb : ∀ h a, off h a + size a ≤ s.size a) (inb' : ∀ h a, off' h a + size a ≤ s.size a) (ho : off = off')
    {W : Fin 4 → (((a : Fin s.rank) → Fin (size a)) → Elt F .f32) → ((a : Fin s.rank) → Fin (size a)) → Elt F .f32}
    (C : Fin 4 → ((a : Fin s.rank) → Fin (size a)) → F .f32) (hW : ∀ h w, W h w = fun x => FloatOps.addf (w x) (C h x)) :
    v.read (Elt F) (fourStores v f off size inb W) = add4 off' size inb' C (v.read (Elt F) f) := by
  subst ho
  unfold fourStores add4
  simp only [hW]
  rw [View.read_writes_cons_put v f _ _ _ rfl, View.readAt_unit v _ _ rfl (inb 3), View.read_writes_cons_put v f _ _ _ rfl, View.readAt_unit v _ _ rfl (inb 2),
    View.read_writes_cons_put v f _ _ _ rfl, View.readAt_unit v _ _ rfl (inb 1), View.read_writes_cons_put v f _ _ _ rfl, View.readAt_unit v _ _ rfl (inb 0)]
  rfl

/-- Four stores through `v` over the contents `g`, each of what `W` makes of what `f` holds at its own window. -/
def apartStores {κ : Kind} {sp : Space} {s : Shape} {e : EltTy} (v : View sig κ sp s e) (g f : v.ty.Contents (Elt F)) (off : Fin 4 → Fin s.rank → ℕ)
    (size : Fin s.rank → ℕ) (inb : ∀ h a, off h a + size a ≤ s.size a)
    (W : Fin 4 → (((a : Fin s.rank) → Fin (size a)) → Elt F e) → ((a : Fin s.rank) → Fin (size a)) → Elt F e) : v.ty.Contents (Elt F) :=
  let st (h : Fin 4) : View.Piece (Elt F) s e :=
    ⟨Rect.unit (off h) size (inb h), W h (v.readAt (Elt F) (Rect.unit (off h) size (inb h)).toLoadRect f)⟩
  v.writes (Elt F) g [st 3, st 2, st 1, st 0]

theorem read_apartStores {κ : Kind} {sp : Space} {s : Shape} (v : View sig κ sp s .f32) (f : v.ty.Contents (Elt F)) {off off' : Fin 4 → Fin s.rank → ℕ}
    {size : Fin s.rank → ℕ} (inb : ∀ h a, off h a + size a ≤ s.size a) (inb' : ∀ h a, off' h a + size a ≤ s.size a) (ho : off = off')
    (hd : ∀ h h', h ≠ h' → ∃ a, off h a + size a ≤ off h' a ∨ off h' a + size a ≤ off h a)
    {W : Fin 4 → (((a : Fin s.rank) → Fin (size a)) → Elt F .f32) → ((a : Fin s.rank) → Fin (size a)) → Elt F .f32}
    (C : Fin 4 → ((a : Fin s.rank) → Fin (size a)) → F .f32) (hW : ∀ h w, W h w = fun x => FloatOps.addf (w x) (C h x)) :
    v.read (Elt F) (apartStores v f f off size inb W) = add4 off' size inb' C (v.read (Elt F) f) := by
  subst ho
  have wd : ∀ h h', h ≠ h' → ∀ x w, window (α := F .f32) (put x (off h') size w) (off h) size (inb h) = window x (off h) size (inb h) := fun h h' hne x w =>
    (hd h h' hne).elim fun a ha => VecWindow.window_put_of_disjoint x (off h') size (off h) size (inb h) w a ha
  unfold apartStores add4
  simp only [hW]
  rw [View.read_writes_cons_put v f _ _ _ rfl, View.readAt_unit v _ _ rfl (inb 3), View.read_writes_cons_put v f _ _ _ rfl, View.readAt_unit v _ _ rfl (inb 2),
    View.read_writes_cons_put v f _ _ _ rfl, View.readAt_unit v _ _ rfl (inb 1), View.read_writes_cons_put v f _ _ _ rfl, View.readAt_unit v _ _ rfl (inb 0)]
  simp only [wd 1 0 (by decide), wd 2 0 (by decide), wd 2 1 (by decide), wd 3 0 (by decide), wd 3 1 (by decide), wd 3 2 (by decide)]
  rfl

theorem all4 {P : Fin 4 → Prop} (h0 : P 0) (h1 : P 1) (h2 : P 2) (h3 : P 3) : ∀ h, P h
  | 0 => h0
  | 1 => h1
  | 2 => h2
  | 3 => h3

theorem inbQ4 : ∀ (h : Fin 4) (a : Fin 2), (![![0, 0], ![0, 256], ![0, 512], ![0, 768]] : Fin 4 → Fin 2 → ℕ) h a + S512x256.size a ≤ S512x1024.size a := by decide

/-- The word that says whether a point is the first of its row of points. -/
def firstWord (i : grid0.Coords) : BitVec 1 := Scalar.cmpi .ne (Scalar.extui (Scalar.cmpi .eq (BitVec.ofNat 32 (i 2).val) 0#32)) 0#32
/-- The word that says whether the key block is the first. -/
def clearWord (v3 : BitVec 32) : BitVec 1 := Scalar.cmpi .ne (Scalar.extui (Scalar.cmpi .eq v3 0#32)) 0#32

/-- The blocks as the body loads them. -/
def loaded (m5 m6 : Memref sig .tc .vmem S1x512x1024 .bf16) (m7 m8 m9 : Memref sig .tc .vmem S1x512x512 .bf16) (m10 : Memref sig .tc .vmem S1x512x512 .f32)
    (x : Ins F) : Ins F where
  q := m5.view.readAt (Elt F) (Rect.unit (s := S1x512x1024) ![0, 0, 0] S1x512x1024.size inb_S1x512x1024_S1x512x1024_0_0_0).toLoadRect (m5.view.rep x.q)
  k := m6.view.readAt (Elt F) (Rect.unit (s := S1x512x1024) ![0, 0, 0] S1x512x1024.size inb_S1x512x1024_S1x512x1024_0_0_0).toLoadRect (m6.view.rep x.k)
  v := m7.view.readAt (Elt F) (Rect.unit (s := S1x512x512) ![0, 0, 0] S1x512x512.size inb_S1x512x512_S1x512x512_0_0_0).toLoadRect (m7.view.rep x.v)
  o := m8.view.readAt (Elt F) (Rect.unit (s := S1x512x512) ![0, 0, 0] S1x512x512.size inb_S1x512x512_S1x512x512_0_0_0).toLoadRect (m8.view.rep x.o)
  d := m9.view.readAt (Elt F) (Rect.unit (s := S1x512x512) ![0, 0, 0] S1x512x512.size inb_S1x512x512_S1x512x512_0_0_0).toLoadRect (m9.view.rep x.d)
  l := m10.view.readAt (Elt F) (Rect.unit (s := S1x512x512) ![0, 0, 0] S1x512x512.size inb_S1x512x512_S1x512x512_0_0_0).toLoadRect (m10.view.rep x.l)

/-- The queries' accumulator, cleared where the body clears it. -/
def rawQ0 (w3 : BitVec 32) (a : FVec F S512x1024 .f32) : FVec F S512x1024 .f32 :=
  if h : clearWord w3 = 1#1 then scM0.view.writes (Elt F) a [⟨Rect.unit (s := S512x1024) ![0, 0] S512x1024.size inb_S512x1024_S512x1024_0_0, k0_pay3⟩] else a

/-- The keys' accumulator, cleared where the body clears it. -/
def rawK0 (i : grid0.Coords) (a : FVec F S4096x1024 .f32) : FVec F S4096x1024 .f32 :=
  if h : firstWord i = 1#1 then scM1.view.writes (Elt F) a [⟨Rect.unit (s := S4096x1024) ![0, 0] S4096x1024.size inb_S4096x1024_S4096x1024_0_0, k0_pay1⟩] else a

/-- The values' accumulator, cleared where the body clears it. -/
def rawV0 (i : grid0.Coords) (a : FVec F S4096x512 .f32) : FVec F S4096x512 .f32 :=
  if h : firstWord i = 1#1 then scM2.view.writes (Elt F) a [⟨Rect.unit (s := S4096x512) ![0, 0] S4096x512.size inb_S4096x512_S4096x512_0_0, k0_pay2⟩] else a

/-- The queries' accumulator as the body leaves it before the diagonal block. -/
def rawQ1 (w1 w3 : BitVec 32) (x : Ins F) (a : FVec F S512x1024 .f32) : FVec F S512x1024 .f32 :=
  if h : k0_cond3 w1 w3 = 1#1 then
      apartStores scM0.view (rawQ0 w3 a) (rawQ0 w3 a) ![![0, 0], ![0, 256], ![0, 512], ![0, 768]] S512x256.size inbQ4
        (fun h w => shapeCast S512x256 (addf (w : FVec F S512x256 .f32) (conQ false x h)) shapeCasts_S512x256_S512x256)
    else rawQ0 w3 a

/-- The stores of the diagonal block into the queries' accumulator, over the contents `g`. -/
def rawQ2 (w1 w3 : BitVec 32) (x : Ins F) (a g : FVec F S512x1024 .f32) : FVec F S512x1024 .f32 :=
  apartStores scM0.view g (rawQ1 w1 w3 x a) ![![0, 0], ![0, 256], ![0, 512], ![0, 768]] S512x256.size inbQ4
    (fun h w => shapeCast S512x256 (addf (w : FVec F S512x256 .f32) (conQ true x h)) shapeCasts_S512x256_S512x256)

theorem cols_cover (y : S512x1024.Idx) :
    ∃ h : Fin 4, ∀ a : Fin 2, (![![0, 0], ![0, 256], ![0, 512], ![0, 768]] : Fin 4 → Fin 2 → ℕ) h a ≤ (y a).val
      ∧ (y a).val < (![![0, 0], ![0, 256], ![0, 512], ![0, 768]] : Fin 4 → Fin 2 → ℕ) h a + S512x256.size a := by
  have h0 : (y 0).val < 512 := (y 0).isLt
  have h1 : (y 1).val < 1024 := (y 1).isLt
  have hs0 : S512x256.size 0 = 512 := rfl
  have hs1 : S512x256.size 1 = 256 := rfl
  refine if c1 : (y 1).val < 256 then ⟨0, ?_⟩ else if c2 : (y 1).val < 512 then ⟨1, ?_⟩ else if c3 : (y 1).val < 768 then ⟨2, ?_⟩ else ⟨3, ?_⟩ <;>
    · refine Fin.forall_fin_two.mpr ⟨⟨Nat.zero_le _, ?_⟩, ?_, ?_⟩ <;> simp <;> omega

theorem readAt_rawQ2 (w1 w3 : BitVec 32) (x : Ins F) (a g g' : FVec F S512x1024 .f32) :
    scM0.view.readAt (Elt F) (Rect.unit (s := S512x1024) ![0, 0] S512x1024.size inb_S512x1024_S512x1024_0_0).toLoadRect (rawQ2 w1 w3 x a g)
      = scM0.view.readAt (Elt F) (Rect.unit (s := S512x1024) ![0, 0] S512x1024.size inb_S512x1024_S512x1024_0_0).toLoadRect (rawQ2 w1 w3 x a g') := by
  have hc : ∀ L : List (View.Piece (Elt F) S512x1024 .f32), (∀ h, ∃ p ∈ L, p.1 = Rect.unit (s := S512x1024) _ _ (inbQ4 h)) → ∀ y, ∃ p ∈ L, y ∈ p.1.set := fun L hL y => by
    obtain ⟨h, hy⟩ := cols_cover y
    obtain ⟨p, hp, e⟩ := hL h
    exact ⟨p, hp, by rw [e]; exact Rect.mem_set_unit.2 hy⟩
  have hL : ∀ p0 p1 p2 p3 : View.Piece (Elt F) S512x1024 .f32, p0.1 = Rect.unit (s := S512x1024) _ _ (inbQ4 0) → p1.1 = Rect.unit (s := S512x1024) _ _ (inbQ4 1) →
      p2.1 = Rect.unit (s := S512x1024) _ _ (inbQ4 2) → p3.1 = Rect.unit (s := S512x1024) _ _ (inbQ4 3) →
      ∀ h, ∃ p ∈ [p3, p2, p1, p0], p.1 = Rect.unit (s := S512x1024) _ _ (inbQ4 h) := fun p0 p1 p2 p3 e0 e1 e2 e3 =>
    all4 ⟨p0, by simp, e0⟩ ⟨p1, by simp, e1⟩ ⟨p2, by simp, e2⟩ ⟨p3, by simp, e3⟩
  unfold rawQ2 apartStores
  refine (View.readAt_writes_of_cover scM0.view g _ _ fun j => hc _ ?_ _).trans (View.readAt_writes_of_cover scM0.view g' _ _ fun j => hc _ ?_ _).symm <;>
    exact hL _ _ _ _ rfl rfl rfl rfl

/-- The queries' accumulator as the body leaves it. -/
def rawQ (w1 w3 : BitVec 32) (x : Ins F) (a : FVec F S512x1024 .f32) : FVec F S512x1024 .f32 :=
  if h : k0_cond4 w1 w3 = 1#1 then rawQ2 w1 w3 x a (rawQ1 w1 w3 x a) else rawQ1 w1 w3 x a

/-- The keys' accumulator as the body leaves it before the diagonal block. -/
def rawK1 (i : grid0.Coords) (w1 w3 : BitVec 32) (hw : k0_chk1 w1 w3) (x : Ins F) (a : FVec F S4096x1024 .f32) : FVec F S4096x1024 .f32 :=
  if h : k0_cond3 w1 w3 = 1#1 then
      fourStores scM1.view (rawK0 i a) ![k0_off3 w3, k0_off5 w3, k0_off7 w3, k0_off9 w3] S512x256.size (all4 (k0_off3_inb _ _ hw h) (k0_off5_inb _ _ hw h) (k0_off7_inb _ _ hw h) (k0_off9_inb _ _ hw h))
        (fun h w => shapeCast S512x256 (addf (w : FVec F S512x256 .f32) (conK false x h)) shapeCasts_S512x256_S512x256)
    else rawK0 i a

/-- The keys' accumulator as the body leaves it. -/
def rawK (i : grid0.Coords) (w1 w3 : BitVec 32) (hw : k0_chk1 w1 w3) (x : Ins F) (a : FVec F S4096x1024 .f32) : FVec F S4096x1024 .f32 :=
  if h : k0_cond4 w1 w3 = 1#1 then
      fourStores scM1.view (rawK1 i w1 w3 hw x a) ![k0_off11 w3, k0_off13 w3, k0_off15 w3, k0_off17 w3] S512x256.size (all4 (k0_off11_inb _ _ hw h) (k0_off13_inb _ _ hw h) (k0_off15_inb _ _ hw h) (k0_off17_inb _ _ hw h))
        (fun h w => shapeCast S512x256 (addf (w : FVec F S512x256 .f32) (conK true x h)) shapeCasts_S512x256_S512x256)
    else rawK1 i w1 w3 hw x a

/-- The values' accumulator as the body leaves it before the diagonal block. -/
def rawV1 (i : grid0.Coords) (w1 w3 : BitVec 32) (hw : k0_chk1 w1 w3) (x : Ins F) (a : FVec F S4096x512 .f32) : FVec F S4096x512 .f32 :=
  if h : k0_cond3 w1 w3 = 1#1 then
      fourStores scM2.view (rawV0 i a) ![k0_off2 w3, k0_off4 w3, k0_off6 w3, k0_off8 w3] S512x128.size (all4 (k0_off2_inb _ _ hw h) (k0_off4_inb _ _ hw h) (k0_off6_inb _ _ hw h) (k0_off8_inb _ _ hw h))
        (fun h w => shapeCast S512x128 (addf (w : FVec F S512x128 .f32) (conV false x h)) shapeCasts_S512x128_S512x128)
    else rawV0 i a

/-- The values' accumulator as the body leaves it. -/
def rawV (i : grid0.Coords) (w1 w3 : BitVec 32) (hw : k0_chk1 w1 w3) (x : Ins F) (a : FVec F S4096x512 .f32) : FVec F S4096x512 .f32 :=
  if h : k0_cond4 w1 w3 = 1#1 then
      fourStores scM2.view (rawV1 i w1 w3 hw x a) ![k0_off10 w3, k0_off12 w3, k0_off14 w3, k0_off16 w3] S512x128.size (all4 (k0_off10_inb _ _ hw h) (k0_off12_inb _ _ hw h) (k0_off14_inb _ _ hw h) (k0_off16_inb _ _ hw h))
        (fun h w => shapeCast S512x128 (addf (w : FVec F S512x128 .f32) (conV true x h)) shapeCasts_S512x128_S512x128)
    else rawV1 i w1 w3 hw x a

variable (c : Dev nD) (i : grid0.Coords)
    (arg5 : Memref sig .tc .vmem S1x512x1024 .bf16) (harg5 : arg5.IsWhole)
    (arg6 : Memref sig .tc .vmem S1x512x1024 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .f32) (harg10 : arg10.IsWhole)
    (arg11 : Memref sig .tc .vmem S1x512x1024 .bf16) (harg11 : arg11.IsWhole)
    (arg12 : Memref sig .tc .vmem S1x512x1024 .bf16) (harg12 : arg12.IsWhole)
    (arg13 : Memref sig .tc .vmem S1x512x512 .bf16) (harg13 : arg13.IsWhole)
    (T0 T1 : S36.Idx → Elt F .i32) (x : Ins F) (y6 y7 : S1x512x1024.Idx → Elt F .bf16) (y8 : S1x512x512.Idx → Elt F .bf16)
    (a0 : FVec F S512x1024 .f32) (a1 : FVec F S4096x1024 .f32) (a2 : FVec F S4096x512 .f32)
    (k0_hw1 : k0_chk1 (word tbM0 i T0) (word tbM1 i T1))

set_option maxHeartbeats 1600000 in
theorem bodyRun_raw :
    let R := bodyRun c i arg5 harg5 arg6 harg6 arg7 harg7 arg8 harg8 arg9 harg9 arg10 harg10 arg11 harg11 arg12 harg12 arg13 harg13 T0 T1 x y6 y7 y8 a0 a1 a2 k0_hw1
    let xl := loaded arg5 arg6 arg7 arg8 arg9 arg10 x
    let b0 := rawQ (word tbM0 i T0) (word tbM1 i T1) xl a0
    let b1 := rawK i _ _ k0_hw1 xl a1
    let b2 := rawV i _ _ k0_hw1 xl a2
    R.1 = (if h : k0_cond4 (word tbM0 i T0) (word tbM1 i T1) = 1#1 then arg11.view.writes (Elt F) (harg11.unread y6)
      [⟨Rect.unit (s := S1x512x1024) ![0, 0, 0] S1x512x1024.size inb_S1x512x1024_S1x512x1024_0_0_0, outQ (scM0.view.readAt (Elt F) (Rect.unit (s := S512x1024) ![0, 0] S512x1024.size inb_S512x1024_S512x1024_0_0).toLoadRect
        (rawQ2 (word tbM0 i T0) (word tbM1 i T1) xl a0 (View.junk (Val := Elt F) scM0.view)))⟩] else harg11.unread y6)
    ∧ R.2.1 = (if h : k0_cond5 (word tbM0 i T0) = 1#1 then arg12.view.writes (Elt F) (harg12.unread y7)
      [⟨Rect.unit (s := S1x512x1024) ![0, 0, 0] S1x512x1024.size inb_S1x512x1024_S1x512x1024_0_0_0, outQ (scM1.view.readAt (Elt F) (Rect.unit (s := S4096x1024) (k0_off18 (word tbM1 i T1)) S512x1024.size (k0_off18_inb _ _ k0_hw1 h)).toLoadRect b1)⟩] else harg12.unread y7)
    ∧ R.2.2.1 = (if h : k0_cond5 (word tbM0 i T0) = 1#1 then arg13.view.writes (Elt F) (harg13.unread y8)
      [⟨Rect.unit (s := S1x512x512) ![0, 0, 0] S1x512x512.size inb_S1x512x512_S1x512x512_0_0_0, shapeCast S1x512x512 (truncf .bf16 (scM2.view.readAt (Elt F) (Rect.unit (s := S4096x512) (k0_off19 (word tbM1 i T1)) S512x512.size (k0_off19_inb _ _ k0_hw1 h)).toLoadRect b2 : FVec F S512x512 .f32) bitsLt_bf16_f32) shapeCasts_S512x512_S1x512x512⟩] else harg13.unread y8)
    ∧ R.2.2.2.1 = b0 ∧ R.2.2.2.2.1 = b1 ∧ R.2.2.2.2.2.1 = b2 := by
  intro R xl b0 b1 b2
  subst R xl b0 b1 b2
  refine ⟨?_, ?_, ?_, ?_, ?_, ?_⟩ <;>
  simp only [bodyRun, fourStores, apartStores, firstWord, clearWord, loaded, rawQ, rawQ0, rawQ1, rawQ2, rawK0, rawK1, rawV0, rawV1, View.readCov, rawK, rawV, conQ, conK, conV, dscores, probs, scores, head256, head128, outQ,
    Bool.false_eq_true, if_true, if_false, reduceIte, Matrix.cons_val_zero, Matrix.cons_val_one, Matrix.cons_val, bodyRun.sl.HS0_4, bodyRun.sl.HS1_1,
    bodyRun.sl.HS1_1_1, bodyRun.sl.HS1_2, bodyRun.sl.HS1_2_1, bodyRun.sl.HS1_3, bodyRun.sl.HS1_3_1, bodyRun.sl.HS2_1, bodyRun.sl.HS2_1_1,
    bodyRun.sl.HS2_2, bodyRun.sl.HS2_2_1, bodyRun.sl.HS2_3, bodyRun.sl.HS2_3_1, bodyRun.sl.cst, bodyRun.sl.cst_24, bodyRun.sl.cst_27, bodyRun.sl.cst_31,
    bodyRun.sl.cst_65, bodyRun.sl.r, bodyRun.sl.r_1, bodyRun.sl.r_10, bodyRun.sl.r_11, bodyRun.sl.r_12, bodyRun.sl.r_13, bodyRun.sl.r_14, bodyRun.sl.r_15,
    bodyRun.sl.r_16, bodyRun.sl.r_17, bodyRun.sl.r_18, bodyRun.sl.r_19, bodyRun.sl.r_2, bodyRun.sl.r_20, bodyRun.sl.r_21, bodyRun.sl.r_22,
    bodyRun.sl.r_23, bodyRun.sl.r_24, bodyRun.sl.r_25, bodyRun.sl.r_26, bodyRun.sl.r_27, bodyRun.sl.r_28, bodyRun.sl.r_29, bodyRun.sl.r_3,
    bodyRun.sl.r_30, bodyRun.sl.r_31, bodyRun.sl.r_4, bodyRun.sl.r_5, bodyRun.sl.r_6, bodyRun.sl.r_7, bodyRun.sl.r_8, bodyRun.sl.r_9, bodyRun.sl.v10,
    bodyRun.sl.v100, bodyRun.sl.v101, bodyRun.sl.v103, bodyRun.sl.v104, bodyRun.sl.v105, bodyRun.sl.v106, bodyRun.sl.v106_1, bodyRun.sl.v109,
    bodyRun.sl.v110, bodyRun.sl.v112, bodyRun.sl.v113, bodyRun.sl.v113_1, bodyRun.sl.v114, bodyRun.sl.v117, bodyRun.sl.v118, bodyRun.sl.v119,
    bodyRun.sl.v120, bodyRun.sl.v121, bodyRun.sl.v122, bodyRun.sl.v122_1, bodyRun.sl.v123, bodyRun.sl.v124, bodyRun.sl.v125, bodyRun.sl.v126,
    bodyRun.sl.v127, bodyRun.sl.v128, bodyRun.sl.v129, bodyRun.sl.v130, bodyRun.sl.v131, bodyRun.sl.v132, bodyRun.sl.v133, bodyRun.sl.v134,
    bodyRun.sl.v135, bodyRun.sl.v136, bodyRun.sl.v137, bodyRun.sl.v138, bodyRun.sl.v139, bodyRun.sl.v140, bodyRun.sl.v141, bodyRun.sl.v143,
    bodyRun.sl.v144, bodyRun.sl.v146, bodyRun.sl.v147, bodyRun.sl.v148, bodyRun.sl.v149, bodyRun.sl.v152, bodyRun.sl.v153, bodyRun.sl.v154,
    bodyRun.sl.v155, bodyRun.sl.v156, bodyRun.sl.v157, bodyRun.sl.v160, bodyRun.sl.v161, bodyRun.sl.v161_1, bodyRun.sl.v162, bodyRun.sl.v163,
    bodyRun.sl.v164, bodyRun.sl.v165, bodyRun.sl.v166, bodyRun.sl.v167, bodyRun.sl.v168, bodyRun.sl.v169, bodyRun.sl.v170, bodyRun.sl.v170_1,
    bodyRun.sl.v171, bodyRun.sl.v172, bodyRun.sl.v173, bodyRun.sl.v174, bodyRun.sl.v175, bodyRun.sl.v176, bodyRun.sl.v177, bodyRun.sl.v178,
    bodyRun.sl.v179, bodyRun.sl.v180, bodyRun.sl.v181, bodyRun.sl.v182, bodyRun.sl.v183, bodyRun.sl.v184, bodyRun.sl.v187, bodyRun.sl.v188,
    bodyRun.sl.v189, bodyRun.sl.v189_1, bodyRun.sl.v190, bodyRun.sl.v191, bodyRun.sl.v192, bodyRun.sl.v193, bodyRun.sl.v194, bodyRun.sl.v195,
    bodyRun.sl.v196, bodyRun.sl.v197, bodyRun.sl.v198, bodyRun.sl.v198_1, bodyRun.sl.v199, bodyRun.sl.v200, bodyRun.sl.v201, bodyRun.sl.v202,
    bodyRun.sl.v203, bodyRun.sl.v204, bodyRun.sl.v206, bodyRun.sl.v207, bodyRun.sl.v209, bodyRun.sl.v210, bodyRun.sl.v211, bodyRun.sl.v212,
    bodyRun.sl.v215, bodyRun.sl.v216, bodyRun.sl.v218, bodyRun.sl.v219, bodyRun.sl.v22, bodyRun.sl.v220, bodyRun.sl.v223, bodyRun.sl.v224,
    bodyRun.sl.v225, bodyRun.sl.v226, bodyRun.sl.v22_1, bodyRun.sl.v24, bodyRun.sl.v26, bodyRun.sl.v28, bodyRun.sl.v28_1, bodyRun.sl.v30, bodyRun.sl.v32,
    bodyRun.sl.v33, bodyRun.sl.v34, bodyRun.sl.v35, bodyRun.sl.v36, bodyRun.sl.v37, bodyRun.sl.v38, bodyRun.sl.v39, bodyRun.sl.v4, bodyRun.sl.v40,
    bodyRun.sl.v41, bodyRun.sl.v42, bodyRun.sl.v43, bodyRun.sl.v44, bodyRun.sl.v45, bodyRun.sl.v46, bodyRun.sl.v47, bodyRun.sl.v48, bodyRun.sl.v49,
    bodyRun.sl.v5, bodyRun.sl.v50, bodyRun.sl.v51, bodyRun.sl.v52, bodyRun.sl.v53, bodyRun.sl.v54, bodyRun.sl.v55, bodyRun.sl.v57, bodyRun.sl.v58,
    bodyRun.sl.v58_1, bodyRun.sl.v59, bodyRun.sl.v6, bodyRun.sl.v60, bodyRun.sl.v61, bodyRun.sl.v62, bodyRun.sl.v63, bodyRun.sl.v65, bodyRun.sl.v66,
    bodyRun.sl.v67, bodyRun.sl.v69, bodyRun.sl.v7, bodyRun.sl.v70, bodyRun.sl.v71, bodyRun.sl.v74, bodyRun.sl.v74_1, bodyRun.sl.v75, bodyRun.sl.v76,
    bodyRun.sl.v77, bodyRun.sl.v78, bodyRun.sl.v79, bodyRun.sl.v8, bodyRun.sl.v80, bodyRun.sl.v81, bodyRun.sl.v82, bodyRun.sl.v83, bodyRun.sl.v84,
    bodyRun.sl.v85, bodyRun.sl.v86, bodyRun.sl.v87, bodyRun.sl.v88, bodyRun.sl.v89, bodyRun.sl.v9, bodyRun.sl.v90, bodyRun.sl.v91, bodyRun.sl.v92,
    bodyRun.sl.v93, bodyRun.sl.v94, bodyRun.sl.v95, bodyRun.sl.v96, bodyRun.sl.v97, bodyRun.sl.v98, k0_pay1, k0_pay2, k0_pay3, k0_pay4, k0_pay5, k0_pay6,
    k0_pay7, k0_pay8, k0_pay9, k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61, k0_pay62, k0_pay63, k0_pay64, k0_pay65, k0_pay66,
    k0_pay67, k0_pay68, k0_pay69, k0_pay70, k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92, k0_pay93, k0_pay94, k0_pay95, k0_pay96] <;>
  rfl

end Cert.Proof.Bwd
-- ==== Proof.BodyStep.lean ====
module

public import proofs.«01_k».proof.Proof.BodyEq
public import Idealize.ShloMosaic.Lib.Pipeline.Value

/-!
The body's outputs at a point whose words name the blocks `I` and `J`.
-/

@[expose] public section

set_option maxRecDepth 16384

noncomputable section

namespace Cert.Proof.Bwd

open Cert.KernelIdeal Cert.KernelIdeal.Gen
open Idealize.ShloMosaic
open Idealize.ShloMosaic.TcCoe
open Idealize.ShloMosaic.VecWindow (window put)

variable {F : FTy → Type} [FloatOps F] [Named F]

/-- The word of a block's number. -/
abbrev wd (n : Fin 8) : BitVec 32 := BitVec.ofNat 32 n.val

theorem cond3_iff : ∀ I J : Fin 8, k0_cond3 (wd I) (wd J) = 1#1 ↔ J.val < I.val := by decide
theorem cond4_iff : ∀ I J : Fin 8, k0_cond4 (wd I) (wd J) = 1#1 ↔ J.val = I.val := by decide
theorem cond5_iff : ∀ I : Fin 8, k0_cond5 (wd I) = 1#1 ↔ I.val = 7 := by decide
theorem clear_iff : ∀ J : Fin 8, clearWord (wd J) = 1#1 ↔ J.val = 0 := by decide
theorem first_iff (i : grid0.Coords) : firstWord i = 1#1 ↔ (i 2).val = 0 := by
  have : ∀ p : Fin 36, (Scalar.cmpi .ne (Scalar.extui (Scalar.cmpi .eq (BitVec.ofNat 32 p.val) 0#32) : BitVec 32) 0#32 = 1#1) ↔ p.val = 0 := by decide
  exact this (i 2)

theorem offV : ∀ J : Fin 8, (![k0_off2 (wd J), k0_off4 (wd J), k0_off6 (wd J), k0_off8 (wd J)] : Fin 4 → Fin 2 → ℕ) = fun h => ![512 * J.val, 128 * h.val] := by decide
theorem offV' : ∀ J : Fin 8, (![k0_off10 (wd J), k0_off12 (wd J), k0_off14 (wd J), k0_off16 (wd J)] : Fin 4 → Fin 2 → ℕ) = fun h => ![512 * J.val, 128 * h.val] := by decide
theorem offK : ∀ J : Fin 8, (![k0_off3 (wd J), k0_off5 (wd J), k0_off7 (wd J), k0_off9 (wd J)] : Fin 4 → Fin 2 → ℕ) = fun h => ![512 * J.val, 256 * h.val] := by decide
theorem offK' : ∀ J : Fin 8, (![k0_off11 (wd J), k0_off13 (wd J), k0_off15 (wd J), k0_off17 (wd J)] : Fin 4 → Fin 2 → ℕ) = fun h => ![512 * J.val, 256 * h.val] := by decide
theorem offRows : ∀ J : Fin 8, k0_off18 (wd J) = ![512 * J.val, 0] ∧ k0_off19 (wd J) = ![512 * J.val, 0] := by decide
theorem offQ : (![![0, 0], ![0, 256], ![0, 512], ![0, 768]] : Fin 4 → Fin 2 → ℕ) = fun h => ![0, 256 * h.val] := by decide

/-- Each point's words pass the body's check. -/
theorem chk_of : ∀ I J : Fin 8, k0_chk1 (wd I) (wd J) := by decide

theorem loaded_eq (m5 m6 : Memref sig .tc .vmem S1x512x1024 .bf16) (m7 m8 m9 : Memref sig .tc .vmem S1x512x512 .bf16) (m10 : Memref sig .tc .vmem S1x512x512 .f32)
    (x : Ins F) : loaded m5 m6 m7 m8 m9 m10 x = x := by
  unfold loaded
  rw [View.readAt_rep_full, View.readAt_rep_full, View.readAt_rep_full, View.readAt_rep_full, View.readAt_rep_full, View.readAt_rep_full]

theorem read_scM0 (f : FVec F S512x1024 .f32) : scM0.view.read (Elt F) f = f := rfl
theorem read_scM1 (f : FVec F S4096x1024 .f32) : scM1.view.read (Elt F) f = f := rfl
theorem read_scM2 (f : FVec F S4096x512 .f32) : scM2.view.read (Elt F) f = f := rfl

theorem whole0 (a : FVec F S512x1024 .f32) (w) : scM0.view.writes (Elt F) a [⟨Rect.unit (s := S512x1024) ![0, 0] S512x1024.size inb_S512x1024_S512x1024_0_0, w⟩] = w := by
  have h := View.read_writes_full scM0.view a inb_S512x1024_S512x1024_0_0 w []
  rwa [read_scM0] at h

theorem clear0 (a : FVec F S512x1024 .f32) : scM0.view.writes (Elt F) a [⟨Rect.unit (s := S512x1024) ![0, 0] S512x1024.size inb_S512x1024_S512x1024_0_0, k0_pay3⟩]
    = fun _ => Scalar.ofBits .f32 0x00000000#32 := (whole0 a _).trans (shapeCast_self _ _)

theorem whole1 (a : FVec F S4096x1024 .f32) (w) : scM1.view.writes (Elt F) a [⟨Rect.unit (s := S4096x1024) ![0, 0] S4096x1024.size inb_S4096x1024_S4096x1024_0_0, w⟩] = w := by
  have h := View.read_writes_full scM1.view a inb_S4096x1024_S4096x1024_0_0 w []
  rwa [read_scM1] at h

theorem clear1 (a : FVec F S4096x1024 .f32) : scM1.view.writes (Elt F) a [⟨Rect.unit (s := S4096x1024) ![0, 0] S4096x1024.size inb_S4096x1024_S4096x1024_0_0, k0_pay1⟩]
    = fun _ => Scalar.ofBits .f32 0x00000000#32 := (whole1 a _).trans (shapeCast_self _ _)

theorem whole2 (a : FVec F S4096x512 .f32) (w) : scM2.view.writes (Elt F) a [⟨Rect.unit (s := S4096x512) ![0, 0] S4096x512.size inb_S4096x512_S4096x512_0_0, w⟩] = w := by
  have h := View.read_writes_full scM2.view a inb_S4096x512_S4096x512_0_0 w []
  rwa [read_scM2] at h

theorem clear2 (a : FVec F S4096x512 .f32) : scM2.view.writes (Elt F) a [⟨Rect.unit (s := S4096x512) ![0, 0] S4096x512.size inb_S4096x512_S4096x512_0_0, k0_pay2⟩]
    = fun _ => Scalar.ofBits .f32 0x00000000#32 := (whole2 a _).trans (shapeCast_self _ _)

theorem rawQ0_eq (J : Fin 8) (a : FVec F S512x1024 .f32) : rawQ0 (wd J) a = if J.val = 0 then fun _ => Scalar.ofBits .f32 0x00000000#32 else a := by
  unfold rawQ0
  by_cases h : J.val = 0
  · rw [dif_pos ((clear_iff J).2 h), if_pos h]; exact clear0 a
  · rw [dif_neg (fun h' => h ((clear_iff J).1 h')), if_neg h]

theorem rawK0_eq (i : grid0.Coords) (a : FVec F S4096x1024 .f32) : rawK0 i a = if (i 2).val = 0 then fun _ => Scalar.ofBits .f32 0x00000000#32 else a := by
  unfold rawK0
  by_cases h : (i 2).val = 0
  · rw [dif_pos ((first_iff i).2 h), if_pos h]; exact clear1 a
  · rw [dif_neg (fun h' => h ((first_iff i).1 h')), if_neg h]

theorem rawV0_eq (i : grid0.Coords) (a : FVec F S4096x512 .f32) : rawV0 i a = if (i 2).val = 0 then fun _ => Scalar.ofBits .f32 0x00000000#32 else a := by
  unfold rawV0
  by_cases h : (i 2).val = 0
  · rw [dif_pos ((first_iff i).2 h), if_pos h]; exact clear2 a
  · rw [dif_neg (fun h' => h ((first_iff i).1 h')), if_neg h]

theorem rawK_eq (i : grid0.Coords) (I J : Fin 8) (hw : k0_chk1 (wd I) (wd J)) (x : Ins F) (a : FVec F S4096x1024 .f32) :
    rawK i (wd I) (wd J) hw x a = stepK (i 2).val I.val J.isLt x a := by
  have hW : ∀ (m : Bool) (h : Fin 4) (w : FVec F S512x256 .f32), shapeCast S512x256 (addf w (conK m x h)) shapeCasts_S512x256_S512x256
      = fun y => FloatOps.addf (w y) (conK m x h y) := fun m h w => shapeCast_self _ _
  unfold rawK rawK1 stepK stepOf accK
  rw [rawK0_eq]
  by_cases hlt : J.val < I.val
  · have hne : J.val ≠ I.val := by omega
    rw [dif_neg (fun h => hne ((cond4_iff I J).1 h)), dif_pos ((cond3_iff I J).2 hlt), if_pos hlt]
    exact (read_scM1 _).symm.trans (read_fourStores (off' := fun h => ![512 * J.val, 256 * h.val]) scM1.view _ _ (inbK J.isLt) (offK J) (conK false x) (fun h w => hW false h w))
  · rw [if_neg hlt]
    by_cases he : J.val = I.val
    · rw [dif_pos ((cond4_iff I J).2 he), dif_neg (fun h => hlt ((cond3_iff I J).1 h)), if_pos he]
      exact (read_scM1 _).symm.trans (read_fourStores (off' := fun h => ![512 * J.val, 256 * h.val]) scM1.view _ _ (inbK J.isLt) (offK' J) (conK true x) (fun h w => hW true h w))
    · rw [dif_neg (fun h => he ((cond4_iff I J).1 h)), dif_neg (fun h => hlt ((cond3_iff I J).1 h)), if_neg he]

theorem rawV_eq (i : grid0.Coords) (I J : Fin 8) (hw : k0_chk1 (wd I) (wd J)) (x : Ins F) (a : FVec F S4096x512 .f32) :
    rawV i (wd I) (wd J) hw x a = stepV (i 2).val I.val J.isLt x a := by
  have hW : ∀ (m : Bool) (h : Fin 4) (w : FVec F S512x128 .f32), shapeCast S512x128 (addf w (conV m x h)) shapeCasts_S512x128_S512x128
      = fun y => FloatOps.addf (w y) (conV m x h y) := fun m h w => shapeCast_self _ _
  unfold rawV rawV1 stepV stepOf accV
  rw [rawV0_eq]
  by_cases hlt : J.val < I.val
  · have hne : J.val ≠ I.val := by omega
    rw [dif_neg (fun h => hne ((cond4_iff I J).1 h)), dif_pos ((cond3_iff I J).2 hlt), if_pos hlt]
    exact (read_scM2 _).symm.trans (read_fourStores (off' := fun h => ![512 * J.val, 128 * h.val]) scM2.view _ _ (inbV J.isLt) (offV J) (conV false x) (fun h w => hW false h w))
  · rw [if_neg hlt]
    by_cases he : J.val = I.val
    · rw [dif_pos ((cond4_iff I J).2 he), dif_neg (fun h => hlt ((cond3_iff I J).1 h)), if_pos he]
      exact (read_scM2 _).symm.trans (read_fourStores (off' := fun h => ![512 * J.val, 128 * h.val]) scM2.view _ _ (inbV J.isLt) (offV' J) (conV true x) (fun h w => hW true h w))
    · rw [dif_neg (fun h => he ((cond4_iff I J).1 h)), dif_neg (fun h => hlt ((cond3_iff I J).1 h)), if_neg he]
theorem apartQ : ∀ h h' : Fin 4, h ≠ h' → ∃ a : Fin 2, (![![0, 0], ![0, 256], ![0, 512], ![0, 768]] : Fin 4 → Fin 2 → ℕ) h a + S512x256.size a
        ≤ (![![0, 0], ![0, 256], ![0, 512], ![0, 768]] : Fin 4 → Fin 2 → ℕ) h' a
      ∨ (![![0, 0], ![0, 256], ![0, 512], ![0, 768]] : Fin 4 → Fin 2 → ℕ) h' a + S512x256.size a
        ≤ (![![0, 0], ![0, 256], ![0, 512], ![0, 768]] : Fin 4 → Fin 2 → ℕ) h a := by decide

theorem rawQ_eq (I J : Fin 8) (x : Ins F) (a : FVec F S512x1024 .f32) : rawQ (wd I) (wd J) x a = stepQ I.val J.val x a := by
  have hW : ∀ (m : Bool) (h : Fin 4) (w : FVec F S512x256 .f32), shapeCast S512x256 (addf w (conQ m x h)) shapeCasts_S512x256_S512x256
      = fun y => FloatOps.addf (w y) (conQ m x h y) := fun m h w => shapeCast_self _ _
  unfold rawQ rawQ2 rawQ1 stepQ stepOf accQ
  rw [rawQ0_eq]
  by_cases hlt : J.val < I.val
  · have hne : J.val ≠ I.val := by omega
    rw [dif_neg (fun h => hne ((cond4_iff I J).1 h)), dif_pos ((cond3_iff I J).2 hlt), if_pos hlt]
    exact (read_scM0 _).symm.trans (read_apartStores (off' := fun h => ![0, 256 * h.val]) scM0.view _ _ inbQ offQ apartQ (conQ false x) (fun h w => hW false h w))
  · rw [if_neg hlt]
    by_cases he : J.val = I.val
    · rw [dif_pos ((cond4_iff I J).2 he), dif_neg (fun h => hlt ((cond3_iff I J).1 h)), if_pos he]
      exact (read_scM0 _).symm.trans (read_apartStores (off' := fun h => ![0, 256 * h.val]) scM0.view _ _ inbQ offQ apartQ (conQ true x) (fun h w => hW true h w))
    · rw [dif_neg (fun h => he ((cond4_iff I J).1 h)), dif_neg (fun h => hlt ((cond3_iff I J).1 h)), if_neg he]

theorem step_of_raw (i : grid0.Coords)
    (arg11 : Memref sig .tc .vmem S1x512x1024 .bf16) (harg11 : arg11.IsWhole)
    (arg12 : Memref sig .tc .vmem S1x512x1024 .bf16) (harg12 : arg12.IsWhole)
    (arg13 : Memref sig .tc .vmem S1x512x512 .bf16) (harg13 : arg13.IsWhole)
    (x : Ins F) (y6 y7 : S1x512x1024.Idx → Elt F .bf16) (y8 : S1x512x512.Idx → Elt F .bf16)
    (a0 : FVec F S512x1024 .f32) (a1 : FVec F S4096x1024 .f32) (a2 : FVec F S4096x512 .f32)
    (I J : Fin 8) {w1 w3 : BitVec 32} (hI : w1 = wd I) (hJ : w3 = wd J) (hw : k0_chk1 w1 w3)
    (o6 : arg11.view.ty.Contents (Elt F)) (o7 : arg12.view.ty.Contents (Elt F)) (o8 : arg13.view.ty.Contents (Elt F))
    (p : FVec F S512x1024 .f32) (q : FVec F S4096x1024 .f32) (r : FVec F S4096x512 .f32)
    (h : o6 = (if h : k0_cond4 w1 w3 = 1#1 then arg11.view.writes (Elt F) (harg11.unread y6)
      [⟨Rect.unit (s := S1x512x1024) ![0, 0, 0] S1x512x1024.size inb_S1x512x1024_S1x512x1024_0_0_0, outQ (scM0.view.readAt (Elt F) (Rect.unit (s := S512x1024) ![0, 0] S512x1024.size inb_S512x1024_S512x1024_0_0).toLoadRect
        (rawQ2 w1 w3 x a0 (View.junk (Val := Elt F) scM0.view)))⟩] else harg11.unread y6)
    ∧ o7 = (if h : k0_cond5 w1 = 1#1 then arg12.view.writes (Elt F) (harg12.unread y7)
      [⟨Rect.unit (s := S1x512x1024) ![0, 0, 0] S1x512x1024.size inb_S1x512x1024_S1x512x1024_0_0_0, outQ (scM1.view.readAt (Elt F) (Rect.unit (s := S4096x1024) (k0_off18 w3) S512x1024.size (k0_off18_inb _ _ hw h)).toLoadRect (rawK i _ _ hw x a1))⟩] else harg12.unread y7)
    ∧ o8 = (if h : k0_cond5 w1 = 1#1 then arg13.view.writes (Elt F) (harg13.unread y8)
      [⟨Rect.unit (s := S1x512x512) ![0, 0, 0] S1x512x512.size inb_S1x512x512_S1x512x512_0_0_0, shapeCast S1x512x512 (truncf .bf16 (scM2.view.readAt (Elt F) (Rect.unit (s := S4096x512) (k0_off19 w3) S512x512.size (k0_off19_inb _ _ hw h)).toLoadRect (rawV i _ _ hw x a2) : FVec F S512x512 .f32) bitsLt_bf16_f32) shapeCasts_S512x512_S1x512x512⟩] else harg13.unread y8)
    ∧ p = rawQ w1 w3 x a0 ∧ q = rawK i _ _ hw x a1 ∧ r = rawV i _ _ hw x a2) :
    arg11.view.read (Elt F) o6 = (if J.val = I.val then outQ (stepQ I.val J.val x a0) else y6)
    ∧ arg12.view.read (Elt F) o7 = (if I.val = 7 then outK J.isLt (stepK (i 2).val I.val J.isLt x a1) else y7)
    ∧ arg13.view.read (Elt F) o8 = (if I.val = 7 then outV J.isLt (stepV (i 2).val I.val J.isLt x a2) else y8)
    ∧ p = stepQ I.val J.val x a0
    ∧ q = stepK (i 2).val I.val J.isLt x a1
    ∧ r = stepV (i 2).val I.val J.isLt x a2 := by
  subst hI hJ
  obtain ⟨r0, r1, r2, r3, r4, r5⟩ := h
  refine ⟨?_, ?_, ?_, r3.trans (rawQ_eq I J x a0), r4.trans (rawK_eq i I J hw x a1), r5.trans (rawV_eq i I J hw x a2)⟩
  · by_cases he : J.val = I.val
    · rw [r0, dif_pos ((cond4_iff I J).2 he), if_pos he]
      refine (View.read_writes_full arg11.view _ inb_S1x512x1024_S1x512x1024_0_0_0 _ []).trans (congrArg outQ ?_)
      rw [readAt_rawQ2 _ _ _ _ _ (rawQ1 (wd I) (wd J) x a0), View.readAt_full, read_scM0, ← rawQ_eq, rawQ, dif_pos ((cond4_iff I J).2 he)]
    · rw [r0, dif_neg (fun h => he ((cond4_iff I J).1 h)), if_neg he]
      exact harg11.read_unread y6
  · by_cases he : I.val = 7
    · rw [r1, dif_pos ((cond5_iff I).2 he), if_pos he, rawK_eq]
      refine (View.read_writes_full arg12.view _ inb_S1x512x1024_S1x512x1024_0_0_0 _ []).trans (congrArg outQ ?_)
      exact View.readAt_unit scM1.view _ _ (offRows J).1 (inbRowsK J.isLt)
    · rw [r1, dif_neg (fun h => he ((cond5_iff I).1 h)), if_neg he]
      exact harg12.read_unread y7
  · by_cases he : I.val = 7
    · rw [r2, dif_pos ((cond5_iff I).2 he), if_pos he, rawV_eq]
      refine (View.read_writes_full arg13.view _ inb_S1x512x512_S1x512x512_0_0_0 _ []).trans ?_
      unfold outV
      exact congrArg (fun w : FVec F S512x512 .f32 => shapeCast S1x512x512 (truncf .bf16 w bitsLt_bf16_f32) shapeCasts_S512x512_S1x512x512)
        (View.readAt_unit scM2.view _ _ (offRows J).2 (inbRowsV J.isLt))
    · rw [r2, dif_neg (fun h => he ((cond5_iff I).1 h)), if_neg he]
      exact harg13.read_unread y8

theorem bodyRun_step (c : Dev nD) (i : grid0.Coords)
    (arg5 : Memref sig .tc .vmem S1x512x1024 .bf16) (harg5 : arg5.IsWhole)
    (arg6 : Memref sig .tc .vmem S1x512x1024 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .f32) (harg10 : arg10.IsWhole)
    (arg11 : Memref sig .tc .vmem S1x512x1024 .bf16) (harg11 : arg11.IsWhole)
    (arg12 : Memref sig .tc .vmem S1x512x1024 .bf16) (harg12 : arg12.IsWhole)
    (arg13 : Memref sig .tc .vmem S1x512x512 .bf16) (harg13 : arg13.IsWhole)
    (T0 T1 : S36.Idx → Elt F .i32) (x : Ins F) (y6 y7 : S1x512x1024.Idx → Elt F .bf16) (y8 : S1x512x512.Idx → Elt F .bf16)
    (a0 : FVec F S512x1024 .f32) (a1 : FVec F S4096x1024 .f32) (a2 : FVec F S4096x512 .f32)
    (I J : Fin 8) (hI : word tbM0 i T0 = wd I) (hJ : word tbM1 i T1 = wd J) (hw : k0_chk1 (word tbM0 i T0) (word tbM1 i T1)) :
    let R := bodyRun c i arg5 harg5 arg6 harg6 arg7 harg7 arg8 harg8 arg9 harg9 arg10 harg10 arg11 harg11 arg12 harg12 arg13 harg13 T0 T1 x y6 y7 y8 a0 a1 a2 hw
    arg11.view.read (Elt F) R.1 = (if J.val = I.val then outQ (stepQ I.val J.val x a0) else y6)
    ∧ arg12.view.read (Elt F) R.2.1 = (if I.val = 7 then outK J.isLt (stepK (i 2).val I.val J.isLt x a1) else y7)
    ∧ arg13.view.read (Elt F) R.2.2.1 = (if I.val = 7 then outV J.isLt (stepV (i 2).val I.val J.isLt x a2) else y8)
    ∧ R.2.2.2.1 = stepQ I.val J.val x a0
    ∧ R.2.2.2.2.1 = stepK (i 2).val I.val J.isLt x a1
    ∧ R.2.2.2.2.2.1 = stepV (i 2).val I.val J.isLt x a2 := by
  have h := bodyRun_raw c i arg5 harg5 arg6 harg6 arg7 harg7 arg8 harg8 arg9 harg9 arg10 harg10 arg11 harg11 arg12 harg12 arg13 harg13 T0 T1 x y6 y7 y8 a0 a1 a2 hw
  simp only [loaded_eq] at h
  exact step_of_raw i arg11 harg11 arg12 harg12 arg13 harg13 x y6 y7 y8 a0 a1 a2 I J hI hJ hw _ _ _ _ _ _ h

end Cert.Proof.Bwd
-- ==== Proof.Tables.lean ====
module

public import proofs.«01_k».proof.Proof.BodyStep
public import proofs.«01_k».proof.Proof.Gen.KernelIdeal.Launch

/-!
The two prefetched tables: for each of the 36 points of a pass, the block of queries and the block of keys it treats; the blocks that
the windows take at each point.
-/

@[expose] public section

set_option maxRecDepth 16384

noncomputable section

namespace Cert.Proof.Bwd

open Cert.KernelIdeal Cert.KernelIdeal.Gen
open Idealize.ShloMosaic
open Idealize.ShloMosaic.TcCoe

variable {F : FTy → Type} [FloatOps F] [Named F]

/-- The block of queries of a pass's point, -/
def qBlk (p : Fin 36) : Fin 8 := ⟨(lit0 p).toNat, by revert p; decide⟩
/-- its block of keys. -/
def kBlk (p : Fin 36) : Fin 8 := ⟨(lit1 p).toNat, by revert p; decide⟩

theorem lit0_eq (p : Fin 36) : lit0 p = wd (qBlk p) := by revert p; decide
theorem lit1_eq (p : Fin 36) : lit1 p = wd (kBlk p) := by revert p; decide

/-- The tables' contents. -/
def tbl : pre0.Contents (Elt F) := fun
  | ⟨0, _⟩ => fun i => lit0 (S36.rowMajor i)
  | ⟨1, _⟩ => fun i => lit1 (S36.rowMajor i)
  | ⟨_ + 2, h⟩ => absurd h (Nat.not_lt.2 (Nat.le_add_left _ _))

theorem entry_at (i : grid0.Coords) (x : S36.Idx) (h : ∀ a, (x a).val = k0_off1 i a) : S36.rowMajor x = i 2 := by
  refine Fin.ext ?_
  rw [Shape.rowMajor_val_one, h 0, k0_off1_eq]; rfl

theorem first_at (o : Fin 1 → ℕ) (h : ∀ a, o a + S1.size a ≤ S36.size a) (a : Fin 1) :
    ((Rect.unit (s := S36) o S1.size h).emb (Shape.Idx.first (numel1_S1.symm ▸ Nat.one_pos)) a).val = o a := by
  rw [Rect.emb_apply]
  have : ∀ x : Fin (S1.size a), x.val = 0 := by
    obtain rfl : a = 0 := Subsingleton.elim _ _
    exact fun x => Nat.lt_one_iff.mp x.isLt
  rw [this]; rfl

theorem at0 (i : grid0.Coords) :
    (tbl (F := F)).at 0 (Rect.unit (s := S36) (k0_off1 i) S1.size (k0_off1_inb i)) numel1_S1 = wd (qBlk (i 2)) := by
  exact (congrArg lit0 (entry_at i _ fun a => first_at _ _ a)).trans (lit0_eq _)

theorem at1 (i : grid0.Coords) :
    (tbl (F := F)).at 1 (Rect.unit (s := S36) (k0_off1 i) S1.size (k0_off1_inb i)) numel1_S1 = wd (kBlk (i 2)) := by
  exact (congrArg lit1 (entry_at i _ fun a => first_at _ _ a)).trans (lit1_eq _)

theorem word0 (i : grid0.Coords) : word (F := F) tbM0 i (tbl (F := F) 0) = wd (qBlk (i 2)) := at0 (F := F) i
theorem word1 (i : grid0.Coords) : word (F := F) tbM1 i (tbl (F := F) 1) = wd (kBlk (i 2)) := at1 (F := F) i

theorem toNat_wd : ∀ n : Fin 8, (wd n).toNat = n.val := by decide
theorem toNat_two : ∀ n : Fin 2, (BitVec.ofNat 32 n.val).toNat = n.val := by decide
theorem toNat_two_add : ∀ n : Fin 2, (BitVec.ofNat 32 n.val + 2#32).toNat = n.val + 2 := by decide
theorem toNat_sel : ∀ I J : Fin 8, (Scalar.select (Scalar.cmpi .eq (wd I) 7#32) (wd J) 0#32).toNat = if I.val = 7 then J.val else 0 := by decide

theorem tr0 (i : grid0.Coords) : cc0_transform_0 k0_off1_inb numel1_S1 (tbl (F := F)) i = ![(i 0).val, (qBlk (i 2)).val, (i 1).val] := by
  show ![(BitVec.ofNat 32 (i 0).val).toNat, BitVec.toNat ((tbl (F := F)).at 0 (Rect.unit (s := S36) (k0_off1 i) S1.size (k0_off1_inb i)) numel1_S1), (BitVec.ofNat 32 (i 1).val).toNat] = _
  rw [at0, toNat_wd, toNat_two (i 0), toNat_two (i 1)]

theorem tr1 (i : grid0.Coords) : cc0_transform_1 k0_off1_inb numel1_S1 (tbl (F := F)) i = ![(i 0).val, (kBlk (i 2)).val, (i 1).val] := by
  show ![(BitVec.ofNat 32 (i 0).val).toNat, BitVec.toNat ((tbl (F := F)).at 1 (Rect.unit (s := S36) (k0_off1 i) S1.size (k0_off1_inb i)) numel1_S1), (BitVec.ofNat 32 (i 1).val).toNat] = _
  rw [at1, toNat_wd, toNat_two (i 0), toNat_two (i 1)]

theorem tr2 (i : grid0.Coords) : cc0_transform_2 k0_off1_inb numel1_S1 (tbl (F := F)) i = ![(i 0).val, (kBlk (i 2)).val, (i 1).val + 2] := by
  show ![(BitVec.ofNat 32 (i 0).val).toNat, BitVec.toNat ((tbl (F := F)).at 1 (Rect.unit (s := S36) (k0_off1 i) S1.size (k0_off1_inb i)) numel1_S1), (2#32 + BitVec.ofNat 32 (i 1).val).toNat] = _
  rw [at1, toNat_wd, BitVec.add_comm, toNat_two (i 0), toNat_two_add (i 1)]

theorem tr3 (i : grid0.Coords) : cc0_transform_3 k0_off1_inb numel1_S1 (tbl (F := F)) i = ![(i 0).val, (qBlk (i 2)).val, (i 1).val] := tr0 i
theorem tr4 (i : grid0.Coords) : cc0_transform_4 k0_off1_inb numel1_S1 (tbl (F := F)) i = ![(i 0).val, (qBlk (i 2)).val, (i 1).val] := tr0 i
theorem tr5 (i : grid0.Coords) : cc0_transform_5 k0_off1_inb numel1_S1 (tbl (F := F)) i = ![(i 0).val, (qBlk (i 2)).val, (i 1).val] := tr0 i
theorem tr6 (i : grid0.Coords) : cc0_transform_6 k0_off1_inb numel1_S1 (tbl (F := F)) i = ![(i 0).val, (qBlk (i 2)).val, (i 1).val] := tr0 i

theorem tr7 (i : grid0.Coords) : cc0_transform_7 k0_off1_inb numel1_S1 (tbl (F := F)) i
    = ![(i 0).val, if (qBlk (i 2)).val = 7 then (kBlk (i 2)).val else 0, (i 1).val] := by
  show ![(BitVec.ofNat 32 (i 0).val).toNat, BitVec.toNat (Scalar.select (Scalar.cmpi .eq ((tbl (F := F)).at 0 (Rect.unit (s := S36) (k0_off1 i) S1.size (k0_off1_inb i)) numel1_S1) 7#32) ((tbl (F := F)).at 1 (Rect.unit (s := S36) (k0_off1 i) S1.size (k0_off1_inb i)) numel1_S1) 0#32), (BitVec.ofNat 32 (i 1).val).toNat] = _
  rw [at0, at1, toNat_sel, toNat_two (i 0), toNat_two (i 1)]

theorem tr8 (i : grid0.Coords) : cc0_transform_8 k0_off1_inb numel1_S1 (tbl (F := F)) i
    = ![(i 0).val, if (qBlk (i 2)).val = 7 then (kBlk (i 2)).val else 0, (i 1).val] := tr7 i

/-- The blocks of every window lie inside their arrays. -/
theorem ok_tbl : ok0 (tbl (F := F)) := by
  have two : ∀ n : Fin 2, n.val ≤ 1 := fun n => Nat.lt_succ_iff.mp n.isLt
  have eight : ∀ n : Fin 8, n.val ≤ 7 := fun n => Nat.lt_succ_iff.mp n.isLt
  have cut : ∀ (b : Prop) [Decidable b] (n : Fin 8), (if b then n.val else 0) ≤ 7 := fun b _ n => by split; exacts [eight n, Nat.zero_le _]
  refine ⟨fun i => ⟨fun a => ?_, .inr (Affine.block_words_dvd (by decide) (by decide))⟩, fun i => ⟨fun a => ?_, .inr (Affine.block_words_dvd (by decide) (by decide))⟩,
    fun i => ⟨fun a => ?_, .inr (Affine.block_words_dvd (by decide) (by decide))⟩, fun i => ⟨fun a => ?_, .inr (Affine.block_words_dvd (by decide) (by decide))⟩,
    fun i => ⟨fun a => ?_, .inr (Affine.block_words_dvd (by decide) (by decide))⟩, fun i => ⟨fun a => ?_, .inl rfl⟩,
    fun i => ⟨fun a => ?_, .inr (Affine.block_words_dvd (by decide) (by decide))⟩, fun i => ⟨fun a => ?_, .inr (Affine.block_words_dvd (by decide) (by decide))⟩,
    fun i => ⟨fun a => ?_, .inr (Affine.block_words_dvd (by decide) (by decide))⟩⟩
  all_goals have h0 := two (i 0); have h1 := two (i 1); have hq := eight (qBlk (i 2)); have hk := eight (kBlk (i 2)); have hc := cut ((qBlk (i 2)).val = 7) (kBlk (i 2))
  all_goals first | rw [tr0] | rw [tr1] | rw [tr2] | rw [tr3] | rw [tr4] | rw [tr5] | rw [tr6] | rw [tr7] | rw [tr8]
  all_goals revert a; rw [Fin.forall_fin_succ, Fin.forall_fin_succ, Fin.forall_fin_one]
  all_goals refine ⟨?_, ?_, ?_⟩
  all_goals simp [S2x4096x2048, S2x4096x1024, S1x512x1024, S1x512x512, Shape.size]
  all_goals omega

/-- The tables as admissible contents. -/
def adm : (pcfg0 (F := F)).Adm := ⟨tbl, ok_tbl⟩

end Cert.Proof.Bwd

end
-- ==== Proof.BodyGen.lean ====
module

public import proofs.«01_k».proof.Proof.Body
public import Idealize.ShloMosaic.Lib.Pipeline.TableIdle

/-! The body on any staging buffers, between two statements of the scratch arrays. -/

@[expose] public section

set_option maxRecDepth 16384

noncomputable section

namespace Cert.Proof.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

/-- What the body keeps between points: the scratch arrays as `I` says, the tables, the random register. -/
def held (T0 T1 : S36.Idx → Elt F .i32) (c : Dev nD) (I : FVec F S512x1024 .f32 → FVec F S4096x1024 .f32 → FVec F S4096x512 .f32 → Prop) : sProp 𝕄 :=
  iprop(∃ a0 a1 a2, ⌜I a0 a1 a2⌝ ∗ (scM0.view.loc (c : Thread nD τ) ↦{fullShare} a0) ∗ (scM1.view.loc (c : Thread nD τ) ↦{fullShare} a1)
    ∗ (scM2.view.loc (c : Thread nD τ) ↦{fullShare} a2) ∗ (tbM0.view.loc (c : Thread nD τ) ↦{fullShare.right} T0)
    ∗ (tbM1.view.loc (c : Thread nD τ) ↦{fullShare.right} T1) ∗ ∃ r, prngReg c r)

/-- A staging buffer that is owned is held at the contents that read as what is owned. -/
theorem unread_of_owns (c : Dev nD) {sh : Shape} {e : EltTy} (a : Memref sig .tc .vmem sh e) (ha : a.IsWhole) (X : sh.Idx → Elt F e) :
    (owns (c : Thread nD τ) a fullShare X : sProp 𝕄) ⊢ (a.view.loc (c : Thread nD τ) ↦[a.view.set]{fullShare} ha.unread X) := by
  unfold owns
  iintro ⟨%g, %hg, H⟩
  rw [← ha.eq_unread hg]
  iexact H

/-- A buffer held at some contents is owned at what they read as. -/
theorem owns_of_held (c : Dev nD) {sh : Shape} {e : EltTy} (a : Memref sig .tc .vmem sh e) (o : a.view.ty.Contents (Elt F)) :
    (a.view.loc (c : Thread nD τ) ↦[a.view.set]{fullShare} o : sProp 𝕄) ⊢ owns (c : Thread nD τ) a fullShare (a.view.read (Elt F) o) := by
  unfold owns
  iintro H
  iexists o
  isplitr; swap
  · iexact H
  · ipureintro; rfl

set_option maxHeartbeats 2000000 in
/-- The body between two statements of the scratch arrays, on any staging buffers. -/
theorem body_gen (c : Dev nD) (i : grid0.Coords)
    (arg5 : Memref sig .tc .vmem S1x512x1024 .bf16) (harg5 : arg5.IsWhole)
    (arg6 : Memref sig .tc .vmem S1x512x1024 .bf16) (harg6 : arg6.IsWhole)
    (arg7 : Memref sig .tc .vmem S1x512x512 .bf16) (harg7 : arg7.IsWhole)
    (arg8 : Memref sig .tc .vmem S1x512x512 .bf16) (harg8 : arg8.IsWhole)
    (arg9 : Memref sig .tc .vmem S1x512x512 .bf16) (harg9 : arg9.IsWhole)
    (arg10 : Memref sig .tc .vmem S1x512x512 .f32) (harg10 : arg10.IsWhole)
    (arg11 : Memref sig .tc .vmem S1x512x1024 .bf16) (harg11 : arg11.IsWhole)
    (arg12 : Memref sig .tc .vmem S1x512x1024 .bf16) (harg12 : arg12.IsWhole)
    (arg13 : Memref sig .tc .vmem S1x512x512 .bf16) (harg13 : arg13.IsWhole)
    (T0 T1 : S36.Idx → Elt F .i32) (x : Ins F) (y6 y7 : S1x512x1024.Idx → Elt F .bf16) (y8 : S1x512x512.Idx → Elt F .bf16)
    (k0_hw1 : k0_chk1 (word tbM0 i T0) (word tbM1 i T1))
    (I I' : FVec F S512x1024 .f32 → FVec F S4096x1024 .f32 → FVec F S4096x512 .f32 → Prop)
    (p6 p7 : (S1x512x1024.Idx → Elt F .bf16) → Prop) (p8 : (S1x512x512.Idx → Elt F .bf16) → Prop)
    (step : ∀ a0 a1 a2, I a0 a1 a2 → let R := bodyRun c i arg5 harg5 arg6 harg6 arg7 harg7 arg8 harg8 arg9 harg9 arg10 harg10 arg11 harg11 arg12 harg12 arg13 harg13 T0 T1 x y6 y7 y8 a0 a1 a2 k0_hw1
      I' R.2.2.2.1 R.2.2.2.2.1 R.2.2.2.2.2.1 ∧ p6 (arg11.view.read (Elt F) R.1) ∧ p7 (arg12.view.read (Elt F) R.2.1)
        ∧ p8 (arg13.view.read (Elt F) R.2.2.1)) (O : sProp 𝕄) :
    iprop(held T0 T1 c I ∗ O
        ∗ owns (c : Thread nD τ) arg5 fullShare x.q
        ∗ owns (c : Thread nD τ) arg6 fullShare x.k
        ∗ owns (c : Thread nD τ) arg7 fullShare x.v
        ∗ owns (c : Thread nD τ) arg8 fullShare x.o
        ∗ owns (c : Thread nD τ) arg9 fullShare x.d
        ∗ owns (c : Thread nD τ) arg10 fullShare x.l
        ∗ owns (c : Thread nD τ) arg11 fullShare y6
        ∗ owns (c : Thread nD τ) arg12 fullShare y7
        ∗ owns (c : Thread nD τ) arg13 fullShare y8)
      ⊢ wp frame (wpE (defs₀ (F := F)) Variants.none (c : Thread nD τ) none) Set.univ
          (cc0_attn_bwd i tbM0 (Memref.isWhole_whole _) tbM1 (Memref.isWhole_whole _) arg5 harg5 arg6 harg6 arg7 harg7 arg8 harg8 arg9 harg9 arg10 harg10 arg11 harg11 arg12 harg12 arg13 harg13
            scM0 (Memref.isWhole_whole _) scM1 (Memref.isWhole_whole _) scM2 (Memref.isWhole_whole _)) fun _ =>
          iprop(held T0 T1 c I' ∗ O
            ∗ owns (c : Thread nD τ) arg5 fullShare x.q
            ∗ owns (c : Thread nD τ) arg6 fullShare x.k
            ∗ owns (c : Thread nD τ) arg7 fullShare x.v
            ∗ owns (c : Thread nD τ) arg8 fullShare x.o
            ∗ owns (c : Thread nD τ) arg9 fullShare x.d
            ∗ owns (c : Thread nD τ) arg10 fullShare x.l
            ∗ (∃ X, ⌜p6 X⌝ ∗ owns (c : Thread nD τ) arg11 fullShare X)
            ∗ (∃ X, ⌜p7 X⌝ ∗ owns (c : Thread nD τ) arg12 fullShare X)
            ∗ (∃ X, ⌜p8 X⌝ ∗ owns (c : Thread nD τ) arg13 fullShare X)) := by
  unfold held
  iintro ⟨⟨%a0, %a1, %a2, %hinv, HS0, HS1, HS2, HT0, HT1, Hr⟩, Ho, H0, H1, H2, H3, H4, H5, H6, H7, H8⟩
  have hstep := step a0 a1 a2 hinv
  generalize bodyRun c i arg5 harg5 arg6 harg6 arg7 harg7 arg8 harg8 arg9 harg9 arg10 harg10 arg11 harg11 arg12 harg12 arg13 harg13 T0 T1 x y6 y7 y8 a0 a1 a2 k0_hw1 = R at hstep
  obtain ⟨o6, o7, o8, b0, b1, b2, hR⟩ := R
  obtain ⟨e0, e6, e7, e8⟩ := hstep
  iapply (hR _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply unread_of_owns; iexact H6
  isplitl [H7]; · iapply unread_of_owns; iexact H7
  isplitl [H8]; · iapply unread_of_owns; iexact H8
  isplitl [HS0]; · iexact HS0
  isplitl [HS1]; · iexact HS1
  isplitl [HS2]; · iexact HS2
  iintro ⟨H0, H1, H2, H3, H4, H5, HT0, HT1, H6, H7, H8, HS0, HS1, HS2⟩
  isplitl [HS0 HS1 HS2 HT0 HT1 Hr]
  · iexists _; iexists _; iexists _
    isplitr; · ipureintro; exact e0
    isplitl [HS0]; · iexact HS0
    isplitl [HS1]; · iexact HS1
    isplitl [HS2]; · iexact HS2
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · iexists _; isplitr; · ipureintro; exact e6
    iapply owns_of_held; iexact H6
  isplitl [H7]
  · iexists _; isplitr; · ipureintro; exact e7
    iapply owns_of_held; iexact H7
  · iexists _; isplitr; · ipureintro; exact e8
    iapply owns_of_held; iexact H8

end Cert.Proof.Bwd

end
-- ==== Proof.Run.lean ====
module

public import proofs.«01_k».proof.Proof.Tables
public import proofs.«01_k».proof.Proof.BodyGen
public import Idealize.ShloMosaic.Lib.Pipeline.Frame
public import Idealize.ShloMosaic.Lib.Pipeline.ArrRel

/-!
The program run: the body at a generic point of the grid, and the launch. What is said of the scratch arrays and of the blocks
written is a parameter (`Plan`), so that one run serves the frame and the value.
-/

@[expose] public section

set_option maxRecDepth 16384

noncomputable section

namespace Cert.Proof.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

/-- The pipeline at the tables' contents. -/
abbrev cfgA := Pipeline.pin (pcfgs (F := F)) (fun _ => adm) 0

abbrev crd (t : Fin (cfgA (F := F)).N) : grid0.Coords := (cfgA (F := F)).grid.coords t

abbrev ms0 (t : Fin (cfgA (F := F)).N) := spec0_0.stage ((cfgA (F := F)).slots t 0)
abbrev ms1 (t : Fin (cfgA (F := F)).N) := spec0_1.stage ((cfgA (F := F)).slots t 1)
abbrev ms2 (t : Fin (cfgA (F := F)).N) := spec0_2.stage ((cfgA (F := F)).slots t 2)
abbrev ms3 (t : Fin (cfgA (F := F)).N) := spec0_3.stage ((cfgA (F := F)).slots t 3)
abbrev ms4 (t : Fin (cfgA (F := F)).N) := spec0_4.stage ((cfgA (F := F)).slots t 4)
abbrev ms5 (t : Fin (cfgA (F := F)).N) := spec0_5.stage ((cfgA (F := F)).slots t 5)
abbrev ms6 (t : Fin (cfgA (F := F)).N) := spec0_6.stage ((cfgA (F := F)).slots t 6)
abbrev ms7 (t : Fin (cfgA (F := F)).N) := spec0_7.stage ((cfgA (F := F)).slots t 7)
abbrev ms8 (t : Fin (cfgA (F := F)).N) := spec0_8.stage ((cfgA (F := F)).slots t 8)
abbrev hs0 (t : Fin (cfgA (F := F)).N) := hstage0_0 (((cfgA (F := F)).slots t 0).cast nbuf0_0)
abbrev hs1 (t : Fin (cfgA (F := F)).N) := hstage0_1 (((cfgA (F := F)).slots t 1).cast nbuf0_1)
abbrev hs2 (t : Fin (cfgA (F := F)).N) := hstage0_2 (((cfgA (F := F)).slots t 2).cast nbuf0_2)
abbrev hs3 (t : Fin (cfgA (F := F)).N) := hstage0_3 (((cfgA (F := F)).slots t 3).cast nbuf0_3)
abbrev hs4 (t : Fin (cfgA (F := F)).N) := hstage0_4 (((cfgA (F := F)).slots t 4).cast nbuf0_4)
abbrev hs5 (t : Fin (cfgA (F := F)).N) := hstage0_5 (((cfgA (F := F)).slots t 5).cast nbuf0_5)
abbrev hs6 (t : Fin (cfgA (F := F)).N) := hstage0_6 (((cfgA (F := F)).slots t 6).cast nbuf0_6)
abbrev hs7 (t : Fin (cfgA (F := F)).N) := hstage0_7 (((cfgA (F := F)).slots t 7).cast nbuf0_7)
abbrev hs8 (t : Fin (cfgA (F := F)).N) := hstage0_8 (((cfgA (F := F)).slots t 8).cast nbuf0_8)

theorem chkAt (i : grid0.Coords) : k0_chk1 (word (F := F) tbM0 i (tbl (F := F) 0)) (word (F := F) tbM1 i (tbl (F := F) 1)) := by
  rw [word0, word1]; exact chk_of _ _

/-- The body's run at point `t`. -/
abbrev runAt (c : Dev nD) (t : Fin (cfgA (F := F)).N) (x : Ins F) (y6 y7 : S1x512x1024.Idx → Elt F .bf16) (y8 : S1x512x512.Idx → Elt F .bf16)
    (a0 : FVec F S512x1024 .f32) (a1 : FVec F S4096x1024 .f32) (a2 : FVec F S4096x512 .f32) :=
  bodyRun c (crd t) (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (tbl (F := F) 0) (tbl (F := F) 1) x y6 y7 y8 a0 a1 a2 (chkAt (crd t))

/-- What is said of the run on core `c`, the blocks read being `x`: of the three scratch arrays before each point, and of the blocks
    written at each point. -/
structure Plan (c : Dev nD) (x : Fin (cfgA (F := F)).N → Ins F) where
  inv : ℕ → FVec F S512x1024 .f32 → FVec F S4096x1024 .f32 → FVec F S4096x512 .f32 → Prop
  o6 : Fin (cfgA (F := F)).N → (S1x512x1024.Idx → Elt F .bf16) → Prop
  o7 : Fin (cfgA (F := F)).N → (S1x512x1024.Idx → Elt F .bf16) → Prop
  o8 : Fin (cfgA (F := F)).N → (S1x512x512.Idx → Elt F .bf16) → Prop
  start : ∀ a0 a1 a2, inv 0 a0 a1 a2
  step : ∀ t y6 y7 y8 a0 a1 a2, inv t.val a0 a1 a2 → let R := runAt c t (x t) y6 y7 y8 a0 a1 a2
    inv (t.val + 1) R.2.2.2.1 R.2.2.2.2.1 R.2.2.2.2.2.1 ∧ o6 t ((ms6 t).view.read (Elt F) R.1) ∧ o7 t ((ms7 t).view.read (Elt F) R.2.1)
      ∧ o8 t ((ms8 t).view.read (Elt F) R.2.2.1)

/-- The contents of the arrays when the region is entered. -/
def V (m : (ℓ : Loc nD τ sig) → Buf (Elt F) ℓ) (c : Dev nD) (b : Ref sig .tc) : Buf (Elt F) ((c : Thread nD τ).loc b) :=
  StableHlo.after ([hostOps0, hostOps0_1, hostOps0_2] : List (List (HloOp τ sig (Elt F)))).flatten (fun b => m (c, b)) b

/-- The blocks read at point `t`. -/
def insAt (m : (ℓ : Loc nD τ sig) → Buf (Elt F) ℓ) (c : Dev nD) (t : Fin (cfgA (F := F)).N) : Ins F where
  q := (((cfgA (F := F)).win 0).blk t).view.read (Elt F) (V m c (arrRef (cfgA (F := F)).spec 0))
  k := (((cfgA (F := F)).win 1).blk t).view.read (Elt F) (V m c (arrRef (cfgA (F := F)).spec 1))
  v := (((cfgA (F := F)).win 2).blk t).view.read (Elt F) (V m c (arrRef (cfgA (F := F)).spec 2))
  o := (((cfgA (F := F)).win 3).blk t).view.read (Elt F) (V m c (arrRef (cfgA (F := F)).spec 3))
  d := (((cfgA (F := F)).win 4).blk t).view.read (Elt F) (V m c (arrRef (cfgA (F := F)).spec 4))
  l := (((cfgA (F := F)).win 5).blk t).view.read (Elt F) (V m c (arrRef (cfgA (F := F)).spec 5))

variable (m : (ℓ : Loc nD τ sig) → Buf (Elt F) ℓ) (P : ∀ c : Dev nD, Plan c (insAt m c))

/-- The pipeline's data on core `c`. -/
def rdats (c : Dev nD) : RDat τ (Elt F) Unit ℕ (UR sig nD τ) ℕ (cfgA (F := F)) c where
  A w := V m c (arrRef (cfgA (F := F)).spec w)
  after w t := match w with
    | ⟨6, _⟩ => fun _ X => (P c).o6 t X
    | ⟨7, _⟩ => fun _ X => (P c).o7 t X
    | ⟨8, _⟩ => fun _ X => (P c).o8 t X
    | _ => fun Y X => X = Y
  Φ t := held (tbl (F := F) 0) (tbl (F := F) 1) c ((P c).inv t.val)
  q _ := fullShare
  owed _ := 0

theorem finds0 (c : Dev nD) (t) (Y) (h : (rdats m P c).Finds (0 : Fin 9) t Y) : Y = (insAt m c t).q := by
  obtain ⟨d, rfl⟩ := (rdats m P c).finds_in_eq_fetched (0 : Fin 9) rfl (fun _ _ _ => rfl) (fun _ _ _ h => h) t Y h; rfl
theorem finds1 (c : Dev nD) (t) (Y) (h : (rdats m P c).Finds (1 : Fin 9) t Y) : Y = (insAt m c t).k := by
  obtain ⟨d, rfl⟩ := (rdats m P c).finds_in_eq_fetched (1 : Fin 9) rfl (fun _ _ _ => rfl) (fun _ _ _ h => h) t Y h; rfl
theorem finds2 (c : Dev nD) (t) (Y) (h : (rdats m P c).Finds (2 : Fin 9) t Y) : Y = (insAt m c t).v := by
  obtain ⟨d, rfl⟩ := (rdats m P c).finds_in_eq_fetched (2 : Fin 9) rfl (fun _ _ _ => rfl) (fun _ _ _ h => h) t Y h; rfl
theorem finds3 (c : Dev nD) (t) (Y) (h : (rdats m P c).Finds (3 : Fin 9) t Y) : Y = (insAt m c t).o := by
  obtain ⟨d, rfl⟩ := (rdats m P c).finds_in_eq_fetched (3 : Fin 9) rfl (fun _ _ _ => rfl) (fun _ _ _ h => h) t Y h; rfl
theorem finds4 (c : Dev nD) (t) (Y) (h : (rdats m P c).Finds (4 : Fin 9) t Y) : Y = (insAt m c t).d := by
  obtain ⟨d, rfl⟩ := (rdats m P c).finds_in_eq_fetched (4 : Fin 9) rfl (fun _ _ _ => rfl) (fun _ _ _ h => h) t Y h; rfl
theorem finds5 (c : Dev nD) (t) (Y) (h : (rdats m P c).Finds (5 : Fin 9) t Y) : Y = (insAt m c t).l := by
  obtain ⟨d, rfl⟩ := (rdats m P c).finds_in_eq_fetched (5 : Fin 9) rfl (fun _ _ _ => rfl) (fun _ _ _ h => h) t Y h; rfl

end Cert.Proof.Bwd

end
-- ==== Proof.Oblig.lean ====
module

public import proofs.«01_k».proof.Proof.Run
public import Idealize.ShloMosaic.Lib.Pipeline.TableIdle

/-! The body at a generic point of the grid keeps what the plan says. -/

@[expose] public section

set_option maxRecDepth 16384

noncomputable section

namespace Cert.Proof.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (P : ∀ c : Dev nD, Plan c (insAt m c))

/-- The label of the body is the kernel's body, on the staging buffers of the point. -/
theorem body_call (t : Fin (cfgA (F := F)).N) : defs₀ (F := F) .tc (cfgA (F := F)).body ((cfgA (F := F)).bodyArgs t ((cfgA (F := F)).slots t))
    = cc0_attn_bwd (crd t) tbM0 (Memref.isWhole_whole _) tbM1 (Memref.isWhole_whole _) (ms0 t) (hs0 t) (ms1 t) (hs1 t) (ms2 t) (hs2 t) (ms3 t) (hs3 t) (ms4 t) (hs4 t) (ms5 t) (hs5 t) (ms6 t) (hs6 t)
            (ms7 t) (hs7 t) (ms8 t) (hs8 t)
            scM0 (Memref.isWhole_whole _) scM1 (Memref.isWhole_whole _) scM2 (Memref.isWhole_whole _) := rfl

/-- The body at a point of the grid, the input blocks named. -/
theorem body_at (c : Dev nD) (t : Fin (cfgA (F := F)).N) (x : Ins F) (hx : x = insAt m c t)
    (y6 y7 : S1x512x1024.Idx → Elt F .bf16) (y8 : S1x512x512.Idx → Elt F .bf16) (O : sProp 𝕄) :
    iprop(held (tbl (F := F) 0) (tbl (F := F) 1) c ((P c).inv t.val) ∗ O
        ∗ owns (c : Thread nD τ) (ms0 t) fullShare x.q
        ∗ owns (c : Thread nD τ) (ms1 t) fullShare x.k
        ∗ owns (c : Thread nD τ) (ms2 t) fullShare x.v
        ∗ owns (c : Thread nD τ) (ms3 t) fullShare x.o
        ∗ owns (c : Thread nD τ) (ms4 t) fullShare x.d
        ∗ owns (c : Thread nD τ) (ms5 t) fullShare x.l
        ∗ owns (c : Thread nD τ) (ms6 t) fullShare y6
        ∗ owns (c : Thread nD τ) (ms7 t) fullShare y7
        ∗ owns (c : Thread nD τ) (ms8 t) fullShare y8)
      ⊢ wp frame (wpE (defs₀ (F := F)) Variants.none (c : Thread nD τ) none) Set.univ
          (defs₀ (F := F) .tc (cfgA (F := F)).body ((cfgA (F := F)).bodyArgs t ((cfgA (F := F)).slots t))) fun _ =>
          iprop(held (tbl (F := F) 0) (tbl (F := F) 1) c ((P c).inv (t.val + 1)) ∗ O
            ∗ (∃ X, ⌜X = x.q⌝ ∗ owns (c : Thread nD τ) (ms0 t) fullShare X)
            ∗ (∃ X, ⌜X = x.k⌝ ∗ owns (c : Thread nD τ) (ms1 t) fullShare X)
            ∗ (∃ X, ⌜X = x.v⌝ ∗ owns (c : Thread nD τ) (ms2 t) fullShare X)
            ∗ (∃ X, ⌜X = x.o⌝ ∗ owns (c : Thread nD τ) (ms3 t) fullShare X)
            ∗ (∃ X, ⌜X = x.d⌝ ∗ owns (c : Thread nD τ) (ms4 t) fullShare X)
            ∗ (∃ X, ⌜X = x.l⌝ ∗ owns (c : Thread nD τ) (ms5 t) fullShare X)
            ∗ (∃ X, ⌜(P c).o6 t X⌝ ∗ owns (c : Thread nD τ) (ms6 t) fullShare X)
            ∗ (∃ X, ⌜(P c).o7 t X⌝ ∗ owns (c : Thread nD τ) (ms7 t) fullShare X)
            ∗ (∃ X, ⌜(P c).o8 t X⌝ ∗ owns (c : Thread nD τ) (ms8 t) fullShare X)) := by
  subst hx
  rw [body_call]
  refine (body_gen c (crd t) (ms0 t) (hs0 t) (ms1 t) (hs1 t) (ms2 t) (hs2 t) (ms3 t) (hs3 t) (ms4 t) (hs4 t) (ms5 t) (hs5 t) (ms6 t) (hs6 t)
            (ms7 t) (hs7 t) (ms8 t) (hs8 t) (tbl (F := F) 0) (tbl (F := F) 1) (insAt m c t) y6 y7 y8 (chkAt (crd t))
    ((P c).inv t.val) ((P c).inv (t.val + 1)) ((P c).o6 t) ((P c).o7 t) ((P c).o8 t)
    (fun a0 a1 a2 h => (P c).step t y6 y7 y8 a0 a1 a2 h) O).trans (wp_mono _ _ _ fun _ => ?_)
  iintro ⟨HP, Ho, H0, H1, H2, H3, H4, H5, H6⟩
  isplitl [HP]; · iexact HP
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  iexact H6

theorem ins_eq (x : Ins F) {q k v o d l} (h0 : q = x.q) (h1 : k = x.k) (h2 : v = x.v) (h3 : o = x.o) (h4 : d = x.d) (h5 : l = x.l) :
    (⟨q, k, v, o, d, l⟩ : Ins F) = x := by
  subst h0 h1 h2 h3 h4 h5; rfl

theorem Phi_eq (c : Dev nD) (t) : (rdats m P c).Φ t = held (tbl (F := F) 0) (tbl (F := F) 1) c ((P c).inv t.val) := rfl

/-- The library's body obligation. -/
theorem oblig (c : Dev nD) : (rdats m P c).BodyObligation (defs₀ (F := F)) Variants.none () Set.univ := fun t Y hY => by
  have hx := ins_eq _ (finds0 m P c t _ (hY (0 : Fin 9))) (finds1 m P c t _ (hY (1 : Fin 9))) (finds2 m P c t _ (hY (2 : Fin 9)))
    (finds3 m P c t _ (hY (3 : Fin 9))) (finds4 m P c t _ (hY (4 : Fin 9))) (finds5 m P c t _ (hY (5 : Fin 9)))
  have B := body_at m P c t _ hx (Y (6 : Fin 9)) (Y (7 : Fin 9)) (Y (8 : Fin 9)) ((rdats m P c).owesAt () t.castSucc)
  rw [bigSep_W0]
  simp only [bigSep_W0]
  rw [Phi_eq, Phi_eq, Fin.val_castSucc, Fin.val_succ]
  exact B

end Cert.Proof.Bwd

end
-- ==== Proof.Launch.lean ====
module

public import proofs.«01_k».proof.Proof.Oblig
public import Idealize.ShloMosaic.Lib.StableHlo.RunRead

/-! The launch: the program ends, the arrays as the plan says, everything else as it was, no semaphore raised. -/

@[expose] public section

set_option maxRecDepth 16384

noncomputable section

namespace Cert.Proof.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (P : ∀ c : Dev nD, Plan c (insAt m c))

theorem V_split (c : Dev nD) (b : Ref sig .tc) :
    V m c b = StableHlo.after hostOps0_2 (StableHlo.after hostOps0_1 (StableHlo.after hostOps0 (fun b => m (c, b)))) b := rfl

theorem V_arg0 (c : Dev nD) : V m c main_arg0 = m ((c : Thread nD τ).loc main_arg0) := by
  rw [V_split]; after_reads_simp <;> rfl
theorem V_arg1 (c : Dev nD) : V m c main_arg1 = m ((c : Thread nD τ).loc main_arg1) := by
  rw [V_split]; after_reads_simp <;> rfl
theorem V_arg2 (c : Dev nD) : V m c main_arg2 = m ((c : Thread nD τ).loc main_arg2) := by
  rw [V_split]; after_reads_simp <;> rfl
theorem V_arg3 (c : Dev nD) : V m c main_arg3 = m ((c : Thread nD τ).loc main_arg3) := by
  rw [V_split]; after_reads_simp <;> rfl
theorem V_c (c : Dev nD) : V m c main_c = tbl (F := F) 0 := by
  rw [V_split]; after_reads_simp <;> rfl
theorem V_c_0 (c : Dev nD) : V m c main_c_0 = tbl (F := F) 1 := by
  rw [V_split]; after_reads_simp <;> rfl

theorem share_eq (c : Dev nD) (w : Fin (cfgA (F := F)).W) : (rdats m P c).share w = fullShare := by unfold RDat.share; split <;> rfl

/-- The tables one by one. -/
theorem tables_eq (c : Dev nD) (q : Fin 2 → PosShare TreeShare) (v : pre0.Contents (Elt F)) :
    (prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold prefHeld
  rw [show (Finset.univ : Finset (Fin 2)) = insert (0 : Fin 2) {(1 : Fin 2)} from by decide,
    bigSep_insert (by decide), bigSep_singleton]
  rfl

theorem enter (c : Dev nD) (I : FVec F S512x1024 .f32 → FVec F S4096x1024 .f32 → FVec F S4096x512 .f32 → Prop) (hI : ∀ a0 a1 a2, I a0 a1 a2) :
    iprop(ΦA (U := UR sig nD τ) (Val := Elt F) spec0 c ∗ prefHeld (Ix := Unit) (Name := ℕ) (U := UR sig nD τ) (Lvl := ℕ) pre0 c (fun _ => fullShare.right) (tbl (F := F))) ⊢ (held (tbl (F := F) 0) (tbl (F := F) 1) c I : sProp 𝕄) := by
  unfold ΦA
  rw [tables_eq, scopedRest0_eq]
  unfold held
  iintro ⟨⟨⟨⟨%a0, HS0⟩, ⟨%a1, HS1⟩, ⟨%a2, HS2⟩⟩, Hr⟩, HT0, HT1⟩
  iexists a0; iexists a1; iexists a2
  isplitr; · ipureintro; exact hI _ _ _
  isplitl [HS0]; · iexact HS0
  isplitl [HS1]; · iexact HS1
  isplitl [HS2]; · iexact HS2
  isplitl [HT0]; · iexact HT0
  isplitl [HT1]; · iexact HT1
  iexact Hr

theorem leave (c : Dev nD) (I : FVec F S512x1024 .f32 → FVec F S4096x1024 .f32 → FVec F S4096x512 .f32 → Prop) :
    (held (tbl (F := F) 0) (tbl (F := F) 1) c I : sProp 𝕄) ⊢ ΦA (U := UR sig nD τ) (Val := Elt F) spec0 c := by
  unfold ΦA
  rw [scopedRest0_eq]
  unfold held
  iintro ⟨%a0, %a1, %a2, -, HS0, HS1, HS2, -, -, Hr⟩
  isplitl [HS0 HS1 HS2]
  · isplitl [HS0]; · iexists a0; iexact HS0
    isplitl [HS1]; · iexists a1; iexact HS1
    iexists a2; iexact HS2
  iexact Hr

/-- What the run ends in. -/
theorem run (g : Dev nD → PrngReg) :
    θ_run (defs (F := F)) (onTc (τ := τ) (main (F := F))) ⟨m, fun _ => 0, g⟩
      (fun r => RDat.FramePost (cfgA (F := F)) (rdats m P) (V m) r ∧ r.2.sem = fun _ => 0) :=
  RDat.θ_run_frameP_track (pcfgs (F := F)) (fun _ => adm) 0 launch0 defs₀ Variants.none (rdats m P) m g main
    (oblig m P) (share_eq m P) (fun _ _ => rfl) (V m)
    (hmainP_prefixes _ _ _ _ m main [hostOps0, hostOps0_1, hostOps0_2] ⟨hostOps0_sub, hostOps0_1_sub, hostOps0_2_sub⟩
      ⟨by repeat' constructor, by repeat' constructor, by repeat' constructor⟩ main_chain)
    (fun _ _ => rfl)
    (fun c k => by
      match k with
      | ⟨0, _⟩ => exact V_c m c
      | ⟨1, _⟩ => exact V_c_0 m c)
    (fun c => enter c _ (P c).start) (fun c => leave c _) _ (fun _ h => h)

theorem kept_arg0 (r : PUnit × MemSt nD τ sig (Elt F)) (h : RDat.FramePost (cfgA (F := F)) (rdats m P) (V m) r) (c : Dev nD) :
    r.2.mem ((c : Thread nD τ).loc main_arg0) = m ((c : Thread nD τ).loc main_arg0) := by
  have e := h.arr_in c (0 : Fin 9) rfl
  rw [← V_arg0 m c]; exact e
theorem kept_arg1 (r : PUnit × MemSt nD τ sig (Elt F)) (h : RDat.FramePost (cfgA (F := F)) (rdats m P) (V m) r) (c : Dev nD) :
    r.2.mem ((c : Thread nD τ).loc main_arg1) = m ((c : Thread nD τ).loc main_arg1) := by
  have e := h.arr_in c (1 : Fin 9) rfl
  rw [← V_arg1 m c]; exact e
theorem kept_arg2 (r : PUnit × MemSt nD τ sig (Elt F)) (h : RDat.FramePost (cfgA (F := F)) (rdats m P) (V m) r) (c : Dev nD) :
    r.2.mem ((c : Thread nD τ).loc main_arg2) = m ((c : Thread nD τ).loc main_arg2) := by
  have e := h.arr_in c (2 : Fin 9) rfl
  rw [← V_arg2 m c]; exact e
theorem kept_arg3 (r : PUnit × MemSt nD τ sig (Elt F)) (h : RDat.FramePost (cfgA (F := F)) (rdats m P) (V m) r) (c : Dev nD) :
    r.2.mem ((c : Thread nD τ).loc main_arg3) = m ((c : Thread nD τ).loc main_arg3) := by
  have e := h.arr_in c (4 : Fin 9) rfl
  rw [← V_arg3 m c]; exact e

/-- The plan that says nothing. -/
def plain (c : Dev nD) : Plan c (insAt m c) where
  inv _ _ _ _ := True
  o6 _ _ := True
  o7 _ _ := True
  o8 _ _ := True
  start _ _ _ := trivial
  step := fun _ _ _ _ _ _ _ _ => by intro R; exact ⟨trivial, trivial, trivial, trivial⟩

end Cert.Proof.Bwd

end
-- ==== Proof.Machine.Step.lean ====
module

public import proofs.«01_k».proof.Proof.Gen.Kernel.Skeleton
public import proofs.«01_k».proof.Proof.Gen.Kernel.Launch

/-!
The blocks of a grid point, for the program on machine words.
-/

@[expose] public section

noncomputable section

namespace Cert.Proof.Machine

open Cert.Kernel Cert.Kernel.Gen
open Idealize.ShloMosaic

variable {F : FTy → Type} [BitOps F]

/-- The blocks that one grid point reads: queries, keys, values, forward output, cotangent and log-sum rows. -/
structure Ins (F : FTy → Type) where
  /-- queries -/
  q : S1x512x1024.Idx → Elt F .bf16
  /-- keys -/
  k : S1x512x1024.Idx → Elt F .bf16
  /-- values -/
  v : S1x512x512.Idx → Elt F .bf16
  /-- forward output -/
  o : S1x512x512.Idx → Elt F .bf16
  /-- cotangent of the output -/
  d : S1x512x512.Idx → Elt F .bf16
  /-- log-sum of each row's exponentials, repeated along a head's lanes -/
  l : S1x512x512.Idx → Elt F .f32

/-- The word of a block's number. -/
abbrev wd (n : Fin 8) : BitVec 32 := BitVec.ofNat 32 n.val

theorem chk_of : ∀ I J : Fin 8, k0_chk1 (wd I) (wd J) := by decide

end Cert.Proof.Machine

end
-- ==== Proof.Terms.lean ====
module

public import proofs.«01_k».proof.Proof.Gen.ReferenceIdeal.Run
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Sums
public import Idealize.ShloMosaic.Lib.Pointwise.SelectCore

/-! The reference's results, named stage by stage, as whole arrays. -/

@[expose] public section

noncomputable section

namespace Cert.Proof.Plain

open Cert.ReferenceIdeal Cert.ReferenceIdeal.Gen Cert.ReferenceIdeal.Value
open Idealize.ShloMosaic Idealize.ShloMosaic.TcCoe

variable {F : FTy → Type} [FloatOps F]

abbrev Wide (F : FTy → Type) := FVec F S2x4096x2048 .bf16
abbrev Narrow (F : FTy → Type) := FVec F S2x4096x1024 .bf16
abbrev Square (F : FTy → Type) := FVec F S2x8x4096x4096 .f32

/-- The heads of queries or keys, -/
def hd256 (q : Wide F) : FVec F S2x4096x8x256 .f32 := extf .f32 (shapeCast _ q shapeCasts_S2x4096x2048_S2x4096x8x256) bitsLt_bf16_f32
/-- of the cotangent, -/
def hd128 (x : Narrow F) : FVec F S2x4096x8x128 .f32 := extf .f32 (shapeCast _ x shapeCasts_S2x4096x1024_S2x4096x8x128) bitsLt_bf16_f32
/-- of the values. -/
def hdV (kv : Wide F) : FVec F S2x4096x8x128 .f32 :=
  hd128 (extractStridedSlice S2x4096x1024 ![0, 0, 1024] kv slices_S2x4096x2048_S2x4096x1024_0_0_1024)

/-- Where a key is at or before a query. -/
def mask : IVec S2x8x4096x4096 1 :=
  broadcastInDim S2x8x4096x4096 ![2, 3] bcast_S4096x4096_S2x8x4096x4096_2_3
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked scores, -/
def scores (q k : Wide F) : Square F :=
  select mask (Host.dotGeneral dot_S2x4096x8x256_S2x4096x8x256_S2x8x4096x4096_3_3_1_1_02_02 none (hd256 q) (hd256 k))
    (broadcastInDim S2x8x4096x4096 ![] bcast_S_S2x8x4096x4096 (id (constant S_ .f32 0xFF800000#32)))
/-- their maximum in each row, -/
def rowMax (q k : Wide F) : FVec F S2x8x4096 .f32 :=
  Host.reduce FloatOps.maximumf (scores q k) (constant S_ .f32 0xFF800000#32) reducesTo_S2x8x4096x4096_S2x8x4096_d3 h_S_
/-- the maximum in a column of its own, -/
def top (q k : Wide F) : FVec F S2x8x4096x1 .f32 :=
  broadcastInDim S2x8x4096x1 ![0, 1, 2] bcast_S2x8x4096_S2x8x4096x1_0_1_2
    (maximumf (broadcastInDim S2x8x4096 ![] bcast_S_S2x8x4096 (constant S_ .f32 0xFF800000#32)) (rowMax q k))
/-- a column across the row, -/
def across (x : FVec F S2x8x4096x1 .f32) : Square F := broadcastInDim S2x8x4096x4096 ![0, 1, 2, 3] bcast_S2x8x4096x1_S2x8x4096x4096_0_1_2_3 x
/-- the exponentials below a given top, -/
def expo (q k : Wide F) (t : FVec F S2x8x4096x1 .f32) : Square F := Host.exp (subf (scores q k) (across t))
/-- a row's sum, -/
def rowSum (x : Square F) : FVec F S2x8x4096 .f32 := Host.reduceAdd x (constant S_ .f32 0x00000000#32) reducesTo_S2x8x4096x4096_S2x8x4096_d3 h_S_
/-- the sum in a column of its own, -/
def total (x : Square F) : FVec F S2x8x4096x1 .f32 := broadcastInDim S2x8x4096x1 ![0, 1, 2] bcast_S2x8x4096_S2x8x4096x1_0_1_2 (rowSum x)
/-- the shares. -/
def share (x : Square F) : Square F := Host.divf x (across (total x))

/-- The cotangent with the row last, -/
def ctT (ct : Narrow F) : FVec F S2x8x128x4096 .f32 := transpose S2x8x128x4096 [0, 2, 3, 1] (hd128 ct) transposes_S2x4096x8x128_S2x8x128x4096_0_2_3_1
/-- its products with the values, -/
def dshare (kv : Wide F) (ct : Narrow F) : Square F :=
  Host.dotGeneral dot_S2x8x128x4096_S2x4096x8x128_S2x8x4096x4096_2_3_3_1_01_02 none (ctT ct) (hdV kv)
/-- the inverse of the sum's square, -/
def invSq (x : Square F) : FVec F S2x8x4096x1 .f32 :=
  Host.divf (broadcastInDim S2x8x4096x1 ![] bcast_S_S2x8x4096x1 (constant S_ .f32 0x3F800000#32)) (mulf (total x) (total x))
/-- what reaches the sum, -/
def dtotal (x d : Square F) : FVec F S2x8x4096 .f32 :=
  Host.reduceAdd (Host.negf (shapeCast _ (rowSum (mulf (mulf d (across (invSq x))) x)) shapeCasts_S2x8x4096_S2x8x4096x1))
    (constant S_ .f32 0x00000000#32) reducesTo_S2x8x4096x1_S2x8x4096_d3 h_S_
/-- the scores' gradient. -/
def dscores (x d : Square F) : Square F :=
  select mask (mulf (addf (Host.divf d (across (total x))) (broadcastInDim S2x8x4096x4096 ![0, 1, 2] bcast_S2x8x4096_S2x8x4096x4096_0_1_2 (dtotal x d))) x)
    (broadcastInDim S2x8x4096x4096 ![] bcast_S_S2x8x4096x4096 (constant S_ .f32 0x00000000#32))

/-- Heads beside each other again. -/
def join256 (x : FVec F S2x8x4096x256 .f32) : Wide F :=
  truncf .bf16 (shapeCast _ (transpose S2x4096x8x256 [0, 2, 1, 3] x transposes_S2x8x4096x256_S2x4096x8x256_0_2_1_3) shapeCasts_S2x4096x8x256_S2x4096x2048) bitsLt_bf16_f32
def join128 (x : FVec F S2x8x128x4096 .f32) : FVec F S2x4096x1024 .f32 :=
  shapeCast _ (transpose S2x4096x8x128 [0, 3, 1, 2] x transposes_S2x8x128x4096_S2x4096x8x128_0_3_1_2) shapeCasts_S2x4096x8x128_S2x4096x1024

/-- The gradients. -/
def gradQ (q k kv : Wide F) (ct : Narrow F) : Wide F :=
  join256 (Host.dotGeneral dot_S2x8x4096x4096_S2x4096x8x256_S2x8x4096x256_3_1_2_3_01_02 none (dscores (expo q k (top q k)) (dshare kv ct)) (hd256 k))
def gradK (q k kv : Wide F) (ct : Narrow F) : Wide F :=
  join256 (Host.dotGeneral dot_S2x8x4096x4096_S2x4096x8x256_S2x8x4096x256_2_1_3_3_01_02 none (dscores (expo q k (top q k)) (dshare kv ct)) (hd256 q))
def gradV (q k : Wide F) (ct : Narrow F) : Narrow F :=
  truncf .bf16 (join128 (Host.dotGeneral dot_S2x8x128x4096_S2x8x4096x4096_S2x8x128x4096_3_2_2_3_01_01 none (ctT ct) (share (expo q k (top q k))))) bitsLt_bf16_f32

variable (m : (ℓ : Loc nD τ sig) → Buf (Elt F) ℓ) (c : Dev nD)

theorem out0_eq : res_out0 m c = gradQ (m ((c.tc : Thread nD τ).loc main_arg0)) (m ((c.tc : Thread nD τ).loc main_arg1))
    (m ((c.tc : Thread nD τ).loc main_arg2)) (m ((c.tc : Thread nD τ).loc main_arg3)) := by unfold res_out0 res_main_v70; rfl
theorem out1_eq : res_out1 m c = gradK (m ((c.tc : Thread nD τ).loc main_arg0)) (m ((c.tc : Thread nD τ).loc main_arg1))
    (m ((c.tc : Thread nD τ).loc main_arg2)) (m ((c.tc : Thread nD τ).loc main_arg3)) := by unfold res_out1 res_main_v72; rfl
theorem out2_eq : res_out2 m c = gradV (m ((c.tc : Thread nD τ).loc main_arg0)) (m ((c.tc : Thread nD τ).loc main_arg1))
    (m ((c.tc : Thread nD τ).loc main_arg3)) := by unfold res_out2 res_main_v74; rfl

/-- The forward pass's output, -/
def outp (q k kv : Wide F) : Narrow F :=
  truncf .bf16 (join128 (Host.dotGeneral dot_S2x4096x8x128_S2x8x4096x4096_S2x8x128x4096_1_3_3_2_02_01 none (hdV kv) (share (expo q k (top q k))))) bitsLt_bf16_f32

end Cert.Proof.Plain

end
-- ==== Proof.Point.lean ====
module

public import proofs.«01_k».proof.Proof.Step
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.Pointwise.Sums
public import Idealize.ShloMosaic.Lib.Pointwise.SelectCore

/-! One point's contributions, element by element, on extended reals. -/

@[expose] public section

noncomputable section

namespace Cert.Proof.Bwd

open Cert.KernelIdeal Cert.KernelIdeal.Gen
open Idealize.ShloMosaic
open Idealize.ShloMosaic.VecWindow (window put)

/-- Column `d` of head `h`, heads of 256 columns. -/
def c256 (h : Fin 4) (d : Fin 256) : Fin 1024 := ⟨256 * h.val + d.val, by omega⟩
/-- Column `d` of head `h`, heads of 128 columns. -/
def c128 (h : Fin 4) (d : Fin 128) : Fin 512 := ⟨128 * h.val + d.val, by omega⟩

theorem head256_apply (h : Fin 4) (x : FVec Ideal S1x512x1024 .bf16) (r : Fin 512) (d : Fin 256) :
    head256 h x (ix2 r d) = x (ix3 0 r (c256 h d)) := by
  unfold head256
  pointwise
  rfl

theorem head128_apply {φ : FTy} (h : Fin 4) (x : FVec Ideal S1x512x512 φ) (r : Fin 512) (d : Fin 128) :
    head128 h x (ix2 r d) = x (ix3 0 r (c128 h d)) := by
  unfold head128
  pointwise
  rfl

/-- A choice by comparing two small numbers as words. -/
theorem select_le {n : ℕ} (hn : n ≤ 4096) {α : Type} (s r : Fin n) (a b : α) :
    Scalar.select (IntOp.cmpi .sle (BitVec.ofNat 32 s.val) (BitVec.ofNat 32 r.val)) a b = if r < s then b else a := by
  have hs := s.isLt
  have hr := r.isLt
  have e : (BitVec.ofNat 32 s.val).sle (BitVec.ofNat 32 r.val) = decide (s.val ≤ r.val) := by
    rw [BitVec.sle_eq_decide, BitVec.toInt_eq_toNat_of_lt, BitVec.toInt_eq_toNat_of_lt] <;> simp only [BitVec.toNat_ofNat]
    · rw [Nat.mod_eq_of_lt (by omega), Nat.mod_eq_of_lt (by omega)]; simp
    · rw [Nat.mod_eq_of_lt (by omega)]; omega
    · rw [Nat.mod_eq_of_lt (by omega)]; omega
  unfold IntOp.cmpi
  rw [e]
  by_cases h : r < s
  · rw [if_pos h, decide_eq_false (by have : r.val < s.val := h; omega)]; rfl
  · rw [if_neg h, decide_eq_true (by have : ¬ r.val < s.val := h; omega)]; rfl

theorem mask_eq : Named.named (F := Ideal) (φ := .f32) κ "mask" 0xF149F2CA#32 = (⊥ : EReal) :=
  IdealRules.named_const.ideal_named_scalar _ _ _ _ rfl

theorem scores_apply (m : Bool) (x : Ins Ideal) (h : Fin 4) (r s : Fin 512) :
    scores m x h (ix2 r s) = if m = true ∧ r < s then (⊥ : EReal) else ∑ d : Fin 256, x.q (ix3 0 r (c256 h d)) * x.k (ix3 0 s (c256 h d)) := by
  unfold scores
  cases m
  · simp only [Bool.false_eq_true, false_and, if_false]
    pointwise [dot_S512x256_S512x256_S512x512_1_1_0_0_n_n, head256_apply]
  · pointwise [dot_S512x256_S512x256_S512x512_1_1_0_0_n_n, head256_apply]
    rw [select_le (by omega), mask_eq]

theorem probs_apply (m : Bool) (x : Ins Ideal) (h : Fin 4) (r s : Fin 512) :
    probs m x h (ix2 r s) = Ideal.exp (scores m x h (ix2 r s) - x.l (ix3 0 r (c128 h ⟨s.val % 128, Nat.mod_lt _ (by omega)⟩))) := by
  unfold probs
  pointwise [head128_apply]
  have key : ∀ n (hn : n < 128), s.val % 128 = n → (⟨n, hn⟩ : Fin 128) = ⟨s.val % 128, Nat.mod_lt _ (by omega)⟩ := fun n hn e => Fin.ext e.symm
  split_ifs <;> (rw [key _ _ (by omega)])

theorem dscores_apply (m : Bool) (x : Ins Ideal) (h : Fin 4) (r s : Fin 512) :
    dscores m x h (ix2 r s) = probs m x h (ix2 r s) * ((∑ d : Fin 128, x.d (ix3 0 r (c128 h d)) * x.v (ix3 0 s (c128 h d)))
      - ∑ d : Fin 128, x.d (ix3 0 r (c128 h d)) * x.o (ix3 0 r (c128 h d))) := by
  unfold dscores
  pointwise [dot_S512x128_S512x128_S512x512_1_1_0_0_n_n, head128_apply]

theorem conQ_apply (m : Bool) (x : Ins Ideal) (h : Fin 4) (r : Fin 512) (d : Fin 256) :
    conQ m x h (ix2 r d) = ∑ s : Fin 512, dscores m x h (ix2 r s) * x.k (ix3 0 s (c256 h d)) := by
  unfold conQ
  pointwise [dot_S512x512_S512x256_S512x256_1_0_0_1_n_n, head256_apply]

theorem conK_apply (m : Bool) (x : Ins Ideal) (h : Fin 4) (s : Fin 512) (d : Fin 256) :
    conK m x h (ix2 s d) = ∑ r : Fin 512, dscores m x h (ix2 r s) * x.q (ix3 0 r (c256 h d)) := by
  unfold conK
  pointwise [dot_S512x512_S512x256_S512x256_0_0_1_1_n_n, head256_apply]

theorem conV_apply (m : Bool) (x : Ins Ideal) (h : Fin 4) (s : Fin 512) (d : Fin 128) :
    conV m x h (ix2 s d) = ∑ r : Fin 512, probs m x h (ix2 r s) * x.d (ix3 0 r (c128 h d)) := by
  unfold conV
  pointwise [dot_S512x512_S512x128_S512x128_0_0_1_1_n_n, head128_apply]

theorem c256_of_lt (h h' : Fin 4) (d : Fin 256) : (256 * h'.val ≤ (c256 h d).val ∧ (c256 h d).val < 256 * h'.val + 256) ↔ h' = h := by
  rw [Fin.ext_iff]; show (256 * h'.val ≤ 256 * h.val + d.val ∧ 256 * h.val + d.val < 256 * h'.val + 256) ↔ _
  omega
theorem c128_of_lt (h h' : Fin 4) (d : Fin 128) : (128 * h'.val ≤ (c128 h d).val ∧ (c128 h d).val < 128 * h'.val + 128) ↔ h' = h := by
  rw [Fin.ext_iff]; show (128 * h'.val ≤ 128 * h.val + d.val ∧ 128 * h.val + d.val < 128 * h'.val + 128) ↔ _
  omega

/-- A window with a contribution added to it: at a place of the window, -/
theorem put_add_mem {s : Shape} (off size : Fin s.rank → ℕ) (inb : ∀ a, off a + size a ≤ s.size a) (C : ((a : Fin s.rank) → Fin (size a)) → EReal)
    (a : s.Idx → EReal) (y : s.Idx) (z : (a : Fin s.rank) → Fin (size a)) (hz : ∀ b, (y b).val = off b + (z b).val) :
    put a off size (fun x => window a off size inb x + C x) y = a y + C z := by
  have hin : ∀ b, off b ≤ (y b).val ∧ (y b).val < off b + size b := fun b => by rw [hz b]; exact ⟨Nat.le_add_right _ _, Nat.add_lt_add_left (z b).isLt _⟩
  have e : Rect.unitLocal (s := s) (off := off) (size := size) y hin = z := by
    funext b; apply Fin.ext; rw [Rect.unitLocal_val, hz b]; omega
  have e' : (Rect.unit (s := s) off size inb).emb z = y := by
    funext b; apply Fin.ext; rw [Rect.emb_apply]; show off b + 1 * (z b).val = (y b).val; rw [hz b, one_mul]
  unfold put window
  rw [dif_pos hin, e]
  show a ((Rect.unit (s := s) off size inb).emb z) + C z = _
  rw [e']

/-- and elsewhere. -/
theorem put_add_skip {s : Shape} (off size : Fin s.rank → ℕ) (w : ((a : Fin s.rank) → Fin (size a)) → EReal) (a : s.Idx → EReal) (y : s.Idx)
    (h : ¬ ∀ b, off b ≤ (y b).val ∧ (y b).val < off b + size b) : put a off size w y = a y := by
  unfold put; rw [dif_neg h]

/-- Four windows that do not meet: at a place of the `h`-th the `h`-th contribution is added. -/
theorem add4_mem {s : Shape} (off : Fin 4 → Fin s.rank → ℕ) (size : Fin s.rank → ℕ) (inb : ∀ h a, off h a + size a ≤ s.size a)
    (C : Fin 4 → ((a : Fin s.rank) → Fin (size a)) → Ideal .f32) (a : s.Idx → Ideal .f32) (y : s.Idx) (h : Fin 4) (z : (a : Fin s.rank) → Fin (size a))
    (hz : ∀ b, (y b).val = off h b + (z b).val) (one : ∀ h', (∀ b, off h' b ≤ (y b).val ∧ (y b).val < off h' b + size b) → h' = h) :
    add4 (F := Ideal) off size inb C a y = (a y + C h z : EReal) := by
  have skip : ∀ h', h' ≠ h → ¬ ∀ b, off h' b ≤ (y b).val ∧ (y b).val < off h' b + size b := fun h' hn p => hn (one h' p)
  have st : ∀ h' (a : s.Idx → EReal), put a (off h') size (fun x => window a (off h') size (inb h') x + C h' x) y
      = if h' = h then a y + C h z else a y := fun h' a => by
    by_cases e : h' = h
    · subst e; rw [if_pos rfl, put_add_mem (off h') size (inb h') (C h') a y z hz]
    · rw [if_neg e, put_add_skip _ _ _ _ _ (skip h' e)]
  have go : ∀ a' : s.Idx → EReal, ∀ (h' : Fin 4) (b : s.Idx → EReal), (fun b : s.Idx → EReal => put b (off h') size (fun x => window b (off h') size (inb h') x + C h' x)) b y
      = if h' = h then b y + C h z else b y := fun _ h' b => st h' b
  refine (go a 3 _).trans ?_
  rw [show ∀ u v : EReal, (if (3 : Fin 4) = h then u + v else u) = u + (if (3 : Fin 4) = h then v else 0) from fun u v => by split <;> simp]
  refine (congrArg (· + _) (go a 2 _)).trans ?_
  rw [show ∀ u v : EReal, (if (2 : Fin 4) = h then u + v else u) = u + (if (2 : Fin 4) = h then v else 0) from fun u v => by split <;> simp]
  refine (congrArg (· + _ + _) (go a 1 _)).trans ?_
  rw [show ∀ u v : EReal, (if (1 : Fin 4) = h then u + v else u) = u + (if (1 : Fin 4) = h then v else 0) from fun u v => by split <;> simp]
  refine (congrArg (· + _ + _ + _) (go a 0 _)).trans ?_
  clear go st skip one hz
  generalize C h z = v
  generalize a y = u
  have h4 : h = 0 ∨ h = 1 ∨ h = 2 ∨ h = 3 := by omega
  rcases h4 with rfl | rfl | rfl | rfl <;> simp

/-- The queries' accumulator after one point. -/
theorem accQ_apply (m : Bool) (x : Ins Ideal) (a : FVec Ideal S512x1024 .f32) (r : Fin 512) (h : Fin 4) (d : Fin 256) :
    accQ m x a (ix2 r (c256 h d)) = (a (ix2 r (c256 h d)) + conQ m x h (ix2 r d) : EReal) := by
  unfold accQ
  refine add4_mem (s := S512x1024) _ _ _ _ _ _ h (show S512x256.Idx from ix2 r d) ?_ ?_
  · intro b
    match b with
    | ⟨0, _⟩ => show r.val = 0 + r.val; omega
    | ⟨1, _⟩ => show 256 * h.val + d.val = 256 * h.val + d.val; rfl
  · intro h' p
    exact (c256_of_lt h h' d).mp (p 1)

/-- Row `s` of block `J`. -/
def row (J : Fin 8) (s : Fin 512) : Fin 4096 := ⟨512 * J.val + s.val, by omega⟩

theorem row_of_lt (J K : Fin 8) (s : Fin 512) : (512 * J.val ≤ (row K s).val ∧ (row K s).val < 512 * J.val + 512) ↔ J = K := by
  rw [Fin.ext_iff]; show (512 * J.val ≤ 512 * K.val + s.val ∧ 512 * K.val + s.val < 512 * J.val + 512) ↔ _
  omega

/-- Four windows, at a place of none of them. -/
theorem add4_skip {s : Shape} (off : Fin 4 → Fin s.rank → ℕ) (size : Fin s.rank → ℕ) (inb : ∀ h a, off h a + size a ≤ s.size a)
    (C : Fin 4 → ((a : Fin s.rank) → Fin (size a)) → Ideal .f32) (a : s.Idx → Ideal .f32) (y : s.Idx)
    (none : ∀ h', ¬ ∀ b, off h' b ≤ (y b).val ∧ (y b).val < off h' b + size b) : add4 (F := Ideal) off size inb C a y = a y := by
  unfold add4
  exact ((put_add_skip _ _ _ _ _ (none 3)).trans (put_add_skip _ _ _ _ _ (none 2))).trans
    ((put_add_skip _ _ _ _ _ (none 1)).trans (put_add_skip _ _ _ _ _ (none 0)))

/-- The keys' accumulator after one point. -/
theorem accK_apply (m : Bool) (x : Ins Ideal) (J K : Fin 8) (a : FVec Ideal S4096x1024 .f32) (s : Fin 512) (h : Fin 4) (d : Fin 256) :
    accK J.isLt m x a (ix2 (row K s) (c256 h d)) = (a (ix2 (row K s) (c256 h d)) + (if J = K then conK m x h (ix2 s d) else 0) : EReal) := by
  unfold accK
  by_cases e : J = K
  · subst e
    rw [if_pos rfl]
    refine add4_mem (s := S4096x1024) _ _ _ _ _ _ h (show S512x256.Idx from ix2 s d) ?_ ?_
    · intro b
      match b with
      | ⟨0, _⟩ => rfl
      | ⟨1, _⟩ => rfl
    · intro h' p
      exact (c256_of_lt h h' d).mp (p 1)
  · rw [if_neg e, add_zero]
    refine add4_skip (s := S4096x1024) _ _ _ _ _ _ fun h' p => e ((row_of_lt J K s).mp (p 0))

/-- The values' accumulator after one point. -/
theorem accV_apply (m : Bool) (x : Ins Ideal) (J K : Fin 8) (a : FVec Ideal S4096x512 .f32) (s : Fin 512) (h : Fin 4) (d : Fin 128) :
    accV J.isLt m x a (ix2 (row K s) (c128 h d)) = (a (ix2 (row K s) (c128 h d)) + (if J = K then conV m x h (ix2 s d) else 0) : EReal) := by
  unfold accV
  by_cases e : J = K
  · subst e
    rw [if_pos rfl]
    refine add4_mem (s := S4096x512) _ _ _ _ _ _ h (show S512x128.Idx from ix2 s d) ?_ ?_
    · intro b
      match b with
      | ⟨0, _⟩ => rfl
      | ⟨1, _⟩ => rfl
    · intro h' p
      exact (c128_of_lt h h' d).mp (p 1)
  · rw [if_neg e, add_zero]
    refine add4_skip (s := S4096x512) _ _ _ _ _ _ fun h' p => e ((row_of_lt J K s).mp (p 0))

theorem outQ_apply (a : FVec Ideal S512x1024 .f32) (r : Fin 512) (n : Fin 1024) : outQ a (ix3 0 r n) = a (ix2 r n) := by
  unfold outQ; pointwise

theorem outK_apply (J : Fin 8) (a : FVec Ideal S4096x1024 .f32) (s : Fin 512) (n : Fin 1024) : outK J.isLt a (ix3 0 s n) = a (ix2 (row J s) n) := by
  unfold outK
  rw [outQ_apply]
  show a _ = a _
  congr 1
  funext b
  apply Fin.ext
  rw [Rect.emb_apply]
  match b with
  | ⟨0, _⟩ => show 512 * J.val + 1 * s.val = 512 * J.val + s.val; omega
  | ⟨1, _⟩ => show 0 + 1 * n.val = n.val; omega

theorem outV_apply (J : Fin 8) (a : FVec Ideal S4096x512 .f32) (s : Fin 512) (n : Fin 512) : outV J.isLt a (ix3 0 s n) = a (ix2 (row J s) n) := by
  have e : ∀ w : FVec Ideal S512x512 .f32, (shapeCast S1x512x512 (truncf .bf16 w bitsLt_bf16_f32) shapeCasts_S512x512_S1x512x512 : FVec Ideal S1x512x512 .bf16) (ix3 0 s n) = w (ix2 s n) := fun w => by pointwise
  unfold outV
  rw [e]
  show a _ = a _
  congr 1
  funext b
  apply Fin.ext
  rw [Rect.emb_apply]
  match b with
  | ⟨0, _⟩ => show 512 * J.val + 1 * s.val = 512 * J.val + s.val; omega
  | ⟨1, _⟩ => show 0 + 1 * n.val = n.val; omega

end Cert.Proof.Bwd

end
-- ==== Proof.Elements.lean ====
module

public import proofs.«01_k».proof.Proof.Terms
public import proofs.«01_k».proof.Proof.Point

/-! The stages element by element, on extended reals. -/

@[expose] public section

noncomputable section

namespace Cert.Proof.Plain

open Cert.ReferenceIdeal Cert.ReferenceIdeal.Gen Cert.ReferenceIdeal.Value
open Idealize.ShloMosaic Idealize.ShloMosaic.TcCoe

/-- Column `d` of head `H`, heads of 256 columns, -/
def w256 (H : Fin 8) (d : Fin 256) : Fin 2048 := ⟨256 * H.val + d.val, by omega⟩
/-- heads of 128 columns, -/
def w128 (H : Fin 8) (d : Fin 128) : Fin 1024 := ⟨128 * H.val + d.val, by omega⟩
/-- and the values' column in the array that holds keys and values. -/
def wV (H : Fin 8) (d : Fin 128) : Fin 2048 := ⟨1024 + (128 * H.val + d.val), by omega⟩

theorem ninf : Ideal.ofBits .f32 0xFF800000#32 = (⊥ : EReal) := by simp [Ideal.ofBits, Ideal.ieee]

theorem hd256_at (q : Wide Ideal) (b : Fin 2) (i : Fin 4096) (H : Fin 8) (d : Fin 256) : hd256 q (ix4 b i H d) = q (ix3 b i (w256 H d)) := by
  unfold hd256
  pointwise
  congr 2; exact Fin.ext (by show H.val * 256 + d.val = 256 * H.val + d.val; omega)
theorem hd128_at (q : Narrow Ideal) (b : Fin 2) (i : Fin 4096) (H : Fin 8) (d : Fin 128) : hd128 q (ix4 b i H d) = q (ix3 b i (w128 H d)) := by
  unfold hd128
  pointwise
  congr 2; exact Fin.ext (by show H.val * 128 + d.val = 128 * H.val + d.val; omega)
theorem hdV_at (q : Wide Ideal) (b : Fin 2) (i : Fin 4096) (H : Fin 8) (d : Fin 128) : hdV q (ix4 b i H d) = q (ix3 b i (wV H d)) := by
  unfold hdV
  rw [hd128_at]
  pointwise
  rfl
theorem mask_at (b : Fin 2) (H : Fin 8) (i j : Fin 4096) : mask (ix4 b H i j) = IntOp.cmpi .sle (BitVec.ofNat 32 j.val) (BitVec.ofNat 32 i.val) := by
  unfold mask
  pointwise
theorem scores_at (q k : Wide Ideal) (b : Fin 2) (H : Fin 8) (i j : Fin 4096) :
    scores q k (ix4 b H i j) = if i < j then (⊥ : EReal) else ∑ d : Fin 256, q (ix3 b i (w256 H d)) * k (ix3 b j (w256 H d)) := by
  unfold scores
  pointwise [hd256_at, mask_at, dot_S2x4096x8x256_S2x4096x8x256_S2x8x4096x4096_3_3_1_1_02_02]
  rw [Bwd.select_le (n := 4096) le_rfl]
  split_ifs
  · exact ninf
  · rfl
theorem rowMax_at (q k : Wide Ideal) (b : Fin 2) (H : Fin 8) (i : Fin 4096) :
    rowMax q k (ix3 b H i) = Finset.univ.fold max (⊥ : EReal) fun j : Fin 4096 => scores q k (ix4 b H i j) := by
  unfold rowMax
  generalize scores q k = s
  pointwise
  rw [ninf]
theorem max_ninf (s : FVec Ideal S2x8x4096 .f32) :
    maximumf (broadcastInDim S2x8x4096 ![] bcast_S_S2x8x4096 (constant S_ .f32 0xFF800000#32)) s = s := by
  funext i
  have e : (broadcastInDim S2x8x4096 ![] bcast_S_S2x8x4096 (constant (F := Ideal) S_ .f32 0xFF800000#32) : S2x8x4096.Idx → EReal) i = ⊥ := ninf
  exact (congrArg (max · (s i)) e).trans (bot_sup_eq _)
theorem top_at (q k : Wide Ideal) (b : Fin 2) (H : Fin 8) (i : Fin 4096) : top q k (ix4 b H i 0) = rowMax q k (ix3 b H i) := by
  unfold top
  rw [max_ninf]
  generalize rowMax q k = s
  pointwise
theorem across_at (x : FVec Ideal S2x8x4096x1 .f32) (b : Fin 2) (H : Fin 8) (i j : Fin 4096) : across x (ix4 b H i j) = x (ix4 b H i 0) := by
  unfold across
  pointwise
theorem expo_at (q k : Wide Ideal) (t : FVec Ideal S2x8x4096x1 .f32) (b : Fin 2) (H : Fin 8) (i j : Fin 4096) :
    expo q k t (ix4 b H i j) = Ideal.exp (scores q k (ix4 b H i j) - t (ix4 b H i 0)) := by
  unfold expo
  pointwise [across_at]
theorem rowSum_at (x : Square Ideal) (b : Fin 2) (H : Fin 8) (i : Fin 4096) : rowSum x (ix3 b H i) = ∑ j : Fin 4096, x (ix4 b H i j) := by
  unfold rowSum
  pointwise
theorem total_at (x : Square Ideal) (b : Fin 2) (H : Fin 8) (i : Fin 4096) : total x (ix4 b H i 0) = ∑ j : Fin 4096, x (ix4 b H i j) := by
  unfold total
  pointwise [rowSum_at]
theorem share_at (x : Square Ideal) (b : Fin 2) (H : Fin 8) (i j : Fin 4096) :
    share x (ix4 b H i j) = Ideal.div (x (ix4 b H i j)) (∑ j : Fin 4096, x (ix4 b H i j)) := by
  unfold share
  pointwise [total_at, across_at]
theorem ctT_at (x : Narrow Ideal) (b : Fin 2) (H : Fin 8) (d : Fin 128) (i : Fin 4096) : ctT x (ix4 b H d i) = x (ix3 b i (w128 H d)) := by
  unfold ctT
  pointwise [hd128_at]
theorem dshare_at (kv : Wide Ideal) (ct : Narrow Ideal) (b : Fin 2) (H : Fin 8) (i j : Fin 4096) :
    dshare kv ct (ix4 b H i j) = ∑ d : Fin 128, ct (ix3 b i (w128 H d)) * kv (ix3 b j (wV H d)) := by
  unfold dshare
  pointwise [hdV_at, ctT_at, dot_S2x8x128x4096_S2x4096x8x128_S2x8x4096x4096_2_3_3_1_01_02]
theorem invSq_at (x : Square Ideal) (b : Fin 2) (H : Fin 8) (i : Fin 4096) :
    invSq x (ix4 b H i 0) = Ideal.div 1 ((∑ j : Fin 4096, x (ix4 b H i j)) * ∑ j : Fin 4096, x (ix4 b H i j)) := by
  unfold invSq
  pointwise [total_at]
theorem dtotal_at (x y : Square Ideal) (b : Fin 2) (H : Fin 8) (i : Fin 4096) :
    dtotal x y (ix3 b H i) = -∑ j : Fin 4096, y (ix4 b H i j) * Ideal.div 1 ((∑ j : Fin 4096, x (ix4 b H i j)) * ∑ j : Fin 4096, x (ix4 b H i j)) * x (ix4 b H i j) := by
  unfold dtotal
  pointwise [invSq_at, across_at, rowSum_at]
  exact Fin.sum_univ_one _
theorem dscores_at (x y : Square Ideal) (b : Fin 2) (H : Fin 8) (i j : Fin 4096) :
    dscores x y (ix4 b H i j) = if i < j then (0 : EReal) else
      (Ideal.div (y (ix4 b H i j)) (∑ j : Fin 4096, x (ix4 b H i j)) + dtotal x y (ix3 b H i)) * x (ix4 b H i j) := by
  unfold dscores
  pointwise [mask_at, total_at, across_at]
  rw [Bwd.select_le (n := 4096) le_rfl]
theorem join256_at (x : FVec Ideal S2x8x4096x256 .f32) (b : Fin 2) (H : Fin 8) (i : Fin 4096) (d : Fin 256) : join256 x (ix3 b i (w256 H d)) = x (ix4 b H i d) := by
  unfold join256
  pointwise
  have e : (w256 H d).val = 256 * H.val + d.val := rfl
  congr 2 <;> exact Fin.ext (by simp only [e]; omega)
theorem join128_at (x : FVec Ideal S2x8x128x4096 .f32) (b : Fin 2) (H : Fin 8) (i : Fin 4096) (d : Fin 128) : join128 x (ix3 b i (w128 H d)) = x (ix4 b H d i) := by
  unfold join128
  pointwise
  have e : (w128 H d).val = 128 * H.val + d.val := rfl
  congr 2 <;> exact Fin.ext (by simp only [e]; omega)
theorem gradQ_at (q k kv : Wide Ideal) (ct : Narrow Ideal) (b : Fin 2) (H : Fin 8) (i : Fin 4096) (d : Fin 256) :
    gradQ q k kv ct (ix3 b i (w256 H d)) = ∑ j : Fin 4096, dscores (expo q k (top q k)) (dshare kv ct) (ix4 b H i j) * k (ix3 b j (w256 H d)) := by
  unfold gradQ
  generalize dscores (expo q k (top q k)) (dshare kv ct) = s
  pointwise [join256_at, hd256_at, dot_S2x8x4096x4096_S2x4096x8x256_S2x8x4096x256_3_1_2_3_01_02]
theorem gradK_at (q k kv : Wide Ideal) (ct : Narrow Ideal) (b : Fin 2) (H : Fin 8) (j : Fin 4096) (d : Fin 256) :
    gradK q k kv ct (ix3 b j (w256 H d)) = ∑ i : Fin 4096, dscores (expo q k (top q k)) (dshare kv ct) (ix4 b H i j) * q (ix3 b i (w256 H d)) := by
  unfold gradK
  generalize dscores (expo q k (top q k)) (dshare kv ct) = s
  pointwise [join256_at, hd256_at, dot_S2x8x4096x4096_S2x4096x8x256_S2x8x4096x256_2_1_3_3_01_02]
theorem gradV_at (q k : Wide Ideal) (ct : Narrow Ideal) (b : Fin 2) (H : Fin 8) (j : Fin 4096) (d : Fin 128) :
    gradV q k ct (ix3 b j (w128 H d)) = ∑ i : Fin 4096, ct (ix3 b i (w128 H d)) * share (expo q k (top q k)) (ix4 b H i j) := by
  unfold gradV
  generalize share (expo q k (top q k)) = s
  pointwise [join128_at, ctT_at, dot_S2x8x128x4096_S2x8x4096x4096_S2x8x128x4096_3_2_2_3_01_01]
theorem outp_at (q k kv : Wide Ideal) (b : Fin 2) (H : Fin 8) (i : Fin 4096) (d : Fin 128) :
    outp q k kv (ix3 b i (w128 H d)) = ∑ j : Fin 4096, kv (ix3 b j (wV H d)) * share (expo q k (top q k)) (ix4 b H i j) := by
  unfold outp
  generalize share (expo q k (top q k)) = s
  pointwise [join128_at, hdV_at, dot_S2x4096x8x128_S2x8x4096x4096_S2x8x128x4096_1_3_3_2_02_01]

end Cert.Proof.Plain

end
-- ==== Proof.Softmax.lean ====
module

public import proofs.«01_k».proof.Proof.Elements

/-! The softmax and its gradient on finite entries: everything is a real number. -/

@[expose] public section

noncomputable section

namespace Cert.Proof.Plain

open Idealize.ShloMosaic

/-- An extended real that is a real. -/
abbrev Fine (x : EReal) : Prop := ∃ r : ℝ, x = (r : EReal)

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fine_dot {n : ℕ} {f g : Fin n → EReal} (hf : ∀ d, Fine (f d)) (hg : ∀ d, Fine (g d)) : Fine (∑ d, f d * g d) := by
  choose a ha using hf
  choose b hb using hg
  exact ⟨∑ d, a d * b d, by rw [← sum_coe]; exact Finset.sum_congr rfl fun d _ => by rw [ha, hb, EReal.coe_mul]⟩

/-- The maximum of reals and minus infinities, one real among them, is real. -/
theorem fine_max {n : ℕ} (f : Fin n → EReal) (hf : ∀ j, f j = ⊥ ∨ Fine (f j)) (j₀ : Fin n) (h₀ : Fine (f j₀)) :
    Fine (Finset.univ.fold max ⊥ f) := by
  have ht : Finset.univ.fold max ⊥ f ≠ ⊤ := by
    refine ne_of_lt ((Finset.fold_max_lt _).2 ⟨bot_lt_top, fun j _ => ?_⟩)
    rcases hf j with h | ⟨r, h⟩ <;> rw [h]
    · exact bot_lt_top
    · exact EReal.coe_lt_top r
  have hb : Finset.univ.fold max ⊥ f ≠ ⊥ := by
    obtain ⟨r, h⟩ := h₀
    refine ne_of_gt (lt_of_lt_of_le (EReal.bot_lt_coe r) ?_)
    rw [← h]
    exact (Finset.le_fold_max _).2 (Or.inr ⟨j₀, Finset.mem_univ _, le_rfl⟩)
  exact ⟨_, (EReal.coe_toReal ht hb).symm⟩

/-! One row: its scores `s`, the products `d` of the cotangent with the values, and its maximum `t`. -/
section row
variable {n : ℕ} (i : Fin n) (s d : Fin n → ℝ) (t : ℝ)

/-- The exponentials, -/
def eR (j : Fin n) : ℝ := if i < j then 0 else Real.exp (s j - t)
/-- their sum, -/
def zR : ℝ := ∑ j, eR i s t j
/-- the shares. -/
def yR (j : Fin n) : ℝ := eR i s t j / zR i s t

theorem zR_pos : 0 < zR i s t :=
  Finset.sum_pos' (fun j _ => by unfold eR; split_ifs; exacts [le_rfl, (Real.exp_pos _).le])
    ⟨i, Finset.mem_univ _, by unfold eR; rw [if_neg (lt_irrefl _)]; exact Real.exp_pos _⟩

/-- The exponentials on extended reals. -/
theorem exp_row (j : Fin n) : Ideal.exp ((if i < j then (⊥ : EReal) else (s j : EReal)) - (t : EReal)) = (eR i s t j : EReal) := by
  unfold eR
  split_ifs
  · rw [EReal.bot_sub]; rfl
  · rw [← EReal.coe_sub]; rfl

theorem div_real (a b : ℝ) (h : b ≠ 0) : Ideal.div (a : EReal) (b : EReal) = ((a / b : ℝ) : EReal) := by
  rw [Ideal.div_coe h, ← EReal.coe_mul, mul_one_div]

/-- The kernel's probability is the share. -/
theorem share_row (j : Fin n) :
    (if i < j then (0 : EReal) else Ideal.exp ((s j : EReal) - ((t : EReal) + Ideal.log ((zR i s t : ℝ) : EReal)))) = (yR i s t j : EReal) := by
  have hz := zR_pos i s t
  unfold yR eR
  split_ifs
  · rw [zero_div]; rfl
  · rw [Ideal.log_coe, if_neg (not_le.2 hz), ← EReal.coe_add, ← EReal.coe_sub, Ideal.exp_coe]
    congr 1
    rw [← sub_sub, Real.exp_sub, Real.exp_log hz]

/-- The kernel's gradient of a score is the reference's. -/
theorem grad_row (j : Fin n) :
    yR i s t j * (d j - ∑ j, yR i s t j * d j)
      = if i < j then 0 else (d j / zR i s t + -∑ j, d j * (1 / (zR i s t * zR i s t)) * eR i s t j) * eR i s t j := by
  have hz := (zR_pos i s t).ne'
  have hs : ∑ j, d j * (1 / (zR i s t * zR i s t)) * eR i s t j = (∑ j, yR i s t j * d j) / zR i s t := by
    rw [Finset.sum_div]
    exact Finset.sum_congr rfl fun j _ => by unfold yR; field_simp
  rw [hs]
  split_ifs with h
  · unfold yR eR; rw [if_pos h, zero_div, zero_mul]
  · generalize ∑ j, yR i s t j * d j = w
    unfold yR
    field_simp
    ring

end row

end Cert.Proof.Plain

end
-- ==== Proof.Blocks.lean ====
module

public import proofs.«01_k».proof.Proof.Run
public import proofs.«01_k».proof.Proof.Point
public import Idealize.ShloMosaic.Lib.Pipeline.ValueKit
public import Idealize.ShloMosaic.Lib.Pipeline.ArrRel

/-! The blocks of the arrays: which elements a grid point reads and where it writes. -/

@[expose] public section

set_option maxRecDepth 16384

noncomputable section

namespace Cert.Proof.Bwd

open Cert.KernelIdeal Cert.KernelIdeal.Gen
open Idealize.ShloMosaic
open Idealize.ShloMosaic.TcCoe
open Idealize.ShloMosaic.Pipeline

abbrev cfgI := cfgA (F := Ideal)

/-- A point's batch, group of heads, and place in its pass. -/
abbrev bt (t : Fin cfgI.N) : Fin 2 := crd (F := Ideal) t 0
abbrev gr (t : Fin cfgI.N) : Fin 2 := crd (F := Ideal) t 1
abbrev pl (t : Fin cfgI.N) : Fin 36 := crd (F := Ideal) t 2

/-- Column `n` of the group `g` of four heads, heads of 256 columns, -/
def grp256 (g : Fin 2) (n : Fin 1024) : Fin 2048 := ⟨1024 * g.val + n.val, by omega⟩
/-- and heads of 128 columns. -/
def grp128 (g : Fin 2) (n : Fin 512) : Fin 1024 := ⟨512 * g.val + n.val, by omega⟩
/-- The values lie in the second half of their array. -/
def grpV (g : Fin 2) (n : Fin 512) : Fin 2048 := ⟨1024 + (512 * g.val + n.val), by omega⟩

theorem emb0 (t : Fin cfgI.N) (r : Fin 512) (n : Fin 1024) :
    ((cfgI.win (0 : Fin 9)).blk t).view.emb (ix3 0 r n : S1x512x1024.Idx) = (ix3 (bt t) (row (qBlk (pl t)) r) (grp256 (gr t) n) : S2x4096x2048.Idx) := by
  have e := tr0 (F := Ideal) (crd (F := Ideal) t)
  funext a
  apply Fin.ext
  match a with
  | ⟨0, _⟩ =>
    refine ((cfgI.win (0 : Fin 9)).rect_emb_val t (ix3 0 r n : S1x512x1024.Idx) 0).trans ?_
    have e0 : (cfgI.win (0 : Fin 9)).index t 0 = (bt t).val := congrFun e 0
    rw [e0]; show (bt t).val * 1 + 0 = (bt t).val; omega
  | ⟨1, _⟩ =>
    refine ((cfgI.win (0 : Fin 9)).rect_emb_val t (ix3 0 r n : S1x512x1024.Idx) 1).trans ?_
    have e1 : (cfgI.win (0 : Fin 9)).index t 1 = (qBlk (pl t)).val := congrFun e 1
    rw [e1]; show (qBlk (pl t)).val * 512 + r.val = 512 * (qBlk (pl t)).val + r.val; omega
  | ⟨2, _⟩ =>
    refine ((cfgI.win (0 : Fin 9)).rect_emb_val t (ix3 0 r n : S1x512x1024.Idx) 2).trans ?_
    have e2 : (cfgI.win (0 : Fin 9)).index t 2 = (gr t).val := congrFun e 2
    rw [e2]; show (gr t).val * 1024 + n.val = 1024 * (gr t).val + n.val; omega

theorem emb1 (t : Fin cfgI.N) (r : Fin 512) (n : Fin 1024) :
    ((cfgI.win (1 : Fin 9)).blk t).view.emb (ix3 0 r n : S1x512x1024.Idx) = (ix3 (bt t) (row (kBlk (pl t)) r) (grp256 (gr t) n) : S2x4096x2048.Idx) := by
  have e := tr1 (F := Ideal) (crd (F := Ideal) t)
  funext a
  apply Fin.ext
  match a with
  | ⟨0, _⟩ =>
    refine ((cfgI.win (1 : Fin 9)).rect_emb_val t (ix3 0 r n : S1x512x1024.Idx) 0).trans ?_
    have e0 : (cfgI.win (1 : Fin 9)).index t 0 = (bt t).val := congrFun e 0
    rw [e0]; show (bt t).val * 1 + 0 = (bt t).val; omega
  | ⟨1, _⟩ =>
    refine ((cfgI.win (1 : Fin 9)).rect_emb_val t (ix3 0 r n : S1x512x1024.Idx) 1).trans ?_
    have e1 : (cfgI.win (1 : Fin 9)).index t 1 = (kBlk (pl t)).val := congrFun e 1
    rw [e1]; show (kBlk (pl t)).val * 512 + r.val = 512 * (kBlk (pl t)).val + r.val; omega
  | ⟨2, _⟩ =>
    refine ((cfgI.win (1 : Fin 9)).rect_emb_val t (ix3 0 r n : S1x512x1024.Idx) 2).trans ?_
    have e2 : (cfgI.win (1 : Fin 9)).index t 2 = (gr t).val := congrFun e 2
    rw [e2]; show (gr t).val * 1024 + n.val = 1024 * (gr t).val + n.val; omega

theorem emb2 (t : Fin cfgI.N) (r : Fin 512) (n : Fin 512) :
    ((cfgI.win (2 : Fin 9)).blk t).view.emb (ix3 0 r n : S1x512x512.Idx) = (ix3 (bt t) (row (kBlk (pl t)) r) (grpV (gr t) n) : S2x4096x2048.Idx) := by
  have e := tr2 (F := Ideal) (crd (F := Ideal) t)
  funext a
  apply Fin.ext
  match a with
  | ⟨0, _⟩ =>
    refine ((cfgI.win (2 : Fin 9)).rect_emb_val t (ix3 0 r n : S1x512x512.Idx) 0).trans ?_
    have e0 : (cfgI.win (2 : Fin 9)).index t 0 = (bt t).val := congrFun e 0
    rw [e0]; show (bt t).val * 1 + 0 = (bt t).val; omega
  | ⟨1, _⟩ =>
    refine ((cfgI.win (2 : Fin 9)).rect_emb_val t (ix3 0 r n : S1x512x512.Idx) 1).trans ?_
    have e1 : (cfgI.win (2 : Fin 9)).index t 1 = (kBlk (pl t)).val := congrFun e 1
    rw [e1]; show (kBlk (pl t)).val * 512 + r.val = 512 * (kBlk (pl t)).val + r.val; omega
  | ⟨2, _⟩ =>
    refine ((cfgI.win (2 : Fin 9)).rect_emb_val t (ix3 0 r n : S1x512x512.Idx) 2).trans ?_
    have e2 : (cfgI.win (2 : Fin 9)).index t 2 = (gr t).val + 2 := congrFun e 2
    rw [e2]; show ((gr t).val + 2) * 512 + n.val = 1024 + (512 * (gr t).val + n.val); omega

theorem emb3 (t : Fin cfgI.N) (r : Fin 512) (n : Fin 512) :
    ((cfgI.win (3 : Fin 9)).blk t).view.emb (ix3 0 r n : S1x512x512.Idx) = (ix3 (bt t) (row (qBlk (pl t)) r) (grp128 (gr t) n) : S2x4096x1024.Idx) := by
  have e := tr3 (F := Ideal) (crd (F := Ideal) t)
  funext a
  apply Fin.ext
  match a with
  | ⟨0, _⟩ =>
    refine ((cfgI.win (3 : Fin 9)).rect_emb_val t (ix3 0 r n : S1x512x512.Idx) 0).trans ?_
    have e0 : (cfgI.win (3 : Fin 9)).index t 0 = (bt t).val := congrFun e 0
    rw [e0]; show (bt t).val * 1 + 0 = (bt t).val; omega
  | ⟨1, _⟩ =>
    refine ((cfgI.win (3 : Fin 9)).rect_emb_val t (ix3 0 r n : S1x512x512.Idx) 1).trans ?_
    have e1 : (cfgI.win (3 : Fin 9)).index t 1 = (qBlk (pl t)).val := congrFun e 1
    rw [e1]; show (qBlk (pl t)).val * 512 + r.val = 512 * (qBlk (pl t)).val + r.val; omega
  | ⟨2, _⟩ =>
    refine ((cfgI.win (3 : Fin 9)).rect_emb_val t (ix3 0 r n : S1x512x512.Idx) 2).trans ?_
    have e2 : (cfgI.win (3 : Fin 9)).index t 2 = (gr t).val := congrFun e 2
    rw [e2]; show (gr t).val * 512 + n.val = 512 * (gr t).val + n.val; omega

theorem emb4 (t : Fin cfgI.N) (r : Fin 512) (n : Fin 512) :
    ((cfgI.win (4 : Fin 9)).blk t).view.emb (ix3 0 r n : S1x512x512.Idx) = (ix3 (bt t) (row (qBlk (pl t)) r) (grp128 (gr t) n) : S2x4096x1024.Idx) := by
  have e := tr4 (F := Ideal) (crd (F := Ideal) t)
  funext a
  apply Fin.ext
  match a with
  | ⟨0, _⟩ =>
    refine ((cfgI.win (4 : Fin 9)).rect_emb_val t (ix3 0 r n : S1x512x512.Idx) 0).trans ?_
    have e0 : (cfgI.win (4 : Fin 9)).index t 0 = (bt t).val := congrFun e 0
    rw [e0]; show (bt t).val * 1 + 0 = (bt t).val; omega
  | ⟨1, _⟩ =>
    refine ((cfgI.win (4 : Fin 9)).rect_emb_val t (ix3 0 r n : S1x512x512.Idx) 1).trans ?_
    have e1 : (cfgI.win (4 : Fin 9)).index t 1 = (qBlk (pl t)).val := congrFun e 1
    rw [e1]; show (qBlk (pl t)).val * 512 + r.val = 512 * (qBlk (pl t)).val + r.val; omega
  | ⟨2, _⟩ =>
    refine ((cfgI.win (4 : Fin 9)).rect_emb_val t (ix3 0 r n : S1x512x512.Idx) 2).trans ?_
    have e2 : (cfgI.win (4 : Fin 9)).index t 2 = (gr t).val := congrFun e 2
    rw [e2]; show (gr t).val * 512 + n.val = 512 * (gr t).val + n.val; omega

theorem emb5 (t : Fin cfgI.N) (r : Fin 512) (n : Fin 512) :
    ((cfgI.win (5 : Fin 9)).blk t).view.emb (ix3 0 r n : S1x512x512.Idx) = (ix3 (bt t) (row (qBlk (pl t)) r) (grp128 (gr t) n) : S2x4096x1024.Idx) := by
  have e := tr5 (F := Ideal) (crd (F := Ideal) t)
  funext a
  apply Fin.ext
  match a with
  | ⟨0, _⟩ =>
    refine ((cfgI.win (5 : Fin 9)).rect_emb_val t (ix3 0 r n : S1x512x512.Idx) 0).trans ?_
    have e0 : (cfgI.win (5 : Fin 9)).index t 0 = (bt t).val := congrFun e 0
    rw [e0]; show (bt t).val * 1 + 0 = (bt t).val; omega
  | ⟨1, _⟩ =>
    refine ((cfgI.win (5 : Fin 9)).rect_emb_val t (ix3 0 r n : S1x512x512.Idx) 1).trans ?_
    have e1 : (cfgI.win (5 : Fin 9)).index t 1 = (qBlk (pl t)).val := congrFun e 1
    rw [e1]; show (qBlk (pl t)).val * 512 + r.val = 512 * (qBlk (pl t)).val + r.val; omega
  | ⟨2, _⟩ =>
    refine ((cfgI.win (5 : Fin 9)).rect_emb_val t (ix3 0 r n : S1x512x512.Idx) 2).trans ?_
    have e2 : (cfgI.win (5 : Fin 9)).index t 2 = (gr t).val := congrFun e 2
    rw [e2]; show (gr t).val * 512 + n.val = 512 * (gr t).val + n.val; omega

theorem emb6 (t : Fin cfgI.N) (r : Fin 512) (n : Fin 1024) :
    ((cfgI.win (6 : Fin 9)).blk t).view.emb (ix3 0 r n : S1x512x1024.Idx) = (ix3 (bt t) (row (qBlk (pl t)) r) (grp256 (gr t) n) : S2x4096x2048.Idx) := by
  have e := tr6 (F := Ideal) (crd (F := Ideal) t)
  funext a
  apply Fin.ext
  match a with
  | ⟨0, _⟩ =>
    refine ((cfgI.win (6 : Fin 9)).rect_emb_val t (ix3 0 r n : S1x512x1024.Idx) 0).trans ?_
    have e0 : (cfgI.win (6 : Fin 9)).index t 0 = (bt t).val := congrFun e 0
    rw [e0]; show (bt t).val * 1 + 0 = (bt t).val; omega
  | ⟨1, _⟩ =>
    refine ((cfgI.win (6 : Fin 9)).rect_emb_val t (ix3 0 r n : S1x512x1024.Idx) 1).trans ?_
    have e1 : (cfgI.win (6 : Fin 9)).index t 1 = (qBlk (pl t)).val := congrFun e 1
    rw [e1]; show (qBlk (pl t)).val * 512 + r.val = 512 * (qBlk (pl t)).val + r.val; omega
  | ⟨2, _⟩ =>
    refine ((cfgI.win (6 : Fin 9)).rect_emb_val t (ix3 0 r n : S1x512x1024.Idx) 2).trans ?_
    have e2 : (cfgI.win (6 : Fin 9)).index t 2 = (gr t).val := congrFun e 2
    rw [e2]; show (gr t).val * 1024 + n.val = 1024 * (gr t).val + n.val; omega

/-- The block of keys that a point writes: its own when its queries are the last, else the first. -/
def wBlk (p : Fin 36) : Fin 8 := if (qBlk p).val = 7 then kBlk p else 0

theorem wBlk_val (p : Fin 36) : (if (qBlk p).val = 7 then (kBlk p).val else 0) = (wBlk p).val := by unfold wBlk; split <;> rfl

theorem emb7 (t : Fin cfgI.N) (r : Fin 512) (n : Fin 1024) :
    ((cfgI.win (7 : Fin 9)).blk t).view.emb (ix3 0 r n : S1x512x1024.Idx) = (ix3 (bt t) (row (wBlk (pl t)) r) (grp256 (gr t) n) : S2x4096x2048.Idx) := by
  have e := tr7 (F := Ideal) (crd (F := Ideal) t)
  funext a
  apply Fin.ext
  match a with
  | ⟨0, _⟩ =>
    refine ((cfgI.win (7 : Fin 9)).rect_emb_val t (ix3 0 r n : S1x512x1024.Idx) 0).trans ?_
    have e0 : (cfgI.win (7 : Fin 9)).index t 0 = (bt t).val := congrFun e 0
    rw [e0]; show (bt t).val * 1 + 0 = (bt t).val; omega
  | ⟨1, _⟩ =>
    refine ((cfgI.win (7 : Fin 9)).rect_emb_val t (ix3 0 r n : S1x512x1024.Idx) 1).trans ?_
    have e1 : (cfgI.win (7 : Fin 9)).index t 1 = (wBlk (pl t)).val := (congrFun e 1).trans (wBlk_val _)
    rw [e1]; show (wBlk (pl t)).val * 512 + r.val = 512 * (wBlk (pl t)).val + r.val; omega
  | ⟨2, _⟩ =>
    refine ((cfgI.win (7 : Fin 9)).rect_emb_val t (ix3 0 r n : S1x512x1024.Idx) 2).trans ?_
    have e2 : (cfgI.win (7 : Fin 9)).index t 2 = (gr t).val := congrFun e 2
    rw [e2]; show (gr t).val * 1024 + n.val = 1024 * (gr t).val + n.val; omega

theorem emb8 (t : Fin cfgI.N) (r : Fin 512) (n : Fin 512) :
    ((cfgI.win (8 : Fin 9)).blk t).view.emb (ix3 0 r n : S1x512x512.Idx) = (ix3 (bt t) (row (wBlk (pl t)) r) (grp128 (gr t) n) : S2x4096x1024.Idx) := by
  have e := tr8 (F := Ideal) (crd (F := Ideal) t)
  funext a
  apply Fin.ext
  match a with
  | ⟨0, _⟩ =>
    refine ((cfgI.win (8 : Fin 9)).rect_emb_val t (ix3 0 r n : S1x512x512.Idx) 0).trans ?_
    have e0 : (cfgI.win (8 : Fin 9)).index t 0 = (bt t).val := congrFun e 0
    rw [e0]; show (bt t).val * 1 + 0 = (bt t).val; omega
  | ⟨1, _⟩ =>
    refine ((cfgI.win (8 : Fin 9)).rect_emb_val t (ix3 0 r n : S1x512x512.Idx) 1).trans ?_
    have e1 : (cfgI.win (8 : Fin 9)).index t 1 = (wBlk (pl t)).val := (congrFun e 1).trans (wBlk_val _)
    rw [e1]; show (wBlk (pl t)).val * 512 + r.val = 512 * (wBlk (pl t)).val + r.val; omega
  | ⟨2, _⟩ =>
    refine ((cfgI.win (8 : Fin 9)).rect_emb_val t (ix3 0 r n : S1x512x512.Idx) 2).trans ?_
    have e2 : (cfgI.win (8 : Fin 9)).index t 2 = (gr t).val := congrFun e 2
    rw [e2]; show (gr t).val * 512 + n.val = 512 * (gr t).val + n.val; omega

variable (m : (ℓ : Loc nD τ sig) → Buf (Elt Ideal) ℓ) (c : Dev nD)

/-- The arrays that the region reads. -/
def qA : S2x4096x2048.Idx → EReal := V m c (arrRef cfgI.spec (0 : Fin 9))
def kA : S2x4096x2048.Idx → EReal := V m c (arrRef cfgI.spec (1 : Fin 9))
def vA : S2x4096x2048.Idx → EReal := V m c (arrRef cfgI.spec (2 : Fin 9))
def oA : S2x4096x1024.Idx → EReal := V m c (arrRef cfgI.spec (3 : Fin 9))
def dA : S2x4096x1024.Idx → EReal := V m c (arrRef cfgI.spec (4 : Fin 9))
def lA : S2x4096x1024.Idx → EReal := V m c (arrRef cfgI.spec (5 : Fin 9))

theorem read0 (X : Buf (Elt Ideal) ((c : Thread nD τ).loc (arrRef cfgI.spec (0 : Fin 9)))) (t : Fin cfgI.N) (r : Fin 512) (n : Fin 1024) :
    (((cfgI.win (0 : Fin 9)).blk t).view.read (Elt Ideal) X : S1x512x1024.Idx → Elt Ideal .bf16) (ix3 0 r n)
      = (X : S2x4096x2048.Idx → Elt Ideal .bf16) (ix3 (bt t) (row (qBlk (pl t)) r) (grp256 (gr t) n)) :=
  congrArg (X : S2x4096x2048.Idx → Elt Ideal .bf16) (emb0 t r n)
theorem insQ (t : Fin cfgI.N) (r : Fin 512) (n : Fin 1024) : (insAt m c t).q (ix3 0 r n) = qA m c (ix3 (bt t) (row (qBlk (pl t)) r) (grp256 (gr t) n)) :=
  read0 c (V m c (arrRef cfgI.spec (0 : Fin 9))) t r n

theorem read1 (X : Buf (Elt Ideal) ((c : Thread nD τ).loc (arrRef cfgI.spec (1 : Fin 9)))) (t : Fin cfgI.N) (r : Fin 512) (n : Fin 1024) :
    (((cfgI.win (1 : Fin 9)).blk t).view.read (Elt Ideal) X : S1x512x1024.Idx → Elt Ideal .bf16) (ix3 0 r n)
      = (X : S2x4096x2048.Idx → Elt Ideal .bf16) (ix3 (bt t) (row (kBlk (pl t)) r) (grp256 (gr t) n)) :=
  congrArg (X : S2x4096x2048.Idx → Elt Ideal .bf16) (emb1 t r n)
theorem insK (t : Fin cfgI.N) (r : Fin 512) (n : Fin 1024) : (insAt m c t).k (ix3 0 r n) = kA m c (ix3 (bt t) (row (kBlk (pl t)) r) (grp256 (gr t) n)) :=
  read1 c (V m c (arrRef cfgI.spec (1 : Fin 9))) t r n

theorem read2 (X : Buf (Elt Ideal) ((c : Thread nD τ).loc (arrRef cfgI.spec (2 : Fin 9)))) (t : Fin cfgI.N) (r : Fin 512) (n : Fin 512) :
    (((cfgI.win (2 : Fin 9)).blk t).view.read (Elt Ideal) X : S1x512x512.Idx → Elt Ideal .bf16) (ix3 0 r n)
      = (X : S2x4096x2048.Idx → Elt Ideal .bf16) (ix3 (bt t) (row (kBlk (pl t)) r) (grpV (gr t) n)) :=
  congrArg (X : S2x4096x2048.Idx → Elt Ideal .bf16) (emb2 t r n)
theorem insV (t : Fin cfgI.N) (r : Fin 512) (n : Fin 512) : (insAt m c t).v (ix3 0 r n) = vA m c (ix3 (bt t) (row (kBlk (pl t)) r) (grpV (gr t) n)) :=
  read2 c (V m c (arrRef cfgI.spec (2 : Fin 9))) t r n

theorem read3 (X : Buf (Elt Ideal) ((c : Thread nD τ).loc (arrRef cfgI.spec (3 : Fin 9)))) (t : Fin cfgI.N) (r : Fin 512) (n : Fin 512) :
    (((cfgI.win (3 : Fin 9)).blk t).view.read (Elt Ideal) X : S1x512x512.Idx → Elt Ideal .bf16) (ix3 0 r n)
      = (X : S2x4096x1024.Idx → Elt Ideal .bf16) (ix3 (bt t) (row (qBlk (pl t)) r) (grp128 (gr t) n)) :=
  congrArg (X : S2x4096x1024.Idx → Elt Ideal .bf16) (emb3 t r n)
theorem insO (t : Fin cfgI.N) (r : Fin 512) (n : Fin 512) : (insAt m c t).o (ix3 0 r n) = oA m c (ix3 (bt t) (row (qBlk (pl t)) r) (grp128 (gr t) n)) :=
  read3 c (V m c (arrRef cfgI.spec (3 : Fin 9))) t r n

theorem read4 (X : Buf (Elt Ideal) ((c : Thread nD τ).loc (arrRef cfgI.spec (4 : Fin 9)))) (t : Fin cfgI.N) (r : Fin 512) (n : Fin 512) :
    (((cfgI.win (4 : Fin 9)).blk t).view.read (Elt Ideal) X : S1x512x512.Idx → Elt Ideal .bf16) (ix3 0 r n)
      = (X : S2x4096x1024.Idx → Elt Ideal .bf16) (ix3 (bt t) (row (qBlk (pl t)) r) (grp128 (gr t) n)) :=
  congrArg (X : S2x4096x1024.Idx → Elt Ideal .bf16) (emb4 t r n)
theorem insD (t : Fin cfgI.N) (r : Fin 512) (n : Fin 512) : (insAt m c t).d (ix3 0 r n) = dA m c (ix3 (bt t) (row (qBlk (pl t)) r) (grp128 (gr t) n)) :=
  read4 c (V m c (arrRef cfgI.spec (4 : Fin 9))) t r n

theorem read5 (X : Buf (Elt Ideal) ((c : Thread nD τ).loc (arrRef cfgI.spec (5 : Fin 9)))) (t : Fin cfgI.N) (r : Fin 512) (n : Fin 512) :
    (((cfgI.win (5 : Fin 9)).blk t).view.read (Elt Ideal) X : S1x512x512.Idx → Elt Ideal .f32) (ix3 0 r n)
      = (X : S2x4096x1024.Idx → Elt Ideal .f32) (ix3 (bt t) (row (qBlk (pl t)) r) (grp128 (gr t) n)) :=
  congrArg (X : S2x4096x1024.Idx → Elt Ideal .f32) (emb5 t r n)
theorem insL (t : Fin cfgI.N) (r : Fin 512) (n : Fin 512) : (insAt m c t).l (ix3 0 r n) = lA m c (ix3 (bt t) (row (qBlk (pl t)) r) (grp128 (gr t) n)) :=
  read5 c (V m c (arrRef cfgI.spec (5 : Fin 9))) t r n

end Cert.Proof.Bwd

end
-- ==== Proof.Passes.lean ====
module

public import proofs.«01_k».proof.Proof.Blocks

/-! A pass over the pairs of blocks on or below the diagonal: the sums that its points leave. -/

@[expose] public section

set_option maxRecDepth 16384

noncomputable section

namespace Cert.Proof.Bwd

open Cert.KernelIdeal Cert.KernelIdeal.Gen
open Idealize.ShloMosaic
open Idealize.ShloMosaic.TcCoe
open Idealize.ShloMosaic.Pipeline

theorem coords_next : ∀ (t : Fin grid0.N) (h : t.val + 1 < grid0.N), (grid0.coords ⟨t.val + 1, h⟩ 2).val ≠ 0 →
    grid0.coords ⟨t.val + 1, h⟩ 0 = grid0.coords t 0 ∧ grid0.coords ⟨t.val + 1, h⟩ 1 = grid0.coords t 1
      ∧ (grid0.coords ⟨t.val + 1, h⟩ 2).val = (grid0.coords t 2).val + 1 := by decide +kernel
theorem coords_zero : ∀ (t : Fin grid0.N), t.val = 0 → (grid0.coords t 2).val = 0 := by decide +kernel

theorem blk_le : ∀ p : Fin 36, (kBlk p).val ≤ (qBlk p).val := by decide +kernel
theorem first_q : ∀ p : Fin 36, (kBlk p).val = 0 → ∀ p' : Fin 36, ¬ (p'.val < p.val ∧ qBlk p' = qBlk p) := by decide +kernel
theorem next_q : ∀ p p' : Fin 36, p'.val = p.val + 1 → (kBlk p').val ≠ 0 → qBlk p' = qBlk p := by decide +kernel
theorem zero_k : ∀ p : Fin 36, p.val = 0 → (kBlk p).val = 0 := by decide +kernel
theorem last_q : ∀ p : Fin 36, kBlk p = qBlk p → ∀ p' : Fin 36, qBlk p' = qBlk p → p'.val < p.val + 1 := by decide +kernel
theorem last_k : ∀ p : Fin 36, (qBlk p).val = 7 → ∀ p' : Fin 36, kBlk p' = kBlk p → p'.val < p.val + 1 := by decide +kernel
theorem pair_inj : ∀ p p' : Fin 36, qBlk p = qBlk p' → kBlk p = kBlk p' → p = p' := by decide +kernel
theorem image_q : ∀ I : Fin 8, (Finset.univ.filter fun p => qBlk p = I).image kBlk = Finset.univ.filter fun J => J ≤ I := by decide +kernel
theorem image_k : ∀ J : Fin 8, (Finset.univ.filter fun p => kBlk p = J).image qBlk = Finset.univ.filter fun I => J ≤ I := by decide +kernel

/-- The sum of `f` over the places before the `n`-th that satisfy `P`. -/
def before (n : ℕ) (P : Fin 36 → Prop) [DecidablePred P] (f : Fin 36 → EReal) : EReal :=
  ∑ p ∈ Finset.univ.filter (fun p : Fin 36 => p.val < n ∧ P p), f p

theorem before_succ (p : Fin 36) (P : Fin 36 → Prop) [DecidablePred P] (f : Fin 36 → EReal) :
    before (p.val + 1) P f = before p.val P f + if P p then f p else 0 := by
  unfold before
  rw [Finset.sum_filter, Finset.sum_filter]
  have e : ∀ p' : Fin 36, (if p'.val < p.val + 1 ∧ P p' then f p' else 0)
      = (if p'.val < p.val ∧ P p' then f p' else 0) + if p' = p then (if P p then f p else 0) else 0 := by
    intro p'
    by_cases h : p' = p
    · subst h; simp
    · have h' : p'.val ≠ p.val := fun e => h (Fin.ext e)
      rw [if_neg h, add_zero]
      have : (p'.val < p.val + 1 ∧ P p') ↔ (p'.val < p.val ∧ P p') := by constructor <;> rintro ⟨a, b⟩ <;> exact ⟨by omega, b⟩
      simp only [this]
  rw [Finset.sum_congr rfl fun p' _ => e p', Finset.sum_add_distrib, Finset.sum_ite_eq' Finset.univ p, if_pos (Finset.mem_univ _)]

theorem before_none (n : ℕ) (P : Fin 36 → Prop) [DecidablePred P] (f : Fin 36 → EReal) (h : ∀ p : Fin 36, ¬ (p.val < n ∧ P p)) : before n P f = 0 := by
  unfold before; rw [Finset.filter_false_of_mem fun p _ => h p, Finset.sum_empty]

theorem before_q (p : Fin 36) (hp : kBlk p = qBlk p) (F : Fin 8 → EReal) (hF : ∀ J, qBlk p < J → F J = 0) :
    before (p.val + 1) (fun p' => qBlk p' = qBlk p) (fun p' => F (kBlk p')) = ∑ J : Fin 8, F J := by
  unfold before
  rw [Finset.filter_congr (q := fun p' => qBlk p' = qBlk p) fun p' _ => ⟨fun h => h.2, fun h => ⟨last_q p hp p' h, h⟩⟩,
    ← Finset.sum_image (s := Finset.univ.filter fun p' => qBlk p' = qBlk p) (g := kBlk) (f := F), image_q, Finset.sum_filter]
  · exact Finset.sum_congr rfl fun J _ => by
      split
      · rfl
      · next h => exact (hF J (not_le.mp h)).symm
  · intro a ha b hb e
    simp only [Finset.coe_filter, Finset.mem_univ, true_and, Set.mem_setOf_eq] at ha hb
    exact pair_inj a b (ha.trans hb.symm) e

theorem before_k (p : Fin 36) (hp : (qBlk p).val = 7) (F : Fin 8 → EReal) (hF : ∀ I, I < kBlk p → F I = 0) :
    before (p.val + 1) (fun p' => kBlk p' = kBlk p) (fun p' => F (qBlk p')) = ∑ I : Fin 8, F I := by
  unfold before
  rw [Finset.filter_congr (q := fun p' => kBlk p' = kBlk p) fun p' _ => ⟨fun h => h.2, fun h => ⟨last_k p hp p' h, h⟩⟩,
    ← Finset.sum_image (s := Finset.univ.filter fun p' => kBlk p' = kBlk p) (g := qBlk) (f := F), image_k, Finset.sum_filter]
  · exact Finset.sum_congr rfl fun I _ => by
      split
      · rfl
      · next h => exact (hF I (not_le.mp h)).symm
  · intro a ha b hb e
    simp only [Finset.coe_filter, Finset.mem_univ, true_and, Set.mem_setOf_eq] at ha hb
    exact pair_inj a b e (ha.trans hb.symm)

/-- A sum over all rows, block by block. -/
theorem sum_rows (f : Fin 4096 → EReal) : ∑ J : Fin 8, ∑ s : Fin 512, f (row J s) = ∑ j : Fin 4096, f j := by
  rw [Fin.sum_univ_tiles 8 512 rfl f]
  exact Finset.sum_congr rfl fun J _ => Finset.sum_congr rfl fun s _ => congrArg f (Fin.ext (by show 512 * J.val + s.val = J.val * 512 + s.val; omega))

theorem row_lt_iff (I J : Fin 8) (r s : Fin 512) (h : J ≤ I) : row I r < row J s ↔ J = I ∧ r < s := by
  have hv : J.val ≤ I.val := h
  rw [Fin.ext_iff, Fin.lt_def, Fin.lt_def]
  show 512 * I.val + r.val < 512 * J.val + s.val ↔ _
  omega

section
variable (m : (ℓ : Loc nD τ sig) → Buf (Elt Ideal) ℓ) (c : Dev nD) (b g : Fin 2) (h : Fin 4)

/-- The score of rows `i` and `j`, -/
def SC (i j : Fin 4096) : EReal := ∑ d : Fin 256, qA m c (ix3 b i (grp256 g (c256 h d))) * kA m c (ix3 b j (grp256 g (c256 h d)))
/-- its probability, -/
def PR (i j : Fin 4096) : EReal :=
  if i < j then 0 else Ideal.exp (SC m c b g h i j - lA m c (ix3 b i (grp128 g (c128 h ⟨j.val % 128, Nat.mod_lt _ (by omega)⟩))))
/-- the probability's gradient, -/
def DP (i j : Fin 4096) : EReal := ∑ d : Fin 128, dA m c (ix3 b i (grp128 g (c128 h d))) * vA m c (ix3 b j (grpV g (c128 h d)))
/-- the cotangent's product with the output, -/
def DE (i : Fin 4096) : EReal := ∑ d : Fin 128, dA m c (ix3 b i (grp128 g (c128 h d))) * oA m c (ix3 b i (grp128 g (c128 h d)))
/-- the score's gradient. -/
def DS (i j : Fin 4096) : EReal := PR m c b g h i j * (DP m c b g h i j - DE m c b g h i)

/-- The gradients of queries, keys and values. -/
def GQ (i : Fin 4096) (d : Fin 256) : EReal := ∑ j : Fin 4096, DS m c b g h i j * kA m c (ix3 b j (grp256 g (c256 h d)))
def GK (j : Fin 4096) (d : Fin 256) : EReal := ∑ i : Fin 4096, DS m c b g h i j * qA m c (ix3 b i (grp256 g (c256 h d)))
def GV (j : Fin 4096) (d : Fin 128) : EReal := ∑ i : Fin 4096, PR m c b g h i j * dA m c (ix3 b i (grp128 g (c128 h d)))

/-- The parts of one pair of blocks. -/
def tQ (I J : Fin 8) (r : Fin 512) (d : Fin 256) : EReal := ∑ s : Fin 512, DS m c b g h (row I r) (row J s) * kA m c (ix3 b (row J s) (grp256 g (c256 h d)))
def tK (I J : Fin 8) (s : Fin 512) (d : Fin 256) : EReal := ∑ r : Fin 512, DS m c b g h (row I r) (row J s) * qA m c (ix3 b (row I r) (grp256 g (c256 h d)))
def tV (I J : Fin 8) (s : Fin 512) (d : Fin 128) : EReal := ∑ r : Fin 512, PR m c b g h (row I r) (row J s) * dA m c (ix3 b (row I r) (grp128 g (c128 h d)))

theorem PR_above (i j : Fin 4096) (e : i < j) : PR m c b g h i j = 0 := if_pos e
theorem DS_above (i j : Fin 4096) (e : i < j) : DS m c b g h i j = 0 := by unfold DS; rw [PR_above _ _ _ _ _ _ _ e, zero_mul]

theorem row_lt (I J : Fin 8) (r s : Fin 512) (e : I < J) : row I r < row J s := by
  have : I.val < J.val := e
  rw [Fin.lt_def]; show 512 * I.val + r.val < 512 * J.val + s.val; omega

theorem tQ_above (I J : Fin 8) (r : Fin 512) (d : Fin 256) (e : I < J) : tQ m c b g h I J r d = 0 :=
  Finset.sum_eq_zero fun s _ => by rw [DS_above _ _ _ _ _ _ _ (row_lt I J r s e), zero_mul]
theorem tK_above (I J : Fin 8) (s : Fin 512) (d : Fin 256) (e : I < J) : tK m c b g h I J s d = 0 :=
  Finset.sum_eq_zero fun r _ => by rw [DS_above _ _ _ _ _ _ _ (row_lt I J r s e), zero_mul]
theorem tV_above (I J : Fin 8) (s : Fin 512) (d : Fin 128) (e : I < J) : tV m c b g h I J s d = 0 :=
  Finset.sum_eq_zero fun r _ => by rw [PR_above _ _ _ _ _ _ _ (row_lt I J r s e), zero_mul]

theorem sum_tQ (I : Fin 8) (r : Fin 512) (d : Fin 256) : ∑ J : Fin 8, tQ m c b g h I J r d = GQ m c b g h (row I r) d :=
  sum_rows fun j => DS m c b g h (row I r) j * kA m c (ix3 b j (grp256 g (c256 h d)))
theorem sum_tK (J : Fin 8) (s : Fin 512) (d : Fin 256) : ∑ I : Fin 8, tK m c b g h I J s d = GK m c b g h (row J s) d :=
  sum_rows fun i => DS m c b g h i (row J s) * qA m c (ix3 b i (grp256 g (c256 h d)))
theorem sum_tV (J : Fin 8) (s : Fin 512) (d : Fin 128) : ∑ I : Fin 8, tV m c b g h I J s d = GV m c b g h (row J s) d :=
  sum_rows fun i => PR m c b g h i (row J s) * dA m c (ix3 b i (grp128 g (c128 h d)))

end

section
variable (m : (ℓ : Loc nD τ sig) → Buf (Elt Ideal) ℓ) (c : Dev nD) (t : Fin cfgI.N) (h : Fin 4)

theorem probs_at (r s : Fin 512) : probs (decide (kBlk (pl t) = qBlk (pl t))) (insAt m c t) h (ix2 r s)
    = PR m c (bt t) (gr t) h (row (qBlk (pl t)) r) (row (kBlk (pl t)) s) := by
  rw [probs_apply, scores_apply, insL]
  unfold PR
  simp only [decide_eq_true_eq]
  rw [if_congr (row_lt_iff _ _ r s (blk_le _)) rfl rfl]
  have e : (⟨s.val % 128, Nat.mod_lt _ (by omega)⟩ : Fin 128) = ⟨(row (kBlk (pl t)) s).val % 128, Nat.mod_lt _ (by omega)⟩ :=
    Fin.ext (by show s.val % 128 = (512 * (kBlk (pl t)).val + s.val) % 128; omega)
  rw [← e]
  split
  · rw [sub_eq_add_neg, EReal.bot_add]; rfl
  · simp only [insQ, insK]; rfl

theorem dscores_at (r s : Fin 512) : dscores (decide (kBlk (pl t) = qBlk (pl t))) (insAt m c t) h (ix2 r s)
    = DS m c (bt t) (gr t) h (row (qBlk (pl t)) r) (row (kBlk (pl t)) s) := by
  rw [dscores_apply, probs_at]
  simp only [insD, insV, insO]
  rfl

theorem conQ_at (r : Fin 512) (d : Fin 256) : conQ (decide (kBlk (pl t) = qBlk (pl t))) (insAt m c t) h (ix2 r d)
    = tQ m c (bt t) (gr t) h (qBlk (pl t)) (kBlk (pl t)) r d := by
  rw [conQ_apply]; exact Finset.sum_congr rfl fun s _ => congrArg₂ (· * ·) (dscores_at m c t h r s) (insK m c t s _)
theorem conK_at (s : Fin 512) (d : Fin 256) : conK (decide (kBlk (pl t) = qBlk (pl t))) (insAt m c t) h (ix2 s d)
    = tK m c (bt t) (gr t) h (qBlk (pl t)) (kBlk (pl t)) s d := by
  rw [conK_apply]; exact Finset.sum_congr rfl fun r _ => congrArg₂ (· * ·) (dscores_at m c t h r s) (insQ m c t r _)
theorem conV_at (s : Fin 512) (d : Fin 128) : conV (decide (kBlk (pl t) = qBlk (pl t))) (insAt m c t) h (ix2 s d)
    = tV m c (bt t) (gr t) h (qBlk (pl t)) (kBlk (pl t)) s d := by
  rw [conV_apply]; exact Finset.sum_congr rfl fun r _ => congrArg₂ (· * ·) (probs_at m c t h r s) (insD m c t r _)

end

end Cert.Proof.Bwd

end
-- ==== Proof.Sums.lean ====
module

public import proofs.«01_k».proof.Proof.Passes
public import proofs.«01_k».proof.Proof.Launch

/-! The run's plan at extended reals: the accumulators hold partial sums, and each block leaves with its whole sum. -/

@[expose] public section

set_option maxRecDepth 16384

noncomputable section

namespace Cert.Proof.Bwd

open Cert.KernelIdeal Cert.KernelIdeal.Gen
open Idealize.ShloMosaic
open Idealize.ShloMosaic.TcCoe
open Idealize.ShloMosaic.Pipeline

/-- On or below the diagonal one point adds its contribution to the accumulator, cleared or not. -/
theorem stepOf_eq {α : Type} (z : Prop) [Decidable z] (I J : Fin 8) (h : J.val ≤ I.val) (zero : α) (acc : Bool → α → α) (a : α) :
    stepOf z I.val J.val zero acc a = acc (decide (J = I)) (if z then zero else a) := by
  unfold stepOf
  by_cases e : J = I
  · subst e; simp
  · have : J.val < I.val := lt_of_le_of_ne h fun h' => e (Fin.ext h')
    simp [this, e]

theorem zero_bits : (Scalar.ofBits (F := Ideal) .f32 0x00000000#32 : EReal) = 0 := by
  show Ideal.ofBits .f32 0x00000000#32 = 0
  simp [Ideal.ofBits, Ideal.ieee]

variable (m : (ℓ : Loc nD τ sig) → Buf (Elt Ideal) ℓ) (c : Dev nD)

/-- What the accumulators hold before point `n`. -/
def Inv (n : ℕ) (a0 : FVec Ideal S512x1024 .f32) (a1 : FVec Ideal S4096x1024 .f32) (a2 : FVec Ideal S4096x512 .f32) : Prop :=
  ∀ t : Fin cfgI.N, t.val = n →
    ((kBlk (pl t)).val ≠ 0 → ∀ r h d, a0 (ix2 r (c256 h d))
      = before (pl t).val (fun p => qBlk p = qBlk (pl t)) fun p => tQ m c (bt t) (gr t) h (qBlk (pl t)) (kBlk p) r d)
    ∧ ((pl t).val ≠ 0 → ∀ K s h d, a1 (ix2 (row K s) (c256 h d))
      = before (pl t).val (fun p => kBlk p = K) fun p => tK m c (bt t) (gr t) h (qBlk p) K s d)
    ∧ ((pl t).val ≠ 0 → ∀ K s h d, a2 (ix2 (row K s) (c128 h d))
      = before (pl t).val (fun p => kBlk p = K) fun p => tV m c (bt t) (gr t) h (qBlk p) K s d)

section
variable (t : Fin cfgI.N) (a0 : FVec Ideal S512x1024 .f32) (a1 : FVec Ideal S4096x1024 .f32) (a2 : FVec Ideal S4096x512 .f32) (hi : Inv m c t.val a0 a1 a2)
include hi

theorem stepQ_at (r : Fin 512) (h : Fin 4) (d : Fin 256) : stepQ (qBlk (pl t)).val (kBlk (pl t)).val (insAt m c t) a0 (ix2 r (c256 h d))
    = before ((pl t).val + 1) (fun p => qBlk p = qBlk (pl t)) fun p => tQ m c (bt t) (gr t) h (qBlk (pl t)) (kBlk p) r d := by
  unfold stepQ
  rw [stepOf_eq _ _ _ (blk_le _), accQ_apply, conQ_at, before_succ, if_pos rfl]
  congr 1
  split
  · next e => rw [before_none _ _ _ (first_q _ e)]; exact zero_bits
  · next e => exact (hi t rfl).1 e r h d

theorem stepK_at (K : Fin 8) (s : Fin 512) (h : Fin 4) (d : Fin 256) : stepK (pl t).val (qBlk (pl t)).val (kBlk (pl t)).isLt (insAt m c t) a1 (ix2 (row K s) (c256 h d))
    = before ((pl t).val + 1) (fun p => kBlk p = K) fun p => tK m c (bt t) (gr t) h (qBlk p) K s d := by
  unfold stepK
  rw [stepOf_eq _ _ _ (blk_le _), accK_apply, conK_at, before_succ]
  congr 1
  · split
    · next e => rw [e, before_none _ _ _ (fun p h => absurd h.1 (Nat.not_lt_zero _))]; exact zero_bits
    · next e => exact (hi t rfl).2.1 e K s h d
  · split
    · next e => rw [e]
    · rfl

theorem stepV_at (K : Fin 8) (s : Fin 512) (h : Fin 4) (d : Fin 128) : stepV (pl t).val (qBlk (pl t)).val (kBlk (pl t)).isLt (insAt m c t) a2 (ix2 (row K s) (c128 h d))
    = before ((pl t).val + 1) (fun p => kBlk p = K) fun p => tV m c (bt t) (gr t) h (qBlk p) K s d := by
  unfold stepV
  rw [stepOf_eq _ _ _ (blk_le _), accV_apply, conV_at, before_succ]
  congr 1
  · split
    · next e => rw [e, before_none _ _ _ (fun p h => absurd h.1 (Nat.not_lt_zero _))]; exact zero_bits
    · next e => exact (hi t rfl).2.2 e K s h d
  · split
    · next e => rw [e]
    · rfl

theorem Inv_next : Inv m c (t.val + 1) (stepQ (qBlk (pl t)).val (kBlk (pl t)).val (insAt m c t) a0)
    (stepK (pl t).val (qBlk (pl t)).val (kBlk (pl t)).isLt (insAt m c t) a1) (stepV (pl t).val (qBlk (pl t)).val (kBlk (pl t)).isLt (insAt m c t) a2) := by
  intro t' ht
  have hn : t.val + 1 < grid0.N := ht ▸ t'.isLt
  have key : (pl t').val ≠ 0 → bt t' = bt t ∧ gr t' = gr t ∧ (pl t').val = (pl t).val + 1 := by
    obtain rfl : t' = ⟨t.val + 1, hn⟩ := Fin.ext ht
    exact coords_next t hn
  refine ⟨fun hk r h d => ?_, fun hp K s h d => ?_, fun hp K s h d => ?_⟩
  · obtain ⟨e0, e1, e2⟩ := key fun h0 => hk (zero_k _ h0)
    rw [next_q _ _ e2 hk, e0, e1, e2]
    exact stepQ_at m c t a0 a1 a2 hi r h d
  · obtain ⟨e0, e1, e2⟩ := key hp
    rw [e0, e1, e2]
    exact stepK_at m c t a0 a1 a2 hi K s h d
  · obtain ⟨e0, e1, e2⟩ := key hp
    rw [e0, e1, e2]
    exact stepV_at m c t a0 a1 a2 hi K s h d

end

theorem Inv_zero (a0 : FVec Ideal S512x1024 .f32) (a1 : FVec Ideal S4096x1024 .f32) (a2 : FVec Ideal S4096x512 .f32) : Inv m c 0 a0 a1 a2 := by
  intro t ht
  have h0 : (pl t).val = 0 := coords_zero t ht
  exact ⟨fun hk => absurd (zero_k _ h0) hk, fun hp => absurd h0 hp, fun hp => absurd h0 hp⟩

/-- What is said of the blocks written at a point. -/
def Out6 (t : Fin cfgI.N) (X : S1x512x1024.Idx → Elt Ideal .bf16) : Prop :=
  kBlk (pl t) = qBlk (pl t) → ∀ r h d, X (ix3 0 r (c256 h d)) = GQ m c (bt t) (gr t) h (row (qBlk (pl t)) r) d
def Out7 (t : Fin cfgI.N) (X : S1x512x1024.Idx → Elt Ideal .bf16) : Prop :=
  (qBlk (pl t)).val = 7 → ∀ s h d, X (ix3 0 s (c256 h d)) = GK m c (bt t) (gr t) h (row (kBlk (pl t)) s) d
def Out8 (t : Fin cfgI.N) (X : S1x512x512.Idx → Elt Ideal .bf16) : Prop :=
  (qBlk (pl t)).val = 7 → ∀ s h d, X (ix3 0 s (c128 h d)) = GV m c (bt t) (gr t) h (row (kBlk (pl t)) s) d

theorem step_all (t : Fin cfgI.N) (y6 y7 : S1x512x1024.Idx → Elt Ideal .bf16) (y8 : S1x512x512.Idx → Elt Ideal .bf16)
    (a0 : FVec Ideal S512x1024 .f32) (a1 : FVec Ideal S4096x1024 .f32) (a2 : FVec Ideal S4096x512 .f32) (hi : Inv m c t.val a0 a1 a2)
    (X6 X7 : S1x512x1024.Idx → Elt Ideal .bf16) (X8 : S1x512x512.Idx → Elt Ideal .bf16)
    (A0 : FVec Ideal S512x1024 .f32) (A1 : FVec Ideal S4096x1024 .f32) (A2 : FVec Ideal S4096x512 .f32)
    (H : X6 = (if (kBlk (pl t)).val = (qBlk (pl t)).val then outQ (stepQ (qBlk (pl t)).val (kBlk (pl t)).val (insAt m c t) a0) else y6)
      ∧ X7 = (if (qBlk (pl t)).val = 7 then outK (kBlk (pl t)).isLt (stepK (pl t).val (qBlk (pl t)).val (kBlk (pl t)).isLt (insAt m c t) a1) else y7)
      ∧ X8 = (if (qBlk (pl t)).val = 7 then outV (kBlk (pl t)).isLt (stepV (pl t).val (qBlk (pl t)).val (kBlk (pl t)).isLt (insAt m c t) a2) else y8)
      ∧ A0 = stepQ (qBlk (pl t)).val (kBlk (pl t)).val (insAt m c t) a0
      ∧ A1 = stepK (pl t).val (qBlk (pl t)).val (kBlk (pl t)).isLt (insAt m c t) a1
      ∧ A2 = stepV (pl t).val (qBlk (pl t)).val (kBlk (pl t)).isLt (insAt m c t) a2) :
    Inv m c (t.val + 1) A0 A1 A2 ∧ Out6 m c t X6 ∧ Out7 m c t X7 ∧ Out8 m c t X8 := by
  obtain ⟨h6, h7, h8, h0, h1, h2⟩ := H
  refine ⟨?_, fun e r h d => ?_, fun e s h d => ?_, fun e s h d => ?_⟩
  · rw [h0, h1, h2]; exact Inv_next m c t a0 a1 a2 hi
  · rw [h6, if_pos (congrArg Fin.val e), outQ_apply, stepQ_at m c t a0 a1 a2 hi,
      before_q _ e (fun J => tQ m c (bt t) (gr t) h (qBlk (pl t)) J r d) fun J hJ => tQ_above _ _ _ _ _ _ _ _ _ hJ, sum_tQ]
  · rw [h7, if_pos e, outK_apply, stepK_at m c t a0 a1 a2 hi,
      before_k _ e (fun I => tK m c (bt t) (gr t) h I (kBlk (pl t)) s d) fun I hI => tK_above _ _ _ _ _ _ _ _ _ hI, sum_tK]
  · rw [h8, if_pos e, outV_apply, stepV_at m c t a0 a1 a2 hi,
      before_k _ e (fun I => tV m c (bt t) (gr t) h I (kBlk (pl t)) s d) fun I hI => tV_above _ _ _ _ _ _ _ _ _ hI, sum_tV]

/-- The plan. -/
def plan : Plan c (insAt m c) where
  inv := Inv m c
  o6 := Out6 m c
  o7 := Out7 m c
  o8 := Out8 m c
  start := Inv_zero m c
  step := fun t y6 y7 y8 a0 a1 a2 hi => by
    intro R
    exact step_all m c t y6 y7 y8 a0 a1 a2 hi _ _ _ _ _ _ (bodyRun_step c (crd t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (tbl (F := Ideal) 0) (tbl (F := Ideal) 1) (insAt m c t) y6 y7 y8 a0 a1 a2 (qBlk (pl t)) (kBlk (pl t))
      (word0 _) (word1 _) (chkAt (crd t)))

end Cert.Proof.Bwd

end
-- ==== Proof.Final.lean ====
module

public import proofs.«01_k».proof.Proof.Sums

/-! The three result arrays at the end of the run. -/

@[expose] public section

set_option maxRecDepth 16384

noncomputable section

namespace Cert.Proof.Bwd

open Cert.KernelIdeal Cert.KernelIdeal.Gen
open Idealize.ShloMosaic
open Idealize.ShloMosaic.TcCoe Idealize.SL.Sem
open Idealize.ShloMosaic.Pipeline

/-- The block that leaves for the queries' gradient, -/
def ixQ (i : grid0.Coords) : Fin 3 → ℕ := ![(i 0).val, (qBlk (i 2)).val, (i 1).val]
/-- and for those of keys and values. -/
def ixK (i : grid0.Coords) : Fin 3 → ℕ := ![(i 0).val, if (qBlk (i 2)).val = 7 then (kBlk (i 2)).val else 0, (i 1).val]

theorem flush6 (t : Fin cfgI.N) : (cfgI.win (6 : Fin 9)).flush t = Window.flushOf grid0 true ixQ t := by
  rw [Window.flush_eq_flushOf]
  exact congrArg (fun f => Window.flushOf (r := 3) grid0 true f t) (funext fun i => tr6 (F := Ideal) i)
theorem flush7 (t : Fin cfgI.N) : (cfgI.win (7 : Fin 9)).flush t = Window.flushOf grid0 true ixK t := by
  rw [Window.flush_eq_flushOf]
  exact congrArg (fun f => Window.flushOf (r := 3) grid0 true f t) (funext fun i => tr7 (F := Ideal) i)
theorem flush8 (t : Fin cfgI.N) : (cfgI.win (8 : Fin 9)).flush t = Window.flushOf grid0 true ixK t := by
  rw [Window.flush_eq_flushOf]
  exact congrArg (fun f => Window.flushOf (r := 3) grid0 true f t) (funext fun i => tr8 (F := Ideal) i)

theorem diag_of_flush : ∀ t : Fin grid0.N, Window.flushOf grid0 true ixQ t = true → kBlk (grid0.coords t 2) = qBlk (grid0.coords t 2) := by decide +kernel
theorem last_of_flush : ∀ t : Fin grid0.N, Window.flushOf grid0 true ixK t = true → (qBlk (grid0.coords t 2)).val = 7 := by decide +kernel
theorem reach_q : ∀ (b g : Fin 2) (I : Fin 8), ∃ t : Fin grid0.N, Window.flushOf grid0 true ixQ t = true
    ∧ (grid0.coords t 0).val = b.val ∧ (grid0.coords t 1).val = g.val ∧ qBlk (grid0.coords t 2) = I := by decide +kernel
theorem reach_k : ∀ (b g : Fin 2) (J : Fin 8), ∃ t : Fin grid0.N, Window.flushOf grid0 true ixK t = true
    ∧ (grid0.coords t 0).val = b.val ∧ (grid0.coords t 1).val = g.val ∧ wBlk (grid0.coords t 2) = J := by decide +kernel

/-- A column as its group, head and place, heads of 256 columns, -/
theorem split256 (n : Fin 2048) : ∃ g h d, n = grp256 g (c256 h d) :=
  ⟨⟨n.val / 1024, by omega⟩, ⟨n.val % 1024 / 256, by omega⟩, ⟨n.val % 256, by omega⟩,
    Fin.ext (by show n.val = 1024 * (n.val / 1024) + (256 * (n.val % 1024 / 256) + n.val % 256); omega)⟩
/-- and heads of 128 columns. -/
theorem split128 (n : Fin 1024) : ∃ g h d, n = grp128 g (c128 h d) :=
  ⟨⟨n.val / 512, by omega⟩, ⟨n.val % 512 / 128, by omega⟩, ⟨n.val % 128, by omega⟩,
    Fin.ext (by show n.val = 512 * (n.val / 512) + (128 * (n.val % 512 / 128) + n.val % 128); omega)⟩
theorem part256 (n : Fin 1024) : ∃ h d, n = c256 h d :=
  ⟨⟨n.val / 256, by omega⟩, ⟨n.val % 256, by omega⟩, Fin.ext (by show n.val = 256 * (n.val / 256) + n.val % 256; omega)⟩
theorem part128 (n : Fin 512) : ∃ h d, n = c128 h d :=
  ⟨⟨n.val / 128, by omega⟩, ⟨n.val % 128, by omega⟩, Fin.ext (by show n.val = 128 * (n.val / 128) + n.val % 128; omega)⟩
theorem part_row (j : Fin 4096) : ∃ J s, j = row J s :=
  ⟨⟨j.val / 512, by omega⟩, ⟨j.val % 512, by omega⟩, Fin.ext (by show j.val = 512 * (j.val / 512) + j.val % 512; omega)⟩

theorem wBlk_last (p : Fin 36) (h : (qBlk p).val = 7) : wBlk p = kBlk p := if_pos h

variable (m : (ℓ : Loc nD τ sig) → Buf (Elt Ideal) ℓ) (c : Dev nD)

/-- The whole results. -/
def resQ : S2x4096x2048.Idx → EReal := fun i => GQ m c (i 0) ⟨(i 2).val / 1024, by have : (i 2).val < 2048 := (i 2).isLt; omega⟩
  ⟨(i 2).val % 1024 / 256, by omega⟩ (i 1) ⟨(i 2).val % 256, by omega⟩
def resK : S2x4096x2048.Idx → EReal := fun i => GK m c (i 0) ⟨(i 2).val / 1024, by have : (i 2).val < 2048 := (i 2).isLt; omega⟩
  ⟨(i 2).val % 1024 / 256, by omega⟩ (i 1) ⟨(i 2).val % 256, by omega⟩
def resV : S2x4096x1024.Idx → EReal := fun i => GV m c (i 0) ⟨(i 2).val / 512, by have : (i 2).val < 1024 := (i 2).isLt; omega⟩
  ⟨(i 2).val % 512 / 128, by omega⟩ (i 1) ⟨(i 2).val % 128, by omega⟩

theorem col256 (g : Fin 2) (h : Fin 4) (d : Fin 256) : (grp256 g (c256 h d)).val / 1024 = g.val ∧ (grp256 g (c256 h d)).val % 1024 / 256 = h.val
    ∧ (grp256 g (c256 h d)).val % 256 = d.val := by
  have e : (grp256 g (c256 h d)).val = 1024 * g.val + (256 * h.val + d.val) := rfl
  omega
theorem col128 (g : Fin 2) (h : Fin 4) (d : Fin 128) : (grp128 g (c128 h d)).val / 512 = g.val ∧ (grp128 g (c128 h d)).val % 512 / 128 = h.val
    ∧ (grp128 g (c128 h d)).val % 128 = d.val := by
  have e : (grp128 g (c128 h d)).val = 512 * g.val + (128 * h.val + d.val) := rfl
  omega

theorem resQ_at (b g : Fin 2) (h : Fin 4) (i : Fin 4096) (d : Fin 256) : resQ m c (ix3 b i (grp256 g (c256 h d))) = GQ m c b g h i d := by
  obtain ⟨e0, e1, e2⟩ := col256 g h d
  show GQ m c b ⟨(grp256 g (c256 h d)).val / 1024, _⟩ ⟨(grp256 g (c256 h d)).val % 1024 / 256, _⟩ i ⟨(grp256 g (c256 h d)).val % 256, _⟩ = _
  congr <;> exact Fin.ext ‹_›
theorem resK_at (b g : Fin 2) (h : Fin 4) (i : Fin 4096) (d : Fin 256) : resK m c (ix3 b i (grp256 g (c256 h d))) = GK m c b g h i d := by
  obtain ⟨e0, e1, e2⟩ := col256 g h d
  show GK m c b ⟨(grp256 g (c256 h d)).val / 1024, _⟩ ⟨(grp256 g (c256 h d)).val % 1024 / 256, _⟩ i ⟨(grp256 g (c256 h d)).val % 256, _⟩ = _
  congr <;> exact Fin.ext ‹_›
theorem resV_at (b g : Fin 2) (h : Fin 4) (i : Fin 4096) (d : Fin 128) : resV m c (ix3 b i (grp128 g (c128 h d))) = GV m c b g h i d := by
  obtain ⟨e0, e1, e2⟩ := col128 g h d
  show GV m c b ⟨(grp128 g (c128 h d)).val / 512, _⟩ ⟨(grp128 g (c128 h d)).val % 512 / 128, _⟩ i ⟨(grp128 g (c128 h d)).val % 128, _⟩ = _
  congr <;> exact Fin.ext ‹_›

section
variable (after : (w' : Fin cfgI.W) → Fin cfgI.N → (cfgI.win w').block.Idx → Elt Ideal (cfgI.win w').elt)
  (hL : ∀ (w : Fin cfgI.W) (u : Fin cfgI.N), (cfgI.win w).flush u = true → (rdats m (fun c => plan m c) c).Leaves w u (after w u))
include hL

theorem final6 : ((rdats m (fun c => plan m c) c).withAfter after).arrAt (6 : Fin 9) cfgI.N = resQ m c := by
  refine Dat.arrAt_eq_of_emb ((rdats m (fun c => plan m c) c).withAfter after) (6 : Fin 9) (resQ m c) (fun t hf y => ?_) fun i => ?_
  · obtain ⟨Y, -, hY⟩ := hL (6 : Fin 9) t hf
    have hd := diag_of_flush t ((flush6 t).symm.trans hf)
    have hy : ∀ y : S1x512x1024.Idx, (after (6 : Fin 9) t : S1x512x1024.Idx → EReal) y = resQ m c (((cfgI.win (6 : Fin 9)).blk t).view.emb y) := by
      intro y
      obtain ⟨h, d, hn⟩ := part256 (y 2)
      have ey : y = ix3 0 (y 1) (c256 h d) := by
        rw [eq_ix3 y]; congr 1; exact Subsingleton.elim (α := Fin 1) _ _
      rw [ey]
      exact (hY hd (y 1) h d).trans ((resQ_at m c _ _ _ _ _).symm.trans (congrArg (resQ m c) (emb6 t (y 1) (c256 h d)).symm))
    exact hy y
  · obtain ⟨g, h, d, hn⟩ := split256 (i 2)
    obtain ⟨I, r, hr⟩ := part_row (i 1)
    obtain ⟨t, hf, e0, e1, e2⟩ := reach_q (i 0) g I
    refine ⟨t, (flush6 t).trans hf, ?_⟩
    have ei : i = ((cfgI.win (6 : Fin 9)).blk t).view.emb (ix3 0 r (c256 h d)) := by
      rw [emb6, eq_ix3 i, hr, hn]
      have e0' : bt t = i 0 := Fin.ext e0
      have e1' : gr t = g := Fin.ext e1
      have e2' : qBlk (pl t) = I := e2
      rw [e0', e1', e2']
    rw [ei]
    exact View.emb_mem_set _ _

theorem final7 : ((rdats m (fun c => plan m c) c).withAfter after).arrAt (7 : Fin 9) cfgI.N = resK m c := by
  refine Dat.arrAt_eq_of_emb ((rdats m (fun c => plan m c) c).withAfter after) (7 : Fin 9) (resK m c) (fun t hf y => ?_) fun i => ?_
  · obtain ⟨Y, -, hY⟩ := hL (7 : Fin 9) t hf
    have hd := last_of_flush t ((flush7 t).symm.trans hf)
    have hy : ∀ y : S1x512x1024.Idx, (after (7 : Fin 9) t : S1x512x1024.Idx → EReal) y = resK m c (((cfgI.win (7 : Fin 9)).blk t).view.emb y) := by
      intro y
      obtain ⟨h, d, hn⟩ := part256 (y 2)
      have ey : y = ix3 0 (y 1) (c256 h d) := by
        rw [eq_ix3 y]; congr 1; exact Subsingleton.elim (α := Fin 1) _ _
      rw [ey]
      exact (hY hd (y 1) h d).trans ((resK_at m c _ _ _ _ _).symm.trans (congrArg (resK m c) ((emb7 t (y 1) (c256 h d)).trans (by rw [wBlk_last (pl t) hd])).symm))
    exact hy y
  · obtain ⟨g, h, d, hn⟩ := split256 (i 2)
    obtain ⟨I, r, hr⟩ := part_row (i 1)
    obtain ⟨t, hf, e0, e1, e2⟩ := reach_k (i 0) g I
    refine ⟨t, (flush7 t).trans hf, ?_⟩
    have ei : i = ((cfgI.win (7 : Fin 9)).blk t).view.emb (ix3 0 r (c256 h d)) := by
      rw [emb7, eq_ix3 i, hr, hn]
      have e0' : bt t = i 0 := Fin.ext e0
      have e1' : gr t = g := Fin.ext e1
      have e2' : wBlk (pl t) = I := e2
      rw [e0', e1', e2']
    rw [ei]
    exact View.emb_mem_set _ _

theorem final8 : ((rdats m (fun c => plan m c) c).withAfter after).arrAt (8 : Fin 9) cfgI.N = resV m c := by
  refine Dat.arrAt_eq_of_emb ((rdats m (fun c => plan m c) c).withAfter after) (8 : Fin 9) (resV m c) (fun t hf y => ?_) fun i => ?_
  · obtain ⟨Y, -, hY⟩ := hL (8 : Fin 9) t hf
    have hd := last_of_flush t ((flush8 t).symm.trans hf)
    have hy : ∀ y : S1x512x512.Idx, (after (8 : Fin 9) t : S1x512x512.Idx → EReal) y = resV m c (((cfgI.win (8 : Fin 9)).blk t).view.emb y) := by
      intro y
      obtain ⟨h, d, hn⟩ := part128 (y 2)
      have ey : y = ix3 0 (y 1) (c128 h d) := by
        rw [eq_ix3 y]; congr 1; exact Subsingleton.elim (α := Fin 1) _ _
      rw [ey]
      exact (hY hd (y 1) h d).trans ((resV_at m c _ _ _ _ _).symm.trans (congrArg (resV m c) ((emb8 t (y 1) (c128 h d)).trans (by rw [wBlk_last (pl t) hd])).symm))
    exact hy y
  · obtain ⟨g, h, d, hn⟩ := split128 (i 2)
    obtain ⟨I, r, hr⟩ := part_row (i 1)
    obtain ⟨t, hf, e0, e1, e2⟩ := reach_k (i 0) g I
    refine ⟨t, (flush8 t).trans hf, ?_⟩
    have ei : i = ((cfgI.win (8 : Fin 9)).blk t).view.emb (ix3 0 r (c128 h d)) := by
      rw [emb8, eq_ix3 i, hr, hn]
      have e0' : bt t = i 0 := Fin.ext e0
      have e1' : gr t = g := Fin.ext e1
      have e2' : wBlk (pl t) = I := e2
      rw [e0', e1', e2']
    rw [ei]
    exact View.emb_mem_set _ _

end

/-- The run ends with the three gradients in its result arrays. -/
theorem run_values (g : Dev nD → PrngReg) :
    θ_run (defs (F := Ideal)) (onTc (τ := τ) (main (F := Ideal))) ⟨m, fun _ => 0, g⟩
      (fun r => ∀ c : Dev nD, (r.2.mem ((c : Thread nD τ).loc main_v34_0) = resQ m c
        ∧ r.2.mem ((c : Thread nD τ).loc main_v34_1) = resK m c ∧ r.2.mem ((c : Thread nD τ).loc main_v34_2) = resV m c)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) := by
  refine (θ_run _ _ _).mono ?_ (run (F := Ideal) m (fun c => plan m c) g)
  intro r h c
  obtain ⟨after, hL, hA⟩ := h.1.exists_exact c
  exact ⟨⟨(hA (6 : Fin 9)).trans (final6 m c after hL), (hA (7 : Fin 9)).trans (final7 m c after hL),
    (hA (8 : Fin 9)).trans (final8 m c after hL)⟩,
    kept_arg0 m _ r h.1 c, kept_arg1 m _ r h.1 c, kept_arg2 m _ r h.1 c, kept_arg3 m _ r h.1 c⟩

end Cert.Proof.Bwd

end
-- ==== Proof.Forward.lean ====
module

public import proofs.«01_k».proof.Proof.Elements
public import proofs.«01_k».proof.Proof.Final

/-! What the host hands to the kernel: the forward pass's output and the rows' log-sums. -/

@[expose] public section

set_option maxRecDepth 16384

noncomputable section

namespace Cert.Proof.Plain

open Cert.KernelIdeal Cert.KernelIdeal.Gen
open Idealize.ShloMosaic Idealize.ShloMosaic.TcCoe
open Cert.Proof.Bwd (V V_split)

/-- The rows' maxima in a column of their own. -/
def maxCol (q k : Wide Ideal) : FVec Ideal S2x8x4096x1 .f32 := broadcastInDim S2x8x4096x1 ![0, 1, 2] bcast_S2x8x4096_S2x8x4096x1_0_1_2 (rowMax q k)
theorem maxCol_eq (q k : Wide Ideal) : maxCol q k = top q k := by
  unfold top; rw [max_ninf]; rfl

/-- A column across each head's columns. -/
def spread (w : FVec Ideal S2x8x4096x1 .f32) : FVec Ideal S2x4096x1024 .f32 :=
  shapeCast _ (broadcastInDim S2x4096x8x128 ![0, 1, 2, 3] bcast_S2x4096x8x1_S2x4096x8x128_0_1_2_3
    (transpose S2x4096x8x1 [0, 2, 1, 3] w transposes_S2x8x4096x1_S2x4096x8x1_0_2_1_3)) shapeCasts_S2x4096x8x128_S2x4096x1024
theorem spread_at (w : FVec Ideal S2x8x4096x1 .f32) (b : Fin 2) (i : Fin 4096) (H : Fin 8) (x : Fin 128) :
    spread w (ix3 b i (w128 H x)) = w (ix4 b H i 0) := by
  unfold spread
  have e : (w128 H x).val = 128 * H.val + x.val := rfl
  have e' : (⟨(w128 H x).val / 128, by omega⟩ : Fin 8) = H := Fin.ext (by simp only [e]; omega)
  pointwise
  rw [e']
theorem addLog_at (t z : FVec Ideal S2x8x4096x1 .f32) (i : S2x8x4096x1.Idx) : addf t (Host.log z) i = t i + Ideal.log (z i) := rfl

/-- The rows' log-sums, each across its head's columns. -/
def logSum (q k : Wide Ideal) : FVec Ideal S2x4096x1024 .f32 := spread (addf (maxCol q k) (Host.log (total (expo q k (maxCol q k)))))
theorem logSum_at (q k : Wide Ideal) (b : Fin 2) (i : Fin 4096) (H : Fin 8) (x : Fin 128) :
    logSum q k (ix3 b i (w128 H x)) = rowMax q k (ix3 b H i) + Ideal.log (∑ j : Fin 4096, expo q k (top q k) (ix4 b H i j)) := by
  unfold logSum
  rw [maxCol_eq, spread_at]
  exact (addLog_at (top q k) (total (expo q k (top q k))) (ix4 b H i 0)).trans
    (congrArg₂ (· + ·) (top_at q k b H i) (congrArg Ideal.log (total_at _ b H i)))

variable (m : (ℓ : Loc nD τ sig) → Buf (Elt Ideal) ℓ) (c : Dev nD)

theorem V_out : @Eq (S2x4096x1024.Idx → EReal) (V m c main_v28) <|
    outp (F := Ideal) (m ((c : Thread nD τ).loc main_arg0)) (m ((c : Thread nD τ).loc main_arg1)) (m ((c : Thread nD τ).loc main_arg2)) := by
  unfold outp
  rw [← maxCol_eq]
  rw [V_split]; after_reads_simp <;> rfl
theorem V_log : @Eq (S2x4096x1024.Idx → EReal) (V m c main_v33) <|
    logSum (m ((c : Thread nD τ).loc main_arg0)) (m ((c : Thread nD τ).loc main_arg1)) := by
  rw [V_split]; after_reads_simp <;> rfl

end Cert.Proof.Plain

end
-- ==== Proof.Compare.lean ====
module

public import proofs.«01_k».proof.Proof.Softmax
public import proofs.«01_k».proof.Proof.Forward

/-! The kernel's gradients and the reference's are the same numbers where the entries are finite. -/

@[expose] public section

noncomputable section

namespace Cert.Proof.Plain

open Idealize.ShloMosaic Idealize.ShloMosaic.TcCoe

/-- Finite entries: queries, keys, the values' half of the third array, and the cotangent. -/
structure Finite (q k kv : Wide Ideal) (ct : Narrow Ideal) : Prop where
  q : ∀ b i n, Fine (q (ix3 b i n))
  k : ∀ b i n, Fine (k (ix3 b i n))
  v : ∀ b i H d, Fine (kv (ix3 b i (wV H d)))
  c : ∀ b i n, Fine (ct (ix3 b i n))

/-- What one row of one head comes to, in reals. -/
structure Row (q k kv : Wide Ideal) (ct : Narrow Ideal) (b : Fin 2) (H : Fin 8) (i : Fin 4096) (s d : Fin 4096 → ℝ) (t : ℝ) : Prop where
  score : ∀ j, ∑ e : Fin 256, q (ix3 b i (w256 H e)) * k (ix3 b j (w256 H e)) = (s j : EReal)
  dshare : ∀ j, ∑ e : Fin 128, ct (ix3 b i (w128 H e)) * kv (ix3 b j (wV H e)) = (d j : EReal)
  max : rowMax q k (ix3 b H i) = (t : EReal)
  sum : ∑ j : Fin 4096, expo q k (top q k) (ix4 b H i j) = (zR i s t : EReal)
  share : ∀ j, share (expo q k (top q k)) (ix4 b H i j) = (yR i s t j : EReal)
  delta : ∑ e : Fin 128, ct (ix3 b i (w128 H e)) * outp q k kv (ix3 b i (w128 H e)) = ((∑ j, yR i s t j * d j : ℝ) : EReal)
  grad : ∀ j, dscores (expo q k (top q k)) (Plain.dshare kv ct) (ix4 b H i j) = ((yR i s t j * (d j - ∑ j, yR i s t j * d j) : ℝ) : EReal)

theorem row_exists {q k kv : Wide Ideal} {ct : Narrow Ideal} (hF : Finite q k kv ct) (b : Fin 2) (H : Fin 8) (i : Fin 4096) :
    ∃ (s d : Fin 4096 → ℝ) (t : ℝ), Row q k kv ct b H i s d t := by
  have hs : ∀ j, Fine (∑ e : Fin 256, q (ix3 b i (w256 H e)) * k (ix3 b j (w256 H e))) := fun j => fine_dot (fun e => hF.q _ _ _) fun e => hF.k _ _ _
  choose s hs using hs
  have hc : ∀ e, Fine (ct (ix3 b i (w128 H e))) := fun e => hF.c _ _ _
  choose u hu using hc
  have hv : ∀ j e, Fine (kv (ix3 b j (wV H e))) := fun j e => hF.v _ _ _ _
  choose v hv using hv
  have hd : ∀ j, ∑ e : Fin 128, ct (ix3 b i (w128 H e)) * kv (ix3 b j (wV H e)) = ((∑ e, u e * v j e : ℝ) : EReal) := fun j => by
    rw [← sum_coe]; exact Finset.sum_congr rfl fun e _ => by rw [hu, hv, EReal.coe_mul]
  have hsc : ∀ j, scores q k (ix4 b H i j) = if i < j then (⊥ : EReal) else (s j : EReal) := fun j => by rw [scores_at, hs]
  have ht : Fine (rowMax q k (ix3 b H i)) := by
    rw [rowMax_at]
    refine fine_max _ (fun j => ?_) i ?_
    · rw [hsc]; split_ifs
      · exact Or.inl rfl
      · exact Or.inr ⟨_, rfl⟩
    · rw [hsc, if_neg (lt_irrefl _)]; exact ⟨_, rfl⟩
  obtain ⟨t, ht⟩ := ht
  have he : ∀ j, expo q k (top q k) (ix4 b H i j) = (eR i s t j : EReal) := fun j => by
    rw [expo_at, hsc, top_at, ht]; exact exp_row i s t j
  have hz : ∑ j : Fin 4096, expo q k (top q k) (ix4 b H i j) = (zR i s t : EReal) := by
    rw [zR, ← sum_coe]; exact Finset.sum_congr rfl fun j _ => he j
  have hz0 := (zR_pos i s t).ne'
  have hy : ∀ j, share (expo q k (top q k)) (ix4 b H i j) = (yR i s t j : EReal) := fun j => by
    rw [share_at, hz, he]; exact div_real _ _ hz0
  have ho : ∀ e, outp q k kv (ix3 b i (w128 H e)) = ((∑ j, v j e * yR i s t j : ℝ) : EReal) := fun e => by
    rw [outp_at, ← sum_coe]; exact Finset.sum_congr rfl fun j _ => by rw [hv, hy, EReal.coe_mul]
  refine ⟨s, fun j => ∑ e, u e * v j e, t, hs, hd, ht, hz, hy, ?_, fun j => ?_⟩
  · have e1 : ∑ j, yR i s t j * ∑ e, u e * v j e = ∑ e, u e * ∑ j, v j e * yR i s t j := by
      simp only [Finset.mul_sum]
      rw [Finset.sum_comm]
      exact Finset.sum_congr rfl fun e _ => Finset.sum_congr rfl fun j _ => by ring
    rw [e1, ← sum_coe]
    exact Finset.sum_congr rfl fun e _ => by rw [hu, ho, EReal.coe_mul]
  · have hw : dtotal (expo q k (top q k)) (dshare kv ct) (ix3 b H i)
        = ((-∑ j, (∑ e, u e * v j e) * (1 / (zR i s t * zR i s t)) * eR i s t j : ℝ) : EReal) := by
      rw [dtotal_at, hz, EReal.coe_neg, ← sum_coe]
      refine congrArg Neg.neg (Finset.sum_congr rfl fun j _ => ?_)
      have e1 : Ideal.div 1 ((zR i s t : EReal) * (zR i s t : EReal)) = ((1 / (zR i s t * zR i s t) : ℝ) : EReal) := by
        rw [← EReal.coe_mul, ← EReal.coe_one]; exact div_real _ _ (mul_ne_zero hz0 hz0)
      rw [dshare_at, hd, e1, he, EReal.coe_mul, EReal.coe_mul]
    rw [dscores_at, hz, hw, dshare_at, hd, he, div_real _ _ hz0, ← EReal.coe_add, ← EReal.coe_mul]
    refine Eq.trans ?_ (congrArg _ (grad_row i s (fun j => ∑ e, u e * v j e) t j).symm)
    split_ifs <;> rfl

end Cert.Proof.Plain

namespace Cert.Proof.Bwd

open Cert.KernelIdeal Cert.KernelIdeal.Gen
open Idealize.ShloMosaic Idealize.ShloMosaic.TcCoe
open Plain

/-- The head with number `h` in group `g`. -/
def hd (g : Fin 2) (h : Fin 4) : Fin 8 := ⟨4 * g.val + h.val, by omega⟩
theorem grp256_eq (g : Fin 2) (h : Fin 4) (d : Fin 256) : grp256 g (c256 h d) = w256 (hd g h) d :=
  Fin.ext (by show 1024 * g.val + (256 * h.val + d.val) = 256 * (4 * g.val + h.val) + d.val; omega)
theorem grp128_eq (g : Fin 2) (h : Fin 4) (d : Fin 128) : grp128 g (c128 h d) = w128 (hd g h) d :=
  Fin.ext (by show 512 * g.val + (128 * h.val + d.val) = 128 * (4 * g.val + h.val) + d.val; omega)
theorem grpV_eq (g : Fin 2) (h : Fin 4) (d : Fin 128) : grpV g (c128 h d) = wV (hd g h) d :=
  Fin.ext (by show 1024 + (512 * g.val + (128 * h.val + d.val)) = 1024 + (128 * (4 * g.val + h.val) + d.val); omega)

variable (m : (ℓ : Loc nD τ sig) → Buf (Elt Ideal) ℓ) (c : Dev nD)

/-- The arguments. -/
abbrev a0 : Wide Ideal := m ((c : Thread nD τ).loc main_arg0)
abbrev a1 : Wide Ideal := m ((c : Thread nD τ).loc main_arg1)
abbrev a2 : Wide Ideal := m ((c : Thread nD τ).loc main_arg2)
abbrev a3 : Narrow Ideal := m ((c : Thread nD τ).loc main_arg3)

theorem qA_eq : qA m c = a0 m c := V_arg0 m c
theorem kA_eq : kA m c = a1 m c := V_arg1 m c
theorem vA_eq : vA m c = a2 m c := V_arg2 m c
theorem dA_eq : dA m c = a3 m c := V_arg3 m c
theorem oA_eq : oA m c = outp (a0 m c) (a1 m c) (a2 m c) := V_out m c
theorem lA_eq : lA m c = logSum (a0 m c) (a1 m c) := V_log m c

section
variable (hF : Finite (a0 m c) (a1 m c) (a2 m c) (a3 m c)) (b g : Fin 2) (h : Fin 4)
include hF

theorem rows (i : Fin 4096) : (∀ j, PR m c b g h i j = share (expo (a0 m c) (a1 m c) (top (a0 m c) (a1 m c))) (ix4 b (hd g h) i j))
    ∧ ∀ j, DS m c b g h i j = Plain.dscores (expo (a0 m c) (a1 m c) (top (a0 m c) (a1 m c))) (dshare (a2 m c) (a3 m c)) (ix4 b (hd g h) i j) := by
  obtain ⟨s, d, t, R⟩ := row_exists hF b (hd g h) i
  have hSC : ∀ j, SC m c b g h i j = (s j : EReal) := fun j => by
    unfold SC; rw [qA_eq, kA_eq]; simp only [grp256_eq]; exact R.score j
  have hDP : ∀ j, DP m c b g h i j = (d j : EReal) := fun j => by
    unfold DP; rw [dA_eq, vA_eq]; simp only [grp128_eq, grpV_eq]; exact R.dshare j
  have hDE : DE m c b g h i = ((∑ j, yR i s t j * d j : ℝ) : EReal) := by
    unfold DE; rw [dA_eq, oA_eq]; simp only [grp128_eq]; exact R.delta
  have hPR : ∀ j, PR m c b g h i j = (yR i s t j : EReal) := fun j => by
    unfold PR; rw [lA_eq, grp128_eq, logSum_at, R.max, R.sum, hSC]; exact share_row i s t j
  refine ⟨fun j => (hPR j).trans (R.share j).symm, fun j => Eq.trans ?_ (R.grad j).symm⟩
  unfold DS
  rw [hPR, hDP, hDE, ← EReal.coe_sub, ← EReal.coe_mul]

theorem GQ_eq (i : Fin 4096) (d : Fin 256) : GQ m c b g h i d = gradQ (a0 m c) (a1 m c) (a2 m c) (a3 m c) (ix3 b i (grp256 g (c256 h d))) := by
  rw [grp256_eq, gradQ_at]
  unfold GQ
  rw [kA_eq]
  exact Finset.sum_congr rfl fun j _ => congrArg₂ (· * ·) ((rows m c hF b g h i).2 j) (by rw [grp256_eq])
theorem GK_eq (j : Fin 4096) (d : Fin 256) : GK m c b g h j d = gradK (a0 m c) (a1 m c) (a2 m c) (a3 m c) (ix3 b j (grp256 g (c256 h d))) := by
  rw [grp256_eq, gradK_at]
  unfold GK
  rw [qA_eq]
  exact Finset.sum_congr rfl fun i _ => congrArg₂ (· * ·) ((rows m c hF b g h i).2 j) (by rw [grp256_eq])
theorem GV_eq (j : Fin 4096) (d : Fin 128) : GV m c b g h j d = gradV (a0 m c) (a1 m c) (a3 m c) (ix3 b j (grp128 g (c128 h d))) := by
  rw [grp128_eq, gradV_at]
  unfold GV
  rw [dA_eq]
  exact Finset.sum_congr rfl fun i _ => (mul_comm _ _).trans (congrArg₂ (· * ·) (by rw [grp128_eq]) ((rows m c hF b g h i).1 j))

end

theorem resQ_eq (hF : Finite (a0 m c) (a1 m c) (a2 m c) (a3 m c)) : resQ m c = gradQ (a0 m c) (a1 m c) (a2 m c) (a3 m c) := by
  funext i
  obtain ⟨g, h, d, e⟩ := split256 (i 2)
  rw [eq_ix3 i, e]
  exact (resQ_at m c _ _ _ _ _).trans (GQ_eq m c hF _ _ _ _ _)
theorem resK_eq (hF : Finite (a0 m c) (a1 m c) (a2 m c) (a3 m c)) : resK m c = gradK (a0 m c) (a1 m c) (a2 m c) (a3 m c) := by
  funext i
  obtain ⟨g, h, d, e⟩ := split256 (i 2)
  rw [eq_ix3 i, e]
  exact (resK_at m c _ _ _ _ _).trans (GK_eq m c hF _ _ _ _ _)
theorem resV_eq (hF : Finite (a0 m c) (a1 m c) (a2 m c) (a3 m c)) : resV m c = gradV (a0 m c) (a1 m c) (a3 m c) := by
  funext i
  obtain ⟨g, h, d, e⟩ := split128 (i 2)
  rw [eq_ix3 i, e]
  exact (resV_at m c _ _ _ _ _).trans (GV_eq m c hF _ _ _ _ _)

end Cert.Proof.Bwd

end
-- ==== Proof.Pre.lean ====
module

public import proofs.«01_k».proof.Pre_finite
public import proofs.«01_k».proof.Proof.Compare

/-! The precondition, element by element. -/

@[expose] public section

noncomputable section

namespace Cert.Proof.Plain

open Idealize.ShloMosaic
open Cert.Pre_finite

/-- The side conditions of the precondition's operations. -/
theorem preFacts : Cert.Pre_finite.Facts where
  bitsLt_bf16_f32 := by decide
  bcast_S_S2x4096x2048 := by decide
  slices_S2x4096x2048_S2x4096x1024_0_0_1024 := by decide
  bcast_S_S2x4096x1024 := by decide
  slices_S2x4096x2048_S2x4096x1024_0_0_0 := by decide

theorem and_one : ∀ x y : BitVec 1, IntOp.andi x y = 1#1 ↔ x = 1#1 ∧ y = 1#1 := by decide
theorem ofBool_one (p : Prop) [Decidable p] : BitVec.ofBool (decide p) = 1#1 ↔ p := by
  by_cases h : p <;> simp [h]
theorem pinf : Ideal.ofBits .f32 0x7F800000#32 = (⊤ : EReal) := by simp [Ideal.ofBits, Ideal.ieee]

/-- An entry whose size is below infinity is a real. -/
theorem fine_of_lt (x : EReal) (h : max x (-x) < Ideal.ofBits .f32 0x7F800000#32) : Fine x := by
  rw [pinf] at h
  refine ⟨x.toReal, (EReal.coe_toReal (fun e => ?_) fun e => ?_).symm⟩ <;> subst e
  · exact absurd h (by simp)
  · exact absurd h (by simp)

theorem pre_at (q k kv : Wide Ideal) (ct : Narrow Ideal)
    (h : haveI := preFacts; ∀ i, (Cert.Pre_finite.fn q k kv ct) i = 1#1) (b : Fin 2) (i : Fin 4096) (n : Fin 1024) :
    ((Fine (q (ix3 b i ⟨n.val, by omega⟩)) ∧ Fine (k (ix3 b i ⟨n.val, by omega⟩)))
      ∧ Fine (q (ix3 b i ⟨1024 + n.val, by omega⟩)) ∧ Fine (k (ix3 b i ⟨1024 + n.val, by omega⟩)))
      ∧ Fine (kv (ix3 b i ⟨1024 + n.val, by omega⟩)) ∧ Fine (ct (ix3 b i n)) := by
  have h' := h (ix3 b i n)
  unfold Cert.Pre_finite.fn fn_part1 at h'
  pointwise at h'
  simp only [and_one, ofBool_one] at h'
  exact ⟨⟨⟨fine_of_lt _ h'.1.1.1, fine_of_lt _ h'.1.1.2⟩, fine_of_lt _ h'.1.2.1, fine_of_lt _ h'.1.2.2⟩, fine_of_lt _ h'.2.1, fine_of_lt _ h'.2.2⟩

/-- The precondition says that the entries are finite. -/
theorem finite_of_pre (q k kv : Wide Ideal) (ct : Narrow Ideal)
    (h : haveI := preFacts; ∀ i, (Cert.Pre_finite.fn q k kv ct) i = 1#1) : Finite q k kv ct where
  q b i n := by
    by_cases hn : n.val < 1024
    · exact (pre_at q k kv ct h b i ⟨n.val, hn⟩).1.1.1
    · have e : n = ⟨1024 + (n.val - 1024), by omega⟩ := Fin.ext (by show n.val = 1024 + (n.val - 1024); omega)
      rw [e]; exact (pre_at q k kv ct h b i ⟨n.val - 1024, by omega⟩).1.2.1
  k b i n := by
    by_cases hn : n.val < 1024
    · exact (pre_at q k kv ct h b i ⟨n.val, hn⟩).1.1.2
    · have e : n = ⟨1024 + (n.val - 1024), by omega⟩ := Fin.ext (by show n.val = 1024 + (n.val - 1024); omega)
      rw [e]; exact (pre_at q k kv ct h b i ⟨n.val - 1024, by omega⟩).1.2.2
  v b i H d := (pre_at q k kv ct h b i (w128 H d)).2.1
  c b i n := (pre_at q k kv ct h b i n).2.2

end Cert.Proof.Plain

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ff2Dx.Frame
public import proofs.«01_k».proof.Proof.Ff2Dx
public import proofs.«01_k».proof.Proof.Gen.Ff2Dw.Frame
public import proofs.«01_k».proof.Proof.Ff2Dw
public import proofs.«01_k».proof.Proof.Gen.Ff1Dw.Frame
public import proofs.«01_k».proof.Proof.Ff1Dw
public import proofs.«01_k».proof.Proof.Gen.Ff1Dx.Frame
public import proofs.«01_k».proof.Proof.Ff1Dx
public import proofs.«01_k».proof.Proof.Gen.InDx.Frame
public import proofs.«01_k».proof.Proof.InDx
public import proofs.«01_k».proof.Proof.Gen.InDw.Frame
public import proofs.«01_k».proof.Proof.InDw
public import proofs.«01_k».proof.Proof.Gen.Ff1Fwd.Frame
public import proofs.«01_k».proof.Proof.Ff1Fwd
public import proofs.«01_k».proof.Proof.Gen.Ff2Fwd.Frame
public import proofs.«01_k».proof.Proof.Ff2Fwd
public import proofs.«01_k».proof.Proof.Gen.InFwd.Frame
public import proofs.«01_k».proof.Proof.InFwd
public import proofs.«01_k».proof.Proof.Gen.SsmFwd.Frame
public import proofs.«01_k».proof.Proof.SsmFwd
public import proofs.«01_k».proof.Proof.Gen.SsmDx.Frame
public import proofs.«01_k».proof.Proof.SsmDx
public import proofs.«01_k».proof.Proof.Gen.SsmDw.Frame
public import proofs.«01_k».proof.Proof.SsmDw
public import proofs.«01_k».proof.Proof.Gen.OutFwd.Frame
public import proofs.«01_k».proof.Proof.OutFwd
public import proofs.«01_k».proof.Proof.Gen.OutDx.Frame
public import proofs.«01_k».proof.Proof.OutDx
public import proofs.«01_k».proof.Proof.Gen.OutDw.Frame
public import proofs.«01_k».proof.Proof.OutDw
public import proofs.«01_k».proof.Proof.Gen.AdamAda.Frame
public import proofs.«01_k».proof.Proof.AdamAda
public import proofs.«01_k».proof.Proof.Gen.AdamIn.Frame
public import proofs.«01_k».proof.Proof.AdamIn
public import proofs.«01_k».proof.Proof.Gen.AdamUq.Frame
public import proofs.«01_k».proof.Proof.AdamUq
public import proofs.«01_k».proof.Proof.Gen.AdamUkv.Frame
public import proofs.«01_k».proof.Proof.AdamUkv
public import proofs.«01_k».proof.Proof.Gen.AdamOut.Frame
public import proofs.«01_k».proof.Proof.AdamOut
public import proofs.«01_k».proof.Proof.Gen.AdamSsm.Frame
public import proofs.«01_k».proof.Proof.AdamSsm
public import proofs.«01_k».proof.Proof.Gen.AdamFf.Frame
public import proofs.«01_k».proof.Proof.AdamFf
public import proofs.«01_k».proof.Proof.Gen.AdamSmall.Frame
public import proofs.«01_k».proof.Proof.AdamSmall
public import proofs.«01_k».proof.Proof.Gen.SumSmall.Frame
public import proofs.«01_k».proof.Proof.SumSmall
public import proofs.«01_k».proof.Proof.Launch
public import proofs.«01_k».proof.Proof.Machine.Launch
public import proofs.«01_k».proof.Proof.Pre

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel on machine words ends, its arguments as they were, no counter raised. -/
theorem frame_kernel : Cert.quiescent_Kernel (hKernel := Cert.Kernel.Gen.facts) := by
  intro m g _
  refine (θ_run _ _ _).mono ?_ (Machine.run (F := Bits) m (fun c => Machine.plain m c) g)
  intro r h
  exact ⟨fun c => ⟨Machine.kept_arg0 m _ r h.1 c, Machine.kept_arg1 m _ r h.1 c, Machine.kept_arg2 m _ r h.1 c,
    Machine.kept_arg3 m _ r h.1 c⟩, h.2⟩

/-- The idealized kernel likewise. -/
theorem frame_ideal : Cert.quiescent_KernelIdeal (hKernelIdeal := Cert.KernelIdeal.Gen.facts) := by
  intro m g _
  refine (θ_run _ _ _).mono ?_ (Bwd.run (F := Ideal) m (fun c => Bwd.plain m c) g)
  intro r h
  exact ⟨fun c => ⟨Bwd.kept_arg0 m _ r h.1 c, Bwd.kept_arg1 m _ r h.1 c, Bwd.kept_arg2 m _ r h.1 c,
    Bwd.kept_arg3 m _ r h.1 c⟩, h.2⟩

/-- The reference likewise. -/
theorem frame_reference : Cert.quiescent_ReferenceIdeal (hReferenceIdeal := Cert.ReferenceIdeal.Gen.facts) := by
  intro m g _
  refine (θ_run _ _ _).mono (fun r h => ?_) (Cert.ReferenceIdeal.Value.run (F := Ideal) m g)
  exact ⟨fun c => (h c).2.2.2, Idealize.ShloMosaic.sem_eq_zero_of_no_sems rfl r.2⟩

/-- The mask constant is read as minus infinity. -/
theorem preserves : Cert.preserves_Kernel_KernelIdeal := IdealRules.named_const.statement _ _ _ _ _ rfl

/-- Both end with the same gradients. -/
theorem algebraic : Cert.algebraic_KernelIdeal_ReferenceIdeal_pre_finite (hKernelIdeal := Cert.KernelIdeal.Gen.facts)
    (hReferenceIdeal := Cert.ReferenceIdeal.Gen.facts) (hPre_finite := Plain.preFacts) := by
  intro m g m' g' hPre hArgs
  have hF : ∀ c, Plain.Finite (Bwd.a0 m c) (Bwd.a1 m c) (Bwd.a2 m c) (Bwd.a3 m c) := fun c =>
    Plain.finite_of_pre _ _ _ _ fun i => congrFun (hPre c) i
  refine ⟨fun c => Bwd.resQ m c, fun c => Bwd.resK m c, fun c => Bwd.resV m c, ?_, ?_⟩
  · refine (θ_run _ _ _).mono (fun r h c => ?_) (Bwd.run_values m g)
    exact ⟨(h c).1.1, (h c).1.2.1, (h c).1.2.2, (h c).2⟩
  · refine (θ_run _ _ _).mono (fun r h c => ?_) (Cert.ReferenceIdeal.Value.run (F := Ideal) m' g')
    obtain ⟨e0, e1, e2, e3⟩ := hArgs c
    refine ⟨(h c).1.trans ?_, (h c).2.1.trans ?_, (h c).2.2.1.trans ?_, (h c).2.2.2⟩
    · refine (Plain.out0_eq m' c).trans ?_
      rw [e0, e1, e2, e3]; exact (Bwd.resQ_eq m c (hF c)).symm
    · refine (Plain.out1_eq m' c).trans ?_
      rw [e0, e1, e2, e3]; exact (Bwd.resK_eq m c (hF c)).symm
    · refine (Plain.out2_eq m' c).trans ?_
      rw [e0, e1, e3]; exact (Bwd.resV_eq m c (hF c)).symm

theorem claim : Cert.Claim := ⟨Cert.Kernel.Gen.facts, Cert.KernelIdeal.Gen.facts, Cert.ReferenceIdeal.Gen.facts,
  Cert.Ff2Dx.Gen.facts, Cert.Ff2DxIdeal.Gen.facts, Cert.Ff2DxRefIdeal.Gen.facts,
  Cert.Ff2Dw.Gen.facts, Cert.Ff2DwIdeal.Gen.facts, Cert.Ff2DwRefIdeal.Gen.facts,
  Cert.Ff1Dw.Gen.facts, Cert.Ff1DwIdeal.Gen.facts, Cert.Ff1DwRefIdeal.Gen.facts,
  Cert.Ff1Dx.Gen.facts, Cert.Ff1DxIdeal.Gen.facts, Cert.Ff1DxRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.Ff1Fwd.Gen.facts, Cert.Ff1FwdIdeal.Gen.facts, Cert.Ff1FwdRefIdeal.Gen.facts,
  Cert.Ff2Fwd.Gen.facts, Cert.Ff2FwdIdeal.Gen.facts, Cert.Ff2FwdRefIdeal.Gen.facts,
  Cert.InFwd.Gen.facts, Cert.InFwdIdeal.Gen.facts, Cert.InFwdRefIdeal.Gen.facts,
  Cert.SsmFwd.Gen.facts, Cert.SsmFwdIdeal.Gen.facts, Cert.SsmFwdRefIdeal.Gen.facts,
  Cert.SsmDx.Gen.facts, Cert.SsmDxIdeal.Gen.facts, Cert.SsmDxRefIdeal.Gen.facts,
  Cert.SsmDw.Gen.facts, Cert.SsmDwIdeal.Gen.facts, Cert.SsmDwRefIdeal.Gen.facts,
  Cert.OutFwd.Gen.facts, Cert.OutFwdIdeal.Gen.facts, Cert.OutFwdRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.AdamAda.Gen.facts, Cert.AdamAdaIdeal.Gen.facts, Cert.AdamAdaRefIdeal.Gen.facts,
  Cert.AdamIn.Gen.facts, Cert.AdamInIdeal.Gen.facts, Cert.AdamInRefIdeal.Gen.facts,
  Cert.AdamUq.Gen.facts, Cert.AdamUqIdeal.Gen.facts, Cert.AdamUqRefIdeal.Gen.facts,
  Cert.AdamUkv.Gen.facts, Cert.AdamUkvIdeal.Gen.facts, Cert.AdamUkvRefIdeal.Gen.facts,
  Cert.AdamOut.Gen.facts, Cert.AdamOutIdeal.Gen.facts, Cert.AdamOutRefIdeal.Gen.facts,
  Cert.AdamSsm.Gen.facts, Cert.AdamSsmIdeal.Gen.facts, Cert.AdamSsmRefIdeal.Gen.facts,
  Cert.AdamFf.Gen.facts, Cert.AdamFfIdeal.Gen.facts, Cert.AdamFfRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Plain.preFacts,
  frame_kernel, frame_ideal, fun m g _ => frame_ideal m g trivial, frame_reference, fun m g _ => frame_reference m g trivial,
  fun m g _ => Cert.Ff2Dx.Gen.frame m g, fun m g _ => Cert.Ff2DxIdeal.Gen.frame m g, Ffn.HiddenGrad.frame_reference,
  fun m g _ => Cert.Ff2Dw.Gen.frame m g, fun m g _ => Cert.Ff2DwIdeal.Gen.frame m g, Ffn.OutWeightGrad.frame_reference,
  fun m g _ => Cert.Ff1Dw.Gen.frame m g, fun m g _ => Cert.Ff1DwIdeal.Gen.frame m g, Ffn.InWeightGrad.frame_reference,
  fun m g _ => Cert.Ff1Dx.Gen.frame m g, fun m g _ => Cert.Ff1DxIdeal.Gen.frame m g, Ffn.InputGrad.frame_reference,
  fun m g _ => Cert.InDx.Gen.frame m g, fun m g _ => Cert.InDxIdeal.Gen.frame m g, InProj.InputGrad.frame_reference,
  fun m g _ => Cert.InDw.Gen.frame m g, fun m g _ => Cert.InDwIdeal.Gen.frame m g, InProj.WeightGrad.frame_reference,
  fun m g _ => Cert.Ff1Fwd.Gen.frame m g, fun m g _ => Cert.Ff1FwdIdeal.Gen.frame m g, Ffn.Activation.frame_reference,
  fun m g _ => Cert.Ff2Fwd.Gen.frame m g, fun m g _ => Cert.Ff2FwdIdeal.Gen.frame m g, Ffn.Forward.frame_reference,
  fun m g _ => Cert.InFwd.Gen.frame m g, fun m g _ => Cert.InFwdIdeal.Gen.frame m g, InProj.Forward.frame_reference,
  fun m g _ => Cert.SsmFwd.Gen.frame m g, fun m g _ => Cert.SsmFwdIdeal.Gen.frame m g, SsmOut.Forward.frame_reference,
  fun m g _ => Cert.SsmDx.Gen.frame m g, fun m g _ => Cert.SsmDxIdeal.Gen.frame m g, SsmOut.InputGrad.frame_reference,
  fun m g _ => Cert.SsmDw.Gen.frame m g, fun m g _ => Cert.SsmDwIdeal.Gen.frame m g, SsmOut.WeightGrad.frame_reference,
  fun m g _ => Cert.OutFwd.Gen.frame m g, fun m g _ => Cert.OutFwdIdeal.Gen.frame m g, MixOut.Forward.frame_reference,
  fun m g _ => Cert.OutDx.Gen.frame m g, fun m g _ => Cert.OutDxIdeal.Gen.frame m g, MixOut.InputGrad.frame_reference,
  fun m g _ => Cert.OutDw.Gen.frame m g, fun m g _ => Cert.OutDwIdeal.Gen.frame m g, MixOut.WeightGrad.frame_reference,
  fun m g _ => Cert.AdamAda.Gen.frame m g trivial, fun m g _ => Cert.AdamAdaIdeal.Gen.frame m g trivial, AdamW.Ada.frame_reference,
  fun m g _ => Cert.AdamIn.Gen.frame m g trivial, fun m g _ => Cert.AdamInIdeal.Gen.frame m g trivial, AdamW.InProj.frame_reference,
  fun m g _ => Cert.AdamUq.Gen.frame m g trivial, fun m g _ => Cert.AdamUqIdeal.Gen.frame m g trivial, AdamW.Uq.frame_reference,
  fun m g _ => Cert.AdamUkv.Gen.frame m g trivial, fun m g _ => Cert.AdamUkvIdeal.Gen.frame m g trivial, AdamW.Ukv.frame_reference,
  fun m g _ => Cert.AdamOut.Gen.frame m g trivial, fun m g _ => Cert.AdamOutIdeal.Gen.frame m g trivial, AdamW.MixOut.frame_reference,
  fun m g _ => Cert.AdamSsm.Gen.frame m g trivial, fun m g _ => Cert.AdamSsmIdeal.Gen.frame m g trivial, AdamW.SsmOut.frame_reference,
  fun m g _ => Cert.AdamFf.Gen.frame m g trivial, fun m g _ => Cert.AdamFfIdeal.Gen.frame m g trivial, AdamW.Ffn.frame_reference,
  fun m g _ => Cert.AdamSmall.Gen.frame m g, fun m g _ => Cert.AdamSmallIdeal.Gen.frame m g, SmallStep.frame_reference,
  fun m g _ => Cert.SumSmall.Gen.frame m g, fun m g _ => Cert.SumSmallIdeal.Gen.frame m g, GradientSum.frame_reference,
  preserves, algebraic,
  trivial, Ffn.HiddenGrad.algebraic,
  trivial, Ffn.OutWeightGrad.algebraic,
  trivial, Ffn.InWeightGrad.algebraic,
  trivial, Ffn.InputGrad.algebraic,
  trivial, InProj.InputGrad.algebraic,
  trivial, InProj.WeightGrad.algebraic,
  trivial, Ffn.Activation.algebraic,
  trivial, Ffn.Forward.algebraic,
  trivial, InProj.Forward.algebraic,
  trivial, SsmOut.Forward.algebraic,
  trivial, SsmOut.InputGrad.algebraic,
  trivial, SsmOut.WeightGrad.algebraic,
  trivial, MixOut.Forward.algebraic,
  trivial, MixOut.InputGrad.algebraic,
  trivial, MixOut.WeightGrad.algebraic,
  trivial, AdamW.Ada.algebraic,
  trivial, AdamW.InProj.algebraic,
  trivial, AdamW.Uq.algebraic,
  trivial, AdamW.Ukv.algebraic,
  trivial, AdamW.MixOut.algebraic,
  trivial, AdamW.SsmOut.algebraic,
  trivial, AdamW.Ffn.algebraic,
  trivial, SmallStep.algebraic,
  trivial, GradientSum.algebraic⟩

end Cert.Proof

end
